-- ==== Defs.lean ====
def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_qk [hPre_finite_qk : Cert.Pre_finite_qk.Facts] (m : (ℓ : Loc Cert.SbIdeal.nD Cert.SbIdeal.τ Cert.SbIdeal.sig) → Buf (Elt Ideal) ℓ) : Prop :=
  ∀ c : Dev Cert.SbIdeal.nD,
    (Cert.Pre_finite_qk.fn (F := Ideal) (m ((c.tc : Thread Cert.SbIdeal.nD Cert.SbIdeal.τ).loc Cert.SbIdeal.main_arg0))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_qk [hPre_finite_qk : Cert.Pre_finite_qk.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_qk.fn (F := Ideal) (m ((c.tc : Thread Cert.SbRefIdeal.nD Cert.SbRefIdeal.τ).loc Cert.SbRefIdeal.main_arg0))) = (fun _ => 1#1)

def Pre_Pa (m : (ℓ : Loc Cert.Pa.nD Cert.Pa.τ Cert.Pa.sig) → Buf (Elt Bits) ℓ) : Prop :=
  True

def Pre_PaIdeal (m : (ℓ : Loc Cert.PaIdeal.nD Cert.PaIdeal.τ Cert.PaIdeal.sig) → Buf (Elt Ideal) ℓ) : Prop :=
  True

def Pre_PaRefIdeal (m : (ℓ : Loc Cert.PaRefIdeal.nD Cert.PaRefIdeal.τ Cert.PaRefIdeal.sig) → Buf (Elt Ideal) ℓ) : Prop :=
  True

def Pre_Oa (m : (ℓ : Loc Cert.Oa.nD Cert.Oa.τ Cert.Oa.sig) → Buf (Elt Bits) ℓ) : Prop :=
  True

def Pre_OaIdeal (m : (ℓ : Loc Cert.OaIdeal.nD Cert.OaIdeal.τ Cert.OaIdeal.sig) → Buf (Elt Ideal) ℓ) : Prop :=
  True

def Pre_OaRefIdeal (m : (ℓ : Loc Cert.OaRefIdeal.nD Cert.OaRefIdeal.τ Cert.OaRefIdeal.sig) → Buf (Elt Ideal) ℓ) : Prop :=
  True

def Pre_Ob (m : (ℓ : Loc Cert.Ob.nD Cert.Ob.τ Cert.Ob.sig) → Buf (Elt Bits) ℓ) : Prop :=
  True

def Pre_ObIdeal (m : (ℓ : Loc Cert.ObIdeal.nD Cert.ObIdeal.τ Cert.ObIdeal.sig) → Buf (Elt Ideal) ℓ) : Prop :=
  True

def Pre_ObRefIdeal (m : (ℓ : Loc Cert.ObRefIdeal.nD Cert.ObRefIdeal.τ Cert.ObRefIdeal.sig) → Buf (Elt Ideal) ℓ) : Prop :=
  True

def Pre_Ml (m : (ℓ : Loc Cert.Ml.nD Cert.Ml.τ Cert.Ml.sig) → Buf (Elt Bits) ℓ) : Prop :=
  True

def Pre_MlIdeal (m : (ℓ : Loc Cert.MlIdeal.nD Cert.MlIdeal.τ Cert.MlIdeal.sig) → Buf (Elt Ideal) ℓ) : Prop :=
  True

def Pre_MlIdeal_finite_scores [hPre_finite_scores : Cert.Pre_finite_scores.Facts] (m : (ℓ : Loc Cert.MlIdeal.nD Cert.MlIdeal.τ Cert.MlIdeal.sig) → Buf (Elt Ideal) ℓ) : Prop :=
  ∀ c : Dev Cert.MlIdeal.nD,
    (Cert.Pre_finite_scores.fn (F := Ideal) (m ((c.tc : Thread Cert.MlIdeal.nD Cert.MlIdeal.τ).loc Cert.MlIdeal.main_arg0)) (m ((c.tc : Thread Cert.MlIdeal.nD Cert.MlIdeal.τ).loc Cert.MlIdeal.main_arg1)) (m ((c.tc : Thread Cert.MlIdeal.nD Cert.MlIdeal.τ).loc Cert.MlIdeal.main_arg2)) (m ((c.tc : Thread Cert.MlIdeal.nD Cert.MlIdeal.τ).loc Cert.MlIdeal.main_arg3))) = (fun _ => 1#1)

def Pre_MlRefIdeal (m : (ℓ : Loc Cert.MlRefIdeal.nD Cert.MlRefIdeal.τ Cert.MlRefIdeal.sig) → Buf (Elt Ideal) ℓ) : Prop :=
  True

def Pre_MlRefIdeal_finite_scores [hPre_finite_scores : Cert.Pre_finite_scores.Facts] (m : (ℓ : Loc Cert.MlRefIdeal.nD Cert.MlRefIdeal.τ Cert.MlRefIdeal.sig) → Buf (Elt Ideal) ℓ) : Prop :=
  ∀ c : Dev Cert.MlRefIdeal.nD,
    (Cert.Pre_finite_scores.fn (F := Ideal) (m ((c.tc : Thread Cert.MlRefIdeal.nD Cert.MlRefIdeal.τ).loc Cert.MlRefIdeal.main_arg0)) (m ((c.tc : Thread Cert.MlRefIdeal.nD Cert.MlRefIdeal.τ).loc Cert.MlRefIdeal.main_arg1)) (m ((c.tc : Thread Cert.MlRefIdeal.nD Cert.MlRefIdeal.τ).loc Cert.MlRefIdeal.main_arg2)) (m ((c.tc : Thread Cert.MlRefIdeal.nD Cert.MlRefIdeal.τ).loc Cert.MlRefIdeal.main_arg3))) = (fun _ => 1#1)

def Pre_Qs (m : (ℓ : Loc Cert.Qs.nD Cert.Qs.τ Cert.Qs.sig) → Buf (Elt Bits) ℓ) : Prop :=
  True

def Pre_QsIdeal (m : (ℓ : Loc Cert.QsIdeal.nD Cert.QsIdeal.τ Cert.QsIdeal.sig) → Buf (Elt Ideal) ℓ) : Prop :=
  True

def Pre_QsIdeal_finite_turned [hPre_finite_turned : Cert.Pre_finite_turned.Facts] (m : (ℓ : Loc Cert.QsIdeal.nD Cert.QsIdeal.τ Cert.QsIdeal.sig) → Buf (Elt Ideal) ℓ) : Prop :=
  ∀ c : Dev Cert.QsIdeal.nD,
    (Cert.Pre_finite_turned.fn (F := Ideal) (m ((c.tc : Thread Cert.QsIdeal.nD Cert.QsIdeal.τ).loc Cert.QsIdeal.main_arg0)) (m ((c.tc : Thread Cert.QsIdeal.nD Cert.QsIdeal.τ).loc Cert.QsIdeal.main_arg1)) (m ((c.tc : Thread Cert.QsIdeal.nD Cert.QsIdeal.τ).loc Cert.QsIdeal.main_arg2)) (m ((c.tc : Thread Cert.QsIdeal.nD Cert.QsIdeal.τ).loc Cert.QsIdeal.main_arg3))) = (fun _ => 1#1)

def Pre_QsRefIdeal (m : (ℓ : Loc Cert.QsRefIdeal.nD Cert.QsRefIdeal.τ Cert.QsRefIdeal.sig) → Buf (Elt Ideal) ℓ) : Prop :=
  True

def Pre_QsRefIdeal_finite_turned [hPre_finite_turned : Cert.Pre_finite_turned.Facts] (m : (ℓ : Loc Cert.QsRefIdeal.nD Cert.QsRefIdeal.τ Cert.QsRefIdeal.sig) → Buf (Elt Ideal) ℓ) : Prop :=
  ∀ c : Dev Cert.QsRefIdeal.nD,
    (Cert.Pre_finite_turned.fn (F := Ideal) (m ((c.tc : Thread Cert.QsRefIdeal.nD Cert.QsRefIdeal.τ).loc Cert.QsRefIdeal.main_arg0)) (m ((c.tc : Thread Cert.QsRefIdeal.nD Cert.QsRefIdeal.τ).loc Cert.QsRefIdeal.main_arg1)) (m ((c.tc : Thread Cert.QsRefIdeal.nD Cert.QsRefIdeal.τ).loc Cert.QsRefIdeal.main_arg2)) (m ((c.tc : Thread Cert.QsRefIdeal.nD Cert.QsRefIdeal.τ).loc Cert.QsRefIdeal.main_arg3))) = (fun _ => 1#1)

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvIdeal_finite_rotary [hPre_finite_rotary : Cert.Pre_finite_rotary.Facts] (m : (ℓ : Loc Cert.KvIdeal.nD Cert.KvIdeal.τ Cert.KvIdeal.sig) → Buf (Elt Ideal) ℓ) : Prop :=
  ∀ c : Dev Cert.KvIdeal.nD,
    (Cert.Pre_finite_rotary.fn (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg2)) (m ((c.tc : Thread Cert.KvIdeal.nD Cert.KvIdeal.τ).loc Cert.KvIdeal.main_arg3)) (m ((c.tc : Thread Cert.KvIdeal.nD Cert.KvIdeal.τ).loc Cert.KvIdeal.main_arg4))) = (fun _ => 1#1)

def Pre_KvRefIdeal (m : (ℓ : Loc Cert.KvRefIdeal.nD Cert.KvRefIdeal.τ Cert.KvRefIdeal.sig) → Buf (Elt Ideal) ℓ) : Prop :=
  True

def Pre_KvRefIdeal_finite_rotary [hPre_finite_rotary : Cert.Pre_finite_rotary.Facts] (m : (ℓ : Loc Cert.KvRefIdeal.nD Cert.KvRefIdeal.τ Cert.KvRefIdeal.sig) → Buf (Elt Ideal) ℓ) : Prop :=
  ∀ c : Dev Cert.KvRefIdeal.nD,
    (Cert.Pre_finite_rotary.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4))) = (fun _ => 1#1)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbIdeal_pre_finite_qk [hSbIdeal : Cert.SbIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_qk m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_SbRefIdeal_pre_finite_qk [hSbRefIdeal : Cert.SbRefIdeal.Facts] [hPre_finite_qk : Cert.Pre_finite_qk.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_qk m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0))
      ∧ r.2.sem = fun _ => 0)

def quiescent_Pa [hPa : Cert.Pa.Facts] : Prop :=
  ∀ (m : (ℓ : Loc Cert.Pa.nD Cert.Pa.τ Cert.Pa.sig) → Buf (Elt Bits) ℓ) (g : Dev Cert.Pa.nD → PrngReg), Pre_Pa m →
    θ_run (Cert.Pa.defs (F := Bits)) (onTc (τ := Cert.Pa.τ) (Cert.Pa.main (F := Bits))) ⟨m, fun _ => 0, g⟩ (fun r => (∀ c : Dev Cert.Pa.nD,
      r.2.mem ((c.tc : Thread Cert.Pa.nD Cert.Pa.τ).loc Cert.Pa.main_arg0) = m ((c.tc : Thread Cert.Pa.nD Cert.Pa.τ).loc Cert.Pa.main_arg0)
      ∧ r.2.mem ((c.tc : Thread Cert.Pa.nD Cert.Pa.τ).loc Cert.Pa.main_arg1) = m ((c.tc : Thread Cert.Pa.nD Cert.Pa.τ).loc Cert.Pa.main_arg1)
      ∧ r.2.mem ((c.tc : Thread Cert.Pa.nD Cert.Pa.τ).loc Cert.Pa.main_arg2) = m ((c.tc : Thread Cert.Pa.nD Cert.Pa.τ).loc Cert.Pa.main_arg2))
      ∧ r.2.sem = fun _ => 0)

def quiescent_PaIdeal [hPaIdeal : Cert.PaIdeal.Facts] : Prop :=
  ∀ (m : (ℓ : Loc Cert.PaIdeal.nD Cert.PaIdeal.τ Cert.PaIdeal.sig) → Buf (Elt Ideal) ℓ) (g : Dev Cert.PaIdeal.nD → PrngReg), Pre_PaIdeal m →
    θ_run (Cert.PaIdeal.defs (F := Ideal)) (onTc (τ := Cert.PaIdeal.τ) (Cert.PaIdeal.main (F := Ideal))) ⟨m, fun _ => 0, g⟩ (fun r => (∀ c : Dev Cert.PaIdeal.nD,
      r.2.mem ((c.tc : Thread Cert.PaIdeal.nD Cert.PaIdeal.τ).loc Cert.PaIdeal.main_arg0) = m ((c.tc : Thread Cert.PaIdeal.nD Cert.PaIdeal.τ).loc Cert.PaIdeal.main_arg0)
      ∧ r.2.mem ((c.tc : Thread Cert.PaIdeal.nD Cert.PaIdeal.τ).loc Cert.PaIdeal.main_arg1) = m ((c.tc : Thread Cert.PaIdeal.nD Cert.PaIdeal.τ).loc Cert.PaIdeal.main_arg1)
      ∧ r.2.mem ((c.tc : Thread Cert.PaIdeal.nD Cert.PaIdeal.τ).loc Cert.PaIdeal.main_arg2) = m ((c.tc : Thread Cert.PaIdeal.nD Cert.PaIdeal.τ).loc Cert.PaIdeal.main_arg2))
      ∧ r.2.sem = fun _ => 0)

def quiescent_PaRefIdeal [hPaRefIdeal : Cert.PaRefIdeal.Facts] : Prop :=
  ∀ (m : (ℓ : Loc Cert.PaRefIdeal.nD Cert.PaRefIdeal.τ Cert.PaRefIdeal.sig) → Buf (Elt Ideal) ℓ) (g : Dev Cert.PaRefIdeal.nD → PrngReg), Pre_PaRefIdeal m →
    θ_run (Cert.PaRefIdeal.defs (F := Ideal)) (onTc (τ := Cert.PaRefIdeal.τ) (Cert.PaRefIdeal.main (F := Ideal))) ⟨m, fun _ => 0, g⟩ (fun r => (∀ c : Dev Cert.PaRefIdeal.nD,
      r.2.mem ((c.tc : Thread Cert.PaRefIdeal.nD Cert.PaRefIdeal.τ).loc Cert.PaRefIdeal.main_arg0) = m ((c.tc : Thread Cert.PaRefIdeal.nD Cert.PaRefIdeal.τ).loc Cert.PaRefIdeal.main_arg0)
      ∧ r.2.mem ((c.tc : Thread Cert.PaRefIdeal.nD Cert.PaRefIdeal.τ).loc Cert.PaRefIdeal.main_arg1) = m ((c.tc : Thread Cert.PaRefIdeal.nD Cert.PaRefIdeal.τ).loc Cert.PaRefIdeal.main_arg1)
      ∧ r.2.mem ((c.tc : Thread Cert.PaRefIdeal.nD Cert.PaRefIdeal.τ).loc Cert.PaRefIdeal.main_arg2) = m ((c.tc : Thread Cert.PaRefIdeal.nD Cert.PaRefIdeal.τ).loc Cert.PaRefIdeal.main_arg2))
      ∧ r.2.sem = fun _ => 0)

def quiescent_Oa [hOa : Cert.Oa.Facts] : Prop :=
  ∀ (m : (ℓ : Loc Cert.Oa.nD Cert.Oa.τ Cert.Oa.sig) → Buf (Elt Bits) ℓ) (g : Dev Cert.Oa.nD → PrngReg), Pre_Oa m →
    θ_run (Cert.Oa.defs (F := Bits)) (onTc (τ := Cert.Oa.τ) (Cert.Oa.main (F := Bits))) ⟨m, fun _ => 0, g⟩ (fun r => (∀ c : Dev Cert.Oa.nD,
      r.2.mem ((c.tc : Thread Cert.Oa.nD Cert.Oa.τ).loc Cert.Oa.main_arg0) = m ((c.tc : Thread Cert.Oa.nD Cert.Oa.τ).loc Cert.Oa.main_arg0)
      ∧ r.2.mem ((c.tc : Thread Cert.Oa.nD Cert.Oa.τ).loc Cert.Oa.main_arg1) = m ((c.tc : Thread Cert.Oa.nD Cert.Oa.τ).loc Cert.Oa.main_arg1)
      ∧ r.2.mem ((c.tc : Thread Cert.Oa.nD Cert.Oa.τ).loc Cert.Oa.main_arg2) = m ((c.tc : Thread Cert.Oa.nD Cert.Oa.τ).loc Cert.Oa.main_arg2)
      ∧ r.2.mem ((c.tc : Thread Cert.Oa.nD Cert.Oa.τ).loc Cert.Oa.main_arg3) = m ((c.tc : Thread Cert.Oa.nD Cert.Oa.τ).loc Cert.Oa.main_arg3)
      ∧ r.2.mem ((c.tc : Thread Cert.Oa.nD Cert.Oa.τ).loc Cert.Oa.main_arg4) = m ((c.tc : Thread Cert.Oa.nD Cert.Oa.τ).loc Cert.Oa.main_arg4)
      ∧ r.2.mem ((c.tc : Thread Cert.Oa.nD Cert.Oa.τ).loc Cert.Oa.main_arg5) = m ((c.tc : Thread Cert.Oa.nD Cert.Oa.τ).loc Cert.Oa.main_arg5)
      ∧ r.2.mem ((c.tc : Thread Cert.Oa.nD Cert.Oa.τ).loc Cert.Oa.main_arg6) = m ((c.tc : Thread Cert.Oa.nD Cert.Oa.τ).loc Cert.Oa.main_arg6)
      ∧ r.2.mem ((c.tc : Thread Cert.Oa.nD Cert.Oa.τ).loc Cert.Oa.main_arg7) = m ((c.tc : Thread Cert.Oa.nD Cert.Oa.τ).loc Cert.Oa.main_arg7)
      ∧ r.2.mem ((c.tc : Thread Cert.Oa.nD Cert.Oa.τ).loc Cert.Oa.main_arg8) = m ((c.tc : Thread Cert.Oa.nD Cert.Oa.τ).loc Cert.Oa.main_arg8))
      ∧ r.2.sem = fun _ => 0)

def quiescent_OaIdeal [hOaIdeal : Cert.OaIdeal.Facts] : Prop :=
  ∀ (m : (ℓ : Loc Cert.OaIdeal.nD Cert.OaIdeal.τ Cert.OaIdeal.sig) → Buf (Elt Ideal) ℓ) (g : Dev Cert.OaIdeal.nD → PrngReg), Pre_OaIdeal m →
    θ_run (Cert.OaIdeal.defs (F := Ideal)) (onTc (τ := Cert.OaIdeal.τ) (Cert.OaIdeal.main (F := Ideal))) ⟨m, fun _ => 0, g⟩ (fun r => (∀ c : Dev Cert.OaIdeal.nD,
      r.2.mem ((c.tc : Thread Cert.OaIdeal.nD Cert.OaIdeal.τ).loc Cert.OaIdeal.main_arg0) = m ((c.tc : Thread Cert.OaIdeal.nD Cert.OaIdeal.τ).loc Cert.OaIdeal.main_arg0)
      ∧ r.2.mem ((c.tc : Thread Cert.OaIdeal.nD Cert.OaIdeal.τ).loc Cert.OaIdeal.main_arg1) = m ((c.tc : Thread Cert.OaIdeal.nD Cert.OaIdeal.τ).loc Cert.OaIdeal.main_arg1)
      ∧ r.2.mem ((c.tc : Thread Cert.OaIdeal.nD Cert.OaIdeal.τ).loc Cert.OaIdeal.main_arg2) = m ((c.tc : Thread Cert.OaIdeal.nD Cert.OaIdeal.τ).loc Cert.OaIdeal.main_arg2)
      ∧ r.2.mem ((c.tc : Thread Cert.OaIdeal.nD Cert.OaIdeal.τ).loc Cert.OaIdeal.main_arg3) = m ((c.tc : Thread Cert.OaIdeal.nD Cert.OaIdeal.τ).loc Cert.OaIdeal.main_arg3)
      ∧ r.2.mem ((c.tc : Thread Cert.OaIdeal.nD Cert.OaIdeal.τ).loc Cert.OaIdeal.main_arg4) = m ((c.tc : Thread Cert.OaIdeal.nD Cert.OaIdeal.τ).loc Cert.OaIdeal.main_arg4)
      ∧ r.2.mem ((c.tc : Thread Cert.OaIdeal.nD Cert.OaIdeal.τ).loc Cert.OaIdeal.main_arg5) = m ((c.tc : Thread Cert.OaIdeal.nD Cert.OaIdeal.τ).loc Cert.OaIdeal.main_arg5)
      ∧ r.2.mem ((c.tc : Thread Cert.OaIdeal.nD Cert.OaIdeal.τ).loc Cert.OaIdeal.main_arg6) = m ((c.tc : Thread Cert.OaIdeal.nD Cert.OaIdeal.τ).loc Cert.OaIdeal.main_arg6)
      ∧ r.2.mem ((c.tc : Thread Cert.OaIdeal.nD Cert.OaIdeal.τ).loc Cert.OaIdeal.main_arg7) = m ((c.tc : Thread Cert.OaIdeal.nD Cert.OaIdeal.τ).loc Cert.OaIdeal.main_arg7)
      ∧ r.2.mem ((c.tc : Thread Cert.OaIdeal.nD Cert.OaIdeal.τ).loc Cert.OaIdeal.main_arg8) = m ((c.tc : Thread Cert.OaIdeal.nD Cert.OaIdeal.τ).loc Cert.OaIdeal.main_arg8))
      ∧ r.2.sem = fun _ => 0)

def quiescent_OaRefIdeal [hOaRefIdeal : Cert.OaRefIdeal.Facts] : Prop :=
  ∀ (m : (ℓ : Loc Cert.OaRefIdeal.nD Cert.OaRefIdeal.τ Cert.OaRefIdeal.sig) → Buf (Elt Ideal) ℓ) (g : Dev Cert.OaRefIdeal.nD → PrngReg), Pre_OaRefIdeal m →
    θ_run (Cert.OaRefIdeal.defs (F := Ideal)) (onTc (τ := Cert.OaRefIdeal.τ) (Cert.OaRefIdeal.main (F := Ideal))) ⟨m, fun _ => 0, g⟩ (fun r => (∀ c : Dev Cert.OaRefIdeal.nD,
      r.2.mem ((c.tc : Thread Cert.OaRefIdeal.nD Cert.OaRefIdeal.τ).loc Cert.OaRefIdeal.main_arg0) = m ((c.tc : Thread Cert.OaRefIdeal.nD Cert.OaRefIdeal.τ).loc Cert.OaRefIdeal.main_arg0)
      ∧ r.2.mem ((c.tc : Thread Cert.OaRefIdeal.nD Cert.OaRefIdeal.τ).loc Cert.OaRefIdeal.main_arg1) = m ((c.tc : Thread Cert.OaRefIdeal.nD Cert.OaRefIdeal.τ).loc Cert.OaRefIdeal.main_arg1)
      ∧ r.2.mem ((c.tc : Thread Cert.OaRefIdeal.nD Cert.OaRefIdeal.τ).loc Cert.OaRefIdeal.main_arg2) = m ((c.tc : Thread Cert.OaRefIdeal.nD Cert.OaRefIdeal.τ).loc Cert.OaRefIdeal.main_arg2)
      ∧ r.2.mem ((c.tc : Thread Cert.OaRefIdeal.nD Cert.OaRefIdeal.τ).loc Cert.OaRefIdeal.main_arg3) = m ((c.tc : Thread Cert.OaRefIdeal.nD Cert.OaRefIdeal.τ).loc Cert.OaRefIdeal.main_arg3)
      ∧ r.2.mem ((c.tc : Thread Cert.OaRefIdeal.nD Cert.OaRefIdeal.τ).loc Cert.OaRefIdeal.main_arg4) = m ((c.tc : Thread Cert.OaRefIdeal.nD Cert.OaRefIdeal.τ).loc Cert.OaRefIdeal.main_arg4)
      ∧ r.2.mem ((c.tc : Thread Cert.OaRefIdeal.nD Cert.OaRefIdeal.τ).loc Cert.OaRefIdeal.main_arg5) = m ((c.tc : Thread Cert.OaRefIdeal.nD Cert.OaRefIdeal.τ).loc Cert.OaRefIdeal.main_arg5)
      ∧ r.2.mem ((c.tc : Thread Cert.OaRefIdeal.nD Cert.OaRefIdeal.τ).loc Cert.OaRefIdeal.main_arg6) = m ((c.tc : Thread Cert.OaRefIdeal.nD Cert.OaRefIdeal.τ).loc Cert.OaRefIdeal.main_arg6)
      ∧ r.2.mem ((c.tc : Thread Cert.OaRefIdeal.nD Cert.OaRefIdeal.τ).loc Cert.OaRefIdeal.main_arg7) = m ((c.tc : Thread Cert.OaRefIdeal.nD Cert.OaRefIdeal.τ).loc Cert.OaRefIdeal.main_arg7)
      ∧ r.2.mem ((c.tc : Thread Cert.OaRefIdeal.nD Cert.OaRefIdeal.τ).loc Cert.OaRefIdeal.main_arg8) = m ((c.tc : Thread Cert.OaRefIdeal.nD Cert.OaRefIdeal.τ).loc Cert.OaRefIdeal.main_arg8))
      ∧ r.2.sem = fun _ => 0)

def quiescent_Ob [hOb : Cert.Ob.Facts] : Prop :=
  ∀ (m : (ℓ : Loc Cert.Ob.nD Cert.Ob.τ Cert.Ob.sig) → Buf (Elt Bits) ℓ) (g : Dev Cert.Ob.nD → PrngReg), Pre_Ob m →
    θ_run (Cert.Ob.defs (F := Bits)) (onTc (τ := Cert.Ob.τ) (Cert.Ob.main (F := Bits))) ⟨m, fun _ => 0, g⟩ (fun r => (∀ c : Dev Cert.Ob.nD,
      r.2.mem ((c.tc : Thread Cert.Ob.nD Cert.Ob.τ).loc Cert.Ob.main_arg0) = m ((c.tc : Thread Cert.Ob.nD Cert.Ob.τ).loc Cert.Ob.main_arg0)
      ∧ r.2.mem ((c.tc : Thread Cert.Ob.nD Cert.Ob.τ).loc Cert.Ob.main_arg1) = m ((c.tc : Thread Cert.Ob.nD Cert.Ob.τ).loc Cert.Ob.main_arg1)
      ∧ r.2.mem ((c.tc : Thread Cert.Ob.nD Cert.Ob.τ).loc Cert.Ob.main_arg2) = m ((c.tc : Thread Cert.Ob.nD Cert.Ob.τ).loc Cert.Ob.main_arg2)
      ∧ r.2.mem ((c.tc : Thread Cert.Ob.nD Cert.Ob.τ).loc Cert.Ob.main_arg3) = m ((c.tc : Thread Cert.Ob.nD Cert.Ob.τ).loc Cert.Ob.main_arg3)
      ∧ r.2.mem ((c.tc : Thread Cert.Ob.nD Cert.Ob.τ).loc Cert.Ob.main_arg4) = m ((c.tc : Thread Cert.Ob.nD Cert.Ob.τ).loc Cert.Ob.main_arg4)
      ∧ r.2.mem ((c.tc : Thread Cert.Ob.nD Cert.Ob.τ).loc Cert.Ob.main_arg5) = m ((c.tc : Thread Cert.Ob.nD Cert.Ob.τ).loc Cert.Ob.main_arg5)
      ∧ r.2.mem ((c.tc : Thread Cert.Ob.nD Cert.Ob.τ).loc Cert.Ob.main_arg6) = m ((c.tc : Thread Cert.Ob.nD Cert.Ob.τ).loc Cert.Ob.main_arg6))
      ∧ r.2.sem = fun _ => 0)

def quiescent_ObIdeal [hObIdeal : Cert.ObIdeal.Facts] : Prop :=
  ∀ (m : (ℓ : Loc Cert.ObIdeal.nD Cert.ObIdeal.τ Cert.ObIdeal.sig) → Buf (Elt Ideal) ℓ) (g : Dev Cert.ObIdeal.nD → PrngReg), Pre_ObIdeal m →
    θ_run (Cert.ObIdeal.defs (F := Ideal)) (onTc (τ := Cert.ObIdeal.τ) (Cert.ObIdeal.main (F := Ideal))) ⟨m, fun _ => 0, g⟩ (fun r => (∀ c : Dev Cert.ObIdeal.nD,
      r.2.mem ((c.tc : Thread Cert.ObIdeal.nD Cert.ObIdeal.τ).loc Cert.ObIdeal.main_arg0) = m ((c.tc : Thread Cert.ObIdeal.nD Cert.ObIdeal.τ).loc Cert.ObIdeal.main_arg0)
      ∧ r.2.mem ((c.tc : Thread Cert.ObIdeal.nD Cert.ObIdeal.τ).loc Cert.ObIdeal.main_arg1) = m ((c.tc : Thread Cert.ObIdeal.nD Cert.ObIdeal.τ).loc Cert.ObIdeal.main_arg1)
      ∧ r.2.mem ((c.tc : Thread Cert.ObIdeal.nD Cert.ObIdeal.τ).loc Cert.ObIdeal.main_arg2) = m ((c.tc : Thread Cert.ObIdeal.nD Cert.ObIdeal.τ).loc Cert.ObIdeal.main_arg2)
      ∧ r.2.mem ((c.tc : Thread Cert.ObIdeal.nD Cert.ObIdeal.τ).loc Cert.ObIdeal.main_arg3) = m ((c.tc : Thread Cert.ObIdeal.nD Cert.ObIdeal.τ).loc Cert.ObIdeal.main_arg3)
      ∧ r.2.mem ((c.tc : Thread Cert.ObIdeal.nD Cert.ObIdeal.τ).loc Cert.ObIdeal.main_arg4) = m ((c.tc : Thread Cert.ObIdeal.nD Cert.ObIdeal.τ).loc Cert.ObIdeal.main_arg4)
      ∧ r.2.mem ((c.tc : Thread Cert.ObIdeal.nD Cert.ObIdeal.τ).loc Cert.ObIdeal.main_arg5) = m ((c.tc : Thread Cert.ObIdeal.nD Cert.ObIdeal.τ).loc Cert.ObIdeal.main_arg5)
      ∧ r.2.mem ((c.tc : Thread Cert.ObIdeal.nD Cert.ObIdeal.τ).loc Cert.ObIdeal.main_arg6) = m ((c.tc : Thread Cert.ObIdeal.nD Cert.ObIdeal.τ).loc Cert.ObIdeal.main_arg6))
      ∧ r.2.sem = fun _ => 0)

def quiescent_ObRefIdeal [hObRefIdeal : Cert.ObRefIdeal.Facts] : Prop :=
  ∀ (m : (ℓ : Loc Cert.ObRefIdeal.nD Cert.ObRefIdeal.τ Cert.ObRefIdeal.sig) → Buf (Elt Ideal) ℓ) (g : Dev Cert.ObRefIdeal.nD → PrngReg), Pre_ObRefIdeal m →
    θ_run (Cert.ObRefIdeal.defs (F := Ideal)) (onTc (τ := Cert.ObRefIdeal.τ) (Cert.ObRefIdeal.main (F := Ideal))) ⟨m, fun _ => 0, g⟩ (fun r => (∀ c : Dev Cert.ObRefIdeal.nD,
      r.2.mem ((c.tc : Thread Cert.ObRefIdeal.nD Cert.ObRefIdeal.τ).loc Cert.ObRefIdeal.main_arg0) = m ((c.tc : Thread Cert.ObRefIdeal.nD Cert.ObRefIdeal.τ).loc Cert.ObRefIdeal.main_arg0)
      ∧ r.2.mem ((c.tc : Thread Cert.ObRefIdeal.nD Cert.ObRefIdeal.τ).loc Cert.ObRefIdeal.main_arg1) = m ((c.tc : Thread Cert.ObRefIdeal.nD Cert.ObRefIdeal.τ).loc Cert.ObRefIdeal.main_arg1)
      ∧ r.2.mem ((c.tc : Thread Cert.ObRefIdeal.nD Cert.ObRefIdeal.τ).loc Cert.ObRefIdeal.main_arg2) = m ((c.tc : Thread Cert.ObRefIdeal.nD Cert.ObRefIdeal.τ).loc Cert.ObRefIdeal.main_arg2)
      ∧ r.2.mem ((c.tc : Thread Cert.ObRefIdeal.nD Cert.ObRefIdeal.τ).loc Cert.ObRefIdeal.main_arg3) = m ((c.tc : Thread Cert.ObRefIdeal.nD Cert.ObRefIdeal.τ).loc Cert.ObRefIdeal.main_arg3)
      ∧ r.2.mem ((c.tc : Thread Cert.ObRefIdeal.nD Cert.ObRefIdeal.τ).loc Cert.ObRefIdeal.main_arg4) = m ((c.tc : Thread Cert.ObRefIdeal.nD Cert.ObRefIdeal.τ).loc Cert.ObRefIdeal.main_arg4)
      ∧ r.2.mem ((c.tc : Thread Cert.ObRefIdeal.nD Cert.ObRefIdeal.τ).loc Cert.ObRefIdeal.main_arg5) = m ((c.tc : Thread Cert.ObRefIdeal.nD Cert.ObRefIdeal.τ).loc Cert.ObRefIdeal.main_arg5)
      ∧ r.2.mem ((c.tc : Thread Cert.ObRefIdeal.nD Cert.ObRefIdeal.τ).loc Cert.ObRefIdeal.main_arg6) = m ((c.tc : Thread Cert.ObRefIdeal.nD Cert.ObRefIdeal.τ).loc Cert.ObRefIdeal.main_arg6))
      ∧ r.2.sem = fun _ => 0)

def quiescent_Ml [hMl : Cert.Ml.Facts] : Prop :=
  ∀ (m : (ℓ : Loc Cert.Ml.nD Cert.Ml.τ Cert.Ml.sig) → Buf (Elt Bits) ℓ) (g : Dev Cert.Ml.nD → PrngReg), Pre_Ml m →
    θ_run (Cert.Ml.defs (F := Bits)) (onTc (τ := Cert.Ml.τ) (Cert.Ml.main (F := Bits))) ⟨m, fun _ => 0, g⟩ (fun r => (∀ c : Dev Cert.Ml.nD,
      r.2.mem ((c.tc : Thread Cert.Ml.nD Cert.Ml.τ).loc Cert.Ml.main_arg0) = m ((c.tc : Thread Cert.Ml.nD Cert.Ml.τ).loc Cert.Ml.main_arg0)
      ∧ r.2.mem ((c.tc : Thread Cert.Ml.nD Cert.Ml.τ).loc Cert.Ml.main_arg1) = m ((c.tc : Thread Cert.Ml.nD Cert.Ml.τ).loc Cert.Ml.main_arg1)
      ∧ r.2.mem ((c.tc : Thread Cert.Ml.nD Cert.Ml.τ).loc Cert.Ml.main_arg2) = m ((c.tc : Thread Cert.Ml.nD Cert.Ml.τ).loc Cert.Ml.main_arg2)
      ∧ r.2.mem ((c.tc : Thread Cert.Ml.nD Cert.Ml.τ).loc Cert.Ml.main_arg3) = m ((c.tc : Thread Cert.Ml.nD Cert.Ml.τ).loc Cert.Ml.main_arg3))
      ∧ r.2.sem = fun _ => 0)

def quiescent_MlIdeal [hMlIdeal : Cert.MlIdeal.Facts] : Prop :=
  ∀ (m : (ℓ : Loc Cert.MlIdeal.nD Cert.MlIdeal.τ Cert.MlIdeal.sig) → Buf (Elt Ideal) ℓ) (g : Dev Cert.MlIdeal.nD → PrngReg), Pre_MlIdeal m →
    θ_run (Cert.MlIdeal.defs (F := Ideal)) (onTc (τ := Cert.MlIdeal.τ) (Cert.MlIdeal.main (F := Ideal))) ⟨m, fun _ => 0, g⟩ (fun r => (∀ c : Dev Cert.MlIdeal.nD,
      r.2.mem ((c.tc : Thread Cert.MlIdeal.nD Cert.MlIdeal.τ).loc Cert.MlIdeal.main_arg0) = m ((c.tc : Thread Cert.MlIdeal.nD Cert.MlIdeal.τ).loc Cert.MlIdeal.main_arg0)
      ∧ r.2.mem ((c.tc : Thread Cert.MlIdeal.nD Cert.MlIdeal.τ).loc Cert.MlIdeal.main_arg1) = m ((c.tc : Thread Cert.MlIdeal.nD Cert.MlIdeal.τ).loc Cert.MlIdeal.main_arg1)
      ∧ r.2.mem ((c.tc : Thread Cert.MlIdeal.nD Cert.MlIdeal.τ).loc Cert.MlIdeal.main_arg2) = m ((c.tc : Thread Cert.MlIdeal.nD Cert.MlIdeal.τ).loc Cert.MlIdeal.main_arg2)
      ∧ r.2.mem ((c.tc : Thread Cert.MlIdeal.nD Cert.MlIdeal.τ).loc Cert.MlIdeal.main_arg3) = m ((c.tc : Thread Cert.MlIdeal.nD Cert.MlIdeal.τ).loc Cert.MlIdeal.main_arg3))
      ∧ r.2.sem = fun _ => 0)

def quiescent_MlIdeal_pre_finite_scores [hMlIdeal : Cert.MlIdeal.Facts] [hPre_finite_scores : Cert.Pre_finite_scores.Facts] : Prop :=
  ∀ (m : (ℓ : Loc Cert.MlIdeal.nD Cert.MlIdeal.τ Cert.MlIdeal.sig) → Buf (Elt Ideal) ℓ) (g : Dev Cert.MlIdeal.nD → PrngReg), Pre_MlIdeal_finite_scores m →
    θ_run (Cert.MlIdeal.defs (F := Ideal)) (onTc (τ := Cert.MlIdeal.τ) (Cert.MlIdeal.main (F := Ideal))) ⟨m, fun _ => 0, g⟩ (fun r => (∀ c : Dev Cert.MlIdeal.nD,
      r.2.mem ((c.tc : Thread Cert.MlIdeal.nD Cert.MlIdeal.τ).loc Cert.MlIdeal.main_arg0) = m ((c.tc : Thread Cert.MlIdeal.nD Cert.MlIdeal.τ).loc Cert.MlIdeal.main_arg0)
      ∧ r.2.mem ((c.tc : Thread Cert.MlIdeal.nD Cert.MlIdeal.τ).loc Cert.MlIdeal.main_arg1) = m ((c.tc : Thread Cert.MlIdeal.nD Cert.MlIdeal.τ).loc Cert.MlIdeal.main_arg1)
      ∧ r.2.mem ((c.tc : Thread Cert.MlIdeal.nD Cert.MlIdeal.τ).loc Cert.MlIdeal.main_arg2) = m ((c.tc : Thread Cert.MlIdeal.nD Cert.MlIdeal.τ).loc Cert.MlIdeal.main_arg2)
      ∧ r.2.mem ((c.tc : Thread Cert.MlIdeal.nD Cert.MlIdeal.τ).loc Cert.MlIdeal.main_arg3) = m ((c.tc : Thread Cert.MlIdeal.nD Cert.MlIdeal.τ).loc Cert.MlIdeal.main_arg3))
      ∧ r.2.sem = fun _ => 0)

def quiescent_MlRefIdeal [hMlRefIdeal : Cert.MlRefIdeal.Facts] : Prop :=
  ∀ (m : (ℓ : Loc Cert.MlRefIdeal.nD Cert.MlRefIdeal.τ Cert.MlRefIdeal.sig) → Buf (Elt Ideal) ℓ) (g : Dev Cert.MlRefIdeal.nD → PrngReg), Pre_MlRefIdeal m →
    θ_run (Cert.MlRefIdeal.defs (F := Ideal)) (onTc (τ := Cert.MlRefIdeal.τ) (Cert.MlRefIdeal.main (F := Ideal))) ⟨m, fun _ => 0, g⟩ (fun r => (∀ c : Dev Cert.MlRefIdeal.nD,
      r.2.mem ((c.tc : Thread Cert.MlRefIdeal.nD Cert.MlRefIdeal.τ).loc Cert.MlRefIdeal.main_arg0) = m ((c.tc : Thread Cert.MlRefIdeal.nD Cert.MlRefIdeal.τ).loc Cert.MlRefIdeal.main_arg0)
      ∧ r.2.mem ((c.tc : Thread Cert.MlRefIdeal.nD Cert.MlRefIdeal.τ).loc Cert.MlRefIdeal.main_arg1) = m ((c.tc : Thread Cert.MlRefIdeal.nD Cert.MlRefIdeal.τ).loc Cert.MlRefIdeal.main_arg1)
      ∧ r.2.mem ((c.tc : Thread Cert.MlRefIdeal.nD Cert.MlRefIdeal.τ).loc Cert.MlRefIdeal.main_arg2) = m ((c.tc : Thread Cert.MlRefIdeal.nD Cert.MlRefIdeal.τ).loc Cert.MlRefIdeal.main_arg2)
      ∧ r.2.mem ((c.tc : Thread Cert.MlRefIdeal.nD Cert.MlRefIdeal.τ).loc Cert.MlRefIdeal.main_arg3) = m ((c.tc : Thread Cert.MlRefIdeal.nD Cert.MlRefIdeal.τ).loc Cert.MlRefIdeal.main_arg3))
      ∧ r.2.sem = fun _ => 0)

def quiescent_MlRefIdeal_pre_finite_scores [hMlRefIdeal : Cert.MlRefIdeal.Facts] [hPre_finite_scores : Cert.Pre_finite_scores.Facts] : Prop :=
  ∀ (m : (ℓ : Loc Cert.MlRefIdeal.nD Cert.MlRefIdeal.τ Cert.MlRefIdeal.sig) → Buf (Elt Ideal) ℓ) (g : Dev Cert.MlRefIdeal.nD → PrngReg), Pre_MlRefIdeal_finite_scores m →
    θ_run (Cert.MlRefIdeal.defs (F := Ideal)) (onTc (τ := Cert.MlRefIdeal.τ) (Cert.MlRefIdeal.main (F := Ideal))) ⟨m, fun _ => 0, g⟩ (fun r => (∀ c : Dev Cert.MlRefIdeal.nD,
      r.2.mem ((c.tc : Thread Cert.MlRefIdeal.nD Cert.MlRefIdeal.τ).loc Cert.MlRefIdeal.main_arg0) = m ((c.tc : Thread Cert.MlRefIdeal.nD Cert.MlRefIdeal.τ).loc Cert.MlRefIdeal.main_arg0)
      ∧ r.2.mem ((c.tc : Thread Cert.MlRefIdeal.nD Cert.MlRefIdeal.τ).loc Cert.MlRefIdeal.main_arg1) = m ((c.tc : Thread Cert.MlRefIdeal.nD Cert.MlRefIdeal.τ).loc Cert.MlRefIdeal.main_arg1)
      ∧ r.2.mem ((c.tc : Thread Cert.MlRefIdeal.nD Cert.MlRefIdeal.τ).loc Cert.MlRefIdeal.main_arg2) = m ((c.tc : Thread Cert.MlRefIdeal.nD Cert.MlRefIdeal.τ).loc Cert.MlRefIdeal.main_arg2)
      ∧ r.2.mem ((c.tc : Thread Cert.MlRefIdeal.nD Cert.MlRefIdeal.τ).loc Cert.MlRefIdeal.main_arg3) = m ((c.tc : Thread Cert.MlRefIdeal.nD Cert.MlRefIdeal.τ).loc Cert.MlRefIdeal.main_arg3))
      ∧ r.2.sem = fun _ => 0)

def quiescent_Qs [hQs : Cert.Qs.Facts] : Prop :=
  ∀ (m : (ℓ : Loc Cert.Qs.nD Cert.Qs.τ Cert.Qs.sig) → Buf (Elt Bits) ℓ) (g : Dev Cert.Qs.nD → PrngReg), Pre_Qs m →
    θ_run (Cert.Qs.defs (F := Bits)) (onTc (τ := Cert.Qs.τ) (Cert.Qs.main (F := Bits))) ⟨m, fun _ => 0, g⟩ (fun r => (∀ c : Dev Cert.Qs.nD,
      r.2.mem ((c.tc : Thread Cert.Qs.nD Cert.Qs.τ).loc Cert.Qs.main_arg0) = m ((c.tc : Thread Cert.Qs.nD Cert.Qs.τ).loc Cert.Qs.main_arg0)
      ∧ r.2.mem ((c.tc : Thread Cert.Qs.nD Cert.Qs.τ).loc Cert.Qs.main_arg1) = m ((c.tc : Thread Cert.Qs.nD Cert.Qs.τ).loc Cert.Qs.main_arg1)
      ∧ r.2.mem ((c.tc : Thread Cert.Qs.nD Cert.Qs.τ).loc Cert.Qs.main_arg2) = m ((c.tc : Thread Cert.Qs.nD Cert.Qs.τ).loc Cert.Qs.main_arg2)
      ∧ r.2.mem ((c.tc : Thread Cert.Qs.nD Cert.Qs.τ).loc Cert.Qs.main_arg3) = m ((c.tc : Thread Cert.Qs.nD Cert.Qs.τ).loc Cert.Qs.main_arg3))
      ∧ r.2.sem = fun _ => 0)

def quiescent_QsIdeal [hQsIdeal : Cert.QsIdeal.Facts] : Prop :=
  ∀ (m : (ℓ : Loc Cert.QsIdeal.nD Cert.QsIdeal.τ Cert.QsIdeal.sig) → Buf (Elt Ideal) ℓ) (g : Dev Cert.QsIdeal.nD → PrngReg), Pre_QsIdeal m →
    θ_run (Cert.QsIdeal.defs (F := Ideal)) (onTc (τ := Cert.QsIdeal.τ) (Cert.QsIdeal.main (F := Ideal))) ⟨m, fun _ => 0, g⟩ (fun r => (∀ c : Dev Cert.QsIdeal.nD,
      r.2.mem ((c.tc : Thread Cert.QsIdeal.nD Cert.QsIdeal.τ).loc Cert.QsIdeal.main_arg0) = m ((c.tc : Thread Cert.QsIdeal.nD Cert.QsIdeal.τ).loc Cert.QsIdeal.main_arg0)
      ∧ r.2.mem ((c.tc : Thread Cert.QsIdeal.nD Cert.QsIdeal.τ).loc Cert.QsIdeal.main_arg1) = m ((c.tc : Thread Cert.QsIdeal.nD Cert.QsIdeal.τ).loc Cert.QsIdeal.main_arg1)
      ∧ r.2.mem ((c.tc : Thread Cert.QsIdeal.nD Cert.QsIdeal.τ).loc Cert.QsIdeal.main_arg2) = m ((c.tc : Thread Cert.QsIdeal.nD Cert.QsIdeal.τ).loc Cert.QsIdeal.main_arg2)
      ∧ r.2.mem ((c.tc : Thread Cert.QsIdeal.nD Cert.QsIdeal.τ).loc Cert.QsIdeal.main_arg3) = m ((c.tc : Thread Cert.QsIdeal.nD Cert.QsIdeal.τ).loc Cert.QsIdeal.main_arg3))
      ∧ r.2.sem = fun _ => 0)

def quiescent_QsIdeal_pre_finite_turned [hQsIdeal : Cert.QsIdeal.Facts] [hPre_finite_turned : Cert.Pre_finite_turned.Facts] : Prop :=
  ∀ (m : (ℓ : Loc Cert.QsIdeal.nD Cert.QsIdeal.τ Cert.QsIdeal.sig) → Buf (Elt Ideal) ℓ) (g : Dev Cert.QsIdeal.nD → PrngReg), Pre_QsIdeal_finite_turned m →
    θ_run (Cert.QsIdeal.defs (F := Ideal)) (onTc (τ := Cert.QsIdeal.τ) (Cert.QsIdeal.main (F := Ideal))) ⟨m, fun _ => 0, g⟩ (fun r => (∀ c : Dev Cert.QsIdeal.nD,
      r.2.mem ((c.tc : Thread Cert.QsIdeal.nD Cert.QsIdeal.τ).loc Cert.QsIdeal.main_arg0) = m ((c.tc : Thread Cert.QsIdeal.nD Cert.QsIdeal.τ).loc Cert.QsIdeal.main_arg0)
      ∧ r.2.mem ((c.tc : Thread Cert.QsIdeal.nD Cert.QsIdeal.τ).loc Cert.QsIdeal.main_arg1) = m ((c.tc : Thread Cert.QsIdeal.nD Cert.QsIdeal.τ).loc Cert.QsIdeal.main_arg1)
      ∧ r.2.mem ((c.tc : Thread Cert.QsIdeal.nD Cert.QsIdeal.τ).loc Cert.QsIdeal.main_arg2) = m ((c.tc : Thread Cert.QsIdeal.nD Cert.QsIdeal.τ).loc Cert.QsIdeal.main_arg2)
      ∧ r.2.mem ((c.tc : Thread Cert.QsIdeal.nD Cert.QsIdeal.τ).loc Cert.QsIdeal.main_arg3) = m ((c.tc : Thread Cert.QsIdeal.nD Cert.QsIdeal.τ).loc Cert.QsIdeal.main_arg3))
      ∧ r.2.sem = fun _ => 0)

def quiescent_QsRefIdeal [hQsRefIdeal : Cert.QsRefIdeal.Facts] : Prop :=
  ∀ (m : (ℓ : Loc Cert.QsRefIdeal.nD Cert.QsRefIdeal.τ Cert.QsRefIdeal.sig) → Buf (Elt Ideal) ℓ) (g : Dev Cert.QsRefIdeal.nD → PrngReg), Pre_QsRefIdeal m →
    θ_run (Cert.QsRefIdeal.defs (F := Ideal)) (onTc (τ := Cert.QsRefIdeal.τ) (Cert.QsRefIdeal.main (F := Ideal))) ⟨m, fun _ => 0, g⟩ (fun r => (∀ c : Dev Cert.QsRefIdeal.nD,
      r.2.mem ((c.tc : Thread Cert.QsRefIdeal.nD Cert.QsRefIdeal.τ).loc Cert.QsRefIdeal.main_arg0) = m ((c.tc : Thread Cert.QsRefIdeal.nD Cert.QsRefIdeal.τ).loc Cert.QsRefIdeal.main_arg0)
      ∧ r.2.mem ((c.tc : Thread Cert.QsRefIdeal.nD Cert.QsRefIdeal.τ).loc Cert.QsRefIdeal.main_arg1) = m ((c.tc : Thread Cert.QsRefIdeal.nD Cert.QsRefIdeal.τ).loc Cert.QsRefIdeal.main_arg1)
      ∧ r.2.mem ((c.tc : Thread Cert.QsRefIdeal.nD Cert.QsRefIdeal.τ).loc Cert.QsRefIdeal.main_arg2) = m ((c.tc : Thread Cert.QsRefIdeal.nD Cert.QsRefIdeal.τ).loc Cert.QsRefIdeal.main_arg2)
      ∧ r.2.mem ((c.tc : Thread Cert.QsRefIdeal.nD Cert.QsRefIdeal.τ).loc Cert.QsRefIdeal.main_arg3) = m ((c.tc : Thread Cert.QsRefIdeal.nD Cert.QsRefIdeal.τ).loc Cert.QsRefIdeal.main_arg3))
      ∧ r.2.sem = fun _ => 0)

def quiescent_QsRefIdeal_pre_finite_turned [hQsRefIdeal : Cert.QsRefIdeal.Facts] [hPre_finite_turned : Cert.Pre_finite_turned.Facts] : Prop :=
  ∀ (m : (ℓ : Loc Cert.QsRefIdeal.nD Cert.QsRefIdeal.τ Cert.QsRefIdeal.sig) → Buf (Elt Ideal) ℓ) (g : Dev Cert.QsRefIdeal.nD → PrngReg), Pre_QsRefIdeal_finite_turned m →
    θ_run (Cert.QsRefIdeal.defs (F := Ideal)) (onTc (τ := Cert.QsRefIdeal.τ) (Cert.QsRefIdeal.main (F := Ideal))) ⟨m, fun _ => 0, g⟩ (fun r => (∀ c : Dev Cert.QsRefIdeal.nD,
      r.2.mem ((c.tc : Thread Cert.QsRefIdeal.nD Cert.QsRefIdeal.τ).loc Cert.QsRefIdeal.main_arg0) = m ((c.tc : Thread Cert.QsRefIdeal.nD Cert.QsRefIdeal.τ).loc Cert.QsRefIdeal.main_arg0)
      ∧ r.2.mem ((c.tc : Thread Cert.QsRefIdeal.nD Cert.QsRefIdeal.τ).loc Cert.QsRefIdeal.main_arg1) = m ((c.tc : Thread Cert.QsRefIdeal.nD Cert.QsRefIdeal.τ).loc Cert.QsRefIdeal.main_arg1)
      ∧ r.2.mem ((c.tc : Thread Cert.QsRefIdeal.nD Cert.QsRefIdeal.τ).loc Cert.QsRefIdeal.main_arg2) = m ((c.tc : Thread Cert.QsRefIdeal.nD Cert.QsRefIdeal.τ).loc Cert.QsRefIdeal.main_arg2)
      ∧ r.2.mem ((c.tc : Thread Cert.QsRefIdeal.nD Cert.QsRefIdeal.τ).loc Cert.QsRefIdeal.main_arg3) = m ((c.tc : Thread Cert.QsRefIdeal.nD Cert.QsRefIdeal.τ).loc Cert.QsRefIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ r.2.sem = fun _ => 0)

def quiescent_KvIdeal_pre_finite_rotary [hKvIdeal : Cert.KvIdeal.Facts] [hPre_finite_rotary : Cert.Pre_finite_rotary.Facts] : Prop :=
  ∀ (m : (ℓ : Loc Cert.KvIdeal.nD Cert.KvIdeal.τ Cert.KvIdeal.sig) → Buf (Elt Ideal) ℓ) (g : Dev Cert.KvIdeal.nD → PrngReg), Pre_KvIdeal_finite_rotary m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4))
      ∧ r.2.sem = fun _ => 0)

def quiescent_KvRefIdeal_pre_finite_rotary [hKvRefIdeal : Cert.KvRefIdeal.Facts] [hPre_finite_rotary : Cert.Pre_finite_rotary.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal_finite_rotary m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4))
      ∧ r.2.sem = fun _ => 0)

def preserves_Sb_SbIdeal : Prop :=
  True

def algebraic_SbIdeal_SbRefIdeal_pre_finite_qk [hSbIdeal : Cert.SbIdeal.Facts] [hSbRefIdeal : Cert.SbRefIdeal.Facts] [hPre_finite_qk : Cert.Pre_finite_qk.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_qk m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)) →
    ∃ (v0 : (c : Dev Cert.SbIdeal.nD) → Buf (Elt Ideal) ((c.tc : Thread Cert.SbIdeal.nD Cert.SbIdeal.τ).loc Cert.SbIdeal.main_v4)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v4) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v28) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0))

def preserves_Pa_PaIdeal : Prop :=
  True

def algebraic_PaIdeal_PaRefIdeal [hPaIdeal : Cert.PaIdeal.Facts] [hPaRefIdeal : Cert.PaRefIdeal.Facts] : Prop :=
  ∀ (m : (ℓ : Loc Cert.PaIdeal.nD Cert.PaIdeal.τ Cert.PaIdeal.sig) → Buf (Elt Ideal) ℓ) (g : Dev Cert.PaIdeal.nD → PrngReg)
    (m' : (ℓ : Loc Cert.PaRefIdeal.nD Cert.PaRefIdeal.τ Cert.PaRefIdeal.sig) → Buf (Elt Ideal) ℓ) (g' : Dev Cert.PaRefIdeal.nD → PrngReg), Pre_PaIdeal m →
    (∀ c : Dev Cert.PaIdeal.nD,
      m' ((c.tc : Thread Cert.PaRefIdeal.nD Cert.PaRefIdeal.τ).loc Cert.PaRefIdeal.main_arg0) = m ((c.tc : Thread Cert.PaIdeal.nD Cert.PaIdeal.τ).loc Cert.PaIdeal.main_arg0)
      ∧ m' ((c.tc : Thread Cert.PaRefIdeal.nD Cert.PaRefIdeal.τ).loc Cert.PaRefIdeal.main_arg1) = m ((c.tc : Thread Cert.PaIdeal.nD Cert.PaIdeal.τ).loc Cert.PaIdeal.main_arg1)
      ∧ m' ((c.tc : Thread Cert.PaRefIdeal.nD Cert.PaRefIdeal.τ).loc Cert.PaRefIdeal.main_arg2) = m ((c.tc : Thread Cert.PaIdeal.nD Cert.PaIdeal.τ).loc Cert.PaIdeal.main_arg2)) →
    ∃ (v0 : (c : Dev Cert.PaIdeal.nD) → Buf (Elt Ideal) ((c.tc : Thread Cert.PaIdeal.nD Cert.PaIdeal.τ).loc Cert.PaIdeal.main_v2)),
      θ_run (Cert.PaIdeal.defs (F := Ideal)) (onTc (τ := Cert.PaIdeal.τ) (Cert.PaIdeal.main (F := Ideal))) ⟨m, fun _ => 0, g⟩ (fun r => ∀ c : Dev Cert.PaIdeal.nD,
          r.2.mem ((c.tc : Thread Cert.PaIdeal.nD Cert.PaIdeal.τ).loc Cert.PaIdeal.main_v2) = v0 c
          ∧ r.2.mem ((c.tc : Thread Cert.PaIdeal.nD Cert.PaIdeal.τ).loc Cert.PaIdeal.main_arg0) = m ((c.tc : Thread Cert.PaIdeal.nD Cert.PaIdeal.τ).loc Cert.PaIdeal.main_arg0)
          ∧ r.2.mem ((c.tc : Thread Cert.PaIdeal.nD Cert.PaIdeal.τ).loc Cert.PaIdeal.main_arg1) = m ((c.tc : Thread Cert.PaIdeal.nD Cert.PaIdeal.τ).loc Cert.PaIdeal.main_arg1)
          ∧ r.2.mem ((c.tc : Thread Cert.PaIdeal.nD Cert.PaIdeal.τ).loc Cert.PaIdeal.main_arg2) = m ((c.tc : Thread Cert.PaIdeal.nD Cert.PaIdeal.τ).loc Cert.PaIdeal.main_arg2))
      ∧ θ_run (Cert.PaRefIdeal.defs (F := Ideal)) (onTc (τ := Cert.PaRefIdeal.τ) (Cert.PaRefIdeal.main (F := Ideal))) ⟨m', fun _ => 0, g'⟩ (fun r => ∀ c : Dev Cert.PaRefIdeal.nD,
          r.2.mem ((c.tc : Thread Cert.PaRefIdeal.nD Cert.PaRefIdeal.τ).loc Cert.PaRefIdeal.main_v22) = v0 c
          ∧ r.2.mem ((c.tc : Thread Cert.PaRefIdeal.nD Cert.PaRefIdeal.τ).loc Cert.PaRefIdeal.main_arg0) = m' ((c.tc : Thread Cert.PaRefIdeal.nD Cert.PaRefIdeal.τ).loc Cert.PaRefIdeal.main_arg0)
          ∧ r.2.mem ((c.tc : Thread Cert.PaRefIdeal.nD Cert.PaRefIdeal.τ).loc Cert.PaRefIdeal.main_arg1) = m' ((c.tc : Thread Cert.PaRefIdeal.nD Cert.PaRefIdeal.τ).loc Cert.PaRefIdeal.main_arg1)
          ∧ r.2.mem ((c.tc : Thread Cert.PaRefIdeal.nD Cert.PaRefIdeal.τ).loc Cert.PaRefIdeal.main_arg2) = m' ((c.tc : Thread Cert.PaRefIdeal.nD Cert.PaRefIdeal.τ).loc Cert.PaRefIdeal.main_arg2))

def preserves_Oa_OaIdeal : Prop :=
  True

def algebraic_OaIdeal_OaRefIdeal [hOaIdeal : Cert.OaIdeal.Facts] [hOaRefIdeal : Cert.OaRefIdeal.Facts] : Prop :=
  ∀ (m : (ℓ : Loc Cert.OaIdeal.nD Cert.OaIdeal.τ Cert.OaIdeal.sig) → Buf (Elt Ideal) ℓ) (g : Dev Cert.OaIdeal.nD → PrngReg)
    (m' : (ℓ : Loc Cert.OaRefIdeal.nD Cert.OaRefIdeal.τ Cert.OaRefIdeal.sig) → Buf (Elt Ideal) ℓ) (g' : Dev Cert.OaRefIdeal.nD → PrngReg), Pre_OaIdeal m →
    (∀ c : Dev Cert.OaIdeal.nD,
      m' ((c.tc : Thread Cert.OaRefIdeal.nD Cert.OaRefIdeal.τ).loc Cert.OaRefIdeal.main_arg0) = m ((c.tc : Thread Cert.OaIdeal.nD Cert.OaIdeal.τ).loc Cert.OaIdeal.main_arg0)
      ∧ m' ((c.tc : Thread Cert.OaRefIdeal.nD Cert.OaRefIdeal.τ).loc Cert.OaRefIdeal.main_arg1) = m ((c.tc : Thread Cert.OaIdeal.nD Cert.OaIdeal.τ).loc Cert.OaIdeal.main_arg1)
      ∧ m' ((c.tc : Thread Cert.OaRefIdeal.nD Cert.OaRefIdeal.τ).loc Cert.OaRefIdeal.main_arg2) = m ((c.tc : Thread Cert.OaIdeal.nD Cert.OaIdeal.τ).loc Cert.OaIdeal.main_arg2)
      ∧ m' ((c.tc : Thread Cert.OaRefIdeal.nD Cert.OaRefIdeal.τ).loc Cert.OaRefIdeal.main_arg3) = m ((c.tc : Thread Cert.OaIdeal.nD Cert.OaIdeal.τ).loc Cert.OaIdeal.main_arg3)
      ∧ m' ((c.tc : Thread Cert.OaRefIdeal.nD Cert.OaRefIdeal.τ).loc Cert.OaRefIdeal.main_arg4) = m ((c.tc : Thread Cert.OaIdeal.nD Cert.OaIdeal.τ).loc Cert.OaIdeal.main_arg4)
      ∧ m' ((c.tc : Thread Cert.OaRefIdeal.nD Cert.OaRefIdeal.τ).loc Cert.OaRefIdeal.main_arg5) = m ((c.tc : Thread Cert.OaIdeal.nD Cert.OaIdeal.τ).loc Cert.OaIdeal.main_arg5)
      ∧ m' ((c.tc : Thread Cert.OaRefIdeal.nD Cert.OaRefIdeal.τ).loc Cert.OaRefIdeal.main_arg6) = m ((c.tc : Thread Cert.OaIdeal.nD Cert.OaIdeal.τ).loc Cert.OaIdeal.main_arg6)
      ∧ m' ((c.tc : Thread Cert.OaRefIdeal.nD Cert.OaRefIdeal.τ).loc Cert.OaRefIdeal.main_arg7) = m ((c.tc : Thread Cert.OaIdeal.nD Cert.OaIdeal.τ).loc Cert.OaIdeal.main_arg7)
      ∧ m' ((c.tc : Thread Cert.OaRefIdeal.nD Cert.OaRefIdeal.τ).loc Cert.OaRefIdeal.main_arg8) = m ((c.tc : Thread Cert.OaIdeal.nD Cert.OaIdeal.τ).loc Cert.OaIdeal.main_arg8)) →
    ∃ (v0 : (c : Dev Cert.OaIdeal.nD) → Buf (Elt Ideal) ((c.tc : Thread Cert.OaIdeal.nD Cert.OaIdeal.τ).loc Cert.OaIdeal.main_v7_0)) (v1 : (c : Dev Cert.OaIdeal.nD) → Buf (Elt Ideal) ((c.tc : Thread Cert.OaIdeal.nD Cert.OaIdeal.τ).loc Cert.OaIdeal.main_v7_1)) (v2 : (c : Dev Cert.OaIdeal.nD) → Buf (Elt Ideal) ((c.tc : Thread Cert.OaIdeal.nD Cert.OaIdeal.τ).loc Cert.OaIdeal.main_v7_2)),
      θ_run (Cert.OaIdeal.defs (F := Ideal)) (onTc (τ := Cert.OaIdeal.τ) (Cert.OaIdeal.main (F := Ideal))) ⟨m, fun _ => 0, g⟩ (fun r => ∀ c : Dev Cert.OaIdeal.nD,
          r.2.mem ((c.tc : Thread Cert.OaIdeal.nD Cert.OaIdeal.τ).loc Cert.OaIdeal.main_v7_0) = v0 c
          ∧ r.2.mem ((c.tc : Thread Cert.OaIdeal.nD Cert.OaIdeal.τ).loc Cert.OaIdeal.main_v7_1) = v1 c
          ∧ r.2.mem ((c.tc : Thread Cert.OaIdeal.nD Cert.OaIdeal.τ).loc Cert.OaIdeal.main_v7_2) = v2 c
          ∧ r.2.mem ((c.tc : Thread Cert.OaIdeal.nD Cert.OaIdeal.τ).loc Cert.OaIdeal.main_arg0) = m ((c.tc : Thread Cert.OaIdeal.nD Cert.OaIdeal.τ).loc Cert.OaIdeal.main_arg0)
          ∧ r.2.mem ((c.tc : Thread Cert.OaIdeal.nD Cert.OaIdeal.τ).loc Cert.OaIdeal.main_arg1) = m ((c.tc : Thread Cert.OaIdeal.nD Cert.OaIdeal.τ).loc Cert.OaIdeal.main_arg1)
          ∧ r.2.mem ((c.tc : Thread Cert.OaIdeal.nD Cert.OaIdeal.τ).loc Cert.OaIdeal.main_arg2) = m ((c.tc : Thread Cert.OaIdeal.nD Cert.OaIdeal.τ).loc Cert.OaIdeal.main_arg2)
          ∧ r.2.mem ((c.tc : Thread Cert.OaIdeal.nD Cert.OaIdeal.τ).loc Cert.OaIdeal.main_arg3) = m ((c.tc : Thread Cert.OaIdeal.nD Cert.OaIdeal.τ).loc Cert.OaIdeal.main_arg3)
          ∧ r.2.mem ((c.tc : Thread Cert.OaIdeal.nD Cert.OaIdeal.τ).loc Cert.OaIdeal.main_arg4) = m ((c.tc : Thread Cert.OaIdeal.nD Cert.OaIdeal.τ).loc Cert.OaIdeal.main_arg4)
          ∧ r.2.mem ((c.tc : Thread Cert.OaIdeal.nD Cert.OaIdeal.τ).loc Cert.OaIdeal.main_arg5) = m ((c.tc : Thread Cert.OaIdeal.nD Cert.OaIdeal.τ).loc Cert.OaIdeal.main_arg5)
          ∧ r.2.mem ((c.tc : Thread Cert.OaIdeal.nD Cert.OaIdeal.τ).loc Cert.OaIdeal.main_arg6) = m ((c.tc : Thread Cert.OaIdeal.nD Cert.OaIdeal.τ).loc Cert.OaIdeal.main_arg6)
          ∧ r.2.mem ((c.tc : Thread Cert.OaIdeal.nD Cert.OaIdeal.τ).loc Cert.OaIdeal.main_arg7) = m ((c.tc : Thread Cert.OaIdeal.nD Cert.OaIdeal.τ).loc Cert.OaIdeal.main_arg7)
          ∧ r.2.mem ((c.tc : Thread Cert.OaIdeal.nD Cert.OaIdeal.τ).loc Cert.OaIdeal.main_arg8) = m ((c.tc : Thread Cert.OaIdeal.nD Cert.OaIdeal.τ).loc Cert.OaIdeal.main_arg8))
      ∧ θ_run (Cert.OaRefIdeal.defs (F := Ideal)) (onTc (τ := Cert.OaRefIdeal.τ) (Cert.OaRefIdeal.main (F := Ideal))) ⟨m', fun _ => 0, g'⟩ (fun r => ∀ c : Dev Cert.OaRefIdeal.nD,
          r.2.mem ((c.tc : Thread Cert.OaRefIdeal.nD Cert.OaRefIdeal.τ).loc Cert.OaRefIdeal.main_v25) = v0 c
          ∧ r.2.mem ((c.tc : Thread Cert.OaRefIdeal.nD Cert.OaRefIdeal.τ).loc Cert.OaRefIdeal.main_v39) = v1 c
          ∧ r.2.mem ((c.tc : Thread Cert.OaRefIdeal.nD Cert.OaRefIdeal.τ).loc Cert.OaRefIdeal.main_v53) = v2 c
          ∧ r.2.mem ((c.tc : Thread Cert.OaRefIdeal.nD Cert.OaRefIdeal.τ).loc Cert.OaRefIdeal.main_arg0) = m' ((c.tc : Thread Cert.OaRefIdeal.nD Cert.OaRefIdeal.τ).loc Cert.OaRefIdeal.main_arg0)
          ∧ r.2.mem ((c.tc : Thread Cert.OaRefIdeal.nD Cert.OaRefIdeal.τ).loc Cert.OaRefIdeal.main_arg1) = m' ((c.tc : Thread Cert.OaRefIdeal.nD Cert.OaRefIdeal.τ).loc Cert.OaRefIdeal.main_arg1)
          ∧ r.2.mem ((c.tc : Thread Cert.OaRefIdeal.nD Cert.OaRefIdeal.τ).loc Cert.OaRefIdeal.main_arg2) = m' ((c.tc : Thread Cert.OaRefIdeal.nD Cert.OaRefIdeal.τ).loc Cert.OaRefIdeal.main_arg2)
          ∧ r.2.mem ((c.tc : Thread Cert.OaRefIdeal.nD Cert.OaRefIdeal.τ).loc Cert.OaRefIdeal.main_arg3) = m' ((c.tc : Thread Cert.OaRefIdeal.nD Cert.OaRefIdeal.τ).loc Cert.OaRefIdeal.main_arg3)
          ∧ r.2.mem ((c.tc : Thread Cert.OaRefIdeal.nD Cert.OaRefIdeal.τ).loc Cert.OaRefIdeal.main_arg4) = m' ((c.tc : Thread Cert.OaRefIdeal.nD Cert.OaRefIdeal.τ).loc Cert.OaRefIdeal.main_arg4)
          ∧ r.2.mem ((c.tc : Thread Cert.OaRefIdeal.nD Cert.OaRefIdeal.τ).loc Cert.OaRefIdeal.main_arg5) = m' ((c.tc : Thread Cert.OaRefIdeal.nD Cert.OaRefIdeal.τ).loc Cert.OaRefIdeal.main_arg5)
          ∧ r.2.mem ((c.tc : Thread Cert.OaRefIdeal.nD Cert.OaRefIdeal.τ).loc Cert.OaRefIdeal.main_arg6) = m' ((c.tc : Thread Cert.OaRefIdeal.nD Cert.OaRefIdeal.τ).loc Cert.OaRefIdeal.main_arg6)
          ∧ r.2.mem ((c.tc : Thread Cert.OaRefIdeal.nD Cert.OaRefIdeal.τ).loc Cert.OaRefIdeal.main_arg7) = m' ((c.tc : Thread Cert.OaRefIdeal.nD Cert.OaRefIdeal.τ).loc Cert.OaRefIdeal.main_arg7)
          ∧ r.2.mem ((c.tc : Thread Cert.OaRefIdeal.nD Cert.OaRefIdeal.τ).loc Cert.OaRefIdeal.main_arg8) = m' ((c.tc : Thread Cert.OaRefIdeal.nD Cert.OaRefIdeal.τ).loc Cert.OaRefIdeal.main_arg8))

def preserves_Ob_ObIdeal : Prop :=
  True

def algebraic_ObIdeal_ObRefIdeal [hObIdeal : Cert.ObIdeal.Facts] [hObRefIdeal : Cert.ObRefIdeal.Facts] : Prop :=
  ∀ (m : (ℓ : Loc Cert.ObIdeal.nD Cert.ObIdeal.τ Cert.ObIdeal.sig) → Buf (Elt Ideal) ℓ) (g : Dev Cert.ObIdeal.nD → PrngReg)
    (m' : (ℓ : Loc Cert.ObRefIdeal.nD Cert.ObRefIdeal.τ Cert.ObRefIdeal.sig) → Buf (Elt Ideal) ℓ) (g' : Dev Cert.ObRefIdeal.nD → PrngReg), Pre_ObIdeal m →
    (∀ c : Dev Cert.ObIdeal.nD,
      m' ((c.tc : Thread Cert.ObRefIdeal.nD Cert.ObRefIdeal.τ).loc Cert.ObRefIdeal.main_arg0) = m ((c.tc : Thread Cert.ObIdeal.nD Cert.ObIdeal.τ).loc Cert.ObIdeal.main_arg0)
      ∧ m' ((c.tc : Thread Cert.ObRefIdeal.nD Cert.ObRefIdeal.τ).loc Cert.ObRefIdeal.main_arg1) = m ((c.tc : Thread Cert.ObIdeal.nD Cert.ObIdeal.τ).loc Cert.ObIdeal.main_arg1)
      ∧ m' ((c.tc : Thread Cert.ObRefIdeal.nD Cert.ObRefIdeal.τ).loc Cert.ObRefIdeal.main_arg2) = m ((c.tc : Thread Cert.ObIdeal.nD Cert.ObIdeal.τ).loc Cert.ObIdeal.main_arg2)
      ∧ m' ((c.tc : Thread Cert.ObRefIdeal.nD Cert.ObRefIdeal.τ).loc Cert.ObRefIdeal.main_arg3) = m ((c.tc : Thread Cert.ObIdeal.nD Cert.ObIdeal.τ).loc Cert.ObIdeal.main_arg3)
      ∧ m' ((c.tc : Thread Cert.ObRefIdeal.nD Cert.ObRefIdeal.τ).loc Cert.ObRefIdeal.main_arg4) = m ((c.tc : Thread Cert.ObIdeal.nD Cert.ObIdeal.τ).loc Cert.ObIdeal.main_arg4)
      ∧ m' ((c.tc : Thread Cert.ObRefIdeal.nD Cert.ObRefIdeal.τ).loc Cert.ObRefIdeal.main_arg5) = m ((c.tc : Thread Cert.ObIdeal.nD Cert.ObIdeal.τ).loc Cert.ObIdeal.main_arg5)
      ∧ m' ((c.tc : Thread Cert.ObRefIdeal.nD Cert.ObRefIdeal.τ).loc Cert.ObRefIdeal.main_arg6) = m ((c.tc : Thread Cert.ObIdeal.nD Cert.ObIdeal.τ).loc Cert.ObIdeal.main_arg6)) →
    ∃ (v0 : (c : Dev Cert.ObIdeal.nD) → Buf (Elt Ideal) ((c.tc : Thread Cert.ObIdeal.nD Cert.ObIdeal.τ).loc Cert.ObIdeal.main_v5)),
      θ_run (Cert.ObIdeal.defs (F := Ideal)) (onTc (τ := Cert.ObIdeal.τ) (Cert.ObIdeal.main (F := Ideal))) ⟨m, fun _ => 0, g⟩ (fun r => ∀ c : Dev Cert.ObIdeal.nD,
          r.2.mem ((c.tc : Thread Cert.ObIdeal.nD Cert.ObIdeal.τ).loc Cert.ObIdeal.main_v5) = v0 c
          ∧ r.2.mem ((c.tc : Thread Cert.ObIdeal.nD Cert.ObIdeal.τ).loc Cert.ObIdeal.main_arg0) = m ((c.tc : Thread Cert.ObIdeal.nD Cert.ObIdeal.τ).loc Cert.ObIdeal.main_arg0)
          ∧ r.2.mem ((c.tc : Thread Cert.ObIdeal.nD Cert.ObIdeal.τ).loc Cert.ObIdeal.main_arg1) = m ((c.tc : Thread Cert.ObIdeal.nD Cert.ObIdeal.τ).loc Cert.ObIdeal.main_arg1)
          ∧ r.2.mem ((c.tc : Thread Cert.ObIdeal.nD Cert.ObIdeal.τ).loc Cert.ObIdeal.main_arg2) = m ((c.tc : Thread Cert.ObIdeal.nD Cert.ObIdeal.τ).loc Cert.ObIdeal.main_arg2)
          ∧ r.2.mem ((c.tc : Thread Cert.ObIdeal.nD Cert.ObIdeal.τ).loc Cert.ObIdeal.main_arg3) = m ((c.tc : Thread Cert.ObIdeal.nD Cert.ObIdeal.τ).loc Cert.ObIdeal.main_arg3)
          ∧ r.2.mem ((c.tc : Thread Cert.ObIdeal.nD Cert.ObIdeal.τ).loc Cert.ObIdeal.main_arg4) = m ((c.tc : Thread Cert.ObIdeal.nD Cert.ObIdeal.τ).loc Cert.ObIdeal.main_arg4)
          ∧ r.2.mem ((c.tc : Thread Cert.ObIdeal.nD Cert.ObIdeal.τ).loc Cert.ObIdeal.main_arg5) = m ((c.tc : Thread Cert.ObIdeal.nD Cert.ObIdeal.τ).loc Cert.ObIdeal.main_arg5)
          ∧ r.2.mem ((c.tc : Thread Cert.ObIdeal.nD Cert.ObIdeal.τ).loc Cert.ObIdeal.main_arg6) = m ((c.tc : Thread Cert.ObIdeal.nD Cert.ObIdeal.τ).loc Cert.ObIdeal.main_arg6))
      ∧ θ_run (Cert.ObRefIdeal.defs (F := Ideal)) (onTc (τ := Cert.ObRefIdeal.τ) (Cert.ObRefIdeal.main (F := Ideal))) ⟨m', fun _ => 0, g'⟩ (fun r => ∀ c : Dev Cert.ObRefIdeal.nD,
          r.2.mem ((c.tc : Thread Cert.ObRefIdeal.nD Cert.ObRefIdeal.τ).loc Cert.ObRefIdeal.main_v25) = v0 c
          ∧ r.2.mem ((c.tc : Thread Cert.ObRefIdeal.nD Cert.ObRefIdeal.τ).loc Cert.ObRefIdeal.main_arg0) = m' ((c.tc : Thread Cert.ObRefIdeal.nD Cert.ObRefIdeal.τ).loc Cert.ObRefIdeal.main_arg0)
          ∧ r.2.mem ((c.tc : Thread Cert.ObRefIdeal.nD Cert.ObRefIdeal.τ).loc Cert.ObRefIdeal.main_arg1) = m' ((c.tc : Thread Cert.ObRefIdeal.nD Cert.ObRefIdeal.τ).loc Cert.ObRefIdeal.main_arg1)
          ∧ r.2.mem ((c.tc : Thread Cert.ObRefIdeal.nD Cert.ObRefIdeal.τ).loc Cert.ObRefIdeal.main_arg2) = m' ((c.tc : Thread Cert.ObRefIdeal.nD Cert.ObRefIdeal.τ).loc Cert.ObRefIdeal.main_arg2)
          ∧ r.2.mem ((c.tc : Thread Cert.ObRefIdeal.nD Cert.ObRefIdeal.τ).loc Cert.ObRefIdeal.main_arg3) = m' ((c.tc : Thread Cert.ObRefIdeal.nD Cert.ObRefIdeal.τ).loc Cert.ObRefIdeal.main_arg3)
          ∧ r.2.mem ((c.tc : Thread Cert.ObRefIdeal.nD Cert.ObRefIdeal.τ).loc Cert.ObRefIdeal.main_arg4) = m' ((c.tc : Thread Cert.ObRefIdeal.nD Cert.ObRefIdeal.τ).loc Cert.ObRefIdeal.main_arg4)
          ∧ r.2.mem ((c.tc : Thread Cert.ObRefIdeal.nD Cert.ObRefIdeal.τ).loc Cert.ObRefIdeal.main_arg5) = m' ((c.tc : Thread Cert.ObRefIdeal.nD Cert.ObRefIdeal.τ).loc Cert.ObRefIdeal.main_arg5)
          ∧ r.2.mem ((c.tc : Thread Cert.ObRefIdeal.nD Cert.ObRefIdeal.τ).loc Cert.ObRefIdeal.main_arg6) = m' ((c.tc : Thread Cert.ObRefIdeal.nD Cert.ObRefIdeal.τ).loc Cert.ObRefIdeal.main_arg6))

def preserves_Ml_MlIdeal : Prop :=
  IdealRules.named_const.Statement Cert.MlIdeal.κ "mask" .f32 0xF149F2CA#32 ⊥

def algebraic_MlIdeal_MlRefIdeal_pre_finite_scores [hMlIdeal : Cert.MlIdeal.Facts] [hMlRefIdeal : Cert.MlRefIdeal.Facts] [hPre_finite_scores : Cert.Pre_finite_scores.Facts] : Prop :=
  ∀ (m : (ℓ : Loc Cert.MlIdeal.nD Cert.MlIdeal.τ Cert.MlIdeal.sig) → Buf (Elt Ideal) ℓ) (g : Dev Cert.MlIdeal.nD → PrngReg)
    (m' : (ℓ : Loc Cert.MlRefIdeal.nD Cert.MlRefIdeal.τ Cert.MlRefIdeal.sig) → Buf (Elt Ideal) ℓ) (g' : Dev Cert.MlRefIdeal.nD → PrngReg), Pre_MlIdeal_finite_scores m →
    (∀ c : Dev Cert.MlIdeal.nD,
      m' ((c.tc : Thread Cert.MlRefIdeal.nD Cert.MlRefIdeal.τ).loc Cert.MlRefIdeal.main_arg0) = m ((c.tc : Thread Cert.MlIdeal.nD Cert.MlIdeal.τ).loc Cert.MlIdeal.main_arg0)
      ∧ m' ((c.tc : Thread Cert.MlRefIdeal.nD Cert.MlRefIdeal.τ).loc Cert.MlRefIdeal.main_arg1) = m ((c.tc : Thread Cert.MlIdeal.nD Cert.MlIdeal.τ).loc Cert.MlIdeal.main_arg1)
      ∧ m' ((c.tc : Thread Cert.MlRefIdeal.nD Cert.MlRefIdeal.τ).loc Cert.MlRefIdeal.main_arg2) = m ((c.tc : Thread Cert.MlIdeal.nD Cert.MlIdeal.τ).loc Cert.MlIdeal.main_arg2)
      ∧ m' ((c.tc : Thread Cert.MlRefIdeal.nD Cert.MlRefIdeal.τ).loc Cert.MlRefIdeal.main_arg3) = m ((c.tc : Thread Cert.MlIdeal.nD Cert.MlIdeal.τ).loc Cert.MlIdeal.main_arg3)) →
    ∃ (v0 : (c : Dev Cert.MlIdeal.nD) → Buf (Elt Ideal) ((c.tc : Thread Cert.MlIdeal.nD Cert.MlIdeal.τ).loc Cert.MlIdeal.main_v0)),
      θ_run (Cert.MlIdeal.defs (F := Ideal)) (onTc (τ := Cert.MlIdeal.τ) (Cert.MlIdeal.main (F := Ideal))) ⟨m, fun _ => 0, g⟩ (fun r => ∀ c : Dev Cert.MlIdeal.nD,
          r.2.mem ((c.tc : Thread Cert.MlIdeal.nD Cert.MlIdeal.τ).loc Cert.MlIdeal.main_v0) = v0 c
          ∧ r.2.mem ((c.tc : Thread Cert.MlIdeal.nD Cert.MlIdeal.τ).loc Cert.MlIdeal.main_arg0) = m ((c.tc : Thread Cert.MlIdeal.nD Cert.MlIdeal.τ).loc Cert.MlIdeal.main_arg0)
          ∧ r.2.mem ((c.tc : Thread Cert.MlIdeal.nD Cert.MlIdeal.τ).loc Cert.MlIdeal.main_arg1) = m ((c.tc : Thread Cert.MlIdeal.nD Cert.MlIdeal.τ).loc Cert.MlIdeal.main_arg1)
          ∧ r.2.mem ((c.tc : Thread Cert.MlIdeal.nD Cert.MlIdeal.τ).loc Cert.MlIdeal.main_arg2) = m ((c.tc : Thread Cert.MlIdeal.nD Cert.MlIdeal.τ).loc Cert.MlIdeal.main_arg2)
          ∧ r.2.mem ((c.tc : Thread Cert.MlIdeal.nD Cert.MlIdeal.τ).loc Cert.MlIdeal.main_arg3) = m ((c.tc : Thread Cert.MlIdeal.nD Cert.MlIdeal.τ).loc Cert.MlIdeal.main_arg3))
      ∧ θ_run (Cert.MlRefIdeal.defs (F := Ideal)) (onTc (τ := Cert.MlRefIdeal.τ) (Cert.MlRefIdeal.main (F := Ideal))) ⟨m', fun _ => 0, g'⟩ (fun r => ∀ c : Dev Cert.MlRefIdeal.nD,
          r.2.mem ((c.tc : Thread Cert.MlRefIdeal.nD Cert.MlRefIdeal.τ).loc Cert.MlRefIdeal.main_v29) = v0 c
          ∧ r.2.mem ((c.tc : Thread Cert.MlRefIdeal.nD Cert.MlRefIdeal.τ).loc Cert.MlRefIdeal.main_arg0) = m' ((c.tc : Thread Cert.MlRefIdeal.nD Cert.MlRefIdeal.τ).loc Cert.MlRefIdeal.main_arg0)
          ∧ r.2.mem ((c.tc : Thread Cert.MlRefIdeal.nD Cert.MlRefIdeal.τ).loc Cert.MlRefIdeal.main_arg1) = m' ((c.tc : Thread Cert.MlRefIdeal.nD Cert.MlRefIdeal.τ).loc Cert.MlRefIdeal.main_arg1)
          ∧ r.2.mem ((c.tc : Thread Cert.MlRefIdeal.nD Cert.MlRefIdeal.τ).loc Cert.MlRefIdeal.main_arg2) = m' ((c.tc : Thread Cert.MlRefIdeal.nD Cert.MlRefIdeal.τ).loc Cert.MlRefIdeal.main_arg2)
          ∧ r.2.mem ((c.tc : Thread Cert.MlRefIdeal.nD Cert.MlRefIdeal.τ).loc Cert.MlRefIdeal.main_arg3) = m' ((c.tc : Thread Cert.MlRefIdeal.nD Cert.MlRefIdeal.τ).loc Cert.MlRefIdeal.main_arg3))

def preserves_Qs_QsIdeal : Prop :=
  True

def algebraic_QsIdeal_QsRefIdeal_pre_finite_turned [hQsIdeal : Cert.QsIdeal.Facts] [hQsRefIdeal : Cert.QsRefIdeal.Facts] [hPre_finite_turned : Cert.Pre_finite_turned.Facts] : Prop :=
  ∀ (m : (ℓ : Loc Cert.QsIdeal.nD Cert.QsIdeal.τ Cert.QsIdeal.sig) → Buf (Elt Ideal) ℓ) (g : Dev Cert.QsIdeal.nD → PrngReg)
    (m' : (ℓ : Loc Cert.QsRefIdeal.nD Cert.QsRefIdeal.τ Cert.QsRefIdeal.sig) → Buf (Elt Ideal) ℓ) (g' : Dev Cert.QsRefIdeal.nD → PrngReg), Pre_QsIdeal_finite_turned m →
    (∀ c : Dev Cert.QsIdeal.nD,
      m' ((c.tc : Thread Cert.QsRefIdeal.nD Cert.QsRefIdeal.τ).loc Cert.QsRefIdeal.main_arg0) = m ((c.tc : Thread Cert.QsIdeal.nD Cert.QsIdeal.τ).loc Cert.QsIdeal.main_arg0)
      ∧ m' ((c.tc : Thread Cert.QsRefIdeal.nD Cert.QsRefIdeal.τ).loc Cert.QsRefIdeal.main_arg1) = m ((c.tc : Thread Cert.QsIdeal.nD Cert.QsIdeal.τ).loc Cert.QsIdeal.main_arg1)
      ∧ m' ((c.tc : Thread Cert.QsRefIdeal.nD Cert.QsRefIdeal.τ).loc Cert.QsRefIdeal.main_arg2) = m ((c.tc : Thread Cert.QsIdeal.nD Cert.QsIdeal.τ).loc Cert.QsIdeal.main_arg2)
      ∧ m' ((c.tc : Thread Cert.QsRefIdeal.nD Cert.QsRefIdeal.τ).loc Cert.QsRefIdeal.main_arg3) = m ((c.tc : Thread Cert.QsIdeal.nD Cert.QsIdeal.τ).loc Cert.QsIdeal.main_arg3)) →
    ∃ (v0 : (c : Dev Cert.QsIdeal.nD) → Buf (Elt Ideal) ((c.tc : Thread Cert.QsIdeal.nD Cert.QsIdeal.τ).loc Cert.QsIdeal.main_v41_0)) (v1 : (c : Dev Cert.QsIdeal.nD) → Buf (Elt Ideal) ((c.tc : Thread Cert.QsIdeal.nD Cert.QsIdeal.τ).loc Cert.QsIdeal.main_v41_1)),
      θ_run (Cert.QsIdeal.defs (F := Ideal)) (onTc (τ := Cert.QsIdeal.τ) (Cert.QsIdeal.main (F := Ideal))) ⟨m, fun _ => 0, g⟩ (fun r => ∀ c : Dev Cert.QsIdeal.nD,
          r.2.mem ((c.tc : Thread Cert.QsIdeal.nD Cert.QsIdeal.τ).loc Cert.QsIdeal.main_v41_0) = v0 c
          ∧ r.2.mem ((c.tc : Thread Cert.QsIdeal.nD Cert.QsIdeal.τ).loc Cert.QsIdeal.main_v41_1) = v1 c
          ∧ r.2.mem ((c.tc : Thread Cert.QsIdeal.nD Cert.QsIdeal.τ).loc Cert.QsIdeal.main_arg0) = m ((c.tc : Thread Cert.QsIdeal.nD Cert.QsIdeal.τ).loc Cert.QsIdeal.main_arg0)
          ∧ r.2.mem ((c.tc : Thread Cert.QsIdeal.nD Cert.QsIdeal.τ).loc Cert.QsIdeal.main_arg1) = m ((c.tc : Thread Cert.QsIdeal.nD Cert.QsIdeal.τ).loc Cert.QsIdeal.main_arg1)
          ∧ r.2.mem ((c.tc : Thread Cert.QsIdeal.nD Cert.QsIdeal.τ).loc Cert.QsIdeal.main_arg2) = m ((c.tc : Thread Cert.QsIdeal.nD Cert.QsIdeal.τ).loc Cert.QsIdeal.main_arg2)
          ∧ r.2.mem ((c.tc : Thread Cert.QsIdeal.nD Cert.QsIdeal.τ).loc Cert.QsIdeal.main_arg3) = m ((c.tc : Thread Cert.QsIdeal.nD Cert.QsIdeal.τ).loc Cert.QsIdeal.main_arg3))
      ∧ θ_run (Cert.QsRefIdeal.defs (F := Ideal)) (onTc (τ := Cert.QsRefIdeal.τ) (Cert.QsRefIdeal.main (F := Ideal))) ⟨m', fun _ => 0, g'⟩ (fun r => ∀ c : Dev Cert.QsRefIdeal.nD,
          r.2.mem ((c.tc : Thread Cert.QsRefIdeal.nD Cert.QsRefIdeal.τ).loc Cert.QsRefIdeal.main_v63) = v0 c
          ∧ r.2.mem ((c.tc : Thread Cert.QsRefIdeal.nD Cert.QsRefIdeal.τ).loc Cert.QsRefIdeal.main_v65) = v1 c
          ∧ r.2.mem ((c.tc : Thread Cert.QsRefIdeal.nD Cert.QsRefIdeal.τ).loc Cert.QsRefIdeal.main_arg0) = m' ((c.tc : Thread Cert.QsRefIdeal.nD Cert.QsRefIdeal.τ).loc Cert.QsRefIdeal.main_arg0)
          ∧ r.2.mem ((c.tc : Thread Cert.QsRefIdeal.nD Cert.QsRefIdeal.τ).loc Cert.QsRefIdeal.main_arg1) = m' ((c.tc : Thread Cert.QsRefIdeal.nD Cert.QsRefIdeal.τ).loc Cert.QsRefIdeal.main_arg1)
          ∧ r.2.mem ((c.tc : Thread Cert.QsRefIdeal.nD Cert.QsRefIdeal.τ).loc Cert.QsRefIdeal.main_arg2) = m' ((c.tc : Thread Cert.QsRefIdeal.nD Cert.QsRefIdeal.τ).loc Cert.QsRefIdeal.main_arg2)
          ∧ r.2.mem ((c.tc : Thread Cert.QsRefIdeal.nD Cert.QsRefIdeal.τ).loc Cert.QsRefIdeal.main_arg3) = m' ((c.tc : Thread Cert.QsRefIdeal.nD Cert.QsRefIdeal.τ).loc Cert.QsRefIdeal.main_arg3))

def preserves_Kv_KvIdeal : Prop :=
  True

def algebraic_KvIdeal_KvRefIdeal_pre_finite_rotary [hKvIdeal : Cert.KvIdeal.Facts] [hKvRefIdeal : Cert.KvRefIdeal.Facts] [hPre_finite_rotary : Cert.Pre_finite_rotary.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal_finite_rotary m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)) →
    ∃ (v0 : (c : Dev Cert.KvIdeal.nD) → Buf (Elt Ideal) ((c.tc : Thread Cert.KvIdeal.nD Cert.KvIdeal.τ).loc Cert.KvIdeal.main_v39_0)) (v1 : (c : Dev Cert.KvIdeal.nD) → Buf (Elt Ideal) ((c.tc : Thread Cert.KvIdeal.nD Cert.KvIdeal.τ).loc Cert.KvIdeal.main_v39_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v39_0) = v0 c
          ∧ r.2.mem ((c.tc : Thread Cert.KvIdeal.nD Cert.KvIdeal.τ).loc Cert.KvIdeal.main_v39_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v59) = v0 c
          ∧ r.2.mem ((c.tc : Thread Cert.KvRefIdeal.nD Cert.KvRefIdeal.τ).loc Cert.KvRefIdeal.main_v61) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4))

def Claim : Prop :=
  ∃ (hSb : Cert.Sb.Facts) (hSbIdeal : Cert.SbIdeal.Facts) (hSbRefIdeal : Cert.SbRefIdeal.Facts) (hPa : Cert.Pa.Facts) (hPaIdeal : Cert.PaIdeal.Facts) (hPaRefIdeal : Cert.PaRefIdeal.Facts) (hOa : Cert.Oa.Facts) (hOaIdeal : Cert.OaIdeal.Facts) (hOaRefIdeal : Cert.OaRefIdeal.Facts) (hOb : Cert.Ob.Facts) (hObIdeal : Cert.ObIdeal.Facts) (hObRefIdeal : Cert.ObRefIdeal.Facts) (hMl : Cert.Ml.Facts) (hMlIdeal : Cert.MlIdeal.Facts) (hMlRefIdeal : Cert.MlRefIdeal.Facts) (hQs : Cert.Qs.Facts) (hQsIdeal : Cert.QsIdeal.Facts) (hQsRefIdeal : Cert.QsRefIdeal.Facts) (hKv : Cert.Kv.Facts) (hKvIdeal : Cert.KvIdeal.Facts) (hKvRefIdeal : Cert.KvRefIdeal.Facts) (hPre_finite_qk : Cert.Pre_finite_qk.Facts) (hPre_finite_scores : Cert.Pre_finite_scores.Facts) (hPre_finite_turned : Cert.Pre_finite_turned.Facts) (hPre_finite_rotary : Cert.Pre_finite_rotary.Facts),
    quiescent_Sb (hSb := hSb)
    ∧ quiescent_SbIdeal (hSbIdeal := hSbIdeal)
    ∧ quiescent_SbIdeal_pre_finite_qk (hSbIdeal := hSbIdeal) (hPre_finite_qk := hPre_finite_qk)
    ∧ quiescent_SbRefIdeal (hSbRefIdeal := hSbRefIdeal)
    ∧ quiescent_SbRefIdeal_pre_finite_qk (hSbRefIdeal := hSbRefIdeal) (hPre_finite_qk := hPre_finite_qk)
    ∧ quiescent_Pa (hPa := hPa)
    ∧ quiescent_PaIdeal (hPaIdeal := hPaIdeal)
    ∧ quiescent_PaRefIdeal (hPaRefIdeal := hPaRefIdeal)
    ∧ quiescent_Oa (hOa := hOa)
    ∧ quiescent_OaIdeal (hOaIdeal := hOaIdeal)
    ∧ quiescent_OaRefIdeal (hOaRefIdeal := hOaRefIdeal)
    ∧ quiescent_Ob (hOb := hOb)
    ∧ quiescent_ObIdeal (hObIdeal := hObIdeal)
    ∧ quiescent_ObRefIdeal (hObRefIdeal := hObRefIdeal)
    ∧ quiescent_Ml (hMl := hMl)
    ∧ quiescent_MlIdeal (hMlIdeal := hMlIdeal)
    ∧ quiescent_MlIdeal_pre_finite_scores (hMlIdeal := hMlIdeal) (hPre_finite_scores := hPre_finite_scores)
    ∧ quiescent_MlRefIdeal (hMlRefIdeal := hMlRefIdeal)
    ∧ quiescent_MlRefIdeal_pre_finite_scores (hMlRefIdeal := hMlRefIdeal) (hPre_finite_scores := hPre_finite_scores)
    ∧ quiescent_Qs (hQs := hQs)
    ∧ quiescent_QsIdeal (hQsIdeal := hQsIdeal)
    ∧ quiescent_QsIdeal_pre_finite_turned (hQsIdeal := hQsIdeal) (hPre_finite_turned := hPre_finite_turned)
    ∧ quiescent_QsRefIdeal (hQsRefIdeal := hQsRefIdeal)
    ∧ quiescent_QsRefIdeal_pre_finite_turned (hQsRefIdeal := hQsRefIdeal) (hPre_finite_turned := hPre_finite_turned)
    ∧ quiescent_Kv (hKv := hKv)
    ∧ quiescent_KvIdeal (hKvIdeal := hKvIdeal)
    ∧ quiescent_KvIdeal_pre_finite_rotary (hKvIdeal := hKvIdeal) (hPre_finite_rotary := hPre_finite_rotary)
    ∧ quiescent_KvRefIdeal (hKvRefIdeal := hKvRefIdeal)
    ∧ quiescent_KvRefIdeal_pre_finite_rotary (hKvRefIdeal := hKvRefIdeal) (hPre_finite_rotary := hPre_finite_rotary)
    ∧ preserves_Sb_SbIdeal
    ∧ algebraic_SbIdeal_SbRefIdeal_pre_finite_qk (hSbIdeal := hSbIdeal) (hSbRefIdeal := hSbRefIdeal) (hPre_finite_qk := hPre_finite_qk)
    ∧ preserves_Pa_PaIdeal
    ∧ algebraic_PaIdeal_PaRefIdeal (hPaIdeal := hPaIdeal) (hPaRefIdeal := hPaRefIdeal)
    ∧ preserves_Oa_OaIdeal
    ∧ algebraic_OaIdeal_OaRefIdeal (hOaIdeal := hOaIdeal) (hOaRefIdeal := hOaRefIdeal)
    ∧ preserves_Ob_ObIdeal
    ∧ algebraic_ObIdeal_ObRefIdeal (hObIdeal := hObIdeal) (hObRefIdeal := hObRefIdeal)
    ∧ preserves_Ml_MlIdeal
    ∧ algebraic_MlIdeal_MlRefIdeal_pre_finite_scores (hMlIdeal := hMlIdeal) (hMlRefIdeal := hMlRefIdeal) (hPre_finite_scores := hPre_finite_scores)
    ∧ preserves_Qs_QsIdeal
    ∧ algebraic_QsIdeal_QsRefIdeal_pre_finite_turned (hQsIdeal := hQsIdeal) (hQsRefIdeal := hQsRefIdeal) (hPre_finite_turned := hPre_finite_turned)
    ∧ preserves_Kv_KvIdeal
    ∧ algebraic_KvIdeal_KvRefIdeal_pre_finite_rotary (hKvIdeal := hKvIdeal) (hKvRefIdeal := hKvRefIdeal) (hPre_finite_rotary := hPre_finite_rotary)
-- ==== Pre_finite_qk.lean ====
abbrev S2x4096x8192 : Shape := ⟨3, ![2, 4096, 8192]⟩
abbrev S2x4096x4096 : Shape := ⟨3, ![2, 4096, 4096]⟩
abbrev S_ : Shape := ⟨0, ![]⟩

class Facts : Prop where
  slices_S2x4096x8192_S2x4096x4096_0_0_0 : S2x4096x8192.Slices ![0, 0, 0] S2x4096x4096
  bcast_S_S2x4096x4096 : S_.BroadcastsInDim S2x4096x4096 (![] : Fin 0 → Fin S2x4096x4096.rank)

variable [Facts]

def fn {F : FTy → Type} [FloatOps F] (main_arg0 : FVec F S2x4096x8192 .bf16) : IVec S2x4096x4096 1 :=
  let main_v0 : FVec F S2x4096x4096 .bf16 := (extractStridedSlice S2x4096x4096 ![0, 0, 0] · slices_S2x4096x8192_S2x4096x4096_0_0_0) main_arg0
  let main_v1 : FVec F S2x4096x4096 .bf16 := Host.absf main_v0
  let main_cst : FVec F S_ .bf16 := constant S_ .bf16 0x7F80#16
  let main_v2 : FVec F S2x4096x4096 .bf16 := broadcastInDim S2x4096x4096 ![] bcast_S_S2x4096x4096 main_cst
  let main_v3 : IVec S2x4096x4096 1 := cmpf .olt main_v1 main_v2
  main_v3
-- ==== Pre_finite_rotary.lean ====
abbrev S2x4096x2048 : Shape := ⟨3, ![2, 4096, 2048]⟩
abbrev S2048x576 : Shape := ⟨2, ![2048, 576]⟩
abbrev S512 : Shape := ⟨1, ![512]⟩
abbrev S512x2048 : Shape := ⟨2, ![512, 2048]⟩
abbrev S8192x2048 : Shape := ⟨2, ![8192, 2048]⟩
abbrev S_ : Shape := ⟨0, ![]⟩
abbrev S2048x32 : Shape := ⟨2, ![2048, 32]⟩
abbrev S32x2048 : Shape := ⟨2, ![32, 2048]⟩
abbrev S8224x2048 : Shape := ⟨2, ![8224, 2048]⟩

class Facts : Prop where
  shapeCasts_S2x4096x2048_S8192x2048 : S2x4096x2048.ShapeCasts S8192x2048
  bcast_S_S8192x2048 : S_.BroadcastsInDim S8192x2048 (![] : Fin 0 → Fin S8192x2048.rank)
  slices_S2048x576_S2048x32_0_544 : S2048x576.Slices ![0, 544] S2048x32
  transposes_S2048x32_S32x2048_1_0 : S2048x32.Transposes [1, 0] S32x2048
  bcast_S_S32x2048 : S_.BroadcastsInDim S32x2048 (![] : Fin 0 → Fin S32x2048.rank)
  concatenates_S8192x2048_S32x2048_S8224x2048_d0 : Shape.Concatenates [S8192x2048, S32x2048] S8224x2048 0

variable [Facts]

def fn {F : FTy → Type} [FloatOps F] (main_arg0 : FVec F S2x4096x2048 .bf16) (main_arg1 : FVec F S2048x576 .f32) (main_arg2 : FVec F S512 .f32) (main_arg3 : FVec F S512x2048 .f32) (main_arg4 : FVec F S512x2048 .f32) : IVec S8224x2048 1 :=
  let main_v0 : FVec F S8192x2048 .bf16 := shapeCast S8192x2048 main_arg0 shapeCasts_S2x4096x2048_S8192x2048
  let main_v1 : FVec F S8192x2048 .bf16 := Host.absf main_v0
  let main_cst : FVec F S_ .bf16 := constant S_ .bf16 0x7F80#16
  let main_v2 : FVec F S8192x2048 .bf16 := broadcastInDim S8192x2048 ![] bcast_S_S8192x2048 main_cst
  let main_v3 : IVec S8192x2048 1 := cmpf .olt main_v1 main_v2
  let main_v4 : FVec F S2048x32 .f32 := (extractStridedSlice S2048x32 ![0, 544] · slices_S2048x576_S2048x32_0_544) main_arg1
  let main_v5 : FVec F S32x2048 .f32 := (transpose S32x2048 [1, 0] · transposes_S2048x32_S32x2048_1_0) main_v4
  let main_v6 : FVec F S32x2048 .f32 := Host.absf main_v5
  let main_cst_0 : FVec F S_ .f32 := constant S_ .f32 0x7F800000#32
  let main_v7 : FVec F S32x2048 .f32 := broadcastInDim S32x2048 ![] bcast_S_S32x2048 main_cst_0
  let main_v8 : IVec S32x2048 1 := cmpf .olt main_v6 main_v7
  let main_v9 : IVec S8224x2048 1 := (fun a b => concatenate S8224x2048 0 [⟨S8192x2048, a⟩, ⟨S32x2048, b⟩] concatenates_S8192x2048_S32x2048_S8224x2048_d0) main_v3 main_v8
  main_v9
-- ==== Pre_finite_scores.lean ====
abbrev S2x16x4096x192 : Shape := ⟨4, ![2, 16, 4096, 192]⟩
abbrev S2x4096x2048 : Shape := ⟨3, ![2, 4096, 2048]⟩
abbrev S_ : Shape := ⟨0, ![]⟩

class Facts : Prop where
  bcast_S_S2x16x4096x192 : S_.BroadcastsInDim S2x16x4096x192 (![] : Fin 0 → Fin S2x16x4096x192.rank)

variable [Facts]

def fn {F : FTy → Type} [FloatOps F] (main_arg0 : FVec F S2x16x4096x192 .bf16) (main_arg1 : FVec F S2x16x4096x192 .bf16) (main_arg2 : FVec F S2x4096x2048 .bf16) (main_arg3 : FVec F S2x4096x2048 .bf16) : IVec S2x16x4096x192 1 :=
  let main_v0 : FVec F S2x16x4096x192 .bf16 := Host.absf main_arg0
  let main_cst : FVec F S_ .bf16 := constant S_ .bf16 0x7F80#16
  let main_v1 : FVec F S2x16x4096x192 .bf16 := broadcastInDim S2x16x4096x192 ![] bcast_S_S2x16x4096x192 main_cst
  let main_v2 : IVec S2x16x4096x192 1 := cmpf .olt main_v0 main_v1
  let main_v3 : FVec F S2x16x4096x192 .bf16 := Host.absf main_arg1
  let main_cst_0 : FVec F S_ .bf16 := constant S_ .bf16 0x7F80#16
  let main_v4 : FVec F S2x16x4096x192 .bf16 := broadcastInDim S2x16x4096x192 ![] bcast_S_S2x16x4096x192 main_cst_0
  let main_v5 : IVec S2x16x4096x192 1 := cmpf .olt main_v3 main_v4
  let main_v6 : IVec S2x16x4096x192 1 := andi main_v2 main_v5
  main_v6
-- ==== Pre_finite_turned.lean ====
abbrev S2x4096x2048 : Shape := ⟨3, ![2, 4096, 2048]⟩
abbrev S2048x2560 : Shape := ⟨2, ![2048, 2560]⟩
abbrev S512 : Shape := ⟨1, ![512]⟩
abbrev S512x3072 : Shape := ⟨2, ![512, 3072]⟩
abbrev S512x16x192 : Shape := ⟨3, ![512, 16, 192]⟩
abbrev S512x16x32 : Shape := ⟨3, ![512, 16, 32]⟩
abbrev S512x1x1 : Shape := ⟨3, ![512, 1, 1]⟩
abbrev S_ : Shape := ⟨0, ![]⟩

class Facts : Prop where
  shapeCasts_S512x3072_S512x16x192 : S512x3072.ShapeCasts S512x16x192
  slices_S512x16x192_S512x16x32_0_0_160 : S512x16x192.Slices ![0, 0, 160] S512x16x32
  bcast_S512_S512x1x1_0 : S512.BroadcastsInDim S512x1x1 (![0] : Fin 1 → Fin S512x1x1.rank)
  bcast_S_S512x1x1 : S_.BroadcastsInDim S512x1x1 (![] : Fin 0 → Fin S512x1x1.rank)
  bcast_S_S512x16x32 : S_.BroadcastsInDim S512x16x32 (![] : Fin 0 → Fin S512x16x32.rank)
  bcast_S512x1x1_S512x16x32_0_1_2 : S512x1x1.BroadcastsInDim S512x16x32 (![0, 1, 2] : Fin 3 → Fin S512x16x32.rank)

variable [Facts]

def fn {F : FTy → Type} [FloatOps F] (main_arg0 : FVec F S2x4096x2048 .bf16) (main_arg1 : FVec F S2048x2560 .f32) (main_arg2 : FVec F S512 .f32) (main_arg3 : FVec F S512x3072 .f32) : IVec S512x16x32 1 :=
  let main_v0 : FVec F S512x16x192 .f32 := shapeCast S512x16x192 main_arg3 shapeCasts_S512x3072_S512x16x192
  let main_v1 : FVec F S512x16x32 .f32 := (extractStridedSlice S512x16x32 ![0, 0, 160] · slices_S512x16x192_S512x16x32_0_0_160) main_v0
  let main_v2 : FVec F S512 .f32 := Host.absf main_arg2
  let main_v3 : FVec F S512x1x1 .f32 := broadcastInDim S512x1x1 ![0] bcast_S512_S512x1x1_0 main_v2
  let main_cst : FVec F S_ .f32 := constant S_ .f32 0x7F800000#32
  let main_v4 : FVec F S512x1x1 .f32 := broadcastInDim S512x1x1 ![] bcast_S_S512x1x1 main_cst
  let main_v5 : IVec S512x1x1 1 := cmpf .olt main_v3 main_v4
  let main_v6 : FVec F S512x16x32 .f32 := Host.absf main_v1
  let main_cst_0 : FVec F S_ .f32 := constant S_ .f32 0x7F800000#32
  let main_v7 : FVec F S512x16x32 .f32 := broadcastInDim S512x16x32 ![] bcast_S_S512x16x32 main_cst_0
  let main_v8 : IVec S512x16x32 1 := cmpf .olt main_v6 main_v7
  let main_v9 : IVec S512x16x32 1 := broadcastInDim S512x16x32 ![0, 1, 2] bcast_S512x1x1_S512x16x32_0_1_2 main_v5
  let main_v10 : IVec S512x16x32 1 := andi main_v9 main_v8
  main_v10
-- ==== Sb.lean ====
abbrev S2x4096x8192 : Shape := ⟨3, ![2, 4096, 8192]⟩
abbrev S256x256 : Shape := ⟨2, ![256, 256]⟩
abbrev S2x4096x2048 : Shape := ⟨3, ![2, 4096, 2048]⟩
abbrev S1x512x128 : Shape := ⟨3, ![1, 512, 128]⟩
abbrev S1x4096x128 : Shape := ⟨3, ![1, 4096, 128]⟩
abbrev S512x128 : Shape := ⟨2, ![512, 128]⟩
abbrev S512x1 : Shape := ⟨2, ![512, 1]⟩
abbrev S512x256 : Shape := ⟨2, ![512, 256]⟩
abbrev S1x256x128 : Shape := ⟨3, ![1, 256, 128]⟩
abbrev S256x128 : Shape := ⟨2, ![256, 128]⟩

abbrev nBuf : Space → Nat
  | .hbm => 6
  | .vmem => 13
  | .smem => 0
  | _ => 0

abbrev bufTy : (tb : Table) → Fin (tcTables nBuf tb) → BufTy
  | .hbm, ⟨0, _⟩ => ⟨S2x4096x8192, .bf16⟩
  | .hbm, ⟨1, _⟩ => ⟨S256x256, .i32⟩
  | .hbm, ⟨2, _⟩ => ⟨S256x256, .i32⟩
  | .hbm, ⟨3, _⟩ => ⟨S256x256, .i1⟩
  | .hbm, ⟨4, _⟩ => ⟨S256x256, .bf16⟩
  | .hbm, ⟨5, _⟩ => ⟨S2x4096x2048, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S256x256, .bf16⟩
  | .local _ .vmem, ⟨9, _⟩ => ⟨S1x512x128, .bf16⟩
  | .local _ .vmem, ⟨10, _⟩ => ⟨S1x512x128, .bf16⟩
  | .local _ .vmem, ⟨11, _⟩ => ⟨S512x128, .f32⟩
  | .local _ .vmem, ⟨12, _⟩ => ⟨S512x1, .f32⟩
  | _, _ => ⟨S2x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 16, 8], ![false, false, false]⟩

def k0_mult1 (i : grid0.Coords) : BitVec 32 :=
  let arg2 : BitVec 32 := BitVec.ofNat 32 (i 2).val
  let c2_i32 : BitVec 32 := 2#32
  let v14 : BitVec 32 := Scalar.muli arg2 c2_i32
  let c1_i32 : BitVec 32 := 1#32
  let v15 : BitVec 32 := Scalar.addi v14 c1_i32
  let c256_i32_9 : BitVec 32 := 256#32
  let v19 : BitVec 32 := Scalar.muli v15 c256_i32_9
  v19
def k0_off1 (i : grid0.Coords) (c1_i32 : BitVec 32) : Fin 3 → Nat :=
  let c0_10 : Index := 0#32
  let arg2 : BitVec 32 := BitVec.ofNat 32 (i 2).val
  let c2_i32 : BitVec 32 := 2#32
  let v14 : BitVec 32 := Scalar.muli arg2 c2_i32
  let v15 : BitVec 32 := Scalar.addi v14 c1_i32
  let c256_i32_9 : BitVec 32 := 256#32
  let v19 : BitVec 32 := Scalar.muli v15 c256_i32_9
  let v20 : BitVec 32 := v19
  let v21 : Index := Scalar.indexCast v20
  let c0_11 : Index := 0#32
  ![0, v21.toNat, 0]
def k0_mult2 (i : grid0.Coords) : BitVec 32 :=
  let arg2 : BitVec 32 := BitVec.ofNat 32 (i 2).val
  let c2_i32_31 : BitVec 32 := 2#32
  let v69 : BitVec 32 := Scalar.muli arg2 c2_i32_31
  let c0_i32 : BitVec 32 := 0#32
  let v70 : BitVec 32 := Scalar.addi v69 c0_i32
  let c256_i32_33 : BitVec 32 := 256#32
  let v74 : BitVec 32 := Scalar.muli v70 c256_i32_33
  v74
@[reducible] def k0_t1_loop (i : grid0.Coords) : Scf.Loop 32 :=
  let c0_i32_56 : BitVec 32 := 0#32
  let arg2 : BitVec 32 := BitVec.ofNat 32 (i 2).val
  let c2_i32_55 : BitVec 32 := 2#32
  let v124 : BitVec 32 := Scalar.muli arg2 c2_i32_55
  let v125 : BitVec 32 := Scalar.subi v124 c0_i32_56
  let c1_i32_58 : BitVec 32 := 1#32
  let v127 : BitVec 32 := Scalar.divsi v125 c1_i32_58
  let v128 : BitVec 32 := Scalar.muli v127 c1_i32_58
  let v129 : BitVec 32 := Scalar.addi c0_i32_56 v128
  let c1_i32_59 : BitVec 32 := 1#32
  ⟨c0_i32_56, v129, c1_i32_59⟩
def k0_mult3 (i : grid0.Coords) (k0_t1 : Fin (k0_t1_loop i).trips) : BitVec 32 :=
  let arg2 : BitVec 32 := BitVec.ofNat 32 (i 2).val
  let c2_i32_69 : BitVec 32 := 2#32
  let v141 : BitVec 32 := Scalar.muli arg2 c2_i32_69
  let c1_i32_70 : BitVec 32 := 1#32
  let v142 : BitVec 32 := Scalar.subi v141 c1_i32_70
  let c0_i32_56 : BitVec 32 := 0#32
  let c1_i32_59 : BitVec 32 := 1#32
  let arg11 : BitVec 32 := Scf.iv c0_i32_56 c1_i32_59 k0_t1
  let v143 : BitVec 32 := Scalar.subi v142 arg11
  let c256_i32_71 : BitVec 32 := 256#32
  let v144 : BitVec 32 := Scalar.muli v143 c256_i32_71
  v144
def k0_off2 (i : grid0.Coords) (k0_t1 : Fin (k0_t1_loop i).trips) : Fin 3 → Nat :=
  let c0_72 : Index := 0#32
  let arg2 : BitVec 32 := BitVec.ofNat 32 (i 2).val
  let c2_i32_69 : BitVec 32 := 2#32
  let v141 : BitVec 32 := Scalar.muli arg2 c2_i32_69
  let c1_i32_70 : BitVec 32 := 1#32
  let v142 : BitVec 32 := Scalar.subi v141 c1_i32_70
  let c0_i32_56 : BitVec 32 := 0#32
  let c1_i32_59 : BitVec 32 := 1#32
  let arg11 : BitVec 32 := Scf.iv c0_i32_56 c1_i32_59 k0_t1
  let v143 : BitVec 32 := Scalar.subi v142 arg11
  let c256_i32_71 : BitVec 32 := 256#32
  let v144 : BitVec 32 := Scalar.muli v143 c256_i32_71
  let v145 : BitVec 32 := v144
  let v146 : Index := Scalar.indexCast v145
  let c0_73 : Index := 0#32
  ![0, v146.toNat, 0]
@[reducible] def k0_t2_loop (i : grid0.Coords) : Scf.Loop 32 :=
  let c0_i32_56 : BitVec 32 := 0#32
  let arg2 : BitVec 32 := BitVec.ofNat 32 (i 2).val
  let c2_i32_55 : BitVec 32 := 2#32
  let v124 : BitVec 32 := Scalar.muli arg2 c2_i32_55
  let v125 : BitVec 32 := Scalar.subi v124 c0_i32_56
  let c1_i32_58 : BitVec 32 := 1#32
  let v127 : BitVec 32 := Scalar.divsi v125 c1_i32_58
  let v128 : BitVec 32 := Scalar.muli v127 c1_i32_58
  let v129 : BitVec 32 := Scalar.addi c0_i32_56 v128
  let v126 : BitVec 32 := Scalar.addi c0_i32_56 v125
  let c1_i32_60 : BitVec 32 := 1#32
  ⟨v129, v126, c1_i32_60⟩
def k0_mult4 (i : grid0.Coords) (k0_t2 : Fin (k0_t2_loop i).trips) : BitVec 32 :=
  let arg2 : BitVec 32 := BitVec.ofNat 32 (i 2).val
  let c2_i32_69 : BitVec 32 := 2#32
  let v141 : BitVec 32 := Scalar.muli arg2 c2_i32_69
  let c1_i32_70 : BitVec 32 := 1#32
  let v142 : BitVec 32 := Scalar.subi v141 c1_i32_70
  let c0_i32_56 : BitVec 32 := 0#32
  let c2_i32_55 : BitVec 32 := 2#32
  let v124 : BitVec 32 := Scalar.muli arg2 c2_i32_55
  let v125 : BitVec 32 := Scalar.subi v124 c0_i32_56
  let c1_i32_58 : BitVec 32 := 1#32
  let v127 : BitVec 32 := Scalar.divsi v125 c1_i32_58
  let v128 : BitVec 32 := Scalar.muli v127 c1_i32_58
  let v129 : BitVec 32 := Scalar.addi c0_i32_56 v128
  let c1_i32_60 : BitVec 32 := 1#32
  let arg11 : BitVec 32 := Scf.iv v129 c1_i32_60 k0_t2
  let v143 : BitVec 32 := Scalar.subi v142 arg11
  let c256_i32_71 : BitVec 32 := 256#32
  let v144 : BitVec 32 := Scalar.muli v143 c256_i32_71
  v144
def k0_off3 (i : grid0.Coords) (k0_t2 : Fin (k0_t2_loop i).trips) : Fin 3 → Nat :=
  let c0_72 : Index := 0#32
  let arg2 : BitVec 32 := BitVec.ofNat 32 (i 2).val
  let c2_i32_69 : BitVec 32 := 2#32
  let v141 : BitVec 32 := Scalar.muli arg2 c2_i32_69
  let c1_i32_70 : BitVec 32 := 1#32
  let v142 : BitVec 32 := Scalar.subi v141 c1_i32_70
  let c0_i32_56 : BitVec 32 := 0#32
  let c2_i32_55 : BitVec 32 := 2#32
  let v124 : BitVec 32 := Scalar.muli arg2 c2_i32_55
  let v125 : BitVec 32 := Scalar.subi v124 c0_i32_56
  let c1_i32_58 : BitVec 32 := 1#32
  let v127 : BitVec 32 := Scalar.divsi v125 c1_i32_58
  let v128 : BitVec 32 := Scalar.muli v127 c1_i32_58
  let v129 : BitVec 32 := Scalar.addi c0_i32_56 v128
  let c1_i32_60 : BitVec 32 := 1#32
  let arg11 : BitVec 32 := Scf.iv v129 c1_i32_60 k0_t2
  let v143 : BitVec 32 := Scalar.subi v142 arg11
  let c256_i32_71 : BitVec 32 := 256#32
  let v144 : BitVec 32 := Scalar.muli v143 c256_i32_71
  let v145 : BitVec 32 := v144
  let v146 : Index := Scalar.indexCast v145
  let c0_73 : Index := 0#32
  ![0, v146.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== SbRefIdeal.lean ====
abbrev S2x4096x8192 : Shape := ⟨3, ![2, 4096, 8192]⟩
abbrev S2x4096x2048 : Shape := ⟨3, ![2, 4096, 2048]⟩
abbrev S2x4096x16x128 : Shape := ⟨4, ![2, 4096, 16, 128]⟩
abbrev S2x16x4096x4096 : Shape := ⟨4, ![2, 16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x16x128x4096 : Shape := ⟨4, ![2, 16, 128, 4096]⟩

abbrev nBuf : Space → Nat
  | .hbm => 70
  | .vmem => 0
  | .smem => 0
  | _ => 0

abbrev bufTy : (tb : Table) → Fin (tcTables nBuf tb) → BufTy
  | .hbm, ⟨0, _⟩ => ⟨S2x4096x8192, .bf16⟩
  | .hbm, ⟨1, _⟩ => ⟨S2x4096x8192, .f32⟩
  | .hbm, ⟨2, _⟩ => ⟨S2x4096x2048, .f32⟩
  | .hbm, ⟨3, _⟩ => ⟨S2x4096x2048, .f32⟩
  | .hbm, ⟨4, _⟩ => ⟨S2x4096x2048, .f32⟩
  | .hbm, ⟨5, _⟩ => ⟨S2x4096x2048, .f32⟩
  | .hbm, ⟨6, _⟩ => ⟨S2x4096x16x128, .f32⟩
  | .hbm, ⟨7, _⟩ => ⟨S2x4096x16x128, .f32⟩
  | .hbm, ⟨8, _⟩ => ⟨S2x4096x16x128, .f32⟩
  | .hbm, ⟨9, _⟩ => ⟨S2x16x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S2x16x4096x4096, .f32⟩
  | .hbm, ⟨17, _⟩ => ⟨S2x16x4096x4096, .f32⟩
  | .hbm, ⟨18, _⟩ => ⟨S_, .f32⟩
  | .hbm, ⟨19, _⟩ => ⟨S2x16x4096x4096, .f32⟩
  | .hbm, ⟨20, _⟩ => ⟨S2x16x4096x4096, .f32⟩
  | .hbm, ⟨21, _⟩ => ⟨S2x16x4096x4096, .f32⟩
  | .hbm, ⟨22, _⟩ => ⟨S2x16x4096x4096, .f32⟩
  | .hbm, ⟨23, _⟩ => ⟨S2x16x4096x4096, .i1⟩
  | .hbm, ⟨24, _⟩ => ⟨S2x16x4096x4096, .f32⟩
  | .hbm, ⟨25, _⟩ => ⟨S2x16x4096x4096, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .f32⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S_, .f32⟩
  | .hbm, ⟨34, _⟩ => ⟨S_, .f32⟩
  | .hbm, ⟨35, _⟩ => ⟨S2x16x4096x4096, .i1⟩
  | .hbm, ⟨36, _⟩ => ⟨S2x16x4096x4096, .f32⟩
  | .hbm, ⟨37, _⟩ => ⟨S2x16x4096x4096, .f32⟩
  | .hbm, ⟨38, _⟩ => ⟨S_, .f32⟩
  | .hbm, ⟨39, _⟩ => ⟨S_, .f32⟩
  | .hbm, ⟨40, _⟩ => ⟨S2x16x4096x4096, .f32⟩
  | .hbm, ⟨41, _⟩ => ⟨S2x16x4096x4096, .f32⟩
  | .hbm, ⟨42, _⟩ => ⟨S2x16x4096x4096, .f32⟩
  | .hbm, ⟨43, _⟩ => ⟨S_, .f32⟩
  | .hbm, ⟨44, _⟩ => ⟨S2x16x4096x4096, .f32⟩
  | .hbm, ⟨45, _⟩ => ⟨S2x16x4096x4096, .f32⟩
  | .hbm, ⟨46, _⟩ => ⟨S2x16x4096x4096, .f32⟩
  | .hbm, ⟨47, _⟩ => ⟨S2x16x4096x4096, .f32⟩
  | .hbm, ⟨48, _⟩ => ⟨S2x16x4096x4096, .i1⟩
  | .hbm, ⟨49, _⟩ => ⟨S2x16x4096x4096, .f32⟩
  | .hbm, ⟨50, _⟩ => ⟨S2x16x4096x4096, .f32⟩
  | .hbm, ⟨51, _⟩ => ⟨S2x16x4096x4096, .f32⟩
  | .hbm, ⟨52, _⟩ => ⟨S2x16x4096x4096, .f32⟩
  | .hbm, ⟨53, _⟩ => ⟨S2x16x4096x4096, .f32⟩
  | .hbm, ⟨54, _⟩ => ⟨S2x16x4096x4096, .f32⟩
  | .hbm, ⟨55, _⟩ => ⟨S2x16x4096x4096, .f32⟩
  | .hbm, ⟨56, _⟩ => ⟨S2x16x4096x4096, .f32⟩
  | .hbm, ⟨57, _⟩ => ⟨S2x16x4096x4096, .f32⟩
  | .hbm, ⟨58, _⟩ => ⟨S2x16x4096x4096, .f32⟩
  | .hbm, ⟨59, _⟩ => ⟨S2x16x4096x4096, .f32⟩
  | .hbm, ⟨60, _⟩ => ⟨S_, .f32⟩
  | .hbm, ⟨61, _⟩ => ⟨S_, .f32⟩
  | .hbm, ⟨62, _⟩ => ⟨S2x16x4096x4096, .i1⟩
  | .hbm, ⟨63, _⟩ => ⟨S2x16x4096x4096, .f32⟩
  | .hbm, ⟨64, _⟩ => ⟨S2x16x4096x4096, .f32⟩
  | .hbm, ⟨65, _⟩ => ⟨S2x16x128x4096, .f32⟩
  | .hbm, ⟨66, _⟩ => ⟨S2x4096x16x128, .f32⟩
  | .hbm, ⟨67, _⟩ => ⟨S2x4096x2048, .f32⟩
  | .hbm, ⟨68, _⟩ => ⟨S2x4096x2048, .f32⟩
  | .hbm, ⟨69, _⟩ => ⟨S2x4096x2048, .bf16⟩
  | _, _ => ⟨S2x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v16 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_call2_cst : Ref sig .tc := ⟨.hbm, 38, rfl⟩
abbrev main_call2_v0 : Ref sig .tc := ⟨.hbm, 39, rfl⟩
abbrev main_v18 : Ref sig .tc := ⟨.hbm, 40, rfl⟩
abbrev main_v19 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_0 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩

abbrev nD : Nat := 1
abbrev τ : Topo := Topo.v7x

variable {F : FTy → Type} [FloatOps F]
-- ==== Pa.lean ====
abbrev S8192x2048 : Shape := ⟨2, ![8192, 2048]⟩
abbrev S2048 : Shape := ⟨1, ![2048]⟩
abbrev S2048x8192 : Shape := ⟨2, ![2048, 8192]⟩
abbrev S1x2048 : Shape := ⟨2, ![1, 2048]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S2048x8192, .bf16⟩
  | .hbm, ⟨4, _⟩ => ⟨S1x2048, .f32⟩
  | .hbm, ⟨5, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let c6_i32 : BitVec 32 := 6#32
  let v11 : BitVec 1 := Scalar.cmpi .slt arg1 c6_i32
  let v12 : BitVec 1 := Scalar.andi v10 v11
  let v13 : BitVec 32 := Scalar.extui v12
  let c0_i32_6 : BitVec 32 := 0#32
  let v14 : BitVec 1 := Scalar.cmpi .ne v13 c0_i32_6
  v14

def k0_cond4 (i : grid0.Coords) : BitVec 1 :=
  let arg1 : BitVec 32 := BitVec.ofNat 32 (i 1).val
  let c6_i32_7 : BitVec 32 := 6#32
  let v15 : BitVec 1 := Scalar.cmpi .sge arg1 c6_i32_7
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PaRefIdeal.lean ====
abbrev S8192x2048 : Shape := ⟨2, ![8192, 2048]⟩
abbrev S2048 : Shape := ⟨1, ![2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x8192, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x8192, .f32⟩
  | .hbm, ⟨37, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Oa.lean ====
abbrev S8192x2048 : Shape := ⟨2, ![8192, 2048]⟩
abbrev S8192x256 : Shape := ⟨2, ![8192, 256]⟩
abbrev S2048x2048 : Shape := ⟨2, ![2048, 2048]⟩
abbrev S2048 : Shape := ⟨1, ![2048]⟩
abbrev S256x2048 : Shape := ⟨2, ![256, 2048]⟩
abbrev S1x2048 : Shape := ⟨2, ![1, 2048]⟩
abbrev S2x2048 : Shape := ⟨2, ![2, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 19
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S2048, .f32⟩
  | .hbm, ⟨5, _⟩ => ⟨S256x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S2048x2048, .bf16⟩
  | .hbm, ⟨10, _⟩ => ⟨S256x2048, .bf16⟩
  | .hbm, ⟨11, _⟩ => ⟨S2048x2048, .bf16⟩
  | .hbm, ⟨12, _⟩ => ⟨S1x2048, .f32⟩
  | .hbm, ⟨13, _⟩ => ⟨S1x2048, .f32⟩
  | .hbm, ⟨14, _⟩ => ⟨S2x2048, .f32⟩
  | .hbm, ⟨15, _⟩ => ⟨S1x2048, .f32⟩
  | .hbm, ⟨16, _⟩ => ⟨S8192x2048, .f32⟩
  | .hbm, ⟨17, _⟩ => ⟨S8192x2048, .bf16⟩
  | .hbm, ⟨18, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S2048x2048, .bf16⟩
  | .local _ .vmem, ⟨7, _⟩ => ⟨S1x2048, .f32⟩
  | .local _ .vmem, ⟨8, _⟩ => ⟨S256x2048, .bf16⟩
  | .local _ .vmem, ⟨9, _⟩ => ⟨S2048x2048, .bf16⟩
  | .local _ .vmem, ⟨10, _⟩ => ⟨S2x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OaRefIdeal.lean ====
abbrev S8192x2048 : Shape := ⟨2, ![8192, 2048]⟩
abbrev S8192x256 : Shape := ⟨2, ![8192, 256]⟩
abbrev S2048x2048 : Shape := ⟨2, ![2048, 2048]⟩
abbrev S2048 : Shape := ⟨1, ![2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S2048, .f32⟩
  | .hbm, ⟨5, _⟩ => ⟨S256x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S8192x2048, .bf16⟩
  | .hbm, ⟨57, _⟩ => ⟨S8192x2048, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S8192x2048, .f32⟩
  | .hbm, ⟨69, _⟩ => ⟨S8192x2048, .f32⟩
  | .hbm, ⟨70, _⟩ => ⟨S1x2048, .f32⟩
  | .hbm, ⟨71, _⟩ => ⟨S8192x2048, .f32⟩
  | .hbm, ⟨72, _⟩ => ⟨S8192x2048, .f32⟩
  | .hbm, ⟨73, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Ob.lean ====
abbrev S8192x2048 : Shape := ⟨2, ![8192, 2048]⟩
abbrev S8192x256 : Shape := ⟨2, ![8192, 256]⟩
abbrev S2048x2048 : Shape := ⟨2, ![2048, 2048]⟩
abbrev S2048 : Shape := ⟨1, ![2048]⟩
abbrev S256x2048 : Shape := ⟨2, ![256, 2048]⟩
abbrev S_ : Shape := ⟨0, ![]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S2048, .f32⟩
  | .hbm, ⟨5, _⟩ => ⟨S256x2048, .f32⟩
  | .hbm, ⟨6, _⟩ => ⟨S2048x2048, .f32⟩
  | .hbm, ⟨7, _⟩ => ⟨S2048x2048, .bf16⟩
  | .hbm, ⟨8, _⟩ => ⟨S256x2048, .bf16⟩
  | .hbm, ⟨9, _⟩ => ⟨S2048x2048, .bf16⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S2048x2048, .bf16⟩
  | .local _ .vmem, ⟨7, _⟩ => ⟨S1x2048, .f32⟩
  | .local _ .vmem, ⟨8, _⟩ => ⟨S256x2048, .bf16⟩
  | .local _ .vmem, ⟨9, _⟩ => ⟨S2048x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ObRefIdeal.lean ====
abbrev S8192x2048 : Shape := ⟨2, ![8192, 2048]⟩
abbrev S8192x256 : Shape := ⟨2, ![8192, 256]⟩
abbrev S2048x2048 : Shape := ⟨2, ![2048, 2048]⟩
abbrev S2048 : Shape := ⟨1, ![2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x256, .f32⟩
  | .hbm, ⟨3, _⟩ => ⟨S2048x2048, .f32⟩
  | .hbm, ⟨4, _⟩ => ⟨S2048, .f32⟩
  | .hbm, ⟨5, _⟩ => ⟨S256x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Ml.lean ====
abbrev S2x16x4096x192 : Shape := ⟨4, ![2, 16, 4096, 192]⟩
abbrev S2x4096x2048 : Shape := ⟨3, ![2, 4096, 2048]⟩
abbrev S1x1x512x192 : Shape := ⟨4, ![1, 1, 512, 192]⟩
abbrev S1x1x4096x192 : Shape := ⟨4, ![1, 1, 4096, 192]⟩
abbrev S1x4096x128 : Shape := ⟨3, ![1, 4096, 128]⟩
abbrev S1x512x128 : Shape := ⟨3, ![1, 512, 128]⟩
abbrev S512x128 : Shape := ⟨2, ![512, 128]⟩
abbrev S512x1 : Shape := ⟨2, ![512, 1]⟩
abbrev S512x192 : Shape := ⟨2, ![512, 192]⟩
abbrev S1x1x256x192 : Shape := ⟨4, ![1, 1, 256, 192]⟩
abbrev S256x192 : Shape := ⟨2, ![256, 192]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩

abbrev nBuf : Space → Nat
  | .hbm => 5
  | .vmem => 13
  | .smem => 0
  | _ => 0

abbrev bufTy : (tb : Table) → Fin (tcTables nBuf tb) → BufTy
  | .hbm, ⟨0, _⟩ => ⟨S2x16x4096x192, .bf16⟩
  | .hbm, ⟨1, _⟩ => ⟨S2x16x4096x192, .bf16⟩
  | .hbm, ⟨2, _⟩ => ⟨S2x4096x2048, .bf16⟩
  | .hbm, ⟨3, _⟩ => ⟨S2x4096x2048, .bf16⟩
  | .hbm, ⟨4, _⟩ => ⟨S2x4096x2048, .bf16⟩
  | .local _ .vmem, ⟨0, _⟩ => ⟨S1x1x512x192, .bf16⟩
  | .local _ .vmem, ⟨1, _⟩ => ⟨S1x1x512x192, .bf16⟩
  | .local _ .vmem, ⟨2, _⟩ => ⟨S1x1x4096x192, .bf16⟩
  | .local _ .vmem, ⟨3, _⟩ => ⟨S1x1x4096x192, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S512x128, .f32⟩
  | .local _ .vmem, ⟨11, _⟩ => ⟨S512x1, .f32⟩
  | .local _ .vmem, ⟨12, _⟩ => ⟨S512x1, .f32⟩
  | _, _ => ⟨S2x16x4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 8], ![false, false, false]⟩

@[reducible] def k0_t1_loop (i : grid0.Coords) : Scf.Loop 32 :=
  let c0_i32 : BitVec 32 := 0#32
  let arg2 : BitVec 32 := BitVec.ofNat 32 (i 2).val
  let c2_i32 : BitVec 32 := 2#32
  let v14 : BitVec 32 := Scalar.muli arg2 c2_i32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_12 : BitVec 32 := 1#32
  ⟨c0_i32, v19, c1_i32_12⟩
def k0_mult1 (i : grid0.Coords) (k0_t1 : Fin (k0_t1_loop i).trips) : BitVec 32 :=
  let c0_i32 : BitVec 32 := 0#32
  let c1_i32_12 : BitVec 32 := 1#32
  let arg11 : BitVec 32 := Scf.iv c0_i32 c1_i32_12 k0_t1
  let c256_i32_87 : BitVec 32 := 256#32
  let v174 : BitVec 32 := Scalar.muli arg11 c256_i32_87
  v174
def k0_off1 (i : grid0.Coords) (k0_t1 : Fin (k0_t1_loop i).trips) : Fin 4 → Nat :=
  let c0_88 : Index := 0#32
  let c0_89 : Index := 0#32
  let c0_i32 : BitVec 32 := 0#32
  let c1_i32_12 : BitVec 32 := 1#32
  let arg11 : BitVec 32 := Scf.iv c0_i32 c1_i32_12 k0_t1
  let c256_i32_87 : BitVec 32 := 256#32
  let v174 : BitVec 32 := Scalar.muli arg11 c256_i32_87
  let v175 : BitVec 32 := v174
  let v176 : Index := Scalar.indexCast v175
  let c0_90 : Index := 0#32
  ![0, 0, v176.toNat, 0]
def k0_off2 (i : grid0.Coords) (k0_t1 : Fin (k0_t1_loop i).trips) : Fin 3 → Nat :=
  let c0_91 : Index := 0#32
  let c0_i32 : BitVec 32 := 0#32
  let c1_i32_12 : BitVec 32 := 1#32
  let arg11 : BitVec 32 := Scf.iv c0_i32 c1_i32_12 k0_t1
  let c256_i32_87 : BitVec 32 := 256#32
  let v174 : BitVec 32 := Scalar.muli arg11 c256_i32_87
  let v175 : BitVec 32 := v174
  let v179 : Index := Scalar.indexCast v175
  let c0_92 : Index := 0#32
  ![0, v179.toNat, 0]
@[reducible] def k0_t2_loop (i : grid0.Coords) : Scf.Loop 32 :=
  let c0_i32 : BitVec 32 := 0#32
  let arg2 : BitVec 32 := BitVec.ofNat 32 (i 2).val
  let c2_i32 : BitVec 32 := 2#32
  let v14 : BitVec 32 := Scalar.muli arg2 c2_i32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let v16 : BitVec 32 := Scalar.addi c0_i32 v15
  let c1_i32_13 : BitVec 32 := 1#32
  ⟨v19, v16, c1_i32_13⟩
def k0_mult2 (i : grid0.Coords) (k0_t2 : Fin (k0_t2_loop i).trips) : BitVec 32 :=
  let c0_i32 : BitVec 32 := 0#32
  let arg2 : BitVec 32 := BitVec.ofNat 32 (i 2).val
  let c2_i32 : BitVec 32 := 2#32
  let v14 : BitVec 32 := Scalar.muli arg2 c2_i32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_13 : BitVec 32 := 1#32
  let arg11 : BitVec 32 := Scf.iv v19 c1_i32_13 k0_t2
  let c256_i32_87 : BitVec 32 := 256#32
  let v174 : BitVec 32 := Scalar.muli arg11 c256_i32_87
  v174
def k0_off3 (i : grid0.Coords) (k0_t2 : Fin (k0_t2_loop i).trips) : Fin 4 → Nat :=
  let c0_88 : Index := 0#32
  let c0_89 : Index := 0#32
  let c0_i32 : BitVec 32 := 0#32
  let arg2 : BitVec 32 := BitVec.ofNat 32 (i 2).val
  let c2_i32 : BitVec 32 := 2#32
  let v14 : BitVec 32 := Scalar.muli arg2 c2_i32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_13 : BitVec 32 := 1#32
  let arg11 : BitVec 32 := Scf.iv v19 c1_i32_13 k0_t2
  let c256_i32_87 : BitVec 32 := 256#32
  let v174 : BitVec 32 := Scalar.muli arg11 c256_i32_87
  let v175 : BitVec 32 := v174
  let v176 : Index := Scalar.indexCast v175
  let c0_90 : Index := 0#32
  ![0, 0, v176.toNat, 0]
def k0_off4 (i : grid0.Coords) (k0_t2 : Fin (k0_t2_loop i).trips) : Fin 3 → Nat :=
  let c0_91 : Index := 0#32
  let c0_i32 : BitVec 32 := 0#32
  let arg2 : BitVec 32 := BitVec.ofNat 32 (i 2).val
  let c2_i32 : BitVec 32 := 2#32
  let v14 : BitVec 32 := Scalar.muli arg2 c2_i32
  let v15 : BitVec 32 := Scalar.subi v14 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_13 : BitVec 32 := 1#32
  let arg11 : BitVec 32 := Scf.iv v19 c1_i32_13 k0_t2
  let c256_i32_87 : BitVec 32 := 256#32
  let v174 : BitVec 32 := Scalar.muli arg11 c256_i32_87
  let v175 : BitVec 32 := v174
  let v179 : Index := Scalar.indexCast v175
  let c0_92 : Index := 0#32
  ![0, v179.toNat, 0]
def k0_mult3 (i : grid0.Coords) : BitVec 32 :=
  let arg2 : BitVec 32 := BitVec.ofNat 32 (i 2).val
  let c2_i32_27 : BitVec 32 := 2#32
  let v72 : BitVec 32 := Scalar.muli arg2 c2_i32_27
  let c0_i32_28 : BitVec 32 := 0#32
  let v73 : BitVec 32 := Scalar.addi v72 c0_i32_28
  let c256_i32 : BitVec 32 := 256#32
  let v77 : BitVec 32 := Scalar.muli v73 c256_i32
  v77
def k0_off5 (i : grid0.Coords) (c0_i32_28 : BitVec 32) : Fin 4 → Nat :=
  let c0_30 : Index := 0#32
  let c0_31 : Index := 0#32
  let arg2 : BitVec 32 := BitVec.ofNat 32 (i 2).val
  let c2_i32_27 : BitVec 32 := 2#32
  let v72 : BitVec 32 := Scalar.muli arg2 c2_i32_27
  let v73 : BitVec 32 := Scalar.addi v72 c0_i32_28
  let c256_i32 : BitVec 32 := 256#32
  let v77 : BitVec 32 := Scalar.muli v73 c256_i32
  let v78 : BitVec 32 := v77
  let v79 : Index := Scalar.indexCast v78
  let c0_32 : Index := 0#32
  ![0, 0, v79.toNat, 0]
def k0_off6 (i : grid0.Coords) (c0_i32_28 : BitVec 32) : Fin 3 → Nat :=
  let c0_33 : Index := 0#32
  let arg2 : BitVec 32 := BitVec.ofNat 32 (i 2).val
  let c2_i32_27 : BitVec 32 := 2#32
  let v72 : BitVec 32 := Scalar.muli arg2 c2_i32_27
  let v73 : BitVec 32 := Scalar.addi v72 c0_i32_28
  let c256_i32 : BitVec 32 := 256#32
  let v77 : BitVec 32 := Scalar.muli v73 c256_i32
  let v78 : BitVec 32 := v77
  let v82 : Index := Scalar.indexCast v78
  let c0_34 : Index := 0#32
  ![0, v82.toNat, 0]
def k0_mult4 (i : grid0.Coords) : BitVec 32 :=
  let arg2 : BitVec 32 := BitVec.ofNat 32 (i 2).val
  let c2_i32_52 : BitVec 32 := 2#32
  let v117 : BitVec 32 := Scalar.muli arg2 c2_i32_52
  let c1_i32_53 : BitVec 32 := 1#32
  let v118 : BitVec 32 := Scalar.addi v117 c1_i32_53
  let c256_i32_54 : BitVec 32 := 256#32
  let v122 : BitVec 32 := Scalar.muli v118 c256_i32_54
  v122
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MlIdeal.lean ====
variable {F : FTy → Type} [FloatOps F] [Named F]
def κ : String → Option EReal := fun
  | "mask" => some ⊥
  | _ => none
-- ==== MlRefIdeal.lean ====
abbrev S2x16x4096x192 : Shape := ⟨4, ![2, 16, 4096, 192]⟩
abbrev S2x4096x2048 : Shape := ⟨3, ![2, 4096, 2048]⟩
abbrev S2x16x4096x4096 : Shape := ⟨4, ![2, 16, 4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x16x4096 : Shape := ⟨3, ![2, 16, 4096]⟩
abbrev S2x16x4096x1 : Shape := ⟨4, ![2, 16, 4096, 1]⟩
abbrev S2x4096x16x128 : Shape := ⟨4, ![2, 4096, 16, 128]⟩
abbrev S2x16x128x4096 : Shape := ⟨4, ![2, 16, 128, 4096]⟩

abbrev nBuf : Space → Nat
  | .hbm => 58
  | .vmem => 0
  | .smem => 0
  | _ => 0

abbrev bufTy : (tb : Table) → Fin (tcTables nBuf tb) → BufTy
  | .hbm, ⟨0, _⟩ => ⟨S2x16x4096x192, .bf16⟩
  | .hbm, ⟨1, _⟩ => ⟨S2x16x4096x192, .bf16⟩
  | .hbm, ⟨2, _⟩ => ⟨S2x4096x2048, .bf16⟩
  | .hbm, ⟨3, _⟩ => ⟨S2x4096x2048, .bf16⟩
  | .hbm, ⟨4, _⟩ => ⟨S2x16x4096x192, .f32⟩
  | .hbm, ⟨5, _⟩ => ⟨S2x16x4096x192, .f32⟩
  | .hbm, ⟨6, _⟩ => ⟨S2x16x4096x4096, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S2x16x4096x4096, .i1⟩
  | .hbm, ⟨34, _⟩ => ⟨S2x16x4096x4096, .f32⟩
  | .hbm, ⟨35, _⟩ => ⟨S2x16x4096x4096, .f32⟩
  | .hbm, ⟨36, _⟩ => ⟨S_, .f32⟩
  | .hbm, ⟨37, _⟩ => ⟨S2x16x4096, .f32⟩
  | .hbm, ⟨38, _⟩ => ⟨S_, .f32⟩
  | .hbm, ⟨39, _⟩ => ⟨S2x16x4096, .f32⟩
  | .hbm, ⟨40, _⟩ => ⟨S2x16x4096, .f32⟩
  | .hbm, ⟨41, _⟩ => ⟨S2x16x4096x1, .f32⟩
  | .hbm, ⟨42, _⟩ => ⟨S2x16x4096x4096, .f32⟩
  | .hbm, ⟨43, _⟩ => ⟨S2x16x4096x4096, .f32⟩
  | .hbm, ⟨44, _⟩ => ⟨S2x16x4096x4096, .f32⟩
  | .hbm, ⟨45, _⟩ => ⟨S_, .f32⟩
  | .hbm, ⟨46, _⟩ => ⟨S2x16x4096, .f32⟩
  | .hbm, ⟨47, _⟩ => ⟨S2x16x4096x1, .f32⟩
  | .hbm, ⟨48, _⟩ => ⟨S2x16x4096x4096, .f32⟩
  | .hbm, ⟨49, _⟩ => ⟨S2x16x4096x4096, .f32⟩
  | .hbm, ⟨50, _⟩ => ⟨S2x4096x2048, .f32⟩
  | .hbm, ⟨51, _⟩ => ⟨S2x4096x16x128, .f32⟩
  | .hbm, ⟨52, _⟩ => ⟨S2x16x128x4096, .f32⟩
  | .hbm, ⟨53, _⟩ => ⟨S2x4096x16x128, .f32⟩
  | .hbm, ⟨54, _⟩ => ⟨S2x4096x2048, .f32⟩
  | .hbm, ⟨55, _⟩ => ⟨S2x4096x2048, .f32⟩
  | .hbm, ⟨56, _⟩ => ⟨S2x4096x2048, .f32⟩
  | .hbm, ⟨57, _⟩ => ⟨S2x4096x2048, .bf16⟩
  | _, _ => ⟨S2x16x4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩

abbrev nD : Nat := 1
abbrev τ : Topo := Topo.v7x

variable {F : FTy → Type} [FloatOps F]
-- ==== Qs.lean ====
abbrev S2x4096x2048 : Shape := ⟨3, ![2, 4096, 2048]⟩
abbrev S2048x2560 : Shape := ⟨2, ![2048, 2560]⟩
abbrev S512 : Shape := ⟨1, ![512]⟩
abbrev S512x3072 : Shape := ⟨2, ![512, 3072]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S512x16x192 : Shape := ⟨3, ![512, 16, 192]⟩
abbrev S512x16x128 : Shape := ⟨3, ![512, 16, 128]⟩
abbrev S512x2048 : Shape := ⟨2, ![512, 2048]⟩
abbrev S512x16x64 : Shape := ⟨3, ![512, 16, 64]⟩
abbrev S512x1024 : Shape := ⟨2, ![512, 1024]⟩
abbrev S512x16x32 : Shape := ⟨3, ![512, 16, 32]⟩
abbrev S1x512 : Shape := ⟨2, ![1, 512]⟩
abbrev S2x16x4096x192 : Shape := ⟨4, ![2, 16, 4096, 192]⟩
abbrev S1x512x2048 : Shape := ⟨3, ![1, 512, 2048]⟩
abbrev S512x128 : Shape := ⟨2, ![512, 128]⟩
abbrev S1x16x512x192 : Shape := ⟨4, ![1, 16, 512, 192]⟩
abbrev S512x2560 : Shape := ⟨2, ![512, 2560]⟩
abbrev S512x512 : Shape := ⟨2, ![512, 512]⟩
abbrev S512x1 : Shape := ⟨2, ![512, 1]⟩
abbrev S1x1x512x128 : Shape := ⟨4, ![1, 1, 512, 128]⟩
abbrev S512x64 : Shape := ⟨2, ![512, 64]⟩
abbrev S1x1x512x64 : Shape := ⟨4, ![1, 1, 512, 64]⟩

abbrev nBuf : Space → Nat
  | .hbm => 52
  | .vmem => 15
  | .smem => 0
  | _ => 0

abbrev bufTy : (tb : Table) → Fin (tcTables nBuf tb) → BufTy
  | .hbm, ⟨0, _⟩ => ⟨S2x4096x2048, .bf16⟩
  | .hbm, ⟨1, _⟩ => ⟨S2048x2560, .f32⟩
  | .hbm, ⟨2, _⟩ => ⟨S512, .f32⟩
  | .hbm, ⟨3, _⟩ => ⟨S512x3072, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S1x4096x1x32, .f32⟩
  | .hbm, ⟨29, _⟩ => ⟨S1x4096x4x32, .f32⟩
  | .hbm, ⟨30, _⟩ => ⟨S4096x128, .f32⟩
  | .hbm, ⟨31, _⟩ => ⟨S1x4096x1x32, .f32⟩
  | .hbm, ⟨32, _⟩ => ⟨S1x4096x4x32, .f32⟩
  | .hbm, ⟨33, _⟩ => ⟨S4096x128, .f32⟩
  | .hbm, ⟨34, _⟩ => ⟨S512x16x192, .f32⟩
  | .hbm, ⟨35, _⟩ => ⟨S512x16x128, .f32⟩
  | .hbm, ⟨36, _⟩ => ⟨S512x2048, .f32⟩
  | .hbm, ⟨37, _⟩ => ⟨S512x2048, .bf16⟩
  | .hbm, ⟨38, _⟩ => ⟨S512x16x64, .f32⟩
  | .hbm, ⟨39, _⟩ => ⟨S512x1024, .f32⟩
  | .hbm, ⟨40, _⟩ => ⟨S512x1024, .bf16⟩
  | .hbm, ⟨41, _⟩ => ⟨S512x16x64, .f32⟩
  | .hbm, ⟨42, _⟩ => ⟨S512x16x32, .f32⟩
  | .hbm, ⟨43, _⟩ => ⟨S512x16x32, .f32⟩
  | .hbm, ⟨44, _⟩ => ⟨S512x16x32, .f32⟩
  | .hbm, ⟨45, _⟩ => ⟨S512x16x64, .f32⟩
  | .hbm, ⟨46, _⟩ => ⟨S512x1024, .f32⟩
  | .hbm, ⟨47, _⟩ => ⟨S512x1024, .bf16⟩
  | .hbm, ⟨48, _⟩ => ⟨S2048x2560, .bf16⟩
  | .hbm, ⟨49, _⟩ => ⟨S1x512, .f32⟩
  | .hbm, ⟨50, _⟩ => ⟨S2x16x4096x192, .bf16⟩
  | .hbm, ⟨51, _⟩ => ⟨S2x4096x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S2048x2560, .bf16⟩
  | .local _ .vmem, ⟨3, _⟩ => ⟨S1x512, .f32⟩
  | .local _ .vmem, ⟨4, _⟩ => ⟨S512x2048, .bf16⟩
  | .local _ .vmem, ⟨5, _⟩ => ⟨S512x1024, .bf16⟩
  | .local _ .vmem, ⟨6, _⟩ => ⟨S512x1024, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x16x512x192, .bf16⟩
  | .local _ .vmem, ⟨12, _⟩ => ⟨S1x16x512x192, .bf16⟩
  | .local _ .vmem, ⟨13, _⟩ => ⟨S1x512x2048, .bf16⟩
  | .local _ .vmem, ⟨14, _⟩ => ⟨S1x512x2048, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41_0 : Ref sig .tc := ⟨.hbm, 50, rfl⟩
abbrev main_v41_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x16x512x192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== QsRefIdeal.lean ====
abbrev S2x4096x2048 : Shape := ⟨3, ![2, 4096, 2048]⟩
abbrev S2048x2560 : Shape := ⟨2, ![2048, 2560]⟩
abbrev S512 : Shape := ⟨1, ![512]⟩
abbrev S512x3072 : Shape := ⟨2, ![512, 3072]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S2x4096x2560 : Shape := ⟨3, ![2, 4096, 2560]⟩
abbrev S2x4096x512 : Shape := ⟨3, ![2, 4096, 512]⟩
abbrev S2x4096 : Shape := ⟨2, ![2, 4096]⟩
abbrev S2x4096x1 : Shape := ⟨3, ![2, 4096, 1]⟩
abbrev S1x1x512 : Shape := ⟨3, ![1, 1, 512]⟩
abbrev S2x4096x3072 : Shape := ⟨3, ![2, 4096, 3072]⟩
abbrev S2x4096x16x192 : Shape := ⟨4, ![2, 4096, 16, 192]⟩
abbrev S2x4096x16x128 : Shape := ⟨4, ![2, 4096, 16, 128]⟩
abbrev S2x4096x16x64 : Shape := ⟨4, ![2, 4096, 16, 64]⟩
abbrev S4096x1x32 : Shape := ⟨3, ![4096, 1, 32]⟩
abbrev S2x4096x16x32 : Shape := ⟨4, ![2, 4096, 16, 32]⟩
abbrev S1x4096x1x32 : Shape := ⟨4, ![1, 4096, 1, 32]⟩
abbrev S2x16x4096x192 : Shape := ⟨4, ![2, 16, 4096, 192]⟩

abbrev nBuf : Space → Nat
  | .hbm => 87
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x2560, .f32⟩
  | .hbm, ⟨2, _⟩ => ⟨S512, .f32⟩
  | .hbm, ⟨3, _⟩ => ⟨S512x3072, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S2x4096x2048, .f32⟩
  | .hbm, ⟨29, _⟩ => ⟨S2x4096x2560, .f32⟩
  | .hbm, ⟨30, _⟩ => ⟨S2x4096x512, .f32⟩
  | .hbm, ⟨31, _⟩ => ⟨S2x4096x2048, .f32⟩
  | .hbm, ⟨32, _⟩ => ⟨S2x4096x512, .f32⟩
  | .hbm, ⟨33, _⟩ => ⟨S_, .f32⟩
  | .hbm, ⟨34, _⟩ => ⟨S2x4096, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S2x4096x1, .f32⟩
  | .hbm, ⟨43, _⟩ => ⟨S2x4096x512, .f32⟩
  | .hbm, ⟨44, _⟩ => ⟨S2x4096x512, .f32⟩
  | .hbm, ⟨45, _⟩ => ⟨S1x1x512, .f32⟩
  | .hbm, ⟨46, _⟩ => ⟨S2x4096x512, .f32⟩
  | .hbm, ⟨47, _⟩ => ⟨S2x4096x512, .f32⟩
  | .hbm, ⟨48, _⟩ => ⟨S2x4096x3072, .f32⟩
  | .hbm, ⟨49, _⟩ => ⟨S2x4096x16x192, .f32⟩
  | .hbm, ⟨50, _⟩ => ⟨S2x4096x16x128, .f32⟩
  | .hbm, ⟨51, _⟩ => ⟨S2x4096x16x64, .f32⟩
  | .hbm, ⟨52, _⟩ => ⟨S4096x1x32, .f32⟩
  | .hbm, ⟨53, _⟩ => ⟨S4096x1x32, .f32⟩
  | .hbm, ⟨54, _⟩ => ⟨S2x4096x16x32, .f32⟩
  | .hbm, ⟨55, _⟩ => ⟨S2x4096x16x32, .f32⟩
  | .hbm, ⟨56, _⟩ => ⟨S1x4096x1x32, .f32⟩
  | .hbm, ⟨57, _⟩ => ⟨S2x4096x16x32, .f32⟩
  | .hbm, ⟨58, _⟩ => ⟨S2x4096x16x32, .f32⟩
  | .hbm, ⟨59, _⟩ => ⟨S1x4096x1x32, .f32⟩
  | .hbm, ⟨60, _⟩ => ⟨S2x4096x16x32, .f32⟩
  | .hbm, ⟨61, _⟩ => ⟨S2x4096x16x32, .f32⟩
  | .hbm, ⟨62, _⟩ => ⟨S2x4096x16x32, .f32⟩
  | .hbm, ⟨63, _⟩ => ⟨S1x4096x1x32, .f32⟩
  | .hbm, ⟨64, _⟩ => ⟨S2x4096x16x32, .f32⟩
  | .hbm, ⟨65, _⟩ => ⟨S2x4096x16x32, .f32⟩
  | .hbm, ⟨66, _⟩ => ⟨S1x4096x1x32, .f32⟩
  | .hbm, ⟨67, _⟩ => ⟨S2x4096x16x32, .f32⟩
  | .hbm, ⟨68, _⟩ => ⟨S2x4096x16x32, .f32⟩
  | .hbm, ⟨69, _⟩ => ⟨S2x4096x16x32, .f32⟩
  | .hbm, ⟨70, _⟩ => ⟨S2x4096x16x64, .f32⟩
  | .hbm, ⟨71, _⟩ => ⟨S2x4096x16x192, .f32⟩
  | .hbm, ⟨72, _⟩ => ⟨S_, .f32⟩
  | .hbm, ⟨73, _⟩ => ⟨S2x4096x16x192, .f32⟩
  | .hbm, ⟨74, _⟩ => ⟨S2x4096x16x192, .f32⟩
  | .hbm, ⟨75, _⟩ => ⟨S2x16x4096x192, .f32⟩
  | .hbm, ⟨76, _⟩ => ⟨S2x16x4096x192, .bf16⟩
  | .hbm, ⟨77, _⟩ => ⟨S2x4096x2048, .f32⟩
  | .hbm, ⟨78, _⟩ => ⟨S2x4096x2048, .f32⟩
  | .hbm, ⟨79, _⟩ => ⟨S_, .f32⟩
  | .hbm, ⟨80, _⟩ => ⟨S2x4096x2048, .f32⟩
  | .hbm, ⟨81, _⟩ => ⟨S2x4096x2048, .f32⟩
  | .hbm, ⟨82, _⟩ => ⟨S_, .f32⟩
  | .hbm, ⟨83, _⟩ => ⟨S2x4096x2048, .f32⟩
  | .hbm, ⟨84, _⟩ => ⟨S2x4096x2048, .f32⟩
  | .hbm, ⟨85, _⟩ => ⟨S2x4096x2048, .f32⟩
  | .hbm, ⟨86, _⟩ => ⟨S2x4096x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_call0_v0 : Ref sig .tc := ⟨.hbm, 77, rfl⟩
abbrev main_call0_v1 : Ref sig .tc := ⟨.hbm, 78, rfl⟩
abbrev main_call0_cst : Ref sig .tc := ⟨.hbm, 79, rfl⟩
abbrev main_call0_v2 : Ref sig .tc := ⟨.hbm, 80, rfl⟩
abbrev main_call0_v3 : Ref sig .tc := ⟨.hbm, 81, rfl⟩
abbrev main_call0_cst_0 : Ref sig .tc := ⟨.hbm, 82, rfl⟩
abbrev main_call0_v4 : Ref sig .tc := ⟨.hbm, 83, rfl⟩
abbrev main_call0_v5 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Kv.lean ====
abbrev S2x4096x2048 : Shape := ⟨3, ![2, 4096, 2048]⟩
abbrev S2048x576 : Shape := ⟨2, ![2048, 576]⟩
abbrev S512 : Shape := ⟨1, ![512]⟩
abbrev S512x2048 : Shape := ⟨2, ![512, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S2048x512 : Shape := ⟨2, ![2048, 512]⟩
abbrev S2048x64 : Shape := ⟨2, ![2048, 64]⟩
abbrev S2048x128 : Shape := ⟨2, ![2048, 128]⟩
abbrev S2048x32 : Shape := ⟨2, ![2048, 32]⟩
abbrev S2048x768 : Shape := ⟨2, ![2048, 768]⟩
abbrev S1x512 : Shape := ⟨2, ![1, 512]⟩
abbrev S2x16x4096x192 : Shape := ⟨4, ![2, 16, 4096, 192]⟩
abbrev S1x512x2048 : Shape := ⟨3, ![1, 512, 2048]⟩
abbrev S512x128 : Shape := ⟨2, ![512, 128]⟩
abbrev S1x16x512x192 : Shape := ⟨4, ![1, 16, 512, 192]⟩
abbrev S512x768 : Shape := ⟨2, ![512, 768]⟩
abbrev S512x512 : Shape := ⟨2, ![512, 512]⟩
abbrev S512x64 : Shape := ⟨2, ![512, 64]⟩
abbrev S512x1 : Shape := ⟨2, ![512, 1]⟩
abbrev S1x1x512x128 : Shape := ⟨4, ![1, 1, 512, 128]⟩
abbrev S1x1x512x64 : Shape := ⟨4, ![1, 1, 512, 64]⟩

abbrev nBuf : Space → Nat
  | .hbm => 55
  | .vmem => 14
  | .smem => 0
  | _ => 0

abbrev bufTy : (tb : Table) → Fin (tcTables nBuf tb) → BufTy
  | .hbm, ⟨0, _⟩ => ⟨S2x4096x2048, .bf16⟩
  | .hbm, ⟨1, _⟩ => ⟨S2048x576, .f32⟩
  | .hbm, ⟨2, _⟩ => ⟨S512, .f32⟩
  | .hbm, ⟨3, _⟩ => ⟨S512x2048, .f32⟩
  | .hbm, ⟨4, _⟩ => ⟨S512x2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S1x4096x1x32, .f32⟩
  | .hbm, ⟨30, _⟩ => ⟨S1x4096x4x32, .f32⟩
  | .hbm, ⟨31, _⟩ => ⟨S4096x128, .f32⟩
  | .hbm, ⟨32, _⟩ => ⟨S1x4096x1x32, .f32⟩
  | .hbm, ⟨33, _⟩ => ⟨S1x4096x4x32, .f32⟩
  | .hbm, ⟨34, _⟩ => ⟨S4096x128, .f32⟩
  | .hbm, ⟨35, _⟩ => ⟨S2048x512, .f32⟩
  | .hbm, ⟨36, _⟩ => ⟨S2048x64, .f32⟩
  | .hbm, ⟨37, _⟩ => ⟨S_, .i32⟩
  | .hbm, ⟨38, _⟩ => ⟨S_, .f32⟩
  | .hbm, ⟨39, _⟩ => ⟨S2048x128, .f32⟩
  | .hbm, ⟨40, _⟩ => ⟨S2048x64, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x64, .f32⟩
  | .hbm, ⟨45, _⟩ => ⟨S_, .i32⟩
  | .hbm, ⟨46, _⟩ => ⟨S_, .f32⟩
  | .hbm, ⟨47, _⟩ => ⟨S2048x128, .f32⟩
  | .hbm, ⟨48, _⟩ => ⟨S2048x768, .f32⟩
  | .hbm, ⟨49, _⟩ => ⟨S2048x768, .bf16⟩
  | .hbm, ⟨50, _⟩ => ⟨S512x2048, .bf16⟩
  | .hbm, ⟨51, _⟩ => ⟨S512x2048, .bf16⟩
  | .hbm, ⟨52, _⟩ => ⟨S1x512, .f32⟩
  | .hbm, ⟨53, _⟩ => ⟨S2x16x4096x192, .bf16⟩
  | .hbm, ⟨54, _⟩ => ⟨S2x4096x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S2048x768, .bf16⟩
  | .local _ .vmem, ⟨3, _⟩ => ⟨S1x512, .f32⟩
  | .local _ .vmem, ⟨4, _⟩ => ⟨S512x2048, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x16x512x192, .bf16⟩
  | .local _ .vmem, ⟨11, _⟩ => ⟨S1x16x512x192, .bf16⟩
  | .local _ .vmem, ⟨12, _⟩ => ⟨S1x512x2048, .bf16⟩
  | .local _ .vmem, ⟨13, _⟩ => ⟨S1x512x2048, .bf16⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_call1_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39_0 : Ref sig .tc := ⟨.hbm, 53, rfl⟩
abbrev main_v39_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x16x512x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KvRefIdeal.lean ====
abbrev S2x4096x2048 : Shape := ⟨3, ![2, 4096, 2048]⟩
abbrev S2048x576 : Shape := ⟨2, ![2048, 576]⟩
abbrev S512 : Shape := ⟨1, ![512]⟩
abbrev S512x2048 : Shape := ⟨2, ![512, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S2x4096x576 : Shape := ⟨3, ![2, 4096, 576]⟩
abbrev S2x4096x512 : Shape := ⟨3, ![2, 4096, 512]⟩
abbrev S2x4096x64 : Shape := ⟨3, ![2, 4096, 64]⟩
abbrev S2x4096 : Shape := ⟨2, ![2, 4096]⟩
abbrev S2x4096x1 : Shape := ⟨3, ![2, 4096, 1]⟩
abbrev S1x1x512 : Shape := ⟨3, ![1, 1, 512]⟩
abbrev S2x4096x16x128 : Shape := ⟨4, ![2, 4096, 16, 128]⟩
abbrev S2x16x4096x128 : Shape := ⟨4, ![2, 16, 4096, 128]⟩
abbrev S2x4096x32 : Shape := ⟨3, ![2, 4096, 32]⟩
abbrev S1x4096x32 : Shape := ⟨3, ![1, 4096, 32]⟩
abbrev S2x1x4096x64 : Shape := ⟨4, ![2, 1, 4096, 64]⟩
abbrev S2x16x4096x64 : Shape := ⟨4, ![2, 16, 4096, 64]⟩
abbrev S2x16x4096x192 : Shape := ⟨4, ![2, 16, 4096, 192]⟩

abbrev nBuf : Space → Nat
  | .hbm => 75
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2048x576, .f32⟩
  | .hbm, ⟨2, _⟩ => ⟨S512, .f32⟩
  | .hbm, ⟨3, _⟩ => ⟨S512x2048, .f32⟩
  | .hbm, ⟨4, _⟩ => ⟨S512x2048, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S2x4096x2048, .f32⟩
  | .hbm, ⟨30, _⟩ => ⟨S2x4096x576, .f32⟩
  | .hbm, ⟨31, _⟩ => ⟨S2x4096x512, .f32⟩
  | .hbm, ⟨32, _⟩ => ⟨S2x4096x64, .f32⟩
  | .hbm, ⟨33, _⟩ => ⟨S2x4096x512, .f32⟩
  | .hbm, ⟨34, _⟩ => ⟨S_, .f32⟩
  | .hbm, ⟨35, _⟩ => ⟨S2x4096, .f32⟩
  | .hbm, ⟨36, _⟩ => ⟨S2x4096x1, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S2x4096x1, .f32⟩
  | .hbm, ⟨44, _⟩ => ⟨S2x4096x512, .f32⟩
  | .hbm, ⟨45, _⟩ => ⟨S2x4096x512, .f32⟩
  | .hbm, ⟨46, _⟩ => ⟨S1x1x512, .f32⟩
  | .hbm, ⟨47, _⟩ => ⟨S2x4096x512, .f32⟩
  | .hbm, ⟨48, _⟩ => ⟨S2x4096x512, .f32⟩
  | .hbm, ⟨49, _⟩ => ⟨S2x4096x2048, .f32⟩
  | .hbm, ⟨50, _⟩ => ⟨S2x4096x16x128, .f32⟩
  | .hbm, ⟨51, _⟩ => ⟨S2x16x4096x128, .f32⟩
  | .hbm, ⟨52, _⟩ => ⟨S2x4096x32, .f32⟩
  | .hbm, ⟨53, _⟩ => ⟨S2x4096x32, .f32⟩
  | .hbm, ⟨54, _⟩ => ⟨S1x4096x32, .f32⟩
  | .hbm, ⟨55, _⟩ => ⟨S2x4096x32, .f32⟩
  | .hbm, ⟨56, _⟩ => ⟨S2x4096x32, .f32⟩
  | .hbm, ⟨57, _⟩ => ⟨S1x4096x32, .f32⟩
  | .hbm, ⟨58, _⟩ => ⟨S2x4096x32, .f32⟩
  | .hbm, ⟨59, _⟩ => ⟨S2x4096x32, .f32⟩
  | .hbm, ⟨60, _⟩ => ⟨S2x4096x32, .f32⟩
  | .hbm, ⟨61, _⟩ => ⟨S1x4096x32, .f32⟩
  | .hbm, ⟨62, _⟩ => ⟨S2x4096x32, .f32⟩
  | .hbm, ⟨63, _⟩ => ⟨S2x4096x32, .f32⟩
  | .hbm, ⟨64, _⟩ => ⟨S1x4096x32, .f32⟩
  | .hbm, ⟨65, _⟩ => ⟨S2x4096x32, .f32⟩
  | .hbm, ⟨66, _⟩ => ⟨S2x4096x32, .f32⟩
  | .hbm, ⟨67, _⟩ => ⟨S2x4096x32, .f32⟩
  | .hbm, ⟨68, _⟩ => ⟨S2x4096x64, .f32⟩
  | .hbm, ⟨69, _⟩ => ⟨S2x1x4096x64, .f32⟩
  | .hbm, ⟨70, _⟩ => ⟨S2x16x4096x64, .f32⟩
  | .hbm, ⟨71, _⟩ => ⟨S2x16x4096x192, .f32⟩
  | .hbm, ⟨72, _⟩ => ⟨S2x16x4096x192, .bf16⟩
  | .hbm, ⟨73, _⟩ => ⟨S2x4096x2048, .f32⟩
  | .hbm, ⟨74, _⟩ => ⟨S2x4096x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== Proof.SbBody.lean ====
/- The stick-breaking attention kernel's body, read as values: what one grid point leaves in its output block is a pure
   function of the point's five input blocks. The two key blocks on the diagonal start the accumulator and the carry, each
   trip of the loop folds in one earlier key block, and the output is the accumulator times the gate block. -/
module

public import proofs.«01_k».proof.Proof.Gen.SbIdeal.Value

@[expose] public section

set_option maxRecDepth 16384

noncomputable section

namespace Cert.SbIdeal.Body

open Cert.SbIdeal Cert.SbIdeal.Gen Idealize.ShloMosaic Idealize.ShloMosaic.TcCoe Idealize.SL.Sem

variable {F : FTy → Type} [FloatOps F]

/-- The contents of an accumulator and a carry. -/
abbrev St (F : FTy → Type) : Type := Vec F S512x128 .f32 × Vec F S512x1 .f32

/-- One block of 256 keys (or values) of the whole head. -/
def kld (X : Vec F S1x4096x128 .bf16) (off : Fin 3 → ℕ) (h : ∀ a, off a + S1x256x128.size a ≤ S1x4096x128.size a) :
    Vec F S1x256x128 .bf16 := View.ld X (Rect.unit (s := S1x4096x128) off S1x256x128.size h)

/-- After the key block that holds the second half of the diagonal. -/
def dia1 (i : grid0.Coords) (x0 : Vec F S1x512x128 .bf16) (x1 x2 : Vec F S1x4096x128 .bf16) (x4 : Vec F S256x256 .bf16) : St F :=
  let K := kld x1 (k0_off1 i 1#32) (k0_off1_inb i 1)
  let V := kld x2 (k0_off1 i 1#32) (k0_off1_inb i 1)
  (k0_pay30 (k0_pay19 x4) k0_pay22 (k0_pay23 V) (k0_pay24 x0 K) (k0_pay25 x0 K) k0_pay26 k0_pay21 k0_pay20,
    k0_pay31 (k0_pay19 x4) k0_pay22 (k0_pay24 x0 K) (k0_pay25 x0 K) k0_pay26 k0_pay21)

/-- The mask of the key block that holds the first half of the diagonal. -/
def mask0 : IVec S512x256 1 :=
  k0_pay32 (iota .tc S512x256 32 [0] iota_S512x256_d0_w32) (iota .tc S512x256 32 [1] iota_S512x256_d1_w32)

/-- After the key block that holds the first half of the diagonal. -/
def dia0 (i : grid0.Coords) (x0 : Vec F S1x512x128 .bf16) (x1 x2 : Vec F S1x4096x128 .bf16) (x4 : Vec F S256x256 .bf16) (s : St F) : St F :=
  let K := kld x1 (k0_off1 i 0#32) (k0_off1_inb i 0)
  let V := kld x2 (k0_off1 i 0#32) (k0_off1_inb i 0)
  (k0_pay1 (k0_pay37 (k0_pay18 x0) (k0_pay19 x4) mask0 K V s.2 s.1),
    k0_pay2 (k0_pay35 (k0_pay18 x0) mask0 K) (k0_pay36 (k0_pay18 x0) (k0_pay19 x4) mask0 K) s.2)

/-- One trip of the loop. -/
def trp (i : grid0.Coords) (q : FVec F S512x128 .bf16) (tri : FVec F S256x256 .bf16) (x1 x2 : Vec F S1x4096x128 .bf16)
    (k : Fin (k0_t1_loop i).trips) (s : St F) : St F :=
  let K := kld x1 (k0_off2 i k) (k0_off2_inb i k)
  let V := kld x2 (k0_off2 i k) (k0_off2_inb i k)
  (k0_pay3 (k0_pay12 q tri K V s.2 s.1), k0_pay4 (k0_pay10 q K) (k0_pay11 q tri K) s.2)

/-- The first `k` trips, one after another. -/
def fold (i : grid0.Coords) (q : FVec F S512x128 .bf16) (tri : FVec F S256x256 .bf16) (x1 x2 : Vec F S1x4096x128 .bf16) (s : St F) : ℕ → St F
  | 0 => s
  | k + 1 => if h : k < (k0_t1_loop i).trips then trp i q tri x1 x2 ⟨k, h⟩ (fold i q tri x1 x2 s k) else fold i q tri x1 x2 s k

/-- What the point writes to its output block. -/
def outv (i : grid0.Coords) (x0 : Vec F S1x512x128 .bf16) (x1 x2 : Vec F S1x4096x128 .bf16) (x3 : Vec F S1x512x128 .bf16)
    (x4 : Vec F S256x256 .bf16) : Vec F S1x512x128 .bf16 :=
  k0_pay7 (fold i (k0_pay18 x0) (k0_pay19 x4) x1 x2 (dia0 i x0 x1 x2 x4 (dia1 i x0 x1 x2 x4)) (k0_t1_loop i).trips).1 x3

/-- The remainder loop runs no trip. -/
theorem trips2 (i : grid0.Coords) : Scf.trips (k0_t2_loop i).lb (k0_t2_loop i).ub (k0_t2_loop i).st = 0 := by
  have h : ∀ j : Fin 8, Scf.trips (Scalar.addi 0#32 (Scalar.muli (Scalar.divsi (Scalar.subi (Scalar.muli (BitVec.ofNat 32 j.val) 2#32) 0#32) 1#32) 1#32))
      (Scalar.addi 0#32 (Scalar.subi (Scalar.muli (BitVec.ofNat 32 j.val) 2#32) 0#32)) 1#32 = 0 := by decide +kernel
  exact h (i 2)

/-- The loop runs twice as many trips as the query block's number. -/
theorem trips1 (i : grid0.Coords) : (k0_t1_loop i).trips = 2 * (i 2).val := by
  have h : ∀ j : Fin 8, Scf.trips 0#32 (Scalar.addi 0#32 (Scalar.muli (Scalar.divsi (Scalar.subi (Scalar.muli (BitVec.ofNat 32 j.val) 2#32) 0#32) 1#32) 1#32)) 1#32
      = 2 * j.val := by decide +kernel
  exact h (i 2)

theorem z2 : (![0, 0] : Fin 2 → ℕ) = fun _ => 0 := by funext a; fin_cases a <;> rfl
theorem z3 : (![0, 0, 0] : Fin 3 → ℕ) = fun _ => 0 := by funext a; fin_cases a <;> rfl

section
variable (𝒱 : Variants) (c : Dev nD) (bd : Option 𝒱.V) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S256x256 .bf16) (harg7 : arg7.IsWhole) (arg8 : Memref sig .tc .vmem S1x512x128 .bf16) (harg8 : arg8.IsWhole) (arg9 : Memref sig .tc .vmem S512x128 .f32) (harg9 : arg9.IsWhole) (arg10 : Memref sig .tc .vmem S512x1 .f32) (harg10 : arg10.IsWhole) (arg2 : BitVec 32) (v1 : FVec F S512x128 .bf16) (v3 : FVec F S256x256 .bf16) (x1 x2 : Vec F S1x4096x128 .bf16)

/-- One trip stores the whole accumulator and the whole carry, computed from what it finds in them. -/
theorem tripL_eq (k : Fin (k0_t1_loop i).trips) (acc : BitVec 32) (f9 : BufTy.Contents (Elt F) arg9.view.ty) (f10 : BufTy.Contents (Elt F) arg10.view.ty) :
    tripL_k0_t1 (F := F) 𝒱 c bd i arg3 harg3 arg4 harg4 arg5 harg5 arg6 harg6 arg7 harg7 arg8 harg8 arg9 harg9 arg10 harg10 arg2 v1 v3 (harg4.unread x1) (harg5.unread x2) k acc f9 f10
      = ([⟨Rect.unit (s := S512x128) ![0, 0] S512x128.size inb_S512x128_S512x128_0_0, (trp i v1 v3 x1 x2 k (arg9.view.read (Elt F) f9, arg10.view.read (Elt F) f10)).1⟩],
        [⟨Rect.unit (s := S512x1) ![0, 0] S512x1.size inb_S512x1_S512x1_0_0, (trp i v1 v3 x1 x2 k (arg9.view.read (Elt F) f9, arg10.view.read (Elt F) f10)).2⟩]) := by
  have a4 : View.readAt (Elt F) arg4.view (Rect.unit (s := S1x4096x128) (k0_off2 i k) S1x256x128.size (k0_off2_inb i k)).toLoadRect (harg4.unread x1) = kld x1 (k0_off2 i k) (k0_off2_inb i k) := by
    rw [View.readAt_eq_ld, harg4.read_unread]; rfl
  have a5 : View.readAt (Elt F) arg5.view (Rect.unit (s := S1x4096x128) (k0_off2 i k) S1x256x128.size (k0_off2_inb i k)).toLoadRect (harg5.unread x2) = kld x2 (k0_off2 i k) (k0_off2_inb i k) := by
    rw [View.readAt_eq_ld, harg5.read_unread]; rfl
  have a9 : View.readAt (Elt F) arg9.view (Rect.unit (s := S512x128) ![0, 0] S512x128.size inb_S512x128_S512x128_0_0).toLoadRect f9 = arg9.view.read (Elt F) f9 := View.ld_unit_zero z2 _ _
  have a10 : View.readAt (Elt F) arg10.view (Rect.unit (s := S512x1) ![0, 0] S512x1.size inb_S512x1_S512x1_0_0).toLoadRect f10 = arg10.view.read (Elt F) f10 := View.ld_unit_zero z2 _ _
  unfold trp
  dsimp only
  rw [← a4, ← a5, ← a9, ← a10]
  unfold tripL_k0_t1 trip_k0_t1
  rfl

theorem read_cons9 (f : BufTy.Contents (Elt F) arg9.view.ty) (w : Vec F S512x128 .f32) (L : List (View.Piece (Elt F) S512x128 .f32)) :
    arg9.view.read (Elt F) (arg9.view.writes (Elt F) f (⟨Rect.unit (s := S512x128) ![0, 0] S512x128.size inb_S512x128_S512x128_0_0, w⟩ :: L)) = w := by
  rw [View.read_writes_eq_canon _ _ _ (fun y => ⟨_, List.mem_cons_self, View.mem_set_unit_zero z2 inb_S512x128_S512x128_0_0 y⟩)]
  exact View.canon_cons_unit_zero z2 _ _ _

theorem read_cons10 (f : BufTy.Contents (Elt F) arg10.view.ty) (w : Vec F S512x1 .f32) (L : List (View.Piece (Elt F) S512x1 .f32)) :
    arg10.view.read (Elt F) (arg10.view.writes (Elt F) f (⟨Rect.unit (s := S512x1) ![0, 0] S512x1.size inb_S512x1_S512x1_0_0, w⟩ :: L)) = w := by
  rw [View.read_writes_eq_canon _ _ _ (fun y => ⟨_, List.mem_cons_self, View.mem_set_unit_zero z2 inb_S512x1_S512x1_0_0 y⟩)]
  exact View.canon_cons_unit_zero z2 _ _ _

/-- What the accumulator and the carry hold before trip `k`. -/
theorem st_eq (G9 : BufTy.Contents (Elt F) arg9.view.ty) (G10 : BufTy.Contents (Elt F) arg10.view.ty) (init : BitVec 32) (s : St F)
    (h9 : arg9.view.read (Elt F) G9 = s.1) (h10 : arg10.view.read (Elt F) G10 = s.2) : ∀ k : ℕ, k ≤ (k0_t1_loop i).trips →
      arg9.view.read (Elt F) (arg9.view.writes (Elt F) G9 (st_k0_t1 (F := F) 𝒱 c bd i arg3 harg3 arg4 harg4 arg5 harg5 arg6 harg6 arg7 harg7 arg8 harg8 arg9 harg9 arg10 harg10 arg2 v1 v3 (harg4.unread x1) (harg5.unread x2) G9 G10 init k).2.1) = (fold i v1 v3 x1 x2 s k).1
      ∧ arg10.view.read (Elt F) (arg10.view.writes (Elt F) G10 (st_k0_t1 (F := F) 𝒱 c bd i arg3 harg3 arg4 harg4 arg5 harg5 arg6 harg6 arg7 harg7 arg8 harg8 arg9 harg9 arg10 harg10 arg2 v1 v3 (harg4.unread x1) (harg5.unread x2) G9 G10 init k).2.2) = (fold i v1 v3 x1 x2 s k).2
  | 0, _ => ⟨h9, h10⟩
  | k + 1, hk => by
    have ih := st_eq G9 G10 init s h9 h10 k (by omega)
    have e := st_k0_t1_succ (F := F) 𝒱 c bd i arg3 harg3 arg4 harg4 arg5 harg5 arg6 harg6 arg7 harg7 arg8 harg8 arg9 harg9 arg10 harg10 arg2 v1 v3 (harg4.unread x1) (harg5.unread x2) G9 G10 init ⟨k, hk⟩
    rw [tripL_eq] at e
    have e1 := congrArg (fun p => p.2.1) e
    have e2 := congrArg (fun p => p.2.2) e
    dsimp only at e1 e2
    have ef : fold i v1 v3 x1 x2 s (k + 1) = trp i v1 v3 x1 x2 ⟨k, hk⟩ (fold i v1 v3 x1 x2 s k) :=
      dif_pos hk
    rw [e1, e2, ef]
    exact ⟨(read_cons9 arg9 _ _ _).trans (congrArg (fun z => (trp i v1 v3 x1 x2 ⟨k, hk⟩ z).1) (Prod.ext ih.1 ih.2)),
      (read_cons10 arg10 _ _ _).trans (congrArg (fun z => (trp i v1 v3 x1 x2 ⟨k, hk⟩ z).2) (Prod.ext ih.1 ih.2))⟩

theorem rc9 (w : Vec F S512x128 .f32) (L : List (View.Piece (Elt F) S512x128 .f32)) :
    arg9.view.readCov (⟨Rect.unit (s := S512x128) ![0, 0] S512x128.size inb_S512x128_S512x128_0_0, w⟩ :: L)
      (Rect.unit (s := S512x128) ![0, 0] S512x128.size inb_S512x128_S512x128_0_0).toLoadRect = w := by
  rw [View.readCov_eq_canon_ld _ _ _ (fun y => ⟨_, List.mem_cons_self, View.mem_set_unit_zero z2 inb_S512x128_S512x128_0_0 y⟩), View.ld_unit_zero z2]
  exact View.canon_cons_unit_zero z2 _ _ _

theorem rc10 (w : Vec F S512x1 .f32) (L : List (View.Piece (Elt F) S512x1 .f32)) :
    arg10.view.readCov (⟨Rect.unit (s := S512x1) ![0, 0] S512x1.size inb_S512x1_S512x1_0_0, w⟩ :: L)
      (Rect.unit (s := S512x1) ![0, 0] S512x1.size inb_S512x1_S512x1_0_0).toLoadRect = w := by
  rw [View.readCov_eq_canon_ld _ _ _ (fun y => ⟨_, List.mem_cons_self, View.mem_set_unit_zero z2 inb_S512x1_S512x1_0_0 y⟩), View.ld_unit_zero z2]
  exact View.canon_cons_unit_zero z2 _ _ _

theorem rcApp (L L' : List (View.Piece (Elt F) S512x128 .f32)) :
    arg9.view.readCov (L ++ L') (Rect.unit (s := S512x128) ![0, 0] S512x128.size inb_S512x128_S512x128_0_0).toLoadRect
      = arg9.view.read (Elt F) (arg9.view.writes (Elt F) (arg9.view.writes (Elt F) arg9.view.junk L') L) := by
  rw [← View.writes_append]
  exact View.ld_unit_zero z2 _ _

theorem ld3 (X : Vec F S1x512x128 .bf16) : View.ld X (Rect.unit (s := S1x512x128) ![0, 0, 0] S1x512x128.size inb_S1x512x128_S1x512x128_0_0_0) = X :=
  View.ld_unit_zero z3 _ _
theorem ld7 (X : Vec F S256x256 .bf16) : View.ld X (Rect.unit (s := S256x256) ![0, 0] S256x256.size inb_S256x256_S256x256_0_0) = X :=
  View.ld_unit_zero z2 _ _

end

end Cert.SbIdeal.Body

end
-- ==== Proof.SbOut.lean ====
/- What one grid point of the stick-breaking attention writes. -/
module

public import proofs.«01_k».proof.Proof.SbBody

@[expose] public section

set_option maxRecDepth 16384

noncomputable section

namespace Cert.SbIdeal.Body

open Cert.SbIdeal Cert.SbIdeal.Gen Idealize.ShloMosaic Idealize.ShloMosaic.TcCoe Idealize.SL.Sem

variable {F : FTy → Type} [FloatOps F]

variable (𝒱 : Variants) (c : Dev nD) (bd : Option 𝒱.V) (i : grid0.Coords) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S256x256 .bf16) (harg7 : arg7.IsWhole) (arg8 : Memref sig .tc .vmem S1x512x128 .bf16) (harg8 : arg8.IsWhole) (arg9 : Memref sig .tc .vmem S512x128 .f32) (harg9 : arg9.IsWhole) (arg10 : Memref sig .tc .vmem S512x1 .f32) (harg10 : arg10.IsWhole) (arg2 : BitVec 32) (v1 : FVec F S512x128 .bf16) (v3 : FVec F S256x256 .bf16) (x1 x2 : Vec F S1x4096x128 .bf16)

theorem st2zero (X4 : BufTy.Contents (Elt F) arg4.view.ty) (X5 : BufTy.Contents (Elt F) arg5.view.ty) (G9 : BufTy.Contents (Elt F) arg9.view.ty) (G10 : BufTy.Contents (Elt F) arg10.view.ty) (w init : BitVec 32) :
    (st_k0_t2 (F := F) 𝒱 c bd i arg3 harg3 arg4 harg4 arg5 harg5 arg6 harg6 arg7 harg7 arg8 harg8 arg9 harg9 arg10 harg10 arg2 v1 v3 w X4 X5 G9 G10 init 0).2.1 = [] := rfl

set_option maxHeartbeats 2000000 in
/-- What the point's run leaves in its output block. -/
theorem out_eq (x0 : Vec F S1x512x128 .bf16) (x3 : Vec F S1x512x128 .bf16) (x4 : Vec F S256x256 .bf16) :
    out0_A_5 c i arg3 harg3 arg4 harg4 arg5 harg5 arg6 harg6 arg7 harg7 arg8 harg8 arg9 harg9 arg10 harg10 x0 x1 x2 x3 x4 = outv i x0 x1 x2 x3 x4 := by
  have a3 : (View.readAt (Elt F) arg3.view (Rect.unit (s := S1x512x128) ![0, 0, 0] S1x512x128.size inb_S1x512x128_S1x512x128_0_0_0).toLoadRect (harg3.unread x0)) = x0 := by rw [View.readAt_eq_ld, harg3.read_unread]; exact View.ld_unit_zero z3 _ _
  have a6 : (View.readAt (Elt F) arg6.view (Rect.unit (s := S1x512x128) ![0, 0, 0] S1x512x128.size inb_S1x512x128_S1x512x128_0_0_0).toLoadRect (harg6.unread x3)) = x3 := by rw [View.readAt_eq_ld, harg6.read_unread]; exact View.ld_unit_zero z3 _ _
  have a7 : (View.readAt (Elt F) arg7.view (Rect.unit (s := S256x256) ![0, 0] S256x256.size inb_S256x256_S256x256_0_0).toLoadRect (harg7.unread x4)) = x4 := by rw [View.readAt_eq_ld, harg7.read_unread]; exact View.ld_unit_zero z2 _ _
  have k1 : (View.readAt (Elt F) arg4.view (Rect.unit (s := S1x4096x128) (k0_off1 i 1#32) S1x256x128.size (k0_off1_inb i 1)).toLoadRect (harg4.unread x1)) = kld x1 (k0_off1 i 1#32) (k0_off1_inb i 1) := by rw [View.readAt_eq_ld, harg4.read_unread]; rfl
  have v1' : (View.readAt (Elt F) arg5.view (Rect.unit (s := S1x4096x128) (k0_off1 i 1#32) S1x256x128.size (k0_off1_inb i 1)).toLoadRect (harg5.unread x2)) = kld x2 (k0_off1 i 1#32) (k0_off1_inb i 1) := by rw [View.readAt_eq_ld, harg5.read_unread]; rfl
  have k0 : (View.readAt (Elt F) arg4.view (Rect.unit (s := S1x4096x128) (k0_off1 i 0#32) S1x256x128.size (k0_off1_inb i 0)).toLoadRect (harg4.unread x1)) = kld x1 (k0_off1 i 0#32) (k0_off1_inb i 0) := by rw [View.readAt_eq_ld, harg4.read_unread]; rfl
  have v0 : (View.readAt (Elt F) arg5.view (Rect.unit (s := S1x4096x128) (k0_off1 i 0#32) S1x256x128.size (k0_off1_inb i 0)).toLoadRect (harg5.unread x2)) = kld x2 (k0_off1 i 0#32) (k0_off1_inb i 0) := by rw [View.readAt_eq_ld, harg5.read_unread]; rfl
  have c0 := rc10 arg10 (k0_pay21 (F := F)) []
  have b0 := rc9 arg9 (k0_pay20 (F := F)) []
  have e1 := (st_eq Variants.none c none i arg3 harg3 arg4 harg4 arg5 harg5 arg6 harg6 arg7 harg7 arg8 harg8 arg9 harg9 arg10 harg10 (BitVec.ofNat 32 (i 2).val) (k0_pay18 x0) (k0_pay19 x4) x1 x2
    (arg9.view.writes (Elt F) arg9.view.junk [⟨(Rect.unit (s := S512x128) ![0, 0] S512x128.size inb_S512x128_S512x128_0_0), (dia0 i x0 x1 x2 x4 (dia1 i x0 x1 x2 x4)).1⟩, ⟨(Rect.unit (s := S512x128) ![0, 0] S512x128.size inb_S512x128_S512x128_0_0), (dia1 i x0 x1 x2 x4).1⟩, ⟨(Rect.unit (s := S512x128) ![0, 0] S512x128.size inb_S512x128_S512x128_0_0), k0_pay20 (F := F)⟩])
    (arg10.view.writes (Elt F) arg10.view.junk [⟨(Rect.unit (s := S512x1) ![0, 0] S512x1.size inb_S512x1_S512x1_0_0), (dia0 i x0 x1 x2 x4 (dia1 i x0 x1 x2 x4)).2⟩, ⟨(Rect.unit (s := S512x1) ![0, 0] S512x1.size inb_S512x1_S512x1_0_0), (dia1 i x0 x1 x2 x4).2⟩, ⟨(Rect.unit (s := S512x1) ![0, 0] S512x1.size inb_S512x1_S512x1_0_0), k0_pay21 (F := F)⟩])
    0#32 (dia0 i x0 x1 x2 x4 (dia1 i x0 x1 x2 x4)) (read_cons9 arg9 _ _ _) (read_cons10 arg10 _ _ _) _ le_rfl).1
  rw [← rcApp] at e1
  unfold out0_A_5 kernelRun0_A
  dsimp only
  rw [View.read_writes_eq_canon _ _ _ (fun y => ⟨_, List.mem_singleton_self _, View.mem_set_unit_zero z3 inb_S1x512x128_S1x512x128_0_0_0 y⟩)]
  refine (View.canon_unit_zero z3 _ _).trans ?_
  sl_unfold_words
  rw [trips2 i, st2zero, List.nil_append]
  show k0_pay7 (arg9.view.readCov ((st_k0_t1 (F := F) Variants.none c none i arg3 harg3 arg4 harg4 arg5 harg5 arg6 harg6 arg7 harg7 arg8 harg8 arg9 harg9 arg10 harg10 (BitVec.ofNat 32 (i 2).val) (k0_pay18 (View.readAt (Elt F) arg3.view (Rect.unit (s := S1x512x128) ![0, 0, 0] S1x512x128.size inb_S1x512x128_S1x512x128_0_0_0).toLoadRect (harg3.unread x0))) (k0_pay19 (View.readAt (Elt F) arg7.view (Rect.unit (s := S256x256) ![0, 0] S256x256.size inb_S256x256_S256x256_0_0).toLoadRect (harg7.unread x4))) (harg4.unread x1) (harg5.unread x2)
      (arg9.view.writes (Elt F) arg9.view.junk [⟨(Rect.unit (s := S512x128) ![0, 0] S512x128.size inb_S512x128_S512x128_0_0), k0_pay1 (k0_pay37 (k0_pay18 (View.readAt (Elt F) arg3.view (Rect.unit (s := S1x512x128) ![0, 0, 0] S1x512x128.size inb_S1x512x128_S1x512x128_0_0_0).toLoadRect (harg3.unread x0))) (k0_pay19 (View.readAt (Elt F) arg7.view (Rect.unit (s := S256x256) ![0, 0] S256x256.size inb_S256x256_S256x256_0_0).toLoadRect (harg7.unread x4))) mask0 (View.readAt (Elt F) arg4.view (Rect.unit (s := S1x4096x128) (k0_off1 i 0#32) S1x256x128.size (k0_off1_inb i 0)).toLoadRect (harg4.unread x1)) (View.readAt (Elt F) arg5.view (Rect.unit (s := S1x4096x128) (k0_off1 i 0#32) S1x256x128.size (k0_off1_inb i 0)).toLoadRect (harg5.unread x2)) (arg10.view.readCov [⟨(Rect.unit (s := S512x1) ![0, 0] S512x1.size inb_S512x1_S512x1_0_0), k0_pay31 (k0_pay19 (View.readAt (Elt F) arg7.view (Rect.unit (s := S256x256) ![0, 0] S256x256.size inb_S256x256_S256x256_0_0).toLoadRect (harg7.unread x4))) k0_pay22 (k0_pay24 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) (k0_pay25 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) k0_pay26 (arg10.view.readCov [⟨(Rect.unit (s := S512x1) ![0, 0] S512x1.size inb_S512x1_S512x1_0_0), k0_pay21 (F := F)⟩] (Rect.unit (s := S512x1) ![0, 0] S512x1.size inb_S512x1_S512x1_0_0).toLoadRect)⟩, ⟨(Rect.unit (s := S512x1) ![0, 0] S512x1.size inb_S512x1_S512x1_0_0), k0_pay21 (F := F)⟩] (Rect.unit (s := S512x1) ![0, 0] S512x1.size inb_S512x1_S512x1_0_0).toLoadRect) (arg9.view.readCov [⟨(Rect.unit (s := S512x128) ![0, 0] S512x128.size inb_S512x128_S512x128_0_0), k0_pay30 (k0_pay19 (View.readAt (Elt F) arg7.view (Rect.unit (s := S256x256) ![0, 0] S256x256.size inb_S256x256_S256x256_0_0).toLoadRect (harg7.unread x4))) k0_pay22 (k0_pay23 (View.readAt (Elt F) arg5.view (Rect.unit (s := S1x4096x128) (k0_off1 i 1#32) S1x256x128.size (k0_off1_inb i 1)).toLoadRect (harg5.unread x2))) (k0_pay24 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) (k0_pay25 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) k0_pay26 (arg10.view.readCov [⟨(Rect.unit (s := S512x1) ![0, 0] S512x1.size inb_S512x1_S512x1_0_0), k0_pay21 (F := F)⟩] (Rect.unit (s := S512x1) ![0, 0] S512x1.size inb_S512x1_S512x1_0_0).toLoadRect) (arg9.view.readCov [⟨(Rect.unit (s := S512x128) ![0, 0] S512x128.size inb_S512x128_S512x128_0_0), k0_pay20 (F := F)⟩] (Rect.unit (s := S512x128) ![0, 0] S512x128.size inb_S512x128_S512x128_0_0).toLoadRect)⟩, ⟨(Rect.unit (s := S512x128) ![0, 0] S512x128.size inb_S512x128_S512x128_0_0), k0_pay20 (F := F)⟩] (Rect.unit (s := S512x128) ![0, 0] S512x128.size inb_S512x128_S512x128_0_0).toLoadRect))⟩, ⟨(Rect.unit (s := S512x128) ![0, 0] S512x128.size inb_S512x128_S512x128_0_0), k0_pay30 (k0_pay19 (View.readAt (Elt F) arg7.view (Rect.unit (s := S256x256) ![0, 0] S256x256.size inb_S256x256_S256x256_0_0).toLoadRect (harg7.unread x4))) k0_pay22 (k0_pay23 (View.readAt (Elt F) arg5.view (Rect.unit (s := S1x4096x128) (k0_off1 i 1#32) S1x256x128.size (k0_off1_inb i 1)).toLoadRect (harg5.unread x2))) (k0_pay24 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) (k0_pay25 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) k0_pay26 (arg10.view.readCov [⟨(Rect.unit (s := S512x1) ![0, 0] S512x1.size inb_S512x1_S512x1_0_0), k0_pay21 (F := F)⟩] (Rect.unit (s := S512x1) ![0, 0] S512x1.size inb_S512x1_S512x1_0_0).toLoadRect) (arg9.view.readCov [⟨(Rect.unit (s := S512x128) ![0, 0] S512x128.size inb_S512x128_S512x128_0_0), k0_pay20 (F := F)⟩] (Rect.unit (s := S512x128) ![0, 0] S512x128.size inb_S512x128_S512x128_0_0).toLoadRect)⟩, ⟨(Rect.unit (s := S512x128) ![0, 0] S512x128.size inb_S512x128_S512x128_0_0), k0_pay20 (F := F)⟩]) (arg10.view.writes (Elt F) arg10.view.junk [⟨(Rect.unit (s := S512x1) ![0, 0] S512x1.size inb_S512x1_S512x1_0_0), k0_pay2 (k0_pay35 (k0_pay18 (View.readAt (Elt F) arg3.view (Rect.unit (s := S1x512x128) ![0, 0, 0] S1x512x128.size inb_S1x512x128_S1x512x128_0_0_0).toLoadRect (harg3.unread x0))) mask0 (View.readAt (Elt F) arg4.view (Rect.unit (s := S1x4096x128) (k0_off1 i 0#32) S1x256x128.size (k0_off1_inb i 0)).toLoadRect (harg4.unread x1))) (k0_pay36 (k0_pay18 (View.readAt (Elt F) arg3.view (Rect.unit (s := S1x512x128) ![0, 0, 0] S1x512x128.size inb_S1x512x128_S1x512x128_0_0_0).toLoadRect (harg3.unread x0))) (k0_pay19 (View.readAt (Elt F) arg7.view (Rect.unit (s := S256x256) ![0, 0] S256x256.size inb_S256x256_S256x256_0_0).toLoadRect (harg7.unread x4))) mask0 (View.readAt (Elt F) arg4.view (Rect.unit (s := S1x4096x128) (k0_off1 i 0#32) S1x256x128.size (k0_off1_inb i 0)).toLoadRect (harg4.unread x1))) (arg10.view.readCov [⟨(Rect.unit (s := S512x1) ![0, 0] S512x1.size inb_S512x1_S512x1_0_0), k0_pay31 (k0_pay19 (View.readAt (Elt F) arg7.view (Rect.unit (s := S256x256) ![0, 0] S256x256.size inb_S256x256_S256x256_0_0).toLoadRect (harg7.unread x4))) k0_pay22 (k0_pay24 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) (k0_pay25 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) k0_pay26 (arg10.view.readCov [⟨(Rect.unit (s := S512x1) ![0, 0] S512x1.size inb_S512x1_S512x1_0_0), k0_pay21 (F := F)⟩] (Rect.unit (s := S512x1) ![0, 0] S512x1.size inb_S512x1_S512x1_0_0).toLoadRect)⟩, ⟨(Rect.unit (s := S512x1) ![0, 0] S512x1.size inb_S512x1_S512x1_0_0), k0_pay21 (F := F)⟩] (Rect.unit (s := S512x1) ![0, 0] S512x1.size inb_S512x1_S512x1_0_0).toLoadRect)⟩, ⟨(Rect.unit (s := S512x1) ![0, 0] S512x1.size inb_S512x1_S512x1_0_0), k0_pay31 (k0_pay19 (View.readAt (Elt F) arg7.view (Rect.unit (s := S256x256) ![0, 0] S256x256.size inb_S256x256_S256x256_0_0).toLoadRect (harg7.unread x4))) k0_pay22 (k0_pay24 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) (k0_pay25 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) k0_pay26 (arg10.view.readCov [⟨(Rect.unit (s := S512x1) ![0, 0] S512x1.size inb_S512x1_S512x1_0_0), k0_pay21 (F := F)⟩] (Rect.unit (s := S512x1) ![0, 0] S512x1.size inb_S512x1_S512x1_0_0).toLoadRect)⟩, ⟨(Rect.unit (s := S512x1) ![0, 0] S512x1.size inb_S512x1_S512x1_0_0), k0_pay21 (F := F)⟩]) 0#32 (k0_t1_loop i).trips).2.1 ++ [⟨(Rect.unit (s := S512x128) ![0, 0] S512x128.size inb_S512x128_S512x128_0_0), k0_pay1 (k0_pay37 (k0_pay18 (View.readAt (Elt F) arg3.view (Rect.unit (s := S1x512x128) ![0, 0, 0] S1x512x128.size inb_S1x512x128_S1x512x128_0_0_0).toLoadRect (harg3.unread x0))) (k0_pay19 (View.readAt (Elt F) arg7.view (Rect.unit (s := S256x256) ![0, 0] S256x256.size inb_S256x256_S256x256_0_0).toLoadRect (harg7.unread x4))) mask0 (View.readAt (Elt F) arg4.view (Rect.unit (s := S1x4096x128) (k0_off1 i 0#32) S1x256x128.size (k0_off1_inb i 0)).toLoadRect (harg4.unread x1)) (View.readAt (Elt F) arg5.view (Rect.unit (s := S1x4096x128) (k0_off1 i 0#32) S1x256x128.size (k0_off1_inb i 0)).toLoadRect (harg5.unread x2)) (arg10.view.readCov [⟨(Rect.unit (s := S512x1) ![0, 0] S512x1.size inb_S512x1_S512x1_0_0), k0_pay31 (k0_pay19 (View.readAt (Elt F) arg7.view (Rect.unit (s := S256x256) ![0, 0] S256x256.size inb_S256x256_S256x256_0_0).toLoadRect (harg7.unread x4))) k0_pay22 (k0_pay24 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) (k0_pay25 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) k0_pay26 (arg10.view.readCov [⟨(Rect.unit (s := S512x1) ![0, 0] S512x1.size inb_S512x1_S512x1_0_0), k0_pay21 (F := F)⟩] (Rect.unit (s := S512x1) ![0, 0] S512x1.size inb_S512x1_S512x1_0_0).toLoadRect)⟩, ⟨(Rect.unit (s := S512x1) ![0, 0] S512x1.size inb_S512x1_S512x1_0_0), k0_pay21 (F := F)⟩] (Rect.unit (s := S512x1) ![0, 0] S512x1.size inb_S512x1_S512x1_0_0).toLoadRect) (arg9.view.readCov [⟨(Rect.unit (s := S512x128) ![0, 0] S512x128.size inb_S512x128_S512x128_0_0), k0_pay30 (k0_pay19 (View.readAt (Elt F) arg7.view (Rect.unit (s := S256x256) ![0, 0] S256x256.size inb_S256x256_S256x256_0_0).toLoadRect (harg7.unread x4))) k0_pay22 (k0_pay23 (View.readAt (Elt F) arg5.view (Rect.unit (s := S1x4096x128) (k0_off1 i 1#32) S1x256x128.size (k0_off1_inb i 1)).toLoadRect (harg5.unread x2))) (k0_pay24 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) (k0_pay25 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) k0_pay26 (arg10.view.readCov [⟨(Rect.unit (s := S512x1) ![0, 0] S512x1.size inb_S512x1_S512x1_0_0), k0_pay21 (F := F)⟩] (Rect.unit (s := S512x1) ![0, 0] S512x1.size inb_S512x1_S512x1_0_0).toLoadRect) (arg9.view.readCov [⟨(Rect.unit (s := S512x128) ![0, 0] S512x128.size inb_S512x128_S512x128_0_0), k0_pay20 (F := F)⟩] (Rect.unit (s := S512x128) ![0, 0] S512x128.size inb_S512x128_S512x128_0_0).toLoadRect)⟩, ⟨(Rect.unit (s := S512x128) ![0, 0] S512x128.size inb_S512x128_S512x128_0_0), k0_pay20 (F := F)⟩] (Rect.unit (s := S512x128) ![0, 0] S512x128.size inb_S512x128_S512x128_0_0).toLoadRect))⟩, ⟨(Rect.unit (s := S512x128) ![0, 0] S512x128.size inb_S512x128_S512x128_0_0), k0_pay30 (k0_pay19 (View.readAt (Elt F) arg7.view (Rect.unit (s := S256x256) ![0, 0] S256x256.size inb_S256x256_S256x256_0_0).toLoadRect (harg7.unread x4))) k0_pay22 (k0_pay23 (View.readAt (Elt F) arg5.view (Rect.unit (s := S1x4096x128) (k0_off1 i 1#32) S1x256x128.size (k0_off1_inb i 1)).toLoadRect (harg5.unread x2))) (k0_pay24 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) (k0_pay25 (View.readAt (Elt F) arg3.view (Rect.unit (s := S1x512x128) ![0, 0, 0] S1x512x128.size inb_S1x512x128_S1x512x128_0_0_0).toLoadRect (harg3.unread x0)) (View.readAt (Elt F) arg4.view (Rect.unit (s := S1x4096x128) (k0_off1 i 1#32) S1x256x128.size (k0_off1_inb i 1)).toLoadRect (harg4.unread x1))) k0_pay26 (arg10.view.readCov [⟨(Rect.unit (s := S512x1) ![0, 0] S512x1.size inb_S512x1_S512x1_0_0), k0_pay21 (F := F)⟩] (Rect.unit (s := S512x1) ![0, 0] S512x1.size inb_S512x1_S512x1_0_0).toLoadRect) (arg9.view.readCov [⟨(Rect.unit (s := S512x128) ![0, 0] S512x128.size inb_S512x128_S512x128_0_0), k0_pay20 (F := F)⟩] (Rect.unit (s := S512x128) ![0, 0] S512x128.size inb_S512x128_S512x128_0_0).toLoadRect)⟩, ⟨(Rect.unit (s := S512x128) ![0, 0] S512x128.size inb_S512x128_S512x128_0_0), k0_pay20 (F := F)⟩]) (Rect.unit (s := S512x128) ![0, 0] S512x128.size inb_S512x128_S512x128_0_0).toLoadRect) (View.readAt (Elt F) arg6.view (Rect.unit (s := S1x512x128) ![0, 0, 0] S1x512x128.size inb_S1x512x128_S1x512x128_0_0_0).toLoadRect (harg6.unread x3)) = _
  rw [a3, a7, a6, k1, v1', k0, v0, c0, b0]
  rw [rc10 arg10 _ [⟨(Rect.unit (s := S512x1) ![0, 0] S512x1.size inb_S512x1_S512x1_0_0), k0_pay21 (F := F)⟩], rc9 arg9 _ [⟨(Rect.unit (s := S512x128) ![0, 0] S512x128.size inb_S512x128_S512x128_0_0), k0_pay20 (F := F)⟩]]
  exact congrArg (fun z => k0_pay7 z x3) e1

end Cert.SbIdeal.Body

end
-- ==== Proof.SbMath.lean ====
/- The arithmetic of one score of the stick-breaking attention, on real scores: the log-sigmoid both sides spell, and the
   sums over a block of keys as sums over stretches of keys. -/
module

public import Idealize.ShloMosaic.Lib.ValueIdx
public import Idealize.ShloMosaic.Lib.MatmulPlain
public import Idealize.ShloMosaic.PureOps.Ideal
public import proofs.«01_k».proof.Proof.SbBody

@[expose] public section

set_option maxRecDepth 16384

noncomputable section

namespace Cert.SbIdeal.Body

open Cert.SbIdeal Cert.SbIdeal.Gen Idealize.ShloMosaic Idealize.ShloMosaic.TcCoe Idealize.SL.Sem Idealize.ShloMosaic.ValueIdx

/-- The log-sigmoid of a score. -/
def lbR (z : ℝ) : ℝ := min z 0 - Real.log (1 + Real.exp (0 - max z (-z)))

/-- The log-sigmoid of the negated score. -/
def lkR (z : ℝ) : ℝ := lbR z - z

/-- A sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem coe_min (a b : ℝ) : ((min a b : ℝ) : EReal) = min (a : EReal) (b : EReal) := by
  rcases le_total a b with h | h
  · rw [min_eq_left h, min_eq_left (EReal.coe_le_coe_iff.2 h)]
  · rw [min_eq_right h, min_eq_right (EReal.coe_le_coe_iff.2 h)]

/-- The kernel's spelling of the log-sigmoid, at a real score. -/
theorem lb_elem (z : ℝ) : min (z : EReal) 0 - Ideal.log (1 + Ideal.exp (0 - max (z : EReal) (-(z : EReal)))) = (lbR z : EReal) := by
  have e1 : (0 - max (z : EReal) (-(z : EReal))) = ((0 - max z (-z) : ℝ) : EReal) := by
    rw [EReal.coe_sub, coe_max, EReal.coe_neg, EReal.coe_zero]
  rw [e1, Ideal.exp_coe, ← EReal.coe_one, ← EReal.coe_add, Ideal.log_coe, if_neg (not_le.2 (by positivity)), ← EReal.coe_zero, ← coe_min,
    ← EReal.coe_sub]
  rfl

/-- The sum over a block's later keys is the sum over the stretch of keys after this one. -/
theorem sum_later (f : ℕ → ℝ) (c : ℕ) (o : ℕ) :
    (∑ x : Fin 256, (if c < x.val then f (o + x.val) else 0)) = ∑ s ∈ Finset.Ico (o + c + 1) (o + 256), f s := by
  rw [Fin.sum_univ_eq_sum_range (fun x => if c < x then f (o + x) else 0) 256, ← Finset.sum_filter]
  rw [Finset.sum_Ico_eq_sum_range]
  have hf : (Finset.range 256).filter (fun x => c < x) = Finset.Ico (c + 1) 256 := by
    ext x; simp [Finset.mem_Ico]; omega
  rw [hf, Finset.sum_Ico_eq_sum_range]
  have : 256 - (c + 1) = o + 256 - (o + c + 1) := by omega
  rw [this]
  exact Finset.sum_congr rfl fun x _ => by congr 1; omega

/-- A block's keys followed by all later keys are all keys from the block on. -/
theorem sum_block {M : Type} [AddCommMonoid M] (f : ℕ → M) (o : ℕ) (h : o + 256 ≤ 4096) :
    (∑ s ∈ Finset.Ico (o + 256) 4096, f s) + (∑ x : Fin 256, f (o + x.val)) = ∑ s ∈ Finset.Ico o 4096, f s := by
  rw [Fin.sum_univ_eq_sum_range (fun x => f (o + x)) 256, add_comm, ← Finset.sum_Ico_consecutive f (by omega : o ≤ o + 256) h]
  congr 1
  rw [Finset.sum_Ico_eq_sum_range]
  congr 2; omega

/-- The masked log of what a key leaves of the stick. -/
def lkm (T : ℕ) (z : ℕ → ℝ) (s : ℕ) : ℝ := if s < T then lkR (z s) else 0

/-- The weight of a key. -/
def wgt (T : ℕ) (z : ℕ → ℝ) (s : ℕ) : ℝ := if s < T then Real.exp (lbR (z s) + ∑ j ∈ Finset.Ico (s + 1) 4096, lkm T z j) else 0

/-- What the accumulator and the carry hold once the keys from `L` on are folded in. -/
def Inv (n : ℕ) (z : Fin 512 → ℕ → ℝ) (v : ℕ → Fin 128 → EReal) (L : ℕ) (s : St Ideal) : Prop :=
  (∀ r : Fin 512, s.2 (ix2 r 0) = ((∑ j ∈ Finset.Ico L 4096, lkm (512 * n + r.val) (z r) j : ℝ) : EReal))
    ∧ ∀ (r : Fin 512) (d : Fin 128), s.1 (ix2 r d) = ∑ j ∈ Finset.Ico L 4096, (wgt (512 * n + r.val) (z r) j : EReal) * v j d

/-- One block's step, from the block's log-sums and weights to the next state. -/
theorem inv_step {n : ℕ} {z : Fin 512 → ℕ → ℝ} {v : ℕ → Fin 128 → EReal} {o : ℕ} (ho : o + 256 ≤ 4096) {s s' : St Ideal}
    (hs : Inv n z v (o + 256) s)
    (later : Fin 512 → Fin 256 → EReal)
    (hl : ∀ r c, later r c = ((∑ x : Fin 256, (if c.val < x.val then lkm (512 * n + r.val) (z r) (o + x.val) else 0) : ℝ) : EReal))
    (hc : ∀ r, s'.2 (ix2 r 0) = s.2 (ix2 r 0) + later r 0 + (lkm (512 * n + r.val) (z r) o : EReal))
    (ha : ∀ r d, s'.1 (ix2 r d) = s.1 (ix2 r d) + ∑ c : Fin 256,
      (if o + c.val < 512 * n + r.val then Ideal.exp ((lbR (z r (o + c.val)) : EReal) + later r c + s.2 (ix2 r 0)) else 0) * v (o + c.val) d) :
    Inv n z v o s' := by
  refine ⟨fun r => ?_, fun r d => ?_⟩
  · rw [hc r, hl, hs.1 r, sum_later, ← EReal.coe_add, ← EReal.coe_add]
    congr 1
    rw [add_comm (∑ j ∈ Finset.Ico (o + 256) 4096, _), Finset.sum_Ico_consecutive _ (by simp) ho, add_comm]
    exact (Finset.sum_eq_sum_Ico_succ_bot (by omega) _).symm
  · rw [ha r d, hs.2 r d, ← sum_block _ o ho]
    congr 1
    refine Finset.sum_congr rfl fun c _ => ?_
    congr 1
    unfold wgt
    by_cases h : o + c.val < 512 * n + r.val
    · rw [if_pos h, if_pos h, hl, hs.1 r, sum_later, ← EReal.coe_add, ← EReal.coe_add, Ideal.exp_coe]
      congr 2
      rw [add_assoc, Finset.sum_Ico_consecutive _ (by omega) ho]
    · rw [if_neg h, if_neg h, EReal.coe_zero]

/-- Before any key is folded in. -/
theorem inv_start {n : ℕ} {z : Fin 512 → ℕ → ℝ} {v : ℕ → Fin 128 → EReal} {s : St Ideal} (h1 : ∀ r d, s.1 (ix2 r d) = 0)
    (h2 : ∀ r, s.2 (ix2 r 0) = 0) : Inv n z v (512 * n + 512) s := by
  refine ⟨fun r => ?_, fun r d => ?_⟩
  · rw [h2, Finset.sum_eq_zero, EReal.coe_zero]
    intro j hj
    have := (Finset.mem_Ico.1 hj).1
    exact if_neg (by omega)
  · rw [h1, Finset.sum_eq_zero]
    intro j hj
    have := (Finset.mem_Ico.1 hj).1
    unfold wgt
    rw [if_neg (by omega), EReal.coe_zero, zero_mul]

end Cert.SbIdeal.Body
-- ==== Proof.SbBlock.lean ====
/- One key block of the stick-breaking attention read at its elements: the scores, their log-sigmoids, the sums over the
   later keys of the block, the weights and the accumulator, on real scores; and the three kinds of block as one step. -/
module

public import Idealize.ShloMosaic.PureOps.Ideal.Laws
public import Idealize.ShloMosaic.Lib.IdealHost
public import Idealize.ShloMosaic.Lib.Pipeline.Value
public import Idealize.ShloMosaic.Lib.Pipeline.ValueKit.Tiles
public import proofs.«01_k».proof.Proof.SbMath

@[expose] public section

set_option maxRecDepth 16384

noncomputable section

namespace Cert.SbIdeal.Body

open Cert.SbIdeal Cert.SbIdeal.Gen Idealize.ShloMosaic Idealize.ShloMosaic.TcCoe Idealize.SL.Sem Idealize.ShloMosaic.ValueIdx

theorem cons2 {n0 n1 : ℕ} (a : Fin n0) (b : Fin n1) :
    (Fin.cons (⟨0, Nat.one_pos⟩ : Fin 1) (ix2 a b) : (⟨3, Matrix.vecCons 1 ![n0, n1]⟩ : Shape).Idx) = ix3 (0 : Fin 1) a b := by
  funext a; fin_cases a <;> rfl

/-- The scores of a block of keys. -/
theorem score_apply (q : FVec Ideal S512x128 .bf16) (K : Vec Ideal S1x256x128 .bf16) (r : Fin 512) (c : Fin 256) :
    matmul dot_S512x128_S256x128_S512x256_1_1_0_0_n_n none q (shapeCast S256x128 K shapeCasts_S1x256x128_S256x128 : FVec Ideal S256x128 .bf16)
      (constant S512x256 .f32 0x00000000#32) (ix2 r c) = ∑ k : Fin 128, q (ix2 r k) * K (ix3 0 c k) := by
  refine (Ideal.matmul_transposedRhs_apply (M := 512) (K := 128) (N := 256) none q _ _ r c).trans ?_
  rw [show constant (F := Ideal) S512x256 .f32 0x00000000#32 (ix2 r c) = 0 from Ideal.ofBits_zero_f32, zero_add]
  refine Finset.sum_congr rfl fun k _ => congrArg (q (ix2 r k) * ·) ?_
  exact (shapeCast_dropUnit_apply (n := 2) ![256, 128] K _ (ix2 c k)).trans (congrArg K (cons2 c k))

/-- The weighted values of a block of keys. -/
theorem pv_apply (w : FVec Ideal S512x256 .bf16) (V : Vec Ideal S1x256x128 .bf16) (r : Fin 512) (d : Fin 128) :
    matmul dot_S512x256_S256x128_S512x128_1_0_0_1_n_n none w (shapeCast S256x128 V shapeCasts_S1x256x128_S256x128 : FVec Ideal S256x128 .bf16)
      (constant S512x128 .f32 0x00000000#32) (ix2 r d) = ∑ c : Fin 256, w (ix2 r c) * V (ix3 0 c d) := by
  refine (Ideal.matmul_plain_apply (M := 512) (K := 256) (N := 128) none w _ _ r d).trans ?_
  rw [show constant (F := Ideal) S512x128 .f32 0x00000000#32 (ix2 r d) = 0 from Ideal.ofBits_zero_f32, zero_add]
  refine Finset.sum_congr rfl fun k _ => congrArg (w (ix2 r k) * ·) ?_
  exact (shapeCast_dropUnit_apply (n := 2) ![256, 128] V _ (ix2 k d)).trans (congrArg V (cons2 k d))

/-- The log-sigmoid of a block's scores. -/
theorem lb_apply (Z : FVec Ideal S512x256 .f32) (i : S512x256.Idx) (z : ℝ) (h : Z i = (z : EReal)) :
    subf (minimumf Z (broadcast S512x256 (Scalar.ofBits .f32 0x00000000#32 : Ideal .f32)))
      (log (addf (broadcast S512x256 (Scalar.ofBits .f32 0x3F800000#32 : Ideal .f32))
        (exp (subf (broadcast S512x256 (Scalar.ofBits .f32 0x00000000#32 : Ideal .f32)) (absf Z))))) i = (lbR z : EReal) := by
  show min (Z i) (Ideal.ofBits .f32 0x00000000#32) - Ideal.log (Ideal.ofBits .f32 0x3F800000#32
    + Ideal.exp (Ideal.ofBits .f32 0x00000000#32 - max (Z i) (-(Z i)))) = _
  rw [Ideal.ofBits_zero_f32, Ideal.ofBits_one_f32, h]
  exact lb_elem z

/-- The sums over a block's later keys: the low part of the split is zero. -/
theorem later_apply (lk : FVec Ideal S512x256 .f32) (tri : FVec Ideal S256x256 .bf16) (f : Fin 512 → Fin 256 → ℝ)
    (hf : ∀ r c, lk (ix2 r c) = (f r c : EReal)) (htri : ∀ a b : Fin 256, tri (ix2 a b) = if b.val < a.val then 1 else 0)
    (r : Fin 512) (c : Fin 256) :
    addf (matmul dot_S512x256_S256x256_S512x256_1_0_0_1_n_n none (truncf .bf16 lk bitsLt_bf16_f32) tri (constant S512x256 .f32 0x00000000#32))
      (matmul dot_S512x256_S256x256_S512x256_1_0_0_1_n_n none
        (truncf .bf16 (subf lk (extf .f32 (truncf .bf16 lk bitsLt_bf16_f32) bitsLt_bf16_f32)) bitsLt_bf16_f32) tri
        (constant S512x256 .f32 0x00000000#32)) (ix2 r c)
      = ((∑ x : Fin 256, (if c.val < x.val then f r x else 0) : ℝ) : EReal) := by
  have e0 : constant (F := Ideal) S512x256 .f32 0x00000000#32 (ix2 r c) = 0 := Ideal.ofBits_zero_f32
  have e1 : matmul dot_S512x256_S256x256_S512x256_1_0_0_1_n_n none (truncf .bf16 lk bitsLt_bf16_f32) tri (constant S512x256 .f32 0x00000000#32) (ix2 r c)
      = ((∑ x : Fin 256, (if c.val < x.val then f r x else 0) : ℝ) : EReal) := by
    refine (Ideal.matmul_plain_apply (M := 512) (K := 256) (N := 256) none _ tri _ r c).trans ?_
    rw [e0, zero_add, coe_sum]
    refine Finset.sum_congr rfl fun k _ => ?_
    rw [htri]
    show lk (ix2 r k) * _ = _
    rw [hf]
    split
    · rw [mul_one]
    · rw [mul_zero, EReal.coe_zero]
  have e2 : matmul dot_S512x256_S256x256_S512x256_1_0_0_1_n_n none
        (truncf .bf16 (subf lk (extf .f32 (truncf .bf16 lk bitsLt_bf16_f32) bitsLt_bf16_f32)) bitsLt_bf16_f32) tri
        (constant S512x256 .f32 0x00000000#32) (ix2 r c) = 0 := by
    refine (Ideal.matmul_plain_apply (M := 512) (K := 256) (N := 256) none _ tri _ r c).trans ?_
    rw [e0, zero_add]
    refine Finset.sum_eq_zero fun k _ => ?_
    show (lk (ix2 r k) - lk (ix2 r k)) * _ = _
    rw [hf, ← EReal.coe_sub, sub_self, EReal.coe_zero, zero_mul]
  show matmul dot_S512x256_S256x256_S512x256_1_0_0_1_n_n none (truncf .bf16 lk bitsLt_bf16_f32) tri (constant S512x256 .f32 0x00000000#32) (ix2 r c)
    + matmul dot_S512x256_S256x256_S512x256_1_0_0_1_n_n none
        (truncf .bf16 (subf lk (extf .f32 (truncf .bf16 lk bitsLt_bf16_f32) bitsLt_bf16_f32)) bitsLt_bf16_f32) tri
        (constant S512x256 .f32 0x00000000#32) (ix2 r c) = _
  rw [e1, e2, add_zero]

/-- The carry as one column, read across a block. -/
theorem col_apply (x : Vec Ideal S512x1 .f32) (r : Fin 512) (c : Fin 256) :
    broadcastTo S512x256 x broadcasts_S512x1_S512x256 (ix2 r c) = x (ix2 r 0) :=
  broadcastTo_apply _ _ _ _ (by intro a; fin_cases a <;> rfl)

/-- The first column of a block. -/
theorem fst_apply (x : FVec Ideal S512x256 .f32) (r : Fin 512) :
    extractStridedSlice S512x1 ![0, 0] x slices_S512x256_o0_0_S512x1 (ix2 r 0) = x (ix2 r 0) :=
  extractStridedSlice_apply _ _ _ _ _ (by intro a; fin_cases a <;> simp)

/-- A block of the head's keys, read at an element. -/
theorem kld_apply (X : Vec Ideal S1x4096x128 .bf16) (off : Fin 3 → ℕ) (h) (o : ℕ) (ho : off = ![0, o, 0]) (c : Fin 256) (d : Fin 128)
    (hc : o + c.val < 4096) : kld X off h (ix3 0 c d) = X (ix3 0 ⟨o + c.val, hc⟩ d) := by
  subst ho
  exact View.ld_unit_apply_of X _ _ h (ix3 0 c d) _ (by intro a; fin_cases a <;> simp)

end Cert.SbIdeal.Body
-- ==== Proof.SbSteps.lean ====
/- The three kinds of key block of the stick-breaking attention, each as one step of the accumulator and the carry, and all
   the blocks together: the grid point's output is the weighted sum over every key before the query, times its gate. -/
module

public import Idealize.ShloMosaic.Lib.WordCmp
public import proofs.«01_k».proof.Proof.SbBlock

@[expose] public section

set_option maxRecDepth 16384

noncomputable section

namespace Cert.SbIdeal.Body

open Cert.SbIdeal Cert.SbIdeal.Gen Idealize.ShloMosaic Idealize.ShloMosaic.TcCoe Idealize.SL.Sem Idealize.ShloMosaic.ValueIdx

theorem off1_1 (i : grid0.Coords) : k0_off1 i 1#32 = ![0, 256 * (2 * (i 2).val + 1), 0] := by
  have h : ∀ j : Fin 8, (Scalar.muli (Scalar.addi (Scalar.muli (BitVec.ofNat 32 j.val) 2#32) 1#32) 256#32).toNat = 256 * (2 * j.val + 1) := by decide +kernel
  funext a; fin_cases a
  · rfl
  · exact h (i 2)
  · rfl

theorem off1_0 (i : grid0.Coords) : k0_off1 i 0#32 = ![0, 256 * (2 * (i 2).val), 0] := by
  have h : ∀ j : Fin 8, (Scalar.muli (Scalar.addi (Scalar.muli (BitVec.ofNat 32 j.val) 2#32) 0#32) 256#32).toNat = 256 * (2 * j.val) := by decide +kernel
  funext a; fin_cases a
  · rfl
  · exact h (i 2)
  · rfl

theorem off2_at (i : grid0.Coords) (k : Fin (k0_t1_loop i).trips) : k0_off2 i k = ![0, 256 * (2 * (i 2).val - 1 - k.val), 0] := by
  have h : ∀ j : Fin 8, ∀ k : Fin 14, k.val < 2 * j.val → (Scalar.muli (Scalar.subi (Scalar.subi (Scalar.muli (BitVec.ofNat 32 j.val) 2#32) 1#32) (Scf.iv 0#32 1#32 k.val)) 256#32).toNat
      = 256 * (2 * j.val - 1 - k.val) := by decide +kernel
  have hk : k.val < 2 * (i 2).val := lt_of_lt_of_eq k.isLt (trips1 i)
  have h8 : (i 2).val < 8 := (i 2).isLt
  funext a; fin_cases a
  · rfl
  · exact h (i 2) ⟨k.val, by omega⟩ hk
  · rfl

theorem ofBool_sel {α : Type} (p : Prop) [Decidable p] (a b : α) : Scalar.select (BitVec.ofBool (decide p)) a b = if p then a else b := by
  by_cases h : p <;> simp [Scalar.select, h]

theorem mask1_apply (r : Fin 512) (c : Fin 256) : k0_pay22 (ix2 r c) = BitVec.ofBool (decide (c.val + 256 < r.val)) := by
  show IntOp.cmpi .slt (iota .tc S512x256 32 [1] iota_S512x256_d1_w32 (ix2 r c) + 256#32) (iota .tc S512x256 32 [0] iota_S512x256_d0_w32 (ix2 r c)) = _
  rw [iota_single_apply, iota_single_apply]
  show IntOp.cmpi .slt (BitVec.ofNat 32 c.val + BitVec.ofNat 32 256) (BitVec.ofNat 32 r.val) = _
  rw [← BitVec.ofNat_add]
  exact WordCmp.cmpi_slt_ofNat (by have := c.isLt; omega) (by have := r.isLt; omega)

theorem mask0_apply (r : Fin 512) (c : Fin 256) : mask0 (ix2 r c) = BitVec.ofBool (decide (c.val + 0 < r.val)) := by
  show IntOp.cmpi .slt (iota .tc S512x256 32 [1] iota_S512x256_d1_w32 (ix2 r c) + 0#32) (iota .tc S512x256 32 [0] iota_S512x256_d0_w32 (ix2 r c)) = _
  rw [iota_single_apply, iota_single_apply]
  show IntOp.cmpi .slt (BitVec.ofNat 32 c.val + BitVec.ofNat 32 0) (BitVec.ofNat 32 r.val) = _
  rw [← BitVec.ofNat_add]
  exact WordCmp.cmpi_slt_ofNat (by have := c.isLt; omega) (by have := r.isLt; omega)

/-- The values of the whole head, by the key's number. -/
def vOf (x2 : Vec Ideal S1x4096x128 .bf16) (j : ℕ) (d : Fin 128) : EReal := if h : j < 4096 then x2 (ix3 0 ⟨j, h⟩ d) else 0

section
variable (i : grid0.Coords) (x0 : Vec Ideal S1x512x128 .bf16) (x1 x2 : Vec Ideal S1x4096x128 .bf16) (x4 : Vec Ideal S256x256 .bf16)
  (z : Fin 512 → ℕ → ℝ) (hz : ∀ (r : Fin 512) (j : ℕ) (h : j < 4096), (∑ k : Fin 128, x0 (ix3 0 r k) * x1 (ix3 0 ⟨j, h⟩ k)) = (z r j : EReal))
  (htri : ∀ a b : Fin 256, x4 (ix2 a b) = if b.val < a.val then 1 else 0)
include hz htri

omit htri hz in
theorem q_apply (r : Fin 512) (k : Fin 128) : k0_pay18 x0 (ix2 r k) = x0 (ix3 0 r k) :=
  (shapeCast_dropUnit_apply (n := 2) ![512, 128] x0 _ (ix2 r k)).trans (congrArg x0 (cons2 r k))

omit hz in
theorem tri_apply (a b : Fin 256) : k0_pay19 x4 (ix2 a b) = if b.val < a.val then 1 else 0 := by
  unfold k0_pay19
  rw [shapeCast_self]; exact htri a b

omit htri in
theorem z_apply {off : Fin 3 → ℕ} (h) {o : ℕ} (ho : off = ![0, o, 0]) (hle : o + 256 ≤ 4096) (r : Fin 512) (c : Fin 256) :
    k0_pay8 (k0_pay18 x0) (kld x1 off h) (ix2 r c) = (z r (o + c.val) : EReal) := by
  refine (score_apply (k0_pay18 x0) (kld x1 off h) r c).trans ?_
  have hc : o + c.val < 4096 := by have := c.isLt; omega
  rw [← hz r (o + c.val) hc]
  exact Finset.sum_congr rfl fun k _ => by rw [q_apply, kld_apply x1 off h o ho c k hc]

omit htri hz in
theorem v_apply {off : Fin 3 → ℕ} (h) {o : ℕ} (ho : off = ![0, o, 0]) (hle : o + 256 ≤ 4096) (c : Fin 256) (d : Fin 128) :
    kld x2 off h (ix3 0 c d) = vOf x2 (o + c.val) d := by
  have hc : o + c.val < 4096 := by have := c.isLt; omega
  rw [kld_apply x2 off h o ho c d hc, vOf, dif_pos hc]

omit htri in
theorem lb9_apply {off : Fin 3 → ℕ} (h) {o : ℕ} (ho : off = ![0, o, 0]) (hle : o + 256 ≤ 4096) (r : Fin 512) (c : Fin 256) :
    k0_pay9 (k0_pay18 x0) (kld x1 off h) (ix2 r c) = (lbR (z r (o + c.val)) : EReal) :=
  lb_apply _ _ _ (z_apply x0 x1 z hz h ho hle r c)

omit htri in
theorem lk10_apply {off : Fin 3 → ℕ} (h) {o : ℕ} (ho : off = ![0, o, 0]) (hle : o + 256 ≤ 4096) (r : Fin 512) (c : Fin 256) :
    k0_pay10 (k0_pay18 x0) (kld x1 off h) (ix2 r c) = (lkR (z r (o + c.val)) : EReal) := by
  show k0_pay9 (k0_pay18 x0) (kld x1 off h) (ix2 r c) - k0_pay8 (k0_pay18 x0) (kld x1 off h) (ix2 r c) = _
  rw [lb9_apply x0 x1 z hz h ho hle, z_apply x0 x1 z hz h ho hle, ← EReal.coe_sub]; rfl

/-- One trip of the loop is one step. -/
theorem trp_step (k : Fin (k0_t1_loop i).trips) (s : St Ideal)
    (hs : Inv (i 2).val z (vOf x2) (256 * (2 * (i 2).val - k.val)) s) :
    Inv (i 2).val z (vOf x2) (256 * (2 * (i 2).val - (k.val + 1))) (trp i (k0_pay18 x0) (k0_pay19 x4) x1 x2 k s) := by
  have hk : k.val < 2 * (i 2).val := lt_of_lt_of_eq k.isLt (trips1 i)
  have h8 : (i 2).val < 8 := (i 2).isLt
  have eo : 256 * (2 * (i 2).val - (k.val + 1)) = 256 * (2 * (i 2).val - 1 - k.val) := by omega
  have eo' : 256 * (2 * (i 2).val - k.val) = 256 * (2 * (i 2).val - 1 - k.val) + 256 := by omega
  rw [eo]
  rw [eo'] at hs
  have hlt : 256 * (2 * (i 2).val - 1 - k.val) + 256 ≤ 512 * (i 2).val := by omega
  have hof := off2_at i k
  generalize 256 * (2 * (i 2).val - 1 - k.val) = o at *
  have hle : o + 256 ≤ 4096 := by omega
  have hlkm : ∀ (r : Fin 512) (c : Fin 256), lkm (512 * (i 2).val + r.val) (z r) (o + c.val) = lkR (z r (o + c.val)) := fun r c => if_pos (by have := c.isLt; omega)
  refine inv_step hle hs (fun r c => k0_pay11 (k0_pay18 x0) (k0_pay19 x4) (kld x1 (k0_off2 i k) (k0_off2_inb i k)) (ix2 r c)) (fun r c => ?_) (fun r => ?_) (fun r d => ?_)
  · exact later_apply (k0_pay10 (k0_pay18 x0) (kld x1 (k0_off2 i k) (k0_off2_inb i k))) (k0_pay19 x4) (fun r c => lkm (512 * (i 2).val + r.val) (z r) (o + c.val))
      (fun r c => by rw [lk10_apply x0 x1 z hz _ hof hle, hlkm]) (tri_apply x4 htri) r c
  · show k0_pay4 _ _ _ (ix2 r 0) = _
    unfold k0_pay4
    rw [shapeCast_self]
    show (s.2 (ix2 r 0) + extractStridedSlice (s := S512x256) S512x1 ![0, 0] _ _ (ix2 r 0)) + extractStridedSlice (s := S512x256) S512x1 ![0, 0] _ _ (ix2 r 0) = _
    rw [fst_apply, fst_apply, lk10_apply x0 x1 z hz _ hof hle, ← hlkm r 0]
    rfl
  · show k0_pay3 (F := Ideal) (k0_pay12 (k0_pay18 x0) (k0_pay19 x4) (kld x1 (k0_off2 i k) (k0_off2_inb i k)) (kld x2 (k0_off2 i k) (k0_off2_inb i k)) s.2 s.1) (ix2 r d) = _
    unfold k0_pay3
    rw [shapeCast_self]
    show s.1 (ix2 r d) + matmul (F := Ideal) (φ₁ := .bf16) (φ₂ := .bf16) dot_S512x256_S256x128_S512x128_1_0_0_1_n_n none _ _ _ (ix2 r d) = _
    rw [pv_apply]
    refine congrArg (s.1 (ix2 r d) + ·) (Finset.sum_congr rfl fun c _ => ?_)
    rw [v_apply x2 _ hof hle, if_pos (by have := c.isLt; omega)]
    refine congrArg (· * vOf x2 (o + c.val) d) ?_
    show Ideal.exp ((k0_pay9 (k0_pay18 x0) (kld x1 (k0_off2 i k) (k0_off2_inb i k)) (ix2 r c) + _) + broadcastTo S512x256 s.2 broadcasts_S512x1_S512x256 (ix2 r c)) = _
    rw [col_apply, lb9_apply x0 x1 z hz _ hof hle]

/-- The key block that holds the second half of the diagonal is one step. -/
theorem dia1_step :
    Inv (i 2).val z (vOf x2) (256 * (2 * (i 2).val + 1)) (dia1 i x0 x1 x2 x4) := by
  have h8 : (i 2).val < 8 := (i 2).isLt
  have hof := off1_1 i
  have hs : Inv (i 2).val z (vOf x2) (256 * (2 * (i 2).val + 1) + 256) ((k0_pay20 (F := Ideal), k0_pay21 (F := Ideal)) : St Ideal) := by
    rw [show 256 * (2 * (i 2).val + 1) + 256 = 512 * (i 2).val + 512 by omega]
    refine inv_start (fun r d => ?_) (fun r => ?_)
    · show k0_pay20 (ix2 r d) = _
      unfold k0_pay20; rw [shapeCast_self]; exact Ideal.ofBits_zero_f32
    · show k0_pay21 (ix2 r 0) = _
      unfold k0_pay21; rw [shapeCast_self]; exact Ideal.ofBits_zero_f32
  have hm : ∀ (r : Fin 512) (c : Fin 256), (c.val + 256 < r.val) ↔ 256 * (2 * (i 2).val + 1) + c.val < 512 * (i 2).val + r.val := fun r c => by omega
  have hle : 256 * (2 * (i 2).val + 1) + 256 ≤ 4096 := by omega
  generalize 256 * (2 * (i 2).val + 1) = o at *
  have hlk : ∀ (r : Fin 512) (c : Fin 256), k0_pay28 k0_pay22 (k0_pay24 x0 (kld x1 (k0_off1 i 1#32) (k0_off1_inb i 1))) (k0_pay25 x0 (kld x1 (k0_off1 i 1#32) (k0_off1_inb i 1))) k0_pay26 (ix2 r c)
      = (lkm (512 * (i 2).val + r.val) (z r) (o + c.val) : EReal) := fun r c => by
    show Scalar.select (k0_pay22 (ix2 r c)) (k0_pay10 (k0_pay18 x0) (kld x1 (k0_off1 i 1#32) (k0_off1_inb i 1)) (ix2 r c)) (Ideal.ofBits .f32 0x00000000#32) = _
    rw [mask1_apply, ofBool_sel, lk10_apply x0 x1 z hz _ hof hle, Ideal.ofBits_zero_f32]
    unfold lkm
    by_cases h : c.val + 256 < r.val
    · rw [if_pos h, if_pos ((hm r c).1 h)]
    · rw [if_neg h, if_neg (fun h' => h ((hm r c).2 h')), EReal.coe_zero]
  refine inv_step hle hs (fun r c => k0_pay29 (k0_pay19 x4) k0_pay22 (k0_pay24 x0 (kld x1 (k0_off1 i 1#32) (k0_off1_inb i 1))) (k0_pay25 x0 (kld x1 (k0_off1 i 1#32) (k0_off1_inb i 1))) k0_pay26 (ix2 r c))
    (fun r c => ?_) (fun r => ?_) (fun r d => ?_)
  · exact later_apply _ (k0_pay19 x4) (fun r c => lkm (512 * (i 2).val + r.val) (z r) (o + c.val)) hlk (tri_apply x4 htri) r c
  · show k0_pay31 _ _ _ _ _ _ (ix2 r 0) = _
    unfold k0_pay31
    rw [shapeCast_self]
    show (_ + extractStridedSlice (s := S512x256) S512x1 ![0, 0] _ _ (ix2 r 0)) + extractStridedSlice (s := S512x256) S512x1 ![0, 0] _ _ (ix2 r 0) = _
    rw [fst_apply, fst_apply, hlk r 0]
    rfl
  · show k0_pay30 _ _ _ _ _ _ _ _ (ix2 r d) = _
    unfold k0_pay30
    rw [shapeCast_self]
    show k0_pay20 (ix2 r d) + matmul (F := Ideal) (φ₁ := .bf16) (φ₂ := .bf16) dot_S512x256_S256x128_S512x128_1_0_0_1_n_n none _ (k0_pay23 _) _ (ix2 r d) = _
    unfold k0_pay23
    rw [pv_apply]
    refine congrArg (k0_pay20 (ix2 r d) + ·) (Finset.sum_congr rfl fun c _ => ?_)
    rw [v_apply x2 _ hof hle]
    refine congrArg (· * vOf x2 (o + c.val) d) ?_
    show Scalar.select (k0_pay22 (ix2 r c)) (Ideal.exp ((k0_pay9 (k0_pay18 x0) (kld x1 (k0_off1 i 1#32) (k0_off1_inb i 1)) (ix2 r c) + _) + broadcastTo S512x256 (k0_pay21 (F := Ideal)) broadcasts_S512x1_S512x256 (ix2 r c))) (Ideal.ofBits .f32 0x00000000#32) = _
    rw [mask1_apply, ofBool_sel, col_apply, lb9_apply x0 x1 z hz _ hof hle, Ideal.ofBits_zero_f32]
    by_cases h : c.val + 256 < r.val
    · rw [if_pos h, if_pos ((hm r c).1 h)]
    · rw [if_neg h, if_neg (fun h' => h ((hm r c).2 h'))]

/-- The key block that holds the first half of the diagonal is one step. -/
theorem dia0_step (s : St Ideal) (hs : Inv (i 2).val z (vOf x2) (256 * (2 * (i 2).val + 1)) s) :
    Inv (i 2).val z (vOf x2) (256 * (2 * (i 2).val)) (dia0 i x0 x1 x2 x4 s) := by
  have h8 : (i 2).val < 8 := (i 2).isLt
  have hof := off1_0 i
  rw [show 256 * (2 * (i 2).val + 1) = 256 * (2 * (i 2).val) + 256 by omega] at hs
  have hm : ∀ (r : Fin 512) (c : Fin 256), (c.val + 0 < r.val) ↔ 256 * (2 * (i 2).val) + c.val < 512 * (i 2).val + r.val := fun r c => by omega
  have hle : 256 * (2 * (i 2).val) + 256 ≤ 4096 := by omega
  generalize 256 * (2 * (i 2).val) = o at *
  have hlk : ∀ (r : Fin 512) (c : Fin 256), k0_pay35 (k0_pay18 x0) mask0 (kld x1 (k0_off1 i 0#32) (k0_off1_inb i 0)) (ix2 r c)
      = (lkm (512 * (i 2).val + r.val) (z r) (o + c.val) : EReal) := fun r c => by
    show Scalar.select (mask0 (ix2 r c)) (k0_pay10 (k0_pay18 x0) (kld x1 (k0_off1 i 0#32) (k0_off1_inb i 0)) (ix2 r c)) (Ideal.ofBits .f32 0x00000000#32) = _
    rw [mask0_apply, ofBool_sel, lk10_apply x0 x1 z hz _ hof hle, Ideal.ofBits_zero_f32]
    unfold lkm
    by_cases h : c.val + 0 < r.val
    · rw [if_pos h, if_pos ((hm r c).1 h)]
    · rw [if_neg h, if_neg (fun h' => h ((hm r c).2 h')), EReal.coe_zero]
  refine inv_step hle hs (fun r c => k0_pay36 (k0_pay18 x0) (k0_pay19 x4) mask0 (kld x1 (k0_off1 i 0#32) (k0_off1_inb i 0)) (ix2 r c))
    (fun r c => ?_) (fun r => ?_) (fun r d => ?_)
  · exact later_apply _ (k0_pay19 x4) (fun r c => lkm (512 * (i 2).val + r.val) (z r) (o + c.val)) hlk (tri_apply x4 htri) r c
  · show k0_pay2 _ _ _ (ix2 r 0) = _
    unfold k0_pay2
    rw [shapeCast_self]
    show (_ + extractStridedSlice (s := S512x256) S512x1 ![0, 0] _ _ (ix2 r 0)) + extractStridedSlice (s := S512x256) S512x1 ![0, 0] _ _ (ix2 r 0) = _
    rw [fst_apply, fst_apply, hlk r 0]
    rfl
  · show k0_pay1 (F := Ideal) (k0_pay37 (k0_pay18 x0) (k0_pay19 x4) mask0 (kld x1 (k0_off1 i 0#32) (k0_off1_inb i 0)) (kld x2 (k0_off1 i 0#32) (k0_off1_inb i 0)) s.2 s.1) (ix2 r d) = _
    unfold k0_pay1
    rw [shapeCast_self]
    show s.1 (ix2 r d) + matmul (F := Ideal) (φ₁ := .bf16) (φ₂ := .bf16) dot_S512x256_S256x128_S512x128_1_0_0_1_n_n none _ _ _ (ix2 r d) = _
    rw [pv_apply]
    refine congrArg (s.1 (ix2 r d) + ·) (Finset.sum_congr rfl fun c _ => ?_)
    rw [v_apply x2 _ hof hle]
    refine congrArg (· * vOf x2 (o + c.val) d) ?_
    show Scalar.select (mask0 (ix2 r c)) (Ideal.exp ((k0_pay9 (k0_pay18 x0) (kld x1 (k0_off1 i 0#32) (k0_off1_inb i 0)) (ix2 r c) + _) + broadcastTo S512x256 s.2 broadcasts_S512x1_S512x256 (ix2 r c))) (Ideal.ofBits .f32 0x00000000#32) = _
    rw [mask0_apply, ofBool_sel, col_apply, lb9_apply x0 x1 z hz _ hof hle, Ideal.ofBits_zero_f32]
    by_cases h : c.val + 0 < r.val
    · rw [if_pos h, if_pos ((hm r c).1 h)]
    · rw [if_neg h, if_neg (fun h' => h ((hm r c).2 h'))]

/-- The loop's trips, one after another. -/
theorem fold_inv (s : St Ideal) (hs : Inv (i 2).val z (vOf x2) (256 * (2 * (i 2).val)) s) :
    ∀ k, k ≤ (k0_t1_loop i).trips → Inv (i 2).val z (vOf x2) (256 * (2 * (i 2).val - k)) (fold i (k0_pay18 x0) (k0_pay19 x4) x1 x2 s k)
  | 0, _ => hs
  | k + 1, hk => by
    have ih := fold_inv s hs k (by omega)
    unfold fold
    rw [dif_pos (by omega : k < (k0_t1_loop i).trips)]
    exact trp_step i x0 x1 x2 x4 z hz htri ⟨k, by omega⟩ _ ih

/-- **What a grid point leaves in its output block.** -/
theorem outv_apply (x3 : Vec Ideal S1x512x128 .bf16) (r : Fin 512) (d : Fin 128) :
    outv i x0 x1 x2 x3 x4 (ix3 0 r d)
      = (∑ j ∈ Finset.range 4096, (wgt (512 * (i 2).val + r.val) (z r) j : EReal) * vOf x2 j d) * x3 (ix3 0 r d) := by
  have h := fold_inv i x0 x1 x2 x4 z hz htri _ (dia0_step i x0 x1 x2 x4 z hz htri _ (dia1_step i x0 x1 x2 x4 z hz htri)) _ le_rfl
  rw [show 256 * (2 * (i 2).val - (k0_t1_loop i).trips) = 0 by rw [trips1]; omega] at h
  unfold outv k0_pay7
  refine (shapeCast_addUnit_apply (n := 2) ![512, 128] _ _ (ix3 0 r d)).trans ?_
  have e2 : (fun a : Fin 2 => (ix3 (0 : Fin 1) r d : S1x512x128.Idx) a.succ) = ix2 r d := by funext a; fin_cases a <;> rfl
  refine (congrArg _ e2).trans ?_
  show (fold i (k0_pay18 x0) (k0_pay19 x4) x1 x2 _ _).1 (ix2 r d) * k0_pay18 x3 (ix2 r d) = _
  rw [q_apply, h.2 r d, Finset.range_eq_Ico]

end

end Cert.SbIdeal.Body
-- ==== Proof.SbSpec.lean ====
/- The stick-breaking attention's result as one function of its argument, the projected queries, keys, values and gates side
   by side: what both programs are read to. -/
module

public import proofs.«01_k».proof.Proof.SbMath

@[expose] public section

set_option maxRecDepth 16384

noncomputable section

namespace Cert.SbIdeal.Body

open Idealize.ShloMosaic Idealize.ShloMosaic.ValueIdx

/-- The argument's shape. -/
abbrev Arr : Type := (⟨3, ![2, 4096, 8192]⟩ : Shape).Idx → EReal

/-- The score of query `t` against key `j` of head `h`. -/
def sc (A : Arr) (b : Fin 2) (h : Fin 16) (t j : Fin 4096) : EReal :=
  ∑ k : Fin 128, A (ix3 b t ⟨128 * h.val + k.val, by omega⟩) * A (ix3 b j ⟨2048 + 128 * h.val + k.val, by omega⟩)

/-- The same score as a real, by the key's number. -/
def scN (A : Arr) (b : Fin 2) (h : Fin 16) (t : Fin 4096) (j : ℕ) : ℝ := if hj : j < 4096 then (sc A b h t ⟨j, hj⟩).toReal else 0

/-- The value of key `j`, by the key's number. -/
def vN (A : Arr) (b : Fin 2) (h : Fin 16) (j : ℕ) (d : Fin 128) : EReal :=
  if hj : j < 4096 then A (ix3 b ⟨j, hj⟩ ⟨4096 + 128 * h.val + d.val, by omega⟩) else 0

/-- The result at query `t` of head `h`. -/
def resAt (A : Arr) (b : Fin 2) (t : Fin 4096) (h : Fin 16) (d : Fin 128) : EReal :=
  (∑ j ∈ Finset.range 4096, (wgt t.val (scN A b h t) j : EReal) * vN A b h j d) * A (ix3 b t ⟨6144 + 128 * h.val + d.val, by omega⟩)

/-- The head of a result column, and the column within the head. -/
def hd (e : Fin 2048) : Fin 16 := ⟨e.val / 128, by omega⟩
def dm (e : Fin 2048) : Fin 128 := ⟨e.val % 128, by omega⟩

/-- The result array. -/
def res (A : Arr) : (⟨3, ![2, 4096, 2048]⟩ : Shape).Idx → EReal := fun i => resAt A (i 0) (i 1) (hd (i 2)) (dm (i 2))

/-- Every query and every key is finite. -/
def Fin_qk (A : Arr) : Prop := ∀ (b : Fin 2) (t : Fin 4096) (e : Fin 8192), e.val < 4096 → ∃ x : ℝ, A (ix3 b t e) = (x : EReal)

/-- Then every score is real. -/
theorem sc_real {A : Arr} (hA : Fin_qk A) (b : Fin 2) (h : Fin 16) (t j : Fin 4096) : sc A b h t j = (scN A b h t j.val : EReal) := by
  have : ∃ x : ℝ, sc A b h t j = (x : EReal) := by
    choose f hf using hA
    refine ⟨∑ k : Fin 128, f b t ⟨128 * h.val + k.val, by omega⟩ (by show 128 * h.val + k.val < 4096; omega)
      * f b j ⟨2048 + 128 * h.val + k.val, by omega⟩ (by show 2048 + 128 * h.val + k.val < 4096; omega), ?_⟩
    rw [coe_sum]
    exact Finset.sum_congr rfl fun k _ => by rw [EReal.coe_mul, ← hf, ← hf]
  obtain ⟨x, hx⟩ := this
  rw [scN, dif_pos j.isLt]
  show sc A b h t j = ((sc A b h t j).toReal : EReal)
  rw [hx, EReal.toReal_coe]

end Cert.SbIdeal.Body
-- ==== Proof.SbArr.lean ====
/- The stick-breaking attention kernel's result array: every grid point writes its block of the result, and the blocks cover
   the array. -/
module

public import Idealize.ShloMosaic.Lib.StableHlo.Run
public import proofs.«01_k».proof.Proof.SbOut
public import proofs.«01_k».proof.Proof.SbSteps
public import proofs.«01_k».proof.Proof.SbSpec

@[expose] public section

set_option maxRecDepth 16384

noncomputable section

namespace Cert.SbIdeal.Body

open Cert.SbIdeal Cert.SbIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The argument. -/
def argA : Arr := m ((c : Thread nD τ).loc main_arg0)

/-- A point's batch, head and query block. -/
def pb (t : Fin cfg0.N) : Fin 2 := (grid0.coords t) 0
def ph (t : Fin cfg0.N) : Fin 16 := (grid0.coords t) 1
def pq (t : Fin cfg0.N) : Fin 8 := (grid0.coords t) 2

theorem w2 : ∀ b : Fin 2, (BitVec.ofNat 32 b.val).toNat = b.val := by decide +kernel
theorem w8 : ∀ b : Fin 8, (BitVec.ofNat 32 b.val).toNat = b.val := by decide +kernel
theorem w16 : ∀ b : Fin 16, (BitVec.ofNat 32 b.val).toNat = b.val := by decide +kernel
theorem w16k : ∀ b : Fin 16, (Scalar.addi 16#32 (BitVec.ofNat 32 b.val)).toNat = 16 + b.val := by decide +kernel
theorem w16v : ∀ b : Fin 16, (Scalar.addi 32#32 (BitVec.ofNat 32 b.val)).toNat = 32 + b.val := by decide +kernel
theorem w16g : ∀ b : Fin 16, (Scalar.addi 48#32 (BitVec.ofNat 32 b.val)).toNat = 48 + b.val := by decide +kernel

theorem rd0 (t : Fin cfg0.N) (r : Fin 512) (k : Fin 128) :
    (iblk m c 0 t : Vec Ideal S1x512x128 .bf16) (ix3 0 r k) = argA m c (ix3 (pb t) ⟨512 * (pq t).val + r.val, by omega⟩ ⟨128 * (ph t).val + k.val, by omega⟩) := by
  unfold iblk
  rw [View.read_apply]
  show V m c main_arg0 _ = m ((c : Thread nD τ).loc main_arg0) _
  rw [V_main_arg0]
  congr 1
  funext a
  apply Fin.ext
  match a with
  | ⟨0, _⟩ => show (BitVec.ofNat 32 (pb t).val).toNat * 1 + 1 * 0 = (pb t).val; rw [w2]; omega
  | ⟨1, _⟩ => show (BitVec.ofNat 32 (pq t).val).toNat * 512 + 1 * r.val = 512 * (pq t).val + r.val; rw [w8]; omega
  | ⟨2, _⟩ => show (BitVec.ofNat 32 (ph t).val).toNat * 128 + 1 * k.val = 128 * (ph t).val + k.val; rw [w16]; omega

theorem rd1 (t : Fin cfg0.N) (r : Fin 4096) (k : Fin 128) :
    (iblk m c 1 t : Vec Ideal S1x4096x128 .bf16) (ix3 0 r k) = argA m c (ix3 (pb t) r ⟨2048 + 128 * (ph t).val + k.val, by omega⟩) := by
  unfold iblk
  rw [View.read_apply]
  show V m c main_arg0 _ = m ((c : Thread nD τ).loc main_arg0) _
  rw [V_main_arg0]
  congr 1
  funext a
  apply Fin.ext
  match a with
  | ⟨0, _⟩ => show (BitVec.ofNat 32 (pb t).val).toNat * 1 + 1 * 0 = (pb t).val; rw [w2]; omega
  | ⟨1, _⟩ => show (0#32).toNat * 4096 + 1 * r.val = r.val; simp
  | ⟨2, _⟩ => show (Scalar.addi 16#32 (BitVec.ofNat 32 (ph t).val)).toNat * 128 + 1 * k.val = 2048 + 128 * (ph t).val + k.val; rw [w16k]; omega

theorem rd2 (t : Fin cfg0.N) (r : Fin 4096) (k : Fin 128) :
    (iblk m c 2 t : Vec Ideal S1x4096x128 .bf16) (ix3 0 r k) = argA m c (ix3 (pb t) r ⟨4096 + 128 * (ph t).val + k.val, by omega⟩) := by
  unfold iblk
  rw [View.read_apply]
  show V m c main_arg0 _ = m ((c : Thread nD τ).loc main_arg0) _
  rw [V_main_arg0]
  congr 1
  funext a
  apply Fin.ext
  match a with
  | ⟨0, _⟩ => show (BitVec.ofNat 32 (pb t).val).toNat * 1 + 1 * 0 = (pb t).val; rw [w2]; omega
  | ⟨1, _⟩ => show (0#32).toNat * 4096 + 1 * r.val = r.val; simp
  | ⟨2, _⟩ => show (Scalar.addi 32#32 (BitVec.ofNat 32 (ph t).val)).toNat * 128 + 1 * k.val = 4096 + 128 * (ph t).val + k.val; rw [w16v]; omega

theorem rd3 (t : Fin cfg0.N) (r : Fin 512) (k : Fin 128) :
    (iblk m c 3 t : Vec Ideal S1x512x128 .bf16) (ix3 0 r k) = argA m c (ix3 (pb t) ⟨512 * (pq t).val + r.val, by omega⟩ ⟨6144 + 128 * (ph t).val + k.val, by omega⟩) := by
  unfold iblk
  rw [View.read_apply]
  show V m c main_arg0 _ = m ((c : Thread nD τ).loc main_arg0) _
  rw [V_main_arg0]
  congr 1
  funext a
  apply Fin.ext
  match a with
  | ⟨0, _⟩ => show (BitVec.ofNat 32 (pb t).val).toNat * 1 + 1 * 0 = (pb t).val; rw [w2]; omega
  | ⟨1, _⟩ => show (BitVec.ofNat 32 (pq t).val).toNat * 512 + 1 * r.val = 512 * (pq t).val + r.val; rw [w8]; omega
  | ⟨2, _⟩ => show (Scalar.addi 48#32 (BitVec.ofNat 32 (ph t).val)).toNat * 128 + 1 * k.val = 6144 + 128 * (ph t).val + k.val; rw [w16g]; omega

/-- The triangle constant, as the host makes it. -/
theorem V_tri : V m c main_v3 = (uitofp (F := Ideal) .bf16 (cmpi .sgt (iotaInDim S256x256 32 0) (iotaInDim S256x256 32 1)) : (⟨S256x256, .bf16⟩ : BufTy).Contents (Elt Ideal)) := by
  unfold_abbrev_sides
  after_results

theorem rd4 (t : Fin cfg0.N) (a b : Fin 256) :
    (iblk m c 4 t : Vec Ideal S256x256 .bf16) (ix2 a b) = (if b.val < a.val then 1 else 0 : EReal) := by
  have e : (iblk m c 4 t : Vec Ideal S256x256 .bf16) (ix2 a b) = V m c main_v3 (ix2 a b) := by
    unfold iblk
    rw [View.read_apply]
    show V m c main_v3 _ = V m c main_v3 _
    congr 1
    funext x
    apply Fin.ext
    match x with
    | ⟨0, _⟩ => show (0#32).toNat * 256 + 1 * a.val = a.val; simp
    | ⟨1, _⟩ => show (0#32).toNat * 256 + 1 * b.val = b.val; simp
  rw [e, V_tri]
  show ((((IntOp.cmpi .sgt (BitVec.ofNat 32 a.val) (BitVec.ofNat 32 b.val)).toNat : ℝ)) : EReal) = _
  rw [WordCmp.cmpi_sgt_ofNat (by have := a.isLt; omega) (by have := b.isLt; omega)]
  by_cases h : b.val < a.val <;> simp [h]

/-- **What a point writes back is its block of the result.** -/
theorem flushed_res (hA : Fin_qk (argA m c)) (t : Fin cfg0.N) (r : Fin 512) (d : Fin 128) :
    ((dats m 0 c).flushed 5 t : Vec Ideal S1x512x128 .bf16) (ix3 0 r d)
      = resAt (argA m c) (pb t) ⟨512 * (pq t).val + r.val, by omega⟩ (ph t) d := by
  rw [Value.flushed5_A]
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t) (ix3 0 r d) = _
  rw [out_eq]
  rw [outv_apply (grid0.coords t) (iblk m c 0 t) (iblk m c 1 t) (iblk m c 2 t) (iblk m c 4 t)
    (fun r j => scN (argA m c) (pb t) (ph t) ⟨512 * (pq t).val + r.val, by omega⟩ j)
    (fun r j hj => by
      rw [← sc_real hA (pb t) (ph t) ⟨512 * (pq t).val + r.val, by omega⟩ ⟨j, hj⟩]
      exact Finset.sum_congr rfl fun k _ => by rw [rd0, rd1])
    (rd4 m c t) (iblk m c 3 t) r d]
  unfold resAt
  rw [rd3]
  refine congrArg₂ (· * ·) (Finset.sum_congr rfl fun j hj => ?_) rfl
  refine congrArg₂ (· * ·) rfl ?_
  unfold vOf vN
  rw [dif_pos (Finset.mem_range.1 hj), dif_pos (Finset.mem_range.1 hj), rd2]

theorem coords_at : ∀ t : Fin 256, ((grid0.coords t 0).val = t.val / 128 ∧ (grid0.coords t 1).val = t.val / 8 % 16) ∧ (grid0.coords t 2).val = t.val % 8 := by
  decide +kernel

/-- **The kernel's result array is the result.** -/
theorem arr_res (hA : Fin_qk (argA m c)) : (dats m 0 c).arrAt 5 cfg0.N = res (argA m c) := by
  refine (dats m 0 c).arrAt_eq_of_cover 5 (res (argA m c)) (fun t _ => ?_) fun i => ?_
  · funext y
    obtain ⟨y0, r, d, rfl⟩ : ∃ (y0 : Fin 1) (r : Fin 512) (d : Fin 128), (y : S1x512x128.Idx) = ix3 y0 r d := ⟨y 0, y 1, y 2, eq_ix3 y⟩
    obtain rfl : y0 = 0 := Subsingleton.elim _ _
    refine (flushed_res m c hA t r d).trans ?_
    rw [View.read_apply]
    show resAt (argA m c) _ _ _ _ = res (argA m c) _
    have e0 : (((cfg0.win 5).blk t).view.emb (ix3 (0 : Fin 1) r d : S1x512x128.Idx) : S2x4096x2048.Idx)
        = ix3 (pb t) ⟨512 * (pq t).val + r.val, by omega⟩ ⟨128 * (ph t).val + d.val, by omega⟩ := by
      funext a
      apply Fin.ext
      match a with
      | ⟨0, _⟩ => show (BitVec.ofNat 32 (pb t).val).toNat * 1 + 1 * 0 = (pb t).val; rw [w2]; omega
      | ⟨1, _⟩ => show (BitVec.ofNat 32 (pq t).val).toNat * 512 + 1 * r.val = 512 * (pq t).val + r.val; rw [w8]; omega
      | ⟨2, _⟩ => show (BitVec.ofNat 32 (ph t).val).toNat * 128 + 1 * d.val = 128 * (ph t).val + d.val; rw [w16]; omega
    refine Eq.trans ?_ (congrArg (res (argA m c)) e0).symm
    show resAt (argA m c) (pb t) ⟨512 * (pq t).val + r.val, by omega⟩ (ph t) d
      = resAt (argA m c) (pb t) ⟨512 * (pq t).val + r.val, by omega⟩ (hd ⟨128 * (ph t).val + d.val, by omega⟩) (dm ⟨128 * (ph t).val + d.val, by omega⟩)
    have eh : hd ⟨128 * (ph t).val + d.val, by omega⟩ = ph t := Fin.ext (by show (128 * (ph t).val + d.val) / 128 = _; omega)
    have ed : dm ⟨128 * (ph t).val + d.val, by omega⟩ = d := Fin.ext (by show (128 * (ph t).val + d.val) % 128 = _; omega)
    rw [eh, ed]
  · have h0 : (i 0 : ℕ) < 2 := (i 0).isLt
    have h1 : (i 1 : ℕ) < 4096 := (i 1).isLt
    have h2 : (i 2 : ℕ) < 2048 := (i 2).isLt
    let t : Fin cfg0.N := ⟨128 * (i 0 : ℕ) + 8 * ((i 2 : ℕ) / 128) + (i 1 : ℕ) / 512, by rw [show cfg0.N = 256 from N_0]; omega⟩
    have ht : t.val = 128 * (i 0 : ℕ) + 8 * ((i 2 : ℕ) / 128) + (i 1 : ℕ) / 512 := rfl
    obtain ⟨⟨c0, c1⟩, c2⟩ := coords_at ⟨t.val, by omega⟩
    refine ⟨t, flush0_5 t, ?_⟩
    show i ∈ ((View.whole main_v4).slice (win0_5.rect t)).set
    rw [View.set_slice_whole, Rect.mem_set_unit]
    intro a
    match a with
    | ⟨0, _⟩ =>
      show (BitVec.ofNat 32 (pb t).val).toNat * 1 ≤ (i 0 : ℕ) ∧ (i 0 : ℕ) < (BitVec.ofNat 32 (pb t).val).toNat * 1 + 1
      rw [w2]
      have : (pb t).val = t.val / 128 := c0
      omega
    | ⟨1, _⟩ =>
      show (BitVec.ofNat 32 (pq t).val).toNat * 512 ≤ (i 1 : ℕ) ∧ (i 1 : ℕ) < (BitVec.ofNat 32 (pq t).val).toNat * 512 + 512
      rw [w8]
      have : (pq t).val = t.val % 8 := c2
      omega
    | ⟨2, _⟩ =>
      show (BitVec.ofNat 32 (ph t).val).toNat * 128 ≤ (i 2 : ℕ) ∧ (i 2 : ℕ) < (BitVec.ofNat 32 (ph t).val).toNat * 128 + 128
      rw [w16]
      have : (ph t).val = t.val / 8 % 16 := c1
      omega

/-- The run, read. -/
theorem run (ρ : Dev nD → PrngReg) (hA : ∀ c, Fin_qk (argA m c)) : θ_run defs (onTc (τ := τ) (main (F := Ideal))) ⟨m, fun _ => 0, ρ⟩ fun r => ∀ c : Dev nD,
      r.2.mem ((c : Thread nD τ).loc main_v4) = res (argA m c)
      ∧ r.2.mem ((c : Thread nD τ).loc main_arg0) = m ((c : Thread nD τ).loc main_arg0) :=
  (θ_run defs _ _).mono (fun _ h c => ⟨(h c).1.trans (arr_res m c (hA c)), (h c).2⟩) (Value.run_blocks m ρ)

end Cert.SbIdeal.Body
-- ==== Proof.SbRef.lean ====
/- The stick-breaking attention's reference, read at its elements: the scores, their log-sigmoids, the reverse running sum over
   the keys, the weights and the gated values. -/
module

public import Idealize.ShloMosaic.PureOps.Ideal.Laws
public import Idealize.ShloMosaic.Lib.IdealHost
public import Idealize.ShloMosaic.Lib.WordCmp
public import proofs.«01_k».proof.Proof.SbSteps
public import proofs.«01_k».proof.Proof.SbSpec
public import proofs.«01_k».proof.Proof.Gen.SbRefIdeal.Read

@[expose] public section

set_option maxRecDepth 16384

noncomputable section

namespace Cert.SbRefIdeal.Sum

open Idealize.ShloMosaic Idealize.ShloMosaic.TcCoe Idealize.SL.Sem Idealize.ShloMosaic.ValueIdx
open Cert.SbIdeal.Body (Arr sc scN vN resAt res hd dm Fin_qk sc_real lbR lkR lkm wgt coe_sum coe_max coe_min ofBool_sel)

/-- A left-to-right sum over a list. -/
theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window one key wide in every axis but the last. -/
abbrev Win : Shape := ⟨4, ![1, 1, 1, 4096]⟩

def winEquiv : Win.Idx ≃ Fin 4096 where
  toFun w := w 3
  invFun k := ix4 (0 : Fin 1) (0 : Fin 1) (0 : Fin 1) k
  left_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv _ := rfl

/-- The sum of what follows a key, over a stretch as long as the keys, is the sum over the keys from it on. -/
theorem sum_tail (f : ℕ → EReal) (s : ℕ) : (∑ k : Fin 4096, (if s + k.val < 4096 then f (s + k.val) else 0)) = ∑ j ∈ Finset.Ico s 4096, f j := by
  rw [Fin.sum_univ_eq_sum_range (fun k => if s + k < 4096 then f (s + k) else 0) 4096, ← Finset.sum_filter, Finset.sum_Ico_eq_sum_range]
  refine Finset.sum_congr ?_ fun _ _ => rfl
  ext k; simp; omega

/-- The reverse running sum: at key `s`, the sum over the keys from `s` on. -/
theorem rev_cumsum (x : (⟨4, ![2, 16, 4096, 4096]⟩ : Shape).Idx → EReal)
    (h : (⟨4, ![2, 16, 4096, 4096]⟩ : Shape).ReduceWindows (![1, 1, 1, 4096] : Fin 4 → ℕ) ![1, 1, 1, 1] ![0, 0, 0, 0] ![0, 0, 0, 4095] ⟨4, ![2, 16, 4096, 4096]⟩)
    (b : Fin 2) (hh : Fin 16) (t s : Fin 4096) (f : ℕ → EReal) (hf : ∀ (j : ℕ) (hj : j < 4096), x (ix4 b hh t ⟨j, hj⟩) = f j) :
    Ideal.hostReduceWindowAdd (![1, 1, 1, 4096] : Fin 4 → ℕ) ![1, 1, 1, 1] ![0, 0, 0, 0] ![0, 0, 0, 4095] h x 0 (ix4 b hh t s)
      = ∑ j ∈ Finset.Ico s.val 4096, f j := by
  unfold Ideal.hostReduceWindowAdd Host.reduceWindow
  refine (foldl_sum _ _ _).trans ?_
  rw [zero_add, ← Fin.sum_univ_def]
  rw [← sum_tail f s.val]
  rw [← Equiv.sum_comp (Win.rowMajor.symm.trans winEquiv) (fun k : Fin 4096 => if s.val + k.val < 4096 then f (s.val + k.val) else 0)]
  refine Finset.sum_congr rfl fun n _ => ?_
  show _ = if s.val + (Win.rowMajor.symm n 3).val < 4096 then f (s.val + (Win.rowMajor.symm n 3).val) else 0
  have w0 : (Win.rowMajor.symm n 0).val = 0 := Nat.lt_one_iff.1 (Win.rowMajor.symm n 0).isLt
  have w1 : (Win.rowMajor.symm n 1).val = 0 := Nat.lt_one_iff.1 (Win.rowMajor.symm n 1).isLt
  have w2 : (Win.rowMajor.symm n 2).val = 0 := Nat.lt_one_iff.1 (Win.rowMajor.symm n 2).isLt
  by_cases hk : s.val + (Win.rowMajor.symm n 3).val < 4096
  · rw [if_pos hk, dif_pos]
    · rw [← hf _ hk]
      congr 1
      funext a
      apply Fin.ext
      match a with
      | ⟨0, _⟩ => show b.val * 1 + (Win.rowMajor.symm n 0).val - 0 = b.val; omega
      | ⟨1, _⟩ => show hh.val * 1 + (Win.rowMajor.symm n 1).val - 0 = hh.val; omega
      | ⟨2, _⟩ => show t.val * 1 + (Win.rowMajor.symm n 2).val - 0 = t.val; omega
      | ⟨3, _⟩ => show s.val * 1 + (Win.rowMajor.symm n 3).val - 0 = s.val + (Win.rowMajor.symm n 3).val; omega
    · intro a
      match a with
      | ⟨0, _⟩ => show 0 ≤ b.val * 1 + (Win.rowMajor.symm n 0).val ∧ b.val * 1 + (Win.rowMajor.symm n 0).val - 0 < 2; omega
      | ⟨1, _⟩ => show 0 ≤ hh.val * 1 + (Win.rowMajor.symm n 1).val ∧ hh.val * 1 + (Win.rowMajor.symm n 1).val - 0 < 16; omega
      | ⟨2, _⟩ => show 0 ≤ t.val * 1 + (Win.rowMajor.symm n 2).val ∧ t.val * 1 + (Win.rowMajor.symm n 2).val - 0 < 4096; omega
      | ⟨3, _⟩ => show 0 ≤ s.val * 1 + (Win.rowMajor.symm n 3).val ∧ s.val * 1 + (Win.rowMajor.symm n 3).val - 0 < 4096; omega
  · rw [if_neg hk, dif_neg]
    intro hin
    have h3 : 0 ≤ s.val * 1 + (Win.rowMajor.symm n 3).val ∧ s.val * 1 + (Win.rowMajor.symm n 3).val - 0 < 4096 := hin 3
    omega

/-- The reference's spelling of the log-sigmoid, at a real. -/
theorem ls_elem (x : ℝ) :
    -(Scalar.select (Ideal.cmp .une (-(x : EReal) - 0) (-(x : EReal) - 0)) (-(x : EReal) + 0)
        (max (-(x : EReal)) 0 + Ideal.log1p (Ideal.exp (-(max (-(x : EReal) - 0) (-(-(x : EReal) - 0))))))) = (lbR x : EReal) := by
  have e0 : Ideal.cmp .une (-(x : EReal) - 0) (-(x : EReal) - 0) = 0#1 := by simp [Ideal.cmp]
  rw [e0]
  show -(max (-(x : EReal)) 0 + Ideal.log (1 + Ideal.exp (-(max (-(x : EReal) - 0) (-(-(x : EReal) - 0)))))) = _
  rw [sub_zero, ← EReal.coe_neg, ← EReal.coe_neg, ← coe_max, ← EReal.coe_neg, Ideal.exp_coe, ← EReal.coe_one, ← EReal.coe_add, Ideal.log_coe,
    if_neg (not_le.2 (by positivity)), ← EReal.coe_zero, ← coe_max, ← EReal.coe_add, ← EReal.coe_neg]
  congr 1
  unfold lbR
  have e1 : min x 0 = -max (-x) 0 := by rw [← neg_zero, max_neg_neg, neg_neg, neg_zero]
  rw [e1, neg_neg, max_comm (-x) x, zero_sub]
  ring

theorem lkR_eq (z : ℝ) : lkR z = lbR (-z) := by
  unfold lkR lbR
  rw [neg_neg, max_comm (-z) z]
  have : min z 0 - z = min (-z) 0 := by
    rcases le_total z 0 with h | h
    · rw [min_eq_left h, min_eq_right (by linarith)]; ring
    · rw [min_eq_right h, min_eq_left (by linarith)]; ring
  linarith

end Cert.SbRefIdeal.Sum
-- ==== Proof.SbRefVal.lean ====
/- The stick-breaking attention's reference computes the result array: its stages at their elements, and the precondition. -/
module

public import proofs.«01_k».proof.Proof.SbRef
public import proofs.«01_k».proof.Pre_finite_qk

@[expose] public section

set_option maxRecDepth 16384

noncomputable section

namespace Cert.SbRefIdeal.Sum

open Idealize.ShloMosaic Idealize.ShloMosaic.TcCoe Idealize.SL.Sem Idealize.ShloMosaic.ValueIdx
open Cert.SbRefIdeal Cert.SbRefIdeal.Gen Cert.SbRefIdeal.Read
open Cert.SbIdeal.Body (Arr sc scN vN resAt res hd dm Fin_qk sc_real lbR lkR lkm wgt coe_sum coe_max coe_min ofBool_sel)

variable (A : Arr)

theorem score_at (b : Fin 2) (h : Fin 16) (t j : Fin 4096) : val_main_v8 (F := Ideal) A (ix4 b h t j) = sc A b h t j := by
  rw [val_main_v8_apply]
  unfold sc
  refine Finset.sum_congr rfl fun k _ => ?_
  rw [val_main_v5_apply, val_main_v1_apply, val_main_v0_apply, val_main_v6_apply, val_main_v2_apply, val_main_v0_apply]
  refine congrArg₂ (fun x y : EReal => x * y) (congrArg A ?_) (congrArg A ?_)
  · funext a
    apply Fin.ext
    match a with
    | ⟨0, _⟩ => show (((b.val * 4096 + t.val) * 16 + h.val) * 128 + k.val) / 8388608 = b.val; omega
    | ⟨1, _⟩ => show (((b.val * 4096 + t.val) * 16 + h.val) * 128 + k.val) / 2048 % 4096 = t.val; omega
    | ⟨2, _⟩ => show (((b.val * 4096 + t.val) * 16 + h.val) * 128 + k.val) % 2048 = 128 * h.val + k.val; omega
  · funext a
    apply Fin.ext
    match a with
    | ⟨0, _⟩ => show (((b.val * 4096 + j.val) * 16 + h.val) * 128 + k.val) / 8388608 = b.val; omega
    | ⟨1, _⟩ => show (((b.val * 4096 + j.val) * 16 + h.val) * 128 + k.val) / 2048 % 4096 = j.val; omega
    | ⟨2, _⟩ => show 2048 + (((b.val * 4096 + j.val) * 16 + h.val) * 128 + k.val) % 2048 = 2048 + 128 * h.val + k.val; omega

theorem value_at (b : Fin 2) (h : Fin 16) (j : Fin 4096) (d : Fin 128) : val_main_v7 (F := Ideal) A (ix4 b j h d) = vN A b h j.val d := by
  rw [val_main_v7_apply, val_main_v3_apply, val_main_v0_apply]
  unfold vN
  rw [dif_pos j.isLt]
  refine congrArg A ?_
  funext a
  apply Fin.ext
  match a with
  | ⟨0, _⟩ => show (((b.val * 4096 + j.val) * 16 + h.val) * 128 + d.val) / 8388608 = b.val; omega
  | ⟨1, _⟩ => show (((b.val * 4096 + j.val) * 16 + h.val) * 128 + d.val) / 2048 % 4096 = j.val; omega
  | ⟨2, _⟩ => show 4096 + (((b.val * 4096 + j.val) * 16 + h.val) * 128 + d.val) % 2048 = 4096 + 128 * h.val + d.val; omega

theorem mask_at (t j : Fin 4096) : val_main_v14 (F := Ideal) (ix2 t j) = BitVec.ofBool (decide (j.val < t.val)) := by
  rw [val_main_v14_apply, val_main_v12_apply, val_main_v10_apply, val_main_v9_apply, val_main_v13_apply, val_main_v11_apply, val_main_v9_apply]
  exact WordCmp.cmpi_slt_ofNat (by show j.val < 2 ^ 31; omega) (by show t.val < 2 ^ 31; omega)

variable {A} (hA : Fin_qk A)
include hA

theorem keep_at (b : Fin 2) (h : Fin 16) (t j : Fin 4096) :
    val_main_v16 (F := Ideal) A (ix4 b h t j) = (lkR (scN A b h t j.val) : EReal) := by
  have e : val_main_v15 (F := Ideal) A (ix4 b h t j) = ((-(scN A b h t j.val) : ℝ) : EReal) := by
    rw [val_main_v15_apply, score_at, sc_real hA]; rfl
  rw [lkR_eq, ← ls_elem, ← e]
  rw [val_main_v16_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_v0_apply, val_main_call0_call0_v0_apply,
    val_main_call0_call0_v2_apply, val_main_call0_call0_v5_apply]
  simp only [val_main_call0_call0_cst_apply]
  rw [show FloatOps.ofBits (F := Ideal) .f32 0x00000000#32 = (0 : EReal) from Ideal.ofBits_zero_f32]
  rfl

theorem take_at (b : Fin 2) (h : Fin 16) (t j : Fin 4096) :
    val_main_v20 (F := Ideal) A (ix4 b h t j) = (lbR (scN A b h t j.val) : EReal) := by
  have e : val_main_v8 (F := Ideal) A (ix4 b h t j) = (scN A b h t j.val : EReal) := by
    rw [score_at, sc_real hA]
  rw [← ls_elem, ← e]
  rw [val_main_v20_apply, val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_v0_apply, val_main_call3_call0_v0_apply,
    val_main_call3_call0_v2_apply, val_main_call3_call0_v5_apply]
  simp only [val_main_call3_call0_cst_apply]
  rw [show FloatOps.ofBits (F := Ideal) .f32 0x00000000#32 = (0 : EReal) from Ideal.ofBits_zero_f32]
  rfl

theorem kept_at (b : Fin 2) (h : Fin 16) (t j : Fin 4096) :
    val_main_v17 (F := Ideal) A (ix4 b h t j) = (lkm t.val (scN A b h t) j.val : EReal) := by
  rw [val_main_v17_apply, keep_at hA, val_main_call1_v1_apply, val_main_call1_v2_apply, val_main_call1_v0_apply, val_main_cst_apply]
  rw [show idx_main_call1_v1 (ix4 b h t j) = ix2 t j from funext fun a => Fin.ext (match a with | ⟨0, _⟩ => rfl | ⟨1, _⟩ => rfl)]
  rw [mask_at, show FloatOps.ofBits (F := Ideal) .f32 0x00000000#32 = (0 : EReal) from Ideal.ofBits_zero_f32, ofBool_sel]
  unfold lkm
  by_cases hj : j.val < t.val
  · rw [if_pos hj, if_pos hj]
  · rw [if_neg hj, if_neg hj, EReal.coe_zero]

theorem after_at (b : Fin 2) (h : Fin 16) (t j : Fin 4096) :
    val_main_v19 (F := Ideal) A (ix4 b h t j) = ((∑ k ∈ Finset.Ico (j.val + 1) 4096, lkm t.val (scN A b h t) k : ℝ) : EReal) := by
  have e0 : ∀ i, val_main_call2_v0 (F := Ideal) i = (0 : EReal) := fun i => by
    rw [val_main_call2_v0_apply, val_main_call2_cst_apply]; exact Ideal.ofBits_zero_f32
  have e : val_main_v18 (F := Ideal) A (ix4 b h t j) = ((∑ k ∈ Finset.Ico j.val 4096, lkm t.val (scN A b h t) k : ℝ) : EReal) := by
    rw [coe_sum]
    refine Eq.trans ?_ (rev_cumsum (val_main_v17 (F := Ideal) A)
      reduceWindows_S2x16x4096x4096_S2x16x4096x4096_w1s1p0_0_w1s1p0_0_w1s1p0_0_w4096s1p0_4095 b h t j
      (fun k => (lkm t.val (scN A b h t) k : EReal)) (fun k hk => kept_at hA b h t ⟨k, hk⟩))
    unfold val_main_v18 Host.reduceWindowAdd
    rw [e0]
    rfl
  rw [val_main_v19_apply, e, kept_at hA]
  show ((_ : ℝ) : EReal) - ((_ : ℝ) : EReal) = _
  rw [← EReal.coe_sub, Finset.sum_eq_sum_Ico_succ_bot j.isLt, add_sub_cancel_left]

theorem weight_at (b : Fin 2) (h : Fin 16) (t j : Fin 4096) :
    val_main_v23 (F := Ideal) A (ix4 b h t j) = (wgt t.val (scN A b h t) j.val : EReal) := by
  rw [val_main_v23_apply, val_main_v22_apply, val_main_v21_apply, after_at hA, take_at hA, val_main_call4_v1_apply, val_main_call4_v2_apply,
    val_main_call4_v0_apply, val_main_cst_0_apply]
  rw [show idx_main_call4_v1 (ix4 b h t j) = ix2 t j from funext fun a => Fin.ext (match a with | ⟨0, _⟩ => rfl | ⟨1, _⟩ => rfl)]
  rw [mask_at, show FloatOps.ofBits (F := Ideal) .f32 0x00000000#32 = (0 : EReal) from Ideal.ofBits_zero_f32, ofBool_sel]
  show (if j.val < t.val then Ideal.exp (((_ : ℝ) : EReal) + ((_ : ℝ) : EReal)) else 0) = _
  rw [← EReal.coe_add, Ideal.exp_coe]
  unfold wgt
  by_cases hj : j.val < t.val
  · rw [if_pos hj, if_pos hj]
  · rw [if_neg hj, if_neg hj, EReal.coe_zero]

theorem result_eq : val_main_v28 (F := Ideal) A = res A := by
  funext i
  obtain ⟨b, t, e, rfl⟩ : ∃ (b : Fin 2) (t : Fin 4096) (e : Fin 2048), i = ix3 b t e := ⟨i 0, i 1, i 2, eq_ix3 i⟩
  rw [val_main_v28_apply, val_main_v27_apply, val_main_v26_apply, val_main_v25_apply, val_main_v24_apply, val_main_v4_apply, val_main_v0_apply]
  show (∑ k : Fin 4096, _ : EReal) * _ = resAt A b t (hd e) (dm e)
  unfold resAt
  refine congrArg₂ (fun x y : EReal => x * y) ?_ (congrArg A ?_)
  · rw [← Fin.sum_univ_eq_sum_range (fun j => (wgt t.val (scN A b (hd e) t) j : EReal) * vN A b (hd e) j (dm e)) 4096]
    refine Finset.sum_congr rfl fun k _ => ?_
    rw [← weight_at hA, ← value_at, mul_comm]
    refine congrArg₂ (fun x y : EReal => x * y) (congrArg _ ?_) (congrArg _ ?_)
    · funext a
      apply Fin.ext
      match a with
      | ⟨0, _⟩ => show ((b.val * 4096 + t.val) * 2048 + e.val) / 8388608 = b.val; omega
      | ⟨1, _⟩ => show ((b.val * 4096 + t.val) * 2048 + e.val) / 128 % 16 = e.val / 128; omega
      | ⟨2, _⟩ => show ((b.val * 4096 + t.val) * 2048 + e.val) / 2048 % 4096 = t.val; omega
      | ⟨3, _⟩ => rfl
    · funext a
      apply Fin.ext
      match a with
      | ⟨0, _⟩ => show ((b.val * 4096 + t.val) * 2048 + e.val) / 8388608 = b.val; omega
      | ⟨1, _⟩ => rfl
      | ⟨2, _⟩ => show ((b.val * 4096 + t.val) * 2048 + e.val) / 128 % 16 = e.val / 128; omega
      | ⟨3, _⟩ => show ((b.val * 4096 + t.val) * 2048 + e.val) % 128 = e.val % 128; omega
  · funext a
    apply Fin.ext
    match a with
    | ⟨0, _⟩ => rfl
    | ⟨1, _⟩ => rfl
    | ⟨2, _⟩ => show 6144 + e.val = 6144 + 128 * (e.val / 128) + e.val % 128; omega

end Cert.SbRefIdeal.Sum
-- ==== Proof.SbClaims.lean ====
/- The stick-breaking attention's claims. -/
module

public import proofs.«01_k».proof.Defs
public import proofs.«01_k».proof.Proof.SbArr
public import proofs.«01_k».proof.Proof.SbRefVal
public import proofs.«01_k».proof.Proof.Gen.Pre_finite_qk
public import proofs.«01_k».proof.Proof.Gen.Sb.Frame
public import proofs.«01_k».proof.Proof.Gen.SbIdeal.Frame
public import proofs.«01_k».proof.Proof.Gen.SbRefIdeal.Run
public import Idealize.ShloMosaic.Adequacy
public import Idealize.ShloMosaic.Init

@[expose] public section

noncomputable section

namespace Cert.SbClaims

open Idealize.ShloMosaic Idealize.ShloMosaic.TcCoe Idealize.SL.Sem Idealize.ShloMosaic.ValueIdx

/-- The bound the precondition compares with is the positive infinity. -/
theorem bound_top : Ideal.ofBits .bf16 0x7F80#16 = (⊤ : EReal) := by simp [Ideal.ofBits, Ideal.ieee]

/-- A number of absolute value below the positive infinity is real. -/
theorem real_of_abs_lt {x : EReal} (h : Ideal.cmp .olt (max x (-x)) ⊤ = 1#1) : ∃ r : ℝ, x = (r : EReal) := by
  have hlt : max x (-x) < ⊤ := by
    by_contra hn
    rw [show Ideal.cmp .olt (max x (-x)) ⊤ = 0#1 by simp [Ideal.cmp, hn]] at h
    exact absurd h (by decide)
  rw [max_lt_iff] at hlt
  refine ⟨x.toReal, (EReal.coe_toReal hlt.1.ne ?_).symm⟩
  rintro rfl
  simp at hlt

/-- The precondition, read. -/
theorem fin_qk (A : Cert.SbIdeal.Body.Arr) (h : Cert.Pre_finite_qk.fn (F := Ideal) A = fun _ => 1#1) : Cert.SbIdeal.Body.Fin_qk A := by
  intro b t e he
  have hi := congrFun h (ix3 b t ⟨e.val, he⟩)
  unfold Cert.Pre_finite_qk.fn at hi
  have e1 : extractStridedSlice Cert.Pre_finite_qk.S2x4096x4096 ![0, 0, 0] A Cert.Pre_finite_qk.Facts.slices_S2x4096x8192_S2x4096x4096_0_0_0
      (ix3 b t ⟨e.val, he⟩) = A (ix3 b t e) :=
    extractStridedSlice_apply ![0, 0, 0] A _ _ (ix3 b t e) (fun a => match a with
      | ⟨0, _⟩ => by show b.val = 0 + b.val; omega
      | ⟨1, _⟩ => by show t.val = 0 + t.val; omega
      | ⟨2, _⟩ => by show e.val = 0 + e.val; omega)
  have hi' : Ideal.cmp .olt (max (A (ix3 b t e)) (-(A (ix3 b t e)))) (Ideal.ofBits .bf16 0x7F80#16) = 1#1 := by
    rw [← e1]; exact hi
  rw [bound_top] at hi'
  exact real_of_abs_lt hi'

theorem frame_p : Cert.quiescent_Sb := fun m ρ _ => Cert.Sb.Gen.frame m ρ
theorem frame_pi : Cert.quiescent_SbIdeal := fun m ρ _ => Cert.SbIdeal.Gen.frame m ρ
theorem frame_pi_pre : Cert.quiescent_SbIdeal_pre_finite_qk := fun m ρ _ => Cert.SbIdeal.Gen.frame m ρ

theorem frame_ri : Cert.quiescent_SbRefIdeal := fun m ρ _ =>
  (θ_run Cert.SbRefIdeal.defs _ _).mono (fun r h => ⟨fun c => (h c).2, sem_eq_zero_of_no_sems (by decide) r.2⟩)
    (Cert.SbRefIdeal.Value.run (F := Ideal) m ρ)

theorem frame_ri_pre : Cert.quiescent_SbRefIdeal_pre_finite_qk := fun m ρ _ => frame_ri m ρ trivial

theorem preserves : Cert.preserves_Sb_SbIdeal := trivial

/-- Both programs end with the result array of the arguments they share. -/
theorem algebraic : Cert.algebraic_SbIdeal_SbRefIdeal_pre_finite_qk := by
  intro m g m' g' hp ha
  have hA : ∀ c, Cert.SbIdeal.Body.Fin_qk (Cert.SbIdeal.Body.argA m c) := fun c => fin_qk _ (hp c)
  refine ⟨fun c => Cert.SbIdeal.Body.res (Cert.SbIdeal.Body.argA m c), Cert.SbIdeal.Body.run m g hA, ?_⟩
  refine (θ_run Cert.SbRefIdeal.defs _ _).mono (fun r h c => ⟨(h c).1.trans ?_, (h c).2⟩) (Cert.SbRefIdeal.Value.run (F := Ideal) m' g')
  rw [Cert.SbRefIdeal.Read.val_main_v28_eq, ha c]
  exact Cert.SbRefIdeal.Sum.result_eq (hA c)

end Cert.SbClaims
-- ==== Proof.PaBody.lean ====
/- The projection kernel's body: what each case of the body leaves in its output block and in the normalised rows it keeps,
   as one pure term of the blocks it read. -/
module

public import proofs.«01_k».proof.Proof.Gen.PaIdeal.Value

@[expose] public section

set_option maxRecDepth 16384

noncomputable section

namespace Cert.PaIdeal.Body

open Cert.PaIdeal Cert.PaIdeal.Gen Idealize.ShloMosaic Idealize.ShloMosaic.TcCoe Idealize.SL.Sem

variable {F : FTy → Type} [FloatOps F]

theorem z2 : (![0, 0] : Fin 2 → ℕ) = fun _ => 0 := by funext a; fin_cases a <;> rfl

variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2048x1024 .bf16) (harg4 : arg4.IsWhole)
  (arg5 : Memref sig .tc .vmem S1024x1024 .bf16) (harg5 : arg5.IsWhole) (arg6 : Memref sig .tc .vmem S1024x2048 .bf16) (harg6 : arg6.IsWhole)
  (x0 : Vec F S1024x2048 .f32) (x1 : Vec F S1x2048 .f32) (x2 : Vec F S2048x1024 .bf16) (xs : Vec F S1024x2048 .bf16)

theorem ld2 : View.readAt (Elt F) arg2.view (Rect.unit (s := S1024x2048) ![0, 0] S1024x2048.size inb_S1024x2048_S1024x2048_0_0).toLoadRect (harg2.unread x0) = x0 := by
  rw [View.readAt_eq_ld, harg2.read_unread]; exact View.ld_unit_zero z2 _ _
theorem ld3 : View.readAt (Elt F) arg3.view (Rect.unit (s := S1x2048) ![0, 0] S1x2048.size inb_S1x2048_S1x2048_0_0).toLoadRect (harg3.unread x1) = x1 := by
  rw [View.readAt_eq_ld, harg3.read_unread]; exact View.ld_unit_zero z2 _ _
theorem ld4 : View.readAt (Elt F) arg4.view (Rect.unit (s := S2048x1024) ![0, 0] S2048x1024.size inb_S2048x1024_S2048x1024_0_0).toLoadRect (harg4.unread x2) = x2 := by
  rw [View.readAt_eq_ld, harg4.read_unread]; exact View.ld_unit_zero z2 _ _
theorem ld6 : View.readAt (Elt F) arg6.view (Rect.unit (s := S1024x2048) ![0, 0] S1024x2048.size inb_S1024x2048_S1024x2048_0_0).toLoadRect (harg6.unread xs) = xs := by
  rw [View.readAt_eq_ld, harg6.read_unread]; exact View.ld_unit_zero z2 _ _

/-- Reading back the rows just kept. -/
theorem rc6 (w : Vec F S1024x2048 .bf16) :
    arg6.view.readCov [⟨Rect.unit (s := S1024x2048) ![0, 0] S1024x2048.size inb_S1024x2048_S1024x2048_0_0, w⟩]
      (Rect.unit (s := S1024x2048) ![0, 0] S1024x2048.size inb_S1024x2048_S1024x2048_0_0).toLoadRect = w := by
  rw [View.readCov_eq_canon_ld _ _ _ (fun y => ⟨_, List.mem_cons_self, View.mem_set_unit_zero z2 inb_S1024x2048_S1024x2048_0_0 y⟩), View.ld_unit_zero z2]
  exact View.canon_cons_unit_zero z2 _ _ _

theorem sout_A (hc0 : cond0_0 i) (hc1 : cond0_1 i) (hc2 : ¬cond0_2 i) (hc3 : ¬cond0_3 i) :
    sout0_A_0 c i arg2 harg2 arg3 harg3 arg4 harg4 arg5 harg5 arg6 harg6 hc0 hc1 hc2 hc3 x0 x1 x2 = k0_pay1 x0 x1 := by
  unfold sout0_A_0 kernelRun0_A
  dsimp only
  sl_unfold_words
  rw [View.read_writes_eq_canon _ _ _ (fun y => ⟨_, List.mem_singleton_self _, View.mem_set_unit_zero z2 inb_S1024x2048_S1024x2048_0_0 y⟩)]
  refine (View.canon_unit_zero z2 _ _).trans ?_
  rw [ld2, ld3]

theorem out_A (hc0 : cond0_0 i) (hc1 : cond0_1 i) (hc2 : ¬cond0_2 i) (hc3 : ¬cond0_3 i) :
    out0_A_3 c i arg2 harg2 arg3 harg3 arg4 harg4 arg5 harg5 arg6 harg6 hc0 hc1 hc2 hc3 x0 x1 x2 = k0_pay3 (k0_pay1 x0 x1) x2 := by
  unfold out0_A_3 kernelRun0_A
  dsimp only
  rw [View.read_writes_eq_canon _ _ _ (fun y => ⟨_, List.mem_singleton_self _, View.mem_set_unit_zero z2 inb_S1024x1024_S1024x1024_0_0 y⟩)]
  refine (View.canon_unit_zero z2 _ _).trans ?_
  sl_unfold_words
  rw [ld2, ld3, ld4]
  rw [rc6]

theorem out_B (hc0 : ¬cond0_0 i) (hc1 : cond0_1 i) (hc2 : ¬cond0_2 i) (hc3 : ¬cond0_3 i) :
    out0_B_3 c i arg2 harg2 arg3 harg3 arg4 harg4 arg5 harg5 arg6 harg6 hc0 hc1 hc2 hc3 x0 x1 x2 xs = k0_pay3 xs x2 := by
  unfold out0_B_3 kernelRun0_B
  dsimp only
  rw [View.read_writes_eq_canon _ _ _ (fun y => ⟨_, List.mem_singleton_self _, View.mem_set_unit_zero z2 inb_S1024x1024_S1024x1024_0_0 y⟩)]
  refine (View.canon_unit_zero z2 _ _).trans ?_
  rw [ld4, ld6]

theorem out_C (hc0 : ¬cond0_0 i) (hc1 : ¬cond0_1 i) (hc2 : cond0_2 i) (hc3 : ¬cond0_3 i) :
    out0_C_3 c i arg2 harg2 arg3 harg3 arg4 harg4 arg5 harg5 arg6 harg6 hc0 hc1 hc2 hc3 x0 x1 x2 xs = k0_pay4 xs x2 := by
  unfold out0_C_3 kernelRun0_C
  dsimp only
  rw [View.read_writes_eq_canon _ _ _ (fun y => ⟨_, List.mem_singleton_self _, View.mem_set_unit_zero z2 inb_S1024x1024_S1024x1024_0_0 y⟩)]
  refine (View.canon_unit_zero z2 _ _).trans ?_
  rw [ld4, ld6]

theorem out_D (hc0 : ¬cond0_0 i) (hc1 : ¬cond0_1 i) (hc2 : ¬cond0_2 i) (hc3 : cond0_3 i) :
    out0_D_3 c i arg2 harg2 arg3 harg3 arg4 harg4 arg5 harg5 arg6 harg6 hc0 hc1 hc2 hc3 x0 x1 x2 xs = k0_pay5 xs x2 := by
  unfold out0_D_3 kernelRun0_D
  dsimp only
  rw [View.read_writes_eq_canon _ _ _ (fun y => ⟨_, List.mem_singleton_self _, View.mem_set_unit_zero z2 inb_S1024x1024_S1024x1024_0_0 y⟩)]
  refine (View.canon_unit_zero z2 _ _).trans ?_
  rw [ld4, ld6]

end Cert.PaIdeal.Body

end
-- ==== Proof.PaSpec.lean ====
/- The projection call's result array, as one function of its three arguments: each row divided by its root mean square and scaled,
   contracted with the weights, and each quarter of the columns finished in its own way. -/
module

public import Idealize.ShloMosaic.Lib.Pointwise

@[expose] public section

noncomputable section

namespace Cert.PaSpec

open Idealize.ShloMosaic

abbrev X : Type := FVec Ideal ⟨2, ![8192, 2048]⟩ .f32
abbrev G : Type := FVec Ideal ⟨1, ![2048]⟩ .f32
abbrev W : Type := FVec Ideal ⟨2, ![2048, 8192]⟩ .f32

/-- A row of `x` scaled to unit mean square, times the gain. -/
def hN (x : X) (g : G) (r : Fin 8192) (k : Fin 2048) : EReal :=
  x (ix2 r k) * Ideal.rsqrt (Ideal.div (∑ l : Fin 2048, x (ix2 r l) * x (ix2 r l)) (Ideal.ofBits .f32 0x45000000#32) + Ideal.ofBits .f32 0x358637BD#32) * g (ix1 k)

/-- The contraction with the weights. -/
def acc (x : X) (g : G) (w : W) (r : Fin 8192) (j : Fin 8192) : EReal := ∑ k : Fin 2048, hN x g r k * w (ix2 k j)

/-- The finish of a column. -/
def fin (j : ℕ) (a : EReal) : EReal :=
  if j < 2048 then a * Ideal.ofBits .f32 0x3DB504F3#32
  else if j < 6144 then a
  else a * Ideal.div 1 (1 + Ideal.exp (-a))

def res (x : X) (g : G) (w : W) : FVec Ideal ⟨2, ![8192, 8192]⟩ .bf16 := fun i => fin (i 1).val (acc x g w (i 0) (i 1))

end Cert.PaSpec

end
-- ==== Proof.PaArr.lean ====
/- The projection kernel's result array: the rows it keeps are the normalised rows of the current row block, every grid point writes
   its block of the result, and the blocks cover the array. -/
module

public import Idealize.ShloMosaic.Lib.StableHlo.Run
public import proofs.«01_k».proof.Proof.PaBody
public import proofs.«01_k».proof.Proof.PaSpec

@[expose] public section

set_option maxRecDepth 16384

noncomputable section

namespace Cert.PaIdeal.Body

open Cert.PaIdeal Cert.PaIdeal.Gen Idealize.ShloMosaic Idealize.ShloMosaic.TcCoe Idealize.SL.Sem
open Cert.PaSpec (X G W hN acc fin res)

/-! ## The body's terms at an element -/

theorem pay1_at (x0 : Vec Ideal S1024x2048 .f32) (x1 : Vec Ideal S1x2048 .f32) (r : Fin 1024) (k : Fin 2048) :
    k0_pay1 x0 x1 (ix2 r k) = x0 (ix2 r k) * Ideal.rsqrt (Ideal.div (∑ l : Fin 2048, x0 (ix2 r l) * x0 (ix2 r l)) (Ideal.ofBits .f32 0x45000000#32) + Ideal.ofBits .f32 0x358637BD#32) * x1 (ix2 0 k) := by
  pointwise [k0_pay1]

theorem pay3_at (h : Vec Ideal S1024x2048 .bf16) (w : Vec Ideal S2048x1024 .bf16) (r j : Fin 1024) :
    k0_pay3 h w (ix2 r j) = (∑ k : Fin 2048, h (ix2 r k) * w (ix2 k j)) * Ideal.ofBits .f32 0x3DB504F3#32 := by
  pointwise [k0_pay3, k0_pay2]

theorem pay4_at (h : Vec Ideal S1024x2048 .bf16) (w : Vec Ideal S2048x1024 .bf16) (r j : Fin 1024) :
    k0_pay4 h w (ix2 r j) = ∑ k : Fin 2048, h (ix2 r k) * w (ix2 k j) := by
  pointwise [k0_pay4, k0_pay2]

theorem pay5_at (h : Vec Ideal S1024x2048 .bf16) (w : Vec Ideal S2048x1024 .bf16) (r j : Fin 1024) :
    k0_pay5 h w (ix2 r j) = (∑ k : Fin 2048, h (ix2 r k) * w (ix2 k j)) * Ideal.div 1 (1 + Ideal.exp (-(∑ k : Fin 2048, h (ix2 r k) * w (ix2 k j)))) := by
  pointwise [k0_pay5, k0_pay2]
  rw [sub_eq_add_neg, zero_add]

/-! ## The blocks a point reads -/

variable (m : (ℓ : Loc nD τ sig) → Buf (Elt Ideal) ℓ) (c : Dev nD)

def argX : X := m ((c : Thread nD τ).loc main_arg0)
def argG : G := m ((c : Thread nD τ).loc main_arg1)
def argW : W := m ((c : Thread nD τ).loc main_arg2)

theorem lt64 (t : Fin cfg0.N) : t.val < 64 := lt_of_lt_of_eq t.isLt (show cfg0.N = 64 from N_0)
theorem row_lt (t : Fin cfg0.N) (r : Fin 1024) : 1024 * (t.val / 8) + r.val < 8192 := by have := lt64 t; omega
theorem col_lt (t : Fin cfg0.N) (r : Fin 1024) : 1024 * (t.val % 8) + r.val < 8192 := by omega

theorem c0_at : ∀ t : Fin cfg0.N, (cc0_transform_0 (grid0.coords t) 0 = t.val / 8 ∧ cc0_transform_0 (grid0.coords t) 1 = 0) ∧ (cc0_transform_2 (grid0.coords t) 0 = 0 ∧ cc0_transform_2 (grid0.coords t) 1 = t.val % 8) ∧ (cc0_transform_1 (grid0.coords t) 0 = 0 ∧ cc0_transform_1 (grid0.coords t) 1 = 0) :=
  (by decide +kernel : ∀ t : Fin grid0.N, (cc0_transform_0 (grid0.coords t) 0 = t.val / 8 ∧ cc0_transform_0 (grid0.coords t) 1 = 0) ∧ (cc0_transform_2 (grid0.coords t) 0 = 0 ∧ cc0_transform_2 (grid0.coords t) 1 = t.val % 8) ∧ (cc0_transform_1 (grid0.coords t) 0 = 0 ∧ cc0_transform_1 (grid0.coords t) 1 = 0))

theorem rd0 (t : Fin cfg0.N) (r : Fin 1024) (k : Fin 2048) :
    (iblk m c 0 t : Vec Ideal S1024x2048 .f32) (ix2 r k) = argX m c (ix2 ⟨1024 * (t.val / 8) + r.val, row_lt t r⟩ k) := by
  unfold iblk
  rw [View.read_apply]
  show V m c main_arg0 _ = m ((c : Thread nD τ).loc main_arg0) _
  rw [V_main_arg0]
  congr 1
  funext a
  apply Fin.ext
  obtain ⟨⟨e0, e1⟩, -⟩ := c0_at t
  match a with
  | ⟨0, _⟩ => show cc0_transform_0 (grid0.coords t) 0 * 1024 + 1 * r.val = 1024 * (t.val / 8) + r.val; omega
  | ⟨1, _⟩ => show cc0_transform_0 (grid0.coords t) 1 * 2048 + 1 * k.val = k.val; omega

theorem V_gain : V m c main_v1 = (shapeCast S1x2048 (m ((c : Thread nD τ).loc main_arg1) : (⟨S2048, .f32⟩ : BufTy).Contents (Elt Ideal)) Facts₀.shapeCasts_S2048_S1x2048 : (⟨S1x2048, .f32⟩ : BufTy).Contents (Elt Ideal)) := by
  unfold_abbrev_sides
  after_results
  rfl

theorem V_weight : V m c main_v0 = (truncf (F := Ideal) .bf16 (m ((c : Thread nD τ).loc main_arg2) : (⟨S2048x8192, .f32⟩ : BufTy).Contents (Elt Ideal)) Facts₀.bitsLt_bf16_f32 : (⟨S2048x8192, .bf16⟩ : BufTy).Contents (Elt Ideal)) := by
  unfold_abbrev_sides
  after_results

theorem rd1 (t : Fin cfg0.N) (k : Fin 2048) : (iblk m c 1 t : Vec Ideal S1x2048 .f32) (ix2 0 k) = argG m c (ix1 k) := by
  have e : (iblk m c 1 t : Vec Ideal S1x2048 .f32) (ix2 0 k) = V m c main_v1 (ix2 0 k) := by
    unfold iblk
    rw [View.read_apply]
    show V m c main_v1 _ = V m c main_v1 _
    congr 1
    funext a
    apply Fin.ext
    obtain ⟨-, -, e0, e1⟩ := c0_at t
    match a with
    | ⟨0, _⟩ => show cc0_transform_1 (grid0.coords t) 0 * 1 + 1 * 0 = 0; omega
    | ⟨1, _⟩ => show cc0_transform_1 (grid0.coords t) 1 * 2048 + 1 * k.val = k.val; omega
  rw [e, V_gain]
  show shapeCast S1x2048 (argG m c) _ (ix2 0 k) = _
  pointwise

theorem rd2 (t : Fin cfg0.N) (k : Fin 2048) (j : Fin 1024) :
    (iblk m c 2 t : Vec Ideal S2048x1024 .bf16) (ix2 k j) = argW m c (ix2 k ⟨1024 * (t.val % 8) + j.val, col_lt t j⟩) := by
  unfold iblk
  rw [View.read_apply]
  show V m c main_v0 _ = m ((c : Thread nD τ).loc main_arg2) _
  rw [V_weight]
  show m ((c : Thread nD τ).loc main_arg2) _ = m ((c : Thread nD τ).loc main_arg2) _
  congr 1
  funext a
  apply Fin.ext
  obtain ⟨-, ⟨e0, e1⟩, -⟩ := c0_at t
  match a with
  | ⟨0, _⟩ => show cc0_transform_2 (grid0.coords t) 0 * 2048 + 1 * k.val = k.val; omega
  | ⟨1, _⟩ => show cc0_transform_2 (grid0.coords t) 1 * 1024 + 1 * j.val = 1024 * (t.val % 8) + j.val; omega

/-! ## The points -/

theorem row_at (t : Fin cfg0.N) (r : Fin 1024) (k : Fin 2048) :
    k0_pay1 (iblk m c 0 t) (iblk m c 1 t) (ix2 r k) = hN (argX m c) (argG m c) ⟨1024 * (t.val / 8) + r.val, row_lt t r⟩ k := by
  refine (pay1_at _ _ r k).trans ?_
  unfold hN
  simp only [rd0, rd1]

/-- A point that does not start a row block keeps the rows. -/
theorem keep (t : Fin cfg0.N) (h0 : ¬t.val % 8 = 0) :
    (outsAt0 m c t.val t.isLt).2 = (outsAt0 m c (t.val - 1) (Nat.lt_of_le_of_lt (Nat.sub_le _ _) t.isLt)).2 := by
  by_cases h1 : t.val % 8 ≤ 1
  · rw [outsAt0_B m c t h0 h1 (by omega) (by omega)]
    dsimp only
    unfold sout0_B_0
    rfl
  by_cases h2 : 6 ≤ t.val % 8
  · rw [outsAt0_D m c t h0 h1 (by omega) h2]
    dsimp only
    unfold sout0_D_0
    rfl
  · rw [outsAt0_C m c t h0 h1 (by omega) h2]
    dsimp only
    unfold sout0_C_0
    rfl

/-- The rows kept after a point are the normalised rows of its row block. -/
theorem kept_aux (n : ℕ) : ∀ (t : Fin cfg0.N), t.val = n → ∀ (r : Fin 1024) (k : Fin 2048),
    (outsAt0 m c t.val t.isLt).2 (ix2 r k) = hN (argX m c) (argG m c) ⟨1024 * (t.val / 8) + r.val, row_lt t r⟩ k := by
  induction n with
  | zero =>
    intro t ht r k
    rw [outsAt0_A m c t (by omega) (by omega) (by omega) (by omega)]
    dsimp only
    rw [sout_A]
    exact row_at m c t r k
  | succ n ih =>
    intro t ht r k
    by_cases h0 : t.val % 8 = 0
    · rw [outsAt0_A m c t h0 (by omega) (by omega) (by omega)]
      dsimp only
      rw [sout_A]
      exact row_at m c t r k
    · rw [keep m c t h0]
      refine (ih ⟨t.val - 1, Nat.lt_of_le_of_lt (Nat.sub_le _ _) t.isLt⟩ (by show t.val - 1 = n; omega) r k).trans ?_
      refine congrArg (fun q : Fin 8192 => hN (argX m c) (argG m c) q k) (Fin.ext ?_)
      show 1024 * ((t.val - 1) / 8) + r.val = 1024 * (t.val / 8) + r.val
      omega

theorem kept (t : Fin cfg0.N) (r : Fin 1024) (k : Fin 2048) :
    (outsAt0 m c t.val t.isLt).2 (ix2 r k) = hN (argX m c) (argG m c) ⟨1024 * (t.val / 8) + r.val, row_lt t r⟩ k :=
  kept_aux m c t.val t rfl r k

/-- What a point writes is its block of the result. -/
theorem written (t : Fin cfg0.N) (r j : Fin 1024) :
    (outsAt0 m c t.val t.isLt).1 (ix2 r j) = fin (1024 * (t.val % 8) + j.val)
      (acc (argX m c) (argG m c) (argW m c) ⟨1024 * (t.val / 8) + r.val, row_lt t r⟩ ⟨1024 * (t.val % 8) + j.val, col_lt t j⟩) := by
  have ht := lt64 t
  unfold acc
  by_cases h0 : t.val % 8 = 0
  · rw [outsAt0_A m c t h0 (by omega) (by omega) (by omega)]
    dsimp only
    rw [out_A, pay3_at]
    unfold fin
    rw [if_pos (by omega)]
    simp only [row_at, rd2]
  have hk : ∀ (k : Fin 2048), (outsAt0 m c (t.val - 1) (Nat.lt_of_le_of_lt (Nat.sub_le _ _) t.isLt)).2 (ix2 r k)
      = hN (argX m c) (argG m c) ⟨1024 * (t.val / 8) + r.val, row_lt t r⟩ k := by
    intro k
    refine (kept m c ⟨t.val - 1, Nat.lt_of_le_of_lt (Nat.sub_le _ _) t.isLt⟩ r k).trans ?_
    refine congrArg (fun q : Fin 8192 => hN (argX m c) (argG m c) q k) (Fin.ext ?_)
    show 1024 * ((t.val - 1) / 8) + r.val = 1024 * (t.val / 8) + r.val
    omega
  by_cases h1 : t.val % 8 ≤ 1
  · rw [outsAt0_B m c t h0 h1 (by omega) (by omega)]
    dsimp only
    rw [out_B, pay3_at]
    unfold fin
    rw [if_pos (by omega)]
    simp only [hk, rd2]
  by_cases h2 : 6 ≤ t.val % 8
  · rw [outsAt0_D m c t h0 h1 (by omega) h2]
    dsimp only
    rw [out_D, pay5_at]
    unfold fin
    rw [if_neg (by omega), if_neg (by omega)]
    simp only [hk, rd2]
  · rw [outsAt0_C m c t h0 h1 (by omega) h2]
    dsimp only
    rw [out_C, pay4_at]
    unfold fin
    rw [if_neg (by omega), if_pos (by omega)]
    simp only [hk, rd2]

/-- **The kernel's result array is the result.** -/
theorem arr_res : Value.G3 m c = res (argX m c) (argG m c) (argW m c) := by
  funext i
  obtain ⟨i0, i1, rfl⟩ : ∃ (a b : Fin 8192), (i : S8192x8192.Idx) = ix2 a b := ⟨i 0, i 1, eq_ix2 i⟩
  have hpt : Value.pt3Of (ix2 i0 i1) = 8 * (i0.val / 1024) + i1.val / 1024 := by
    show 8 * (i0.val / 1024 - 0) + 1 * (i1.val / 1024 - 0) = _; omega
  have hN : Value.pt3Of (ix2 i0 i1) < cfg0.N := by rw [show cfg0.N = 64 from N_0, hpt]; omega
  unfold Value.G3
  rw [dif_pos hN, ← Value.outsAt0_sweep m c _ hN]
  have hl : Value.loc3Of (ix2 i0 i1) = ix2 (⟨i0.val % 1024, by omega⟩ : Fin 1024) (⟨i1.val % 1024, by omega⟩ : Fin 1024) := by
    funext a
    match a with
    | ⟨0, _⟩ => rfl
    | ⟨1, _⟩ => rfl
  rw [hl]
  refine (written m c ⟨_, hN⟩ _ _).trans ?_
  show fin (1024 * (Value.pt3Of (ix2 i0 i1) % 8) + i1.val % 1024) _ = fin i1.val (acc (argX m c) (argG m c) (argW m c) i0 i1)
  have e1 : 1024 * (Value.pt3Of (ix2 i0 i1) % 8) + i1.val % 1024 = i1.val := by rw [hpt]; omega
  have e0 : 1024 * (Value.pt3Of (ix2 i0 i1) / 8) + i0.val % 1024 = i0.val := by rw [hpt]; omega
  congr 1
  exact congrArg₂ (acc (argX m c) (argG m c) (argW m c)) (Fin.ext e0) (Fin.ext e1)

/-- The run, read. -/
theorem run (ρ : Dev nD → PrngReg) : θ_run defs (onTc (τ := τ) (main (F := Ideal))) ⟨m, fun _ => 0, ρ⟩ fun r => ∀ c : Dev nD,
      r.2.mem ((c : Thread nD τ).loc main_v2) = res (argX m c) (argG m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr_res m c), (h c).2⟩) (Value.run m ρ)

end Cert.PaIdeal.Body

end
-- ==== Proof.PaRef.lean ====
/- The projection call's reference computes the result array. -/
module

public import proofs.«01_k».proof.Proof.PaSpec
public import proofs.«01_k».proof.Proof.Gen.PaRefIdeal.Read

@[expose] public section

set_option maxRecDepth 16384

noncomputable section

namespace Cert.PaRefIdeal.Sum

open Idealize.ShloMosaic Idealize.ShloMosaic.TcCoe Idealize.SL.Sem
open Cert.PaRefIdeal Cert.PaRefIdeal.Gen Cert.PaRefIdeal.Read
open Cert.PaSpec

variable (x : X) (g : G) (w : W)

theorem h_at (r : Fin 8192) (k : Fin 2048) : val_main_v12 (F := Ideal) x g (ix2 r k) = hN x g r k := by
  unfold hN
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem acc_at (r j : Fin 8192) : val_main_v13 (F := Ideal) x g w (ix2 r j) = acc x g w r j := by
  unfold acc
  pointwise [val_main_v13]
  simp only [h_at]

theorem result_eq : val_main_v22 (F := Ideal) x g w = res x g w := by
  funext i
  idx_vars i
  pointwise [val_main_v22, val_main_v21, val_main_v20, val_main_v19, val_main_v18, val_main_v17, val_main_v16, val_main_v15, val_main_v14,
    val_main_call0_v0, val_main_call0_v1, val_main_call0_v2, val_main_call0_v3, val_main_call0_v4, val_main_call0_v5, val_main_call0_cst, val_main_call0_cst_0, val_main_cst_2]
  simp only [acc_at]
  show _ = fin i1.val (acc x g w i0 i1)
  unfold fin
  by_cases h0 : i1.val < 2048
  · exact (dif_pos h0).trans (if_pos h0).symm
  refine (dif_neg h0).trans (Eq.trans ?_ (if_neg h0).symm)
  by_cases h1 : i1.val - 2048 < 2048
  · refine (dif_pos h1).trans (Eq.trans ?_ (if_pos (by omega)).symm)
    exact congrArg (acc x g w i0) (Fin.ext (by show 2048 + (i1.val - 2048) = i1.val; omega))
  refine (dif_neg h1).trans ?_
  by_cases h2 : i1.val - 2048 - 2048 < 2048
  · refine (dif_pos h2).trans (Eq.trans ?_ (if_pos (by omega)).symm)
    exact congrArg (acc x g w i0) (Fin.ext (by show 4096 + (i1.val - 2048 - 2048) = i1.val; omega))
  refine (dif_neg h2).trans (Eq.trans ?_ (if_neg (by omega)).symm)
  exact congrArg (fun q : Fin 8192 => acc x g w i0 q * Ideal.div 1 (1 + Ideal.exp (-acc x g w i0 q)))
    (Fin.ext (by show 6144 + (i1.val - 2048 - 2048 - 2048) = i1.val; omega))

end Cert.PaRefIdeal.Sum

end
-- ==== Proof.PaClaims.lean ====
/- The projection call's claims. -/
module

public import proofs.«01_k».proof.Defs
public import proofs.«01_k».proof.Proof.PaArr
public import proofs.«01_k».proof.Proof.PaRef
public import proofs.«01_k».proof.Proof.Gen.Pa.Frame
public import proofs.«01_k».proof.Proof.Gen.PaIdeal.Frame
public import proofs.«01_k».proof.Proof.Gen.PaRefIdeal.Run
public import Idealize.ShloMosaic.Adequacy
public import Idealize.ShloMosaic.Init

@[expose] public section

noncomputable section

namespace Cert.PaClaims

open Idealize.ShloMosaic Idealize.ShloMosaic.TcCoe Idealize.SL.Sem

theorem frame_p : Cert.quiescent_Pa := fun m ρ _ => Cert.Pa.Gen.frame m ρ
theorem frame_pi : Cert.quiescent_PaIdeal := fun m ρ _ => Cert.PaIdeal.Gen.frame m ρ

theorem frame_ri : Cert.quiescent_PaRefIdeal := fun m ρ _ =>
  (θ_run Cert.PaRefIdeal.defs _ _).mono (fun r h => ⟨fun c => (h c).2, sem_eq_zero_of_no_sems (by decide) r.2⟩)
    (Cert.PaRefIdeal.Value.run (F := Ideal) m ρ)

theorem preserves : Cert.preserves_Pa_PaIdeal := trivial

/-- Both programs end with the result array of the arguments they share. -/
theorem algebraic : Cert.algebraic_PaIdeal_PaRefIdeal := by
  intro m g m' g' _ ha
  refine ⟨fun c => Cert.PaSpec.res (Cert.PaIdeal.Body.argX m c) (Cert.PaIdeal.Body.argG m c) (Cert.PaIdeal.Body.argW m c), Cert.PaIdeal.Body.run m g, ?_⟩
  refine (θ_run Cert.PaRefIdeal.defs _ _).mono (fun r h c => ⟨(h c).1.trans ?_, (h c).2⟩) (Cert.PaRefIdeal.Value.run (F := Ideal) m' g')
  rw [Cert.PaRefIdeal.Read.val_main_v22_eq, (ha c).1, (ha c).2.1, (ha c).2.2]
  exact Cert.PaRefIdeal.Sum.result_eq _ _ _

end Cert.PaClaims

end
-- ==== Proof.OutSpec.lean ====
/- The output projection's mathematics, row by row: the product with the weights, its normalised sum with the stream, and the gated
   per-layer input added to it; then the result arrays as functions of the arguments. -/
module

public import Idealize.ShloMosaic.Lib.Pointwise

@[expose] public section

noncomputable section

namespace Cert.OutSpec

open Idealize.ShloMosaic

/-- The factor that brings a row of 2048 entries to unit mean square. -/
def rs (y : Fin 2048 → EReal) : EReal :=
  Ideal.rsqrt (Ideal.div (∑ l : Fin 2048, y l * y l) (Ideal.ofBits .f32 0x45000000#32) + Ideal.ofBits .f32 0x358637BD#32)

/-- The logistic function. -/
def sg (a : EReal) : EReal := Ideal.div 1 (1 + Ideal.exp (-a))

/-- A row times a matrix. -/
def dot {n : ℕ} (a : Fin n → EReal) (w : Fin n → Fin 2048 → EReal) (j : Fin 2048) : EReal := ∑ k : Fin n, a k * w k j

section
variable (og x : Fin 2048 → EReal) (p : Fin 256 → EReal) (wo : Fin 2048 → Fin 2048 → EReal) (g : Fin 2048 → EReal)
  (wp : Fin 256 → Fin 2048 → EReal) (wg : Fin 2048 → Fin 2048 → EReal)

/-- The stream with the normalised projection added. -/
def x1 (j : Fin 2048) : EReal := x j + dot og wo j * rs (dot og wo) * g j

/-- The stream after the layer. -/
def x2 (j : Fin 2048) : EReal := x1 og x wo g j + dot p wp j * sg (dot (x1 og x wo g) wg j)

/-- The stream after the layer, normalised with a gain. -/
def xn (h : Fin 2048 → EReal) (j : Fin 2048) : EReal :=
  x2 og x p wo g wp wg j * rs (x2 og x p wo g wp wg) * h j
end

abbrev Og : Type := FVec Ideal ⟨2, ![8192, 2048]⟩ .bf16
abbrev X : Type := FVec Ideal ⟨2, ![8192, 2048]⟩ .f32
abbrev P : Type := FVec Ideal ⟨2, ![8192, 256]⟩ .f32
abbrev W : Type := FVec Ideal ⟨2, ![2048, 2048]⟩ .f32
abbrev Wp : Type := FVec Ideal ⟨2, ![256, 2048]⟩ .f32
abbrev G : Type := FVec Ideal ⟨1, ![2048]⟩ .f32

variable (og : Og) (x : X) (p : P) (wo : W) (g : G) (wp : Wp) (wg : W)

/-- The stream at a row and a column. -/
def at2 (r : Fin 8192) (j : Fin 2048) : EReal :=
  x2 (fun l => og (ix2 r l)) (fun l => x (ix2 r l)) (fun l => p (ix2 r l)) (fun k l => wo (ix2 k l)) (fun l => g (ix1 l)) (fun k l => wp (ix2 k l)) (fun k l => wg (ix2 k l)) j

/-- The normalised stream at a row and a column. -/
def atn (h : G) (r : Fin 8192) (j : Fin 2048) : EReal :=
  xn (fun l => og (ix2 r l)) (fun l => x (ix2 r l)) (fun l => p (ix2 r l)) (fun k l => wo (ix2 k l)) (fun l => g (ix1 l)) (fun k l => wp (ix2 k l)) (fun k l => wg (ix2 k l)) (fun l => h (ix1 l)) j

/-- The stream after the layer, as an array. -/
def res : X := fun i => at2 og x p wo g wp wg (i 0) (i 1)

/-- The normalised stream, as an array. -/
def resn (h : G) : Og := fun i => atn og x p wo g wp wg h (i 0) (i 1)

end Cert.OutSpec

end
-- ==== Proof.OaArr.lean ====
/- The first output projection kernel's result arrays: every grid point writes its rows, and the row blocks cover the arrays. -/
module

public import Idealize.ShloMosaic.Lib.StableHlo.Run
public import proofs.«01_k».proof.Proof.OutSpec
public import proofs.«01_k».proof.Proof.Gen.OaIdeal.Value

@[expose] public section

set_option maxRecDepth 16384

noncomputable section

namespace Cert.OaIdeal.Body

open Cert.OaIdeal Cert.OaIdeal.Gen Idealize.ShloMosaic Idealize.ShloMosaic.TcCoe Idealize.SL.Sem
open Idealize.ShloMosaic.Pipeline (Dat)
open Cert.OutSpec (Og X P W Wp G rs sg dot at2 atn res resn)

theorem z2 : (![0, 0] : Fin 2 → ℕ) = fun _ => 0 := by funext a; fin_cases a <;> rfl

/-! ## The body's terms at an element -/

theorem x1_at (v0 : Vec Ideal S512x2048 .bf16) (v1 : Vec Ideal S2048x2048 .bf16) (v4 : Vec Ideal S512x2048 .f32) (v15 : Vec Ideal S1x2048 .f32)
    (r : Fin 512) (j : Fin 2048) : k0_pay5 v0 v1 v4 v15 (ix2 r j)
      = Cert.OutSpec.x1 (fun l => v0 (ix2 r l)) (fun l => v4 (ix2 r l)) (fun k l => v1 (ix2 k l)) (fun l => v15 (ix2 0 l)) j := by
  unfold Cert.OutSpec.x1 rs dot
  pointwise [k0_pay5]

theorem emb_at (v24 : Vec Ideal S512x256 .f32) (v26 : Vec Ideal S256x2048 .bf16) (r : Fin 512) (j : Fin 2048) :
    k0_pay6 v24 v26 (ix2 r j) = dot (fun l => v24 (ix2 r l)) (fun k l => v26 (ix2 k l)) j := by
  unfold dot
  pointwise [k0_pay6]

theorem gate_at (v0 : Vec Ideal S512x2048 .bf16) (v1 : Vec Ideal S2048x2048 .bf16) (v4 : Vec Ideal S512x2048 .f32) (v15 : Vec Ideal S1x2048 .f32)
    (v21 : Vec Ideal S2048x2048 .bf16) (r : Fin 512) (j : Fin 2048) : k0_pay7 v0 v1 v4 v15 v21 (ix2 r j)
      = sg (dot (Cert.OutSpec.x1 (fun l => v0 (ix2 r l)) (fun l => v4 (ix2 r l)) (fun k l => v1 (ix2 k l)) (fun l => v15 (ix2 0 l))) (fun k l => v21 (ix2 k l)) j) := by
  unfold sg
  pointwise [k0_pay7]
  rw [sub_eq_add_neg, zero_add]
  simp only [x1_at]
  rfl

variable (x0 : Vec Ideal S512x2048 .bf16) (x1 : Vec Ideal S512x2048 .f32) (x2 : Vec Ideal S512x256 .f32) (x3 : Vec Ideal S2048x2048 .bf16)
  (x4 : Vec Ideal S1x2048 .f32) (x5 : Vec Ideal S256x2048 .bf16) (x6 : Vec Ideal S2048x2048 .bf16) (x7 : Vec Ideal S2x2048 .f32)

theorem pay8_eq : k0_pay8 x0 x1 x2 x3 x4 x5 x6 x7 = k0_pay5 x0 x3 x1 x4 := by
  unfold k0_pay8
  rw [View.ld_unit_zero z2, View.ld_unit_zero z2, View.ld_unit_zero z2, View.ld_unit_zero z2]

theorem pay9_eq : k0_pay9 x0 x1 x2 x3 x4 x5 x6 x7 = k0_pay6 x2 x5 := by
  unfold k0_pay9
  rw [View.ld_unit_zero z2, View.ld_unit_zero z2]

theorem pay10_eq : k0_pay10 x0 x1 x2 x3 x4 x5 x6 x7 = k0_pay7 x0 x3 x1 x4 x6 := by
  unfold k0_pay10
  rw [View.ld_unit_zero z2, View.ld_unit_zero z2, View.ld_unit_zero z2, View.ld_unit_zero z2, View.ld_unit_zero z2]

/-- The stream a point computes. -/
def strm : Vec Ideal S512x2048 .f32 := k0_pay1 (k0_pay5 x0 x3 x1 x4) (k0_pay6 x2 x5) (k0_pay7 x0 x3 x1 x4 x6)

theorem strm_at (r : Fin 512) (j : Fin 2048) : strm x0 x1 x2 x3 x4 x5 x6 (ix2 r j)
    = Cert.OutSpec.x2 (fun l => x0 (ix2 r l)) (fun l => x1 (ix2 r l)) (fun l => x2 (ix2 r l)) (fun k l => x3 (ix2 k l)) (fun l => x4 (ix2 0 l)) (fun k l => x5 (ix2 k l)) (fun k l => x6 (ix2 k l)) j := by
  unfold strm Cert.OutSpec.x2
  pointwise [k0_pay1]
  rw [x1_at, emb_at, gate_at]

theorem out8_at (r : Fin 512) (j : Fin 2048) : out0_8 x0 x1 x2 x3 x4 x5 x6 x7 (ix2 r j)
    = Cert.OutSpec.x2 (fun l => x0 (ix2 r l)) (fun l => x1 (ix2 r l)) (fun l => x2 (ix2 r l)) (fun k l => x3 (ix2 k l)) (fun l => x4 (ix2 0 l)) (fun k l => x5 (ix2 k l)) (fun k l => x6 (ix2 k l)) j := by
  unfold out0_8
  rw [View.canon_unit_zero z2, pay8_eq, pay9_eq, pay10_eq]
  exact strm_at x0 x1 x2 x3 x4 x5 x6 r j

theorem row0 (l : Fin 2048) : View.ld x7 r0_5 (ix2 0 l) = x7 (ix2 0 l) := by
  show x7 _ = x7 _
  congr 1
  funext a
  apply Fin.ext
  match a with
  | ⟨0, _⟩ => rfl
  | ⟨1, _⟩ => show 0 + 1 * l.val = l.val; omega

theorem row1 (l : Fin 2048) : View.ld x7 r0_6 (ix2 0 l) = x7 (ix2 1 l) := by
  show x7 _ = x7 _
  congr 1
  funext a
  apply Fin.ext
  match a with
  | ⟨0, _⟩ => rfl
  | ⟨1, _⟩ => show 0 + 1 * l.val = l.val; omega

theorem pay2_at (a b d : FVec Ideal S512x2048 .f32) (r : Fin 512) (j : Fin 2048) :
    k0_pay2 a b d (ix2 r j) = k0_pay1 a b d (ix2 r j) * rs (fun l => k0_pay1 a b d (ix2 r l)) := by
  unfold rs
  pointwise [k0_pay2]

theorem pay3_at (a b d : FVec Ideal S512x2048 .f32) (h : Vec Ideal S1x2048 .f32) (r : Fin 512) (j : Fin 2048) :
    k0_pay3 a b d h (ix2 r j) = k0_pay1 a b d (ix2 r j) * rs (fun l => k0_pay1 a b d (ix2 r l)) * h (ix2 0 j) := by
  rw [← pay2_at]
  pointwise [k0_pay3]

theorem pay4_at (a b d : FVec Ideal S512x2048 .f32) (h : Vec Ideal S1x2048 .f32) (r : Fin 512) (j : Fin 2048) :
    k0_pay4 a b d h (ix2 r j) = k0_pay1 a b d (ix2 r j) * rs (fun l => k0_pay1 a b d (ix2 r l)) * h (ix2 0 j) := by
  rw [← pay2_at]
  pointwise [k0_pay4]

theorem out9_at (r : Fin 512) (j : Fin 2048) : out0_9 x0 x1 x2 x3 x4 x5 x6 x7 (ix2 r j)
    = Cert.OutSpec.xn (fun l => x0 (ix2 r l)) (fun l => x1 (ix2 r l)) (fun l => x2 (ix2 r l)) (fun k l => x3 (ix2 k l)) (fun l => x4 (ix2 0 l)) (fun k l => x5 (ix2 k l)) (fun k l => x6 (ix2 k l)) (fun l => x7 (ix2 0 l)) j := by
  unfold out0_9
  rw [View.canon_unit_zero z2, pay8_eq, pay9_eq, pay10_eq, pay3_at, row0]
  show strm x0 x1 x2 x3 x4 x5 x6 (ix2 r j) * rs (fun l => strm x0 x1 x2 x3 x4 x5 x6 (ix2 r l)) * _ = _
  simp only [strm_at]
  rfl

theorem out10_at (r : Fin 512) (j : Fin 2048) : out0_10 x0 x1 x2 x3 x4 x5 x6 x7 (ix2 r j)
    = Cert.OutSpec.xn (fun l => x0 (ix2 r l)) (fun l => x1 (ix2 r l)) (fun l => x2 (ix2 r l)) (fun k l => x3 (ix2 k l)) (fun l => x4 (ix2 0 l)) (fun k l => x5 (ix2 k l)) (fun k l => x6 (ix2 k l)) (fun l => x7 (ix2 1 l)) j := by
  unfold out0_10
  rw [View.canon_unit_zero z2, pay8_eq, pay9_eq, pay10_eq, pay4_at, row1]
  show strm x0 x1 x2 x3 x4 x5 x6 (ix2 r j) * rs (fun l => strm x0 x1 x2 x3 x4 x5 x6 (ix2 r l)) * _ = _
  simp only [strm_at]
  rfl

/-! ## The blocks a point reads -/

variable (m : (ℓ : Loc nD τ sig) → Buf (Elt Ideal) ℓ) (c : Dev nD)

def argOg : Og := m ((c : Thread nD τ).loc main_arg0)
def argX : X := m ((c : Thread nD τ).loc main_arg1)
def argP : P := m ((c : Thread nD τ).loc main_arg2)
def argWo : W := m ((c : Thread nD τ).loc main_arg3)
def argG : G := m ((c : Thread nD τ).loc main_arg4)
def argWp : Wp := m ((c : Thread nD τ).loc main_arg5)
def argWg : W := m ((c : Thread nD τ).loc main_arg6)
def argH0 : G := m ((c : Thread nD τ).loc main_arg7)
def argH1 : G := m ((c : Thread nD τ).loc main_arg8)

theorem lt16 (t : Fin cfg0.N) : t.val < 16 := lt_of_lt_of_eq t.isLt (show cfg0.N = 16 from N_0)
theorem row_lt (t : Fin cfg0.N) (r : Fin 512) : 512 * t.val + r.val < 8192 := by have := lt16 t; omega

theorem at_row : ∀ t : Fin cfg0.N, (cc0_transform_0 (grid0.coords t) 0 = t.val ∧ cc0_transform_0 (grid0.coords t) 1 = 0) ∧ (cc0_transform_1 (grid0.coords t) 0 = t.val ∧ cc0_transform_1 (grid0.coords t) 1 = 0) ∧ (cc0_transform_2 (grid0.coords t) 0 = t.val ∧ cc0_transform_2 (grid0.coords t) 1 = 0) :=
  (by decide +kernel : ∀ t : Fin grid0.N, (cc0_transform_0 (grid0.coords t) 0 = t.val ∧ cc0_transform_0 (grid0.coords t) 1 = 0) ∧ (cc0_transform_1 (grid0.coords t) 0 = t.val ∧ cc0_transform_1 (grid0.coords t) 1 = 0) ∧ (cc0_transform_2 (grid0.coords t) 0 = t.val ∧ cc0_transform_2 (grid0.coords t) 1 = 0))

theorem at_zero : ∀ t : Fin cfg0.N, (cc0_transform_3 (grid0.coords t) 0 = 0 ∧ cc0_transform_3 (grid0.coords t) 1 = 0) ∧ (cc0_transform_4 (grid0.coords t) 0 = 0 ∧ cc0_transform_4 (grid0.coords t) 1 = 0) ∧ (cc0_transform_5 (grid0.coords t) 0 = 0 ∧ cc0_transform_5 (grid0.coords t) 1 = 0) ∧ (cc0_transform_6 (grid0.coords t) 0 = 0 ∧ cc0_transform_6 (grid0.coords t) 1 = 0) ∧ (cc0_transform_7 (grid0.coords t) 0 = 0 ∧ cc0_transform_7 (grid0.coords t) 1 = 0) :=
  (by decide +kernel : ∀ t : Fin grid0.N, (cc0_transform_3 (grid0.coords t) 0 = 0 ∧ cc0_transform_3 (grid0.coords t) 1 = 0) ∧ (cc0_transform_4 (grid0.coords t) 0 = 0 ∧ cc0_transform_4 (grid0.coords t) 1 = 0) ∧ (cc0_transform_5 (grid0.coords t) 0 = 0 ∧ cc0_transform_5 (grid0.coords t) 1 = 0) ∧ (cc0_transform_6 (grid0.coords t) 0 = 0 ∧ cc0_transform_6 (grid0.coords t) 1 = 0) ∧ (cc0_transform_7 (grid0.coords t) 0 = 0 ∧ cc0_transform_7 (grid0.coords t) 1 = 0))

theorem at_out : ∀ t : Fin cfg0.N, (cc0_transform_8 (grid0.coords t) 0 = t.val ∧ cc0_transform_8 (grid0.coords t) 1 = 0) ∧ (cc0_transform_9 (grid0.coords t) 0 = t.val ∧ cc0_transform_9 (grid0.coords t) 1 = 0) ∧ (cc0_transform_10 (grid0.coords t) 0 = t.val ∧ cc0_transform_10 (grid0.coords t) 1 = 0) :=
  (by decide +kernel : ∀ t : Fin grid0.N, (cc0_transform_8 (grid0.coords t) 0 = t.val ∧ cc0_transform_8 (grid0.coords t) 1 = 0) ∧ (cc0_transform_9 (grid0.coords t) 0 = t.val ∧ cc0_transform_9 (grid0.coords t) 1 = 0) ∧ (cc0_transform_10 (grid0.coords t) 0 = t.val ∧ cc0_transform_10 (grid0.coords t) 1 = 0))

theorem rd0 (t : Fin cfg0.N) (r : Fin 512) (l : Fin 2048) :
    (iblk m c 0 t : Vec Ideal S512x2048 .bf16) (ix2 r l) = argOg m c (ix2 ⟨512 * t.val + r.val, row_lt t r⟩ l) := by
  unfold iblk
  rw [View.read_apply]
  show V m c main_arg0 _ = m ((c : Thread nD τ).loc main_arg0) _
  rw [V_main_arg0]
  congr 1
  funext a
  apply Fin.ext
  obtain ⟨⟨e0, e1⟩, -, -⟩ := at_row t
  match a with
  | ⟨0, _⟩ => show cc0_transform_0 (grid0.coords t) 0 * 512 + 1 * r.val = 512 * t.val + r.val; omega
  | ⟨1, _⟩ => show cc0_transform_0 (grid0.coords t) 1 * 2048 + 1 * l.val = l.val; omega

theorem rd1 (t : Fin cfg0.N) (r : Fin 512) (l : Fin 2048) :
    (iblk m c 1 t : Vec Ideal S512x2048 .f32) (ix2 r l) = argX m c (ix2 ⟨512 * t.val + r.val, row_lt t r⟩ l) := by
  unfold iblk
  rw [View.read_apply]
  show V m c main_arg1 _ = m ((c : Thread nD τ).loc main_arg1) _
  rw [V_main_arg1]
  congr 1
  funext a
  apply Fin.ext
  obtain ⟨-, ⟨e0, e1⟩, -⟩ := at_row t
  match a with
  | ⟨0, _⟩ => show cc0_transform_1 (grid0.coords t) 0 * 512 + 1 * r.val = 512 * t.val + r.val; omega
  | ⟨1, _⟩ => show cc0_transform_1 (grid0.coords t) 1 * 2048 + 1 * l.val = l.val; omega

theorem rd2 (t : Fin cfg0.N) (r : Fin 512) (l : Fin 256) :
    (iblk m c 2 t : Vec Ideal S512x256 .f32) (ix2 r l) = argP m c (ix2 ⟨512 * t.val + r.val, row_lt t r⟩ l) := by
  unfold iblk
  rw [View.read_apply]
  show V m c main_arg2 _ = m ((c : Thread nD τ).loc main_arg2) _
  rw [V_main_arg2]
  congr 1
  funext a
  apply Fin.ext
  obtain ⟨-, -, ⟨e0, e1⟩⟩ := at_row t
  match a with
  | ⟨0, _⟩ => show cc0_transform_2 (grid0.coords t) 0 * 512 + 1 * r.val = 512 * t.val + r.val; omega
  | ⟨1, _⟩ => show cc0_transform_2 (grid0.coords t) 1 * 256 + 1 * l.val = l.val; omega

theorem V_wo : V m c main_v0 = (truncf (F := Ideal) .bf16 (m ((c : Thread nD τ).loc main_arg3) : (⟨S2048x2048, .f32⟩ : BufTy).Contents (Elt Ideal)) Facts₀.bitsLt_bf16_f32 : (⟨S2048x2048, .bf16⟩ : BufTy).Contents (Elt Ideal)) := by
  unfold_abbrev_sides
  after_results

theorem V_wp : V m c main_v1 = (truncf (F := Ideal) .bf16 (m ((c : Thread nD τ).loc main_arg5) : (⟨S256x2048, .f32⟩ : BufTy).Contents (Elt Ideal)) Facts₀.bitsLt_bf16_f32 : (⟨S256x2048, .bf16⟩ : BufTy).Contents (Elt Ideal)) := by
  unfold_abbrev_sides
  after_results

theorem V_wg : V m c main_v2 = (truncf (F := Ideal) .bf16 (m ((c : Thread nD τ).loc main_arg6) : (⟨S2048x2048, .f32⟩ : BufTy).Contents (Elt Ideal)) Facts₀.bitsLt_bf16_f32 : (⟨S2048x2048, .bf16⟩ : BufTy).Contents (Elt Ideal)) := by
  unfold_abbrev_sides
  after_results

theorem V_g : V m c main_v6 = (shapeCast S1x2048 (m ((c : Thread nD τ).loc main_arg4) : (⟨S2048, .f32⟩ : BufTy).Contents (Elt Ideal)) Facts₀.shapeCasts_S2048_S1x2048 : (⟨S1x2048, .f32⟩ : BufTy).Contents (Elt Ideal)) := by
  unfold_abbrev_sides
  after_results
  rfl

theorem V_h : V m c main_v5 = (concatenate S2x2048 0
      [⟨S1x2048, broadcastInDim S1x2048 ![1] Facts₀.bcast_S2048_S1x2048_1 (argH0 m c)⟩, ⟨S1x2048, broadcastInDim S1x2048 ![1] Facts₀.bcast_S2048_S1x2048_1 (argH1 m c)⟩]
      Facts₀.concatenates_S1x2048_S1x2048_S2x2048_d0 : (⟨S2x2048, .f32⟩ : BufTy).Contents (Elt Ideal)) := by
  unfold_abbrev_sides
  after_results
  rfl

theorem rd3 (t : Fin cfg0.N) (k : Fin 2048) (l : Fin 2048) :
    (iblk m c 3 t : Vec Ideal S2048x2048 .bf16) (ix2 k l) = argWo m c (ix2 k l) := by
  unfold iblk
  rw [View.read_apply]
  show V m c main_v0 _ = m ((c : Thread nD τ).loc main_arg3) _
  rw [V_wo]
  show m ((c : Thread nD τ).loc main_arg3) _ = m ((c : Thread nD τ).loc main_arg3) _
  congr 1
  funext a
  apply Fin.ext
  obtain ⟨⟨e0, e1⟩, -, -, -, -⟩ := at_zero t
  match a with
  | ⟨0, _⟩ => show cc0_transform_3 (grid0.coords t) 0 * 2048 + 1 * k.val = k.val; omega
  | ⟨1, _⟩ => show cc0_transform_3 (grid0.coords t) 1 * 2048 + 1 * l.val = l.val; omega

theorem rd5 (t : Fin cfg0.N) (k : Fin 256) (l : Fin 2048) :
    (iblk m c 5 t : Vec Ideal S256x2048 .bf16) (ix2 k l) = argWp m c (ix2 k l) := by
  unfold iblk
  rw [View.read_apply]
  show V m c main_v1 _ = m ((c : Thread nD τ).loc main_arg5) _
  rw [V_wp]
  show m ((c : Thread nD τ).loc main_arg5) _ = m ((c : Thread nD τ).loc main_arg5) _
  congr 1
  funext a
  apply Fin.ext
  obtain ⟨-, -, ⟨e0, e1⟩, -, -⟩ := at_zero t
  match a with
  | ⟨0, _⟩ => show cc0_transform_5 (grid0.coords t) 0 * 256 + 1 * k.val = k.val; omega
  | ⟨1, _⟩ => show cc0_transform_5 (grid0.coords t) 1 * 2048 + 1 * l.val = l.val; omega

theorem rd6 (t : Fin cfg0.N) (k : Fin 2048) (l : Fin 2048) :
    (iblk m c 6 t : Vec Ideal S2048x2048 .bf16) (ix2 k l) = argWg m c (ix2 k l) := by
  unfold iblk
  rw [View.read_apply]
  show V m c main_v2 _ = m ((c : Thread nD τ).loc main_arg6) _
  rw [V_wg]
  show m ((c : Thread nD τ).loc main_arg6) _ = m ((c : Thread nD τ).loc main_arg6) _
  congr 1
  funext a
  apply Fin.ext
  obtain ⟨-, -, -, ⟨e0, e1⟩, -⟩ := at_zero t
  match a with
  | ⟨0, _⟩ => show cc0_transform_6 (grid0.coords t) 0 * 2048 + 1 * k.val = k.val; omega
  | ⟨1, _⟩ => show cc0_transform_6 (grid0.coords t) 1 * 2048 + 1 * l.val = l.val; omega

theorem rd4 (t : Fin cfg0.N) (l : Fin 2048) : (iblk m c 4 t : Vec Ideal S1x2048 .f32) (ix2 0 l) = argG m c (ix1 l) := by
  have e : (iblk m c 4 t : Vec Ideal S1x2048 .f32) (ix2 0 l) = V m c main_v6 (ix2 0 l) := by
    unfold iblk
    rw [View.read_apply]
    show V m c main_v6 _ = V m c main_v6 _
    congr 1
    funext a
    apply Fin.ext
    obtain ⟨-, ⟨e0, e1⟩, -, -, -⟩ := at_zero t
    match a with
    | ⟨0, _⟩ => show cc0_transform_4 (grid0.coords t) 0 * 1 + 1 * 0 = 0; omega
    | ⟨1, _⟩ => show cc0_transform_4 (grid0.coords t) 1 * 2048 + 1 * l.val = l.val; omega
  rw [e, V_g]
  show shapeCast S1x2048 (argG m c) _ (ix2 0 l) = _
  pointwise

theorem rd7_0 (t : Fin cfg0.N) (l : Fin 2048) : (iblk m c 7 t : Vec Ideal S2x2048 .f32) (ix2 0 l) = argH0 m c (ix1 l) := by
  have e : (iblk m c 7 t : Vec Ideal S2x2048 .f32) (ix2 0 l) = V m c main_v5 (ix2 0 l) := by
    unfold iblk
    rw [View.read_apply]
    show V m c main_v5 _ = V m c main_v5 _
    congr 1
    funext a
    apply Fin.ext
    obtain ⟨-, -, -, -, ⟨e0, e1⟩⟩ := at_zero t
    match a with
    | ⟨0, _⟩ => show cc0_transform_7 (grid0.coords t) 0 * 2 + 1 * 0 = 0; omega
    | ⟨1, _⟩ => show cc0_transform_7 (grid0.coords t) 1 * 2048 + 1 * l.val = l.val; omega
  rw [e, V_h]
  show concatenate S2x2048 0 _ _ (ix2 0 l) = _
  pointwise

theorem rd7_1 (t : Fin cfg0.N) (l : Fin 2048) : (iblk m c 7 t : Vec Ideal S2x2048 .f32) (ix2 1 l) = argH1 m c (ix1 l) := by
  have e : (iblk m c 7 t : Vec Ideal S2x2048 .f32) (ix2 1 l) = V m c main_v5 (ix2 1 l) := by
    unfold iblk
    rw [View.read_apply]
    show V m c main_v5 _ = V m c main_v5 _
    congr 1
    funext a
    apply Fin.ext
    obtain ⟨-, -, -, -, ⟨e0, e1⟩⟩ := at_zero t
    match a with
    | ⟨0, _⟩ => show cc0_transform_7 (grid0.coords t) 0 * 2 + 1 * 1 = 1; omega
    | ⟨1, _⟩ => show cc0_transform_7 (grid0.coords t) 1 * 2048 + 1 * l.val = l.val; omega
  rw [e, V_h]
  show concatenate S2x2048 0 _ _ (ix2 1 l) = _
  pointwise

/-! ## The result arrays -/

theorem flushed8_at (t : Fin cfg0.N) (r : Fin 512) (j : Fin 2048) :
    ((dats m 0 c).flushed 8 t : Vec Ideal S512x2048 .f32) (ix2 r j) = at2 (argOg m c) (argX m c) (argP m c) (argWo m c) (argG m c) (argWp m c) (argWg m c) ⟨512 * t.val + r.val, row_lt t r⟩ j := by
  rw [Value.flushed8]
  show out0_8 (iblk m c 0 t) (iblk m c 1 t) (iblk m c 2 t) (iblk m c 3 t) (iblk m c 4 t) (iblk m c 5 t) (iblk m c 6 t) (iblk m c 7 t) (ix2 r j) = _
  refine (out8_at _ _ _ _ _ _ _ _ r j).trans ?_
  unfold at2
  simp only [rd0, rd1, rd2, rd3, rd4, rd5, rd6]

theorem arr8 : (dats m 0 c).arrAt 8 cfg0.N = res (argOg m c) (argX m c) (argP m c) (argWo m c) (argG m c) (argWp m c) (argWg m c) := by
  refine (dats m 0 c).arrAt_eq_of_cover 8 (res (argOg m c) (argX m c) (argP m c) (argWo m c) (argG m c) (argWp m c) (argWg m c)) (fun t _ => ?_) fun i => ?_
  · obtain ⟨⟨e0, e1⟩, -, -⟩ := at_out t
    funext y
    obtain ⟨r, j, rfl⟩ : ∃ (r : Fin 512) (j : Fin 2048), (y : S512x2048.Idx) = ix2 r j := ⟨y 0, y 1, eq_ix2 y⟩
    refine (flushed8_at m c t r j).trans ?_
    rw [View.read_apply]
    show at2 (argOg m c) (argX m c) (argP m c) (argWo m c) (argG m c) (argWp m c) (argWg m c) _ _ = res (argOg m c) (argX m c) (argP m c) (argWo m c) (argG m c) (argWp m c) (argWg m c) _
    have e : (((cfg0.win 8).blk t).view.emb (ix2 r j : S512x2048.Idx) : S8192x2048.Idx) = ix2 ⟨512 * t.val + r.val, row_lt t r⟩ j := by
      funext a
      apply Fin.ext
      match a with
      | ⟨0, _⟩ => show cc0_transform_8 (grid0.coords t) 0 * 512 + 1 * r.val = 512 * t.val + r.val; omega
      | ⟨1, _⟩ => show cc0_transform_8 (grid0.coords t) 1 * 2048 + 1 * j.val = j.val; omega
    exact (congrArg (res (argOg m c) (argX m c) (argP m c) (argWo m c) (argG m c) (argWp m c) (argWg m c)) e).symm
  · have h0 : (i 0 : ℕ) < 8192 := (i 0).isLt
    have h1 : (i 1 : ℕ) < 2048 := (i 1).isLt
    let t : Fin cfg0.N := ⟨(i 0 : ℕ) / 512, by rw [show cfg0.N = 16 from N_0]; omega⟩
    have ht : t.val = (i 0 : ℕ) / 512 := rfl
    obtain ⟨⟨e0, e1⟩, -, -⟩ := at_out t
    refine ⟨t, flush0_8 t, ?_⟩
    show i ∈ ((View.whole main_v7_0).slice (win0_8.rect t)).set
    rw [View.set_slice_whole, Rect.mem_set_unit]
    intro a
    match a with
    | ⟨0, _⟩ =>
      show cc0_transform_8 (grid0.coords t) 0 * 512 ≤ (i 0 : ℕ) ∧ (i 0 : ℕ) < cc0_transform_8 (grid0.coords t) 0 * 512 + 512
      omega
    | ⟨1, _⟩ =>
      show cc0_transform_8 (grid0.coords t) 1 * 2048 ≤ (i 1 : ℕ) ∧ (i 1 : ℕ) < cc0_transform_8 (grid0.coords t) 1 * 2048 + 2048
      omega

theorem flushed9_at (t : Fin cfg0.N) (r : Fin 512) (j : Fin 2048) :
    ((dats m 0 c).flushed 9 t : Vec Ideal S512x2048 .bf16) (ix2 r j) = atn (argOg m c) (argX m c) (argP m c) (argWo m c) (argG m c) (argWp m c) (argWg m c) (argH0 m c) ⟨512 * t.val + r.val, row_lt t r⟩ j := by
  rw [Value.flushed9]
  show out0_9 (iblk m c 0 t) (iblk m c 1 t) (iblk m c 2 t) (iblk m c 3 t) (iblk m c 4 t) (iblk m c 5 t) (iblk m c 6 t) (iblk m c 7 t) (ix2 r j) = _
  refine (out9_at _ _ _ _ _ _ _ _ r j).trans ?_
  unfold atn
  simp only [rd0, rd1, rd2, rd3, rd4, rd5, rd6, rd7_0]

theorem arr9 : (dats m 0 c).arrAt 9 cfg0.N = resn (argOg m c) (argX m c) (argP m c) (argWo m c) (argG m c) (argWp m c) (argWg m c) (argH0 m c) := by
  refine (dats m 0 c).arrAt_eq_of_cover 9 (resn (argOg m c) (argX m c) (argP m c) (argWo m c) (argG m c) (argWp m c) (argWg m c) (argH0 m c)) (fun t _ => ?_) fun i => ?_
  · obtain ⟨-, ⟨e0, e1⟩, -⟩ := at_out t
    funext y
    obtain ⟨r, j, rfl⟩ : ∃ (r : Fin 512) (j : Fin 2048), (y : S512x2048.Idx) = ix2 r j := ⟨y 0, y 1, eq_ix2 y⟩
    refine (flushed9_at m c t r j).trans ?_
    rw [View.read_apply]
    show atn (argOg m c) (argX m c) (argP m c) (argWo m c) (argG m c) (argWp m c) (argWg m c) (argH0 m c) _ _ = resn (argOg m c) (argX m c) (argP m c) (argWo m c) (argG m c) (argWp m c) (argWg m c) (argH0 m c) _
    have e : (((cfg0.win 9).blk t).view.emb (ix2 r j : S512x2048.Idx) : S8192x2048.Idx) = ix2 ⟨512 * t.val + r.val, row_lt t r⟩ j := by
      funext a
      apply Fin.ext
      match a with
      | ⟨0, _⟩ => show cc0_transform_9 (grid0.coords t) 0 * 512 + 1 * r.val = 512 * t.val + r.val; omega
      | ⟨1, _⟩ => show cc0_transform_9 (grid0.coords t) 1 * 2048 + 1 * j.val = j.val; omega
    exact (congrArg (resn (argOg m c) (argX m c) (argP m c) (argWo m c) (argG m c) (argWp m c) (argWg m c) (argH0 m c)) e).symm
  · have h0 : (i 0 : ℕ) < 8192 := (i 0).isLt
    have h1 : (i 1 : ℕ) < 2048 := (i 1).isLt
    let t : Fin cfg0.N := ⟨(i 0 : ℕ) / 512, by rw [show cfg0.N = 16 from N_0]; omega⟩
    have ht : t.val = (i 0 : ℕ) / 512 := rfl
    obtain ⟨-, ⟨e0, e1⟩, -⟩ := at_out t
    refine ⟨t, flush0_9 t, ?_⟩
    show i ∈ ((View.whole main_v7_1).slice (win0_9.rect t)).set
    rw [View.set_slice_whole, Rect.mem_set_unit]
    intro a
    match a with
    | ⟨0, _⟩ =>
      show cc0_transform_9 (grid0.coords t) 0 * 512 ≤ (i 0 : ℕ) ∧ (i 0 : ℕ) < cc0_transform_9 (grid0.coords t) 0 * 512 + 512
      omega
    | ⟨1, _⟩ =>
      show cc0_transform_9 (grid0.coords t) 1 * 2048 ≤ (i 1 : ℕ) ∧ (i 1 : ℕ) < cc0_transform_9 (grid0.coords t) 1 * 2048 + 2048
      omega

theorem flushed10_at (t : Fin cfg0.N) (r : Fin 512) (j : Fin 2048) :
    ((dats m 0 c).flushed 10 t : Vec Ideal S512x2048 .bf16) (ix2 r j) = atn (argOg m c) (argX m c) (argP m c) (argWo m c) (argG m c) (argWp m c) (argWg m c) (argH1 m c) ⟨512 * t.val + r.val, row_lt t r⟩ j := by
  rw [Value.flushed10]
  show out0_10 (iblk m c 0 t) (iblk m c 1 t) (iblk m c 2 t) (iblk m c 3 t) (iblk m c 4 t) (iblk m c 5 t) (iblk m c 6 t) (iblk m c 7 t) (ix2 r j) = _
  refine (out10_at _ _ _ _ _ _ _ _ r j).trans ?_
  unfold atn
  simp only [rd0, rd1, rd2, rd3, rd4, rd5, rd6, rd7_1]

theorem arr10 : (dats m 0 c).arrAt 10 cfg0.N = resn (argOg m c) (argX m c) (argP m c) (argWo m c) (argG m c) (argWp m c) (argWg m c) (argH1 m c) := by
  refine (dats m 0 c).arrAt_eq_of_cover 10 (resn (argOg m c) (argX m c) (argP m c) (argWo m c) (argG m c) (argWp m c) (argWg m c) (argH1 m c)) (fun t _ => ?_) fun i => ?_
  · obtain ⟨-, -, ⟨e0, e1⟩⟩ := at_out t
    funext y
    obtain ⟨r, j, rfl⟩ : ∃ (r : Fin 512) (j : Fin 2048), (y : S512x2048.Idx) = ix2 r j := ⟨y 0, y 1, eq_ix2 y⟩
    refine (flushed10_at m c t r j).trans ?_
    rw [View.read_apply]
    show atn (argOg m c) (argX m c) (argP m c) (argWo m c) (argG m c) (argWp m c) (argWg m c) (argH1 m c) _ _ = resn (argOg m c) (argX m c) (argP m c) (argWo m c) (argG m c) (argWp m c) (argWg m c) (argH1 m c) _
    have e : (((cfg0.win 10).blk t).view.emb (ix2 r j : S512x2048.Idx) : S8192x2048.Idx) = ix2 ⟨512 * t.val + r.val, row_lt t r⟩ j := by
      funext a
      apply Fin.ext
      match a with
      | ⟨0, _⟩ => show cc0_transform_10 (grid0.coords t) 0 * 512 + 1 * r.val = 512 * t.val + r.val; omega
      | ⟨1, _⟩ => show cc0_transform_10 (grid0.coords t) 1 * 2048 + 1 * j.val = j.val; omega
    exact (congrArg (resn (argOg m c) (argX m c) (argP m c) (argWo m c) (argG m c) (argWp m c) (argWg m c) (argH1 m c)) e).symm
  · have h0 : (i 0 : ℕ) < 8192 := (i 0).isLt
    have h1 : (i 1 : ℕ) < 2048 := (i 1).isLt
    let t : Fin cfg0.N := ⟨(i 0 : ℕ) / 512, by rw [show cfg0.N = 16 from N_0]; omega⟩
    have ht : t.val = (i 0 : ℕ) / 512 := rfl
    obtain ⟨-, -, ⟨e0, e1⟩⟩ := at_out t
    refine ⟨t, flush0_10 t, ?_⟩
    show i ∈ ((View.whole main_v7_2).slice (win0_10.rect t)).set
    rw [View.set_slice_whole, Rect.mem_set_unit]
    intro a
    match a with
    | ⟨0, _⟩ =>
      show cc0_transform_10 (grid0.coords t) 0 * 512 ≤ (i 0 : ℕ) ∧ (i 0 : ℕ) < cc0_transform_10 (grid0.coords t) 0 * 512 + 512
      omega
    | ⟨1, _⟩ =>
      show cc0_transform_10 (grid0.coords t) 1 * 2048 ≤ (i 1 : ℕ) ∧ (i 1 : ℕ) < cc0_transform_10 (grid0.coords t) 1 * 2048 + 2048
      omega

/-- The run, read. -/
theorem run (ρ : Dev nD → PrngReg) : θ_run defs (onTc (τ := τ) (main (F := Ideal))) ⟨m, fun _ => 0, ρ⟩ fun r => ∀ c : Dev nD,
      r.2.mem ((c : Thread nD τ).loc main_v7_0) = res (argOg m c) (argX m c) (argP m c) (argWo m c) (argG m c) (argWp m c) (argWg m c)
      ∧ r.2.mem ((c : Thread nD τ).loc main_v7_1) = resn (argOg m c) (argX m c) (argP m c) (argWo m c) (argG m c) (argWp m c) (argWg m c) (argH0 m c)
      ∧ r.2.mem ((c : Thread nD τ).loc main_v7_2) = resn (argOg m c) (argX m c) (argP m c) (argWo m c) (argG m c) (argWp m c) (argWg m c) (argH1 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (arr8 m c), (h c).2.1.trans (arr9 m c), (h c).2.2.1.trans (arr10 m c), (h c).2.2.2⟩) (Value.run_blocks m ρ)

end Cert.OaIdeal.Body

end
-- ==== Proof.OaRef.lean ====
/- The first output projection's reference computes the result arrays. -/
module

public import proofs.«01_k».proof.Proof.OutSpec
public import proofs.«01_k».proof.Proof.Gen.OaRefIdeal.Read

@[expose] public section

set_option maxRecDepth 16384

noncomputable section

namespace Cert.OaRefIdeal.Sum

open Idealize.ShloMosaic Idealize.ShloMosaic.TcCoe Idealize.SL.Sem
open Cert.OaRefIdeal Cert.OaRefIdeal.Gen Cert.OaRefIdeal.Read
open Cert.OutSpec (Og X P W Wp G rs sg dot x1 x2 xn at2 atn res resn)

variable (og : Og) (x : X) (p : P) (wo : W) (g : G) (wp : Wp) (wg : W)

theorem y_at (r : Fin 8192) (j : Fin 2048) : val_main_v1 (F := Ideal) og wo (ix2 r j) = dot (fun l => og (ix2 r l)) (fun k l => wo (ix2 k l)) j := by
  unfold dot
  pointwise [val_main_v1, val_main_v0]

theorem x1_at (r : Fin 8192) (j : Fin 2048) : val_main_v15 (F := Ideal) og x wo g (ix2 r j)
    = x1 (fun l => og (ix2 r l)) (fun l => x (ix2 r l)) (fun k l => wo (ix2 k l)) (fun l => g (ix1 l)) j := by
  unfold x1 rs
  pointwise [val_main_v15, val_main_v14, val_main_v13, val_main_v12, val_main_v11, val_main_v10, val_main_v9, val_main_v8, val_main_v7, val_main_v6, val_main_v5, val_main_v4, val_main_v3, val_main_v2, val_main_cst, val_main_cst_0, val_main_cst_1]
  simp only [y_at]

theorem x2_at (r : Fin 8192) (j : Fin 2048) : val_main_v25 (F := Ideal) og x p wo g wp wg (ix2 r j) = at2 og x p wo g wp wg r j := by
  unfold at2 x2 sg
  pointwise [val_main_v25, val_main_v24, val_main_v23, val_main_v22, val_main_v21, val_main_v20, val_main_v19, val_main_v18, val_main_v17, val_main_v16, val_main_cst_2, val_main_cst_3]
  simp only [x1_at]
  unfold dot
  rfl

theorem result_eq : val_main_v25 (F := Ideal) og x p wo g wp wg = res og x p wo g wp wg := by
  funext i
  idx_vars i
  exact x2_at og x p wo g wp wg _ _

theorem n0_eq (h : G) : val_main_v39 (F := Ideal) og x p wo g wp wg h = resn og x p wo g wp wg h := by
  funext i
  idx_vars i
  show _ = atn og x p wo g wp wg h i0 i1
  unfold atn xn rs
  pointwise [val_main_v39, val_main_v38, val_main_v37, val_main_v36, val_main_v35, val_main_v34, val_main_v33, val_main_v32, val_main_v31, val_main_v30, val_main_v29, val_main_v28, val_main_v27, val_main_v26, val_main_cst_4, val_main_cst_5, val_main_cst_6]
  simp only [x2_at]
  unfold at2
  rfl

theorem n1_eq (h : G) : val_main_v53 (F := Ideal) og x p wo g wp wg h = resn og x p wo g wp wg h := by
  funext i
  idx_vars i
  show _ = atn og x p wo g wp wg h i0 i1
  unfold atn xn rs
  pointwise [val_main_v53, val_main_v52, val_main_v51, val_main_v50, val_main_v49, val_main_v48, val_main_v47, val_main_v46, val_main_v45, val_main_v44, val_main_v43, val_main_v42, val_main_v41, val_main_v40, val_main_cst_7, val_main_cst_8, val_main_cst_9]
  simp only [x2_at]
  unfold at2
  rfl

end Cert.OaRefIdeal.Sum

end
-- ==== Proof.OaClaims.lean ====
/- The first output projection's claims. -/
module

public import proofs.«01_k».proof.Defs
public import proofs.«01_k».proof.Proof.OaArr
public import proofs.«01_k».proof.Proof.OaRef
public import proofs.«01_k».proof.Proof.Gen.Oa.Frame
public import proofs.«01_k».proof.Proof.Gen.OaIdeal.Frame
public import proofs.«01_k».proof.Proof.Gen.OaRefIdeal.Run
public import Idealize.ShloMosaic.Adequacy
public import Idealize.ShloMosaic.Init

@[expose] public section

noncomputable section

namespace Cert.OaClaims

open Idealize.ShloMosaic Idealize.ShloMosaic.TcCoe Idealize.SL.Sem

theorem frame_p : Cert.quiescent_Oa := fun m ρ _ => Cert.Oa.Gen.frame m ρ
theorem frame_pi : Cert.quiescent_OaIdeal := fun m ρ _ => Cert.OaIdeal.Gen.frame m ρ

theorem frame_ri : Cert.quiescent_OaRefIdeal := fun m ρ _ =>
  (θ_run Cert.OaRefIdeal.defs _ _).mono (fun r h => ⟨fun c => (h c).2.2.2, sem_eq_zero_of_no_sems (by decide) r.2⟩)
    (Cert.OaRefIdeal.Value.run (F := Ideal) m ρ)

theorem preserves : Cert.preserves_Oa_OaIdeal := trivial

/-- Both programs end with the result arrays of the arguments they share. -/
theorem algebraic : Cert.algebraic_OaIdeal_OaRefIdeal := by
  intro m g m' g' _ ha
  refine ⟨fun c => Cert.OutSpec.res (Cert.OaIdeal.Body.argOg m c) (Cert.OaIdeal.Body.argX m c) (Cert.OaIdeal.Body.argP m c) (Cert.OaIdeal.Body.argWo m c) (Cert.OaIdeal.Body.argG m c) (Cert.OaIdeal.Body.argWp m c) (Cert.OaIdeal.Body.argWg m c), fun c => Cert.OutSpec.resn (Cert.OaIdeal.Body.argOg m c) (Cert.OaIdeal.Body.argX m c) (Cert.OaIdeal.Body.argP m c) (Cert.OaIdeal.Body.argWo m c) (Cert.OaIdeal.Body.argG m c) (Cert.OaIdeal.Body.argWp m c) (Cert.OaIdeal.Body.argWg m c) (Cert.OaIdeal.Body.argH0 m c), fun c => Cert.OutSpec.resn (Cert.OaIdeal.Body.argOg m c) (Cert.OaIdeal.Body.argX m c) (Cert.OaIdeal.Body.argP m c) (Cert.OaIdeal.Body.argWo m c) (Cert.OaIdeal.Body.argG m c) (Cert.OaIdeal.Body.argWp m c) (Cert.OaIdeal.Body.argWg m c) (Cert.OaIdeal.Body.argH1 m c), Cert.OaIdeal.Body.run m g, ?_⟩
  refine (θ_run Cert.OaRefIdeal.defs _ _).mono (fun r h c => ⟨(h c).1.trans ?_, (h c).2.1.trans ?_, (h c).2.2.1.trans ?_, (h c).2.2.2⟩) (Cert.OaRefIdeal.Value.run (F := Ideal) m' g')
  · rw [Cert.OaRefIdeal.Read.val_main_v25_eq, (ha c).1, (ha c).2.1, (ha c).2.2.1, (ha c).2.2.2.1, (ha c).2.2.2.2.1, (ha c).2.2.2.2.2.1, (ha c).2.2.2.2.2.2.1]
    exact Cert.OaRefIdeal.Sum.result_eq _ _ _ _ _ _ _
  · rw [Cert.OaRefIdeal.Read.val_main_v39_eq, (ha c).1, (ha c).2.1, (ha c).2.2.1, (ha c).2.2.2.1, (ha c).2.2.2.2.1, (ha c).2.2.2.2.2.1, (ha c).2.2.2.2.2.2.1, (ha c).2.2.2.2.2.2.2.1]
    exact Cert.OaRefIdeal.Sum.n0_eq _ _ _ _ _ _ _ _
  · rw [Cert.OaRefIdeal.Read.val_main_v53_eq, (ha c).1, (ha c).2.1, (ha c).2.2.1, (ha c).2.2.2.1, (ha c).2.2.2.2.1, (ha c).2.2.2.2.2.1, (ha c).2.2.2.2.2.2.1, (ha c).2.2.2.2.2.2.2.2]
    exact Cert.OaRefIdeal.Sum.n1_eq _ _ _ _ _ _ _ _

end Cert.OaClaims

end
-- ==== Proof.ObArr.lean ====
/- The last output projection kernel's result arrays: every grid point writes its rows, and the row blocks cover the arrays. -/
module

public import Idealize.ShloMosaic.Lib.StableHlo.Run
public import proofs.«01_k».proof.Proof.OutSpec
public import proofs.«01_k».proof.Proof.Gen.ObIdeal.Value

@[expose] public section

set_option maxRecDepth 16384

noncomputable section

namespace Cert.ObIdeal.Body

open Cert.ObIdeal Cert.ObIdeal.Gen Idealize.ShloMosaic Idealize.ShloMosaic.TcCoe Idealize.SL.Sem
open Idealize.ShloMosaic.Pipeline (Dat)
open Cert.OutSpec (Og X P W Wp G rs sg dot at2 atn res resn)

theorem z2 : (![0, 0] : Fin 2 → ℕ) = fun _ => 0 := by funext a; fin_cases a <;> rfl

/-! ## The body's terms at an element -/

theorem x1_at (v0 : Vec Ideal S512x2048 .bf16) (v1 : Vec Ideal S2048x2048 .bf16) (v4 : Vec Ideal S512x2048 .f32) (v15 : Vec Ideal S1x2048 .f32)
    (r : Fin 512) (j : Fin 2048) : k0_pay2 v0 v1 v4 v15 (ix2 r j)
      = Cert.OutSpec.x1 (fun l => v0 (ix2 r l)) (fun l => v4 (ix2 r l)) (fun k l => v1 (ix2 k l)) (fun l => v15 (ix2 0 l)) j := by
  unfold Cert.OutSpec.x1 rs dot
  pointwise [k0_pay2]

theorem emb_at (v24 : Vec Ideal S512x256 .f32) (v26 : Vec Ideal S256x2048 .bf16) (r : Fin 512) (j : Fin 2048) :
    k0_pay3 v24 v26 (ix2 r j) = dot (fun l => v24 (ix2 r l)) (fun k l => v26 (ix2 k l)) j := by
  unfold dot
  pointwise [k0_pay3]

theorem gate_at (v0 : Vec Ideal S512x2048 .bf16) (v1 : Vec Ideal S2048x2048 .bf16) (v4 : Vec Ideal S512x2048 .f32) (v15 : Vec Ideal S1x2048 .f32)
    (v21 : Vec Ideal S2048x2048 .bf16) (r : Fin 512) (j : Fin 2048) : k0_pay4 v0 v1 v4 v15 v21 (ix2 r j)
      = sg (dot (Cert.OutSpec.x1 (fun l => v0 (ix2 r l)) (fun l => v4 (ix2 r l)) (fun k l => v1 (ix2 k l)) (fun l => v15 (ix2 0 l))) (fun k l => v21 (ix2 k l)) j) := by
  unfold sg
  pointwise [k0_pay4]
  rw [sub_eq_add_neg, zero_add]
  simp only [x1_at]
  rfl

variable (x0 : Vec Ideal S512x2048 .bf16) (x1 : Vec Ideal S512x2048 .f32) (x2 : Vec Ideal S512x256 .f32) (x3 : Vec Ideal S2048x2048 .bf16)
  (x4 : Vec Ideal S1x2048 .f32) (x5 : Vec Ideal S256x2048 .bf16) (x6 : Vec Ideal S2048x2048 .bf16) (x7 : Vec Ideal S1x2048 .f32)

theorem out8_at (r : Fin 512) (j : Fin 2048) : out0_8 x0 x1 x2 x3 x4 x5 x6 x7 (ix2 r j)
    = Cert.OutSpec.x2 (fun l => x0 (ix2 r l)) (fun l => x1 (ix2 r l)) (fun l => x2 (ix2 r l)) (fun k l => x3 (ix2 k l)) (fun l => x4 (ix2 0 l)) (fun k l => x5 (ix2 k l)) (fun k l => x6 (ix2 k l)) j := by
  unfold out0_8
  rw [View.canon_unit_zero z2]
  rw [View.ld_unit_zero z2, View.ld_unit_zero z2, View.ld_unit_zero z2, View.ld_unit_zero z2, View.ld_unit_zero z2, View.ld_unit_zero z2, View.ld_unit_zero z2]
  unfold Cert.OutSpec.x2
  pointwise [k0_pay1]
  rw [x1_at, emb_at, gate_at]

/-! ## The blocks a point reads -/

variable (m : (ℓ : Loc nD τ sig) → Buf (Elt Ideal) ℓ) (c : Dev nD)

def argOg : Og := m ((c : Thread nD τ).loc main_arg0)
def argX : X := m ((c : Thread nD τ).loc main_arg1)
def argP : P := m ((c : Thread nD τ).loc main_arg2)
def argWo : W := m ((c : Thread nD τ).loc main_arg3)
def argG : G := m ((c : Thread nD τ).loc main_arg4)
def argWp : Wp := m ((c : Thread nD τ).loc main_arg5)
def argWg : W := m ((c : Thread nD τ).loc main_arg6)

theorem lt16 (t : Fin cfg0.N) : t.val < 16 := lt_of_lt_of_eq t.isLt (show cfg0.N = 16 from N_0)
theorem row_lt (t : Fin cfg0.N) (r : Fin 512) : 512 * t.val + r.val < 8192 := by have := lt16 t; omega

theorem at_row : ∀ t : Fin cfg0.N, (cc0_transform_0 (grid0.coords t) 0 = t.val ∧ cc0_transform_0 (grid0.coords t) 1 = 0) ∧ (cc0_transform_1 (grid0.coords t) 0 = t.val ∧ cc0_transform_1 (grid0.coords t) 1 = 0) ∧ (cc0_transform_2 (grid0.coords t) 0 = t.val ∧ cc0_transform_2 (grid0.coords t) 1 = 0) :=
  (by decide +kernel : ∀ t : Fin grid0.N, (cc0_transform_0 (grid0.coords t) 0 = t.val ∧ cc0_transform_0 (grid0.coords t) 1 = 0) ∧ (cc0_transform_1 (grid0.coords t) 0 = t.val ∧ cc0_transform_1 (grid0.coords t) 1 = 0) ∧ (cc0_transform_2 (grid0.coords t) 0 = t.val ∧ cc0_transform_2 (grid0.coords t) 1 = 0))

theorem at_zero : ∀ t : Fin cfg0.N, (cc0_transform_3 (grid0.coords t) 0 = 0 ∧ cc0_transform_3 (grid0.coords t) 1 = 0) ∧ (cc0_transform_4 (grid0.coords t) 0 = 0 ∧ cc0_transform_4 (grid0.coords t) 1 = 0) ∧ (cc0_transform_5 (grid0.coords t) 0 = 0 ∧ cc0_transform_5 (grid0.coords t) 1 = 0) ∧ (cc0_transform_6 (grid0.coords t) 0 = 0 ∧ cc0_transform_6 (grid0.coords t) 1 = 0) :=
  (by decide +kernel : ∀ t : Fin grid0.N, (cc0_transform_3 (grid0.coords t) 0 = 0 ∧ cc0_transform_3 (grid0.coords t) 1 = 0) ∧ (cc0_transform_4 (grid0.coords t) 0 = 0 ∧ cc0_transform_4 (grid0.coords t) 1 = 0) ∧ (cc0_transform_5 (grid0.coords t) 0 = 0 ∧ cc0_transform_5 (grid0.coords t) 1 = 0) ∧ (cc0_transform_6 (grid0.coords t) 0 = 0 ∧ cc0_transform_6 (grid0.coords t) 1 = 0))

theorem at_out : ∀ t : Fin cfg0.N, (cc0_transform_8 (grid0.coords t) 0 = t.val ∧ cc0_transform_8 (grid0.coords t) 1 = 0) ∧ (cc0_transform_8 (grid0.coords t) 0 = t.val ∧ cc0_transform_8 (grid0.coords t) 1 = 0) :=
  (by decide +kernel : ∀ t : Fin grid0.N, (cc0_transform_8 (grid0.coords t) 0 = t.val ∧ cc0_transform_8 (grid0.coords t) 1 = 0) ∧ (cc0_transform_8 (grid0.coords t) 0 = t.val ∧ cc0_transform_8 (grid0.coords t) 1 = 0))

theorem rd0 (t : Fin cfg0.N) (r : Fin 512) (l : Fin 2048) :
    (iblk m c 0 t : Vec Ideal S512x2048 .bf16) (ix2 r l) = argOg m c (ix2 ⟨512 * t.val + r.val, row_lt t r⟩ l) := by
  unfold iblk
  rw [View.read_apply]
  show V m c main_arg0 _ = m ((c : Thread nD τ).loc main_arg0) _
  rw [V_main_arg0]
  congr 1
  funext a
  apply Fin.ext
  obtain ⟨⟨e0, e1⟩, -, -⟩ := at_row t
  match a with
  | ⟨0, _⟩ => show cc0_transform_0 (grid0.coords t) 0 * 512 + 1 * r.val = 512 * t.val + r.val; omega
  | ⟨1, _⟩ => show cc0_transform_0 (grid0.coords t) 1 * 2048 + 1 * l.val = l.val; omega

theorem rd1 (t : Fin cfg0.N) (r : Fin 512) (l : Fin 2048) :
    (iblk m c 1 t : Vec Ideal S512x2048 .f32) (ix2 r l) = argX m c (ix2 ⟨512 * t.val + r.val, row_lt t r⟩ l) := by
  unfold iblk
  rw [View.read_apply]
  show V m c main_arg1 _ = m ((c : Thread nD τ).loc main_arg1) _
  rw [V_main_arg1]
  congr 1
  funext a
  apply Fin.ext
  obtain ⟨-, ⟨e0, e1⟩, -⟩ := at_row t
  match a with
  | ⟨0, _⟩ => show cc0_transform_1 (grid0.coords t) 0 * 512 + 1 * r.val = 512 * t.val + r.val; omega
  | ⟨1, _⟩ => show cc0_transform_1 (grid0.coords t) 1 * 2048 + 1 * l.val = l.val; omega

theorem rd2 (t : Fin cfg0.N) (r : Fin 512) (l : Fin 256) :
    (iblk m c 2 t : Vec Ideal S512x256 .f32) (ix2 r l) = argP m c (ix2 ⟨512 * t.val + r.val, row_lt t r⟩ l) := by
  unfold iblk
  rw [View.read_apply]
  show V m c main_arg2 _ = m ((c : Thread nD τ).loc main_arg2) _
  rw [V_main_arg2]
  congr 1
  funext a
  apply Fin.ext
  obtain ⟨-, -, ⟨e0, e1⟩⟩ := at_row t
  match a with
  | ⟨0, _⟩ => show cc0_transform_2 (grid0.coords t) 0 * 512 + 1 * r.val = 512 * t.val + r.val; omega
  | ⟨1, _⟩ => show cc0_transform_2 (grid0.coords t) 1 * 256 + 1 * l.val = l.val; omega

theorem V_wo : V m c main_v0 = (truncf (F := Ideal) .bf16 (m ((c : Thread nD τ).loc main_arg3) : (⟨S2048x2048, .f32⟩ : BufTy).Contents (Elt Ideal)) Facts₀.bitsLt_bf16_f32 : (⟨S2048x2048, .bf16⟩ : BufTy).Contents (Elt Ideal)) := by
  unfold_abbrev_sides
  after_results

theorem V_wp : V m c main_v1 = (truncf (F := Ideal) .bf16 (m ((c : Thread nD τ).loc main_arg5) : (⟨S256x2048, .f32⟩ : BufTy).Contents (Elt Ideal)) Facts₀.bitsLt_bf16_f32 : (⟨S256x2048, .bf16⟩ : BufTy).Contents (Elt Ideal)) := by
  unfold_abbrev_sides
  after_results

theorem V_wg : V m c main_v2 = (truncf (F := Ideal) .bf16 (m ((c : Thread nD τ).loc main_arg6) : (⟨S2048x2048, .f32⟩ : BufTy).Contents (Elt Ideal)) Facts₀.bitsLt_bf16_f32 : (⟨S2048x2048, .bf16⟩ : BufTy).Contents (Elt Ideal)) := by
  unfold_abbrev_sides
  after_results

theorem V_g : V m c main_v4 = (shapeCast S1x2048 (m ((c : Thread nD τ).loc main_arg4) : (⟨S2048, .f32⟩ : BufTy).Contents (Elt Ideal)) Facts₀.shapeCasts_S2048_S1x2048 : (⟨S1x2048, .f32⟩ : BufTy).Contents (Elt Ideal)) := by
  unfold_abbrev_sides
  after_results
  rfl

theorem rd3 (t : Fin cfg0.N) (k : Fin 2048) (l : Fin 2048) :
    (iblk m c 3 t : Vec Ideal S2048x2048 .bf16) (ix2 k l) = argWo m c (ix2 k l) := by
  unfold iblk
  rw [View.read_apply]
  show V m c main_v0 _ = m ((c : Thread nD τ).loc main_arg3) _
  rw [V_wo]
  show m ((c : Thread nD τ).loc main_arg3) _ = m ((c : Thread nD τ).loc main_arg3) _
  congr 1
  funext a
  apply Fin.ext
  obtain ⟨⟨e0, e1⟩, -, -, -⟩ := at_zero t
  match a with
  | ⟨0, _⟩ => show cc0_transform_3 (grid0.coords t) 0 * 2048 + 1 * k.val = k.val; omega
  | ⟨1, _⟩ => show cc0_transform_3 (grid0.coords t) 1 * 2048 + 1 * l.val = l.val; omega

theorem rd5 (t : Fin cfg0.N) (k : Fin 256) (l : Fin 2048) :
    (iblk m c 5 t : Vec Ideal S256x2048 .bf16) (ix2 k l) = argWp m c (ix2 k l) := by
  unfold iblk
  rw [View.read_apply]
  show V m c main_v1 _ = m ((c : Thread nD τ).loc main_arg5) _
  rw [V_wp]
  show m ((c : Thread nD τ).loc main_arg5) _ = m ((c : Thread nD τ).loc main_arg5) _
  congr 1
  funext a
  apply Fin.ext
  obtain ⟨-, -, ⟨e0, e1⟩, -⟩ := at_zero t
  match a with
  | ⟨0, _⟩ => show cc0_transform_5 (grid0.coords t) 0 * 256 + 1 * k.val = k.val; omega
  | ⟨1, _⟩ => show cc0_transform_5 (grid0.coords t) 1 * 2048 + 1 * l.val = l.val; omega

theorem rd6 (t : Fin cfg0.N) (k : Fin 2048) (l : Fin 2048) :
    (iblk m c 6 t : Vec Ideal S2048x2048 .bf16) (ix2 k l) = argWg m c (ix2 k l) := by
  unfold iblk
  rw [View.read_apply]
  show V m c main_v2 _ = m ((c : Thread nD τ).loc main_arg6) _
  rw [V_wg]
  show m ((c : Thread nD τ).loc main_arg6) _ = m ((c : Thread nD τ).loc main_arg6) _
  congr 1
  funext a
  apply Fin.ext
  obtain ⟨-, -, -, ⟨e0, e1⟩⟩ := at_zero t
  match a with
  | ⟨0, _⟩ => show cc0_transform_6 (grid0.coords t) 0 * 2048 + 1 * k.val = k.val; omega
  | ⟨1, _⟩ => show cc0_transform_6 (grid0.coords t) 1 * 2048 + 1 * l.val = l.val; omega

theorem rd4 (t : Fin cfg0.N) (l : Fin 2048) : (iblk m c 4 t : Vec Ideal S1x2048 .f32) (ix2 0 l) = argG m c (ix1 l) := by
  have e : (iblk m c 4 t : Vec Ideal S1x2048 .f32) (ix2 0 l) = V m c main_v4 (ix2 0 l) := by
    unfold iblk
    rw [View.read_apply]
    show V m c main_v4 _ = V m c main_v4 _
    congr 1
    funext a
    apply Fin.ext
    obtain ⟨-, ⟨e0, e1⟩, -, -⟩ := at_zero t
    match a with
    | ⟨0, _⟩ => show cc0_transform_4 (grid0.coords t) 0 * 1 + 1 * 0 = 0; omega
    | ⟨1, _⟩ => show cc0_transform_4 (grid0.coords t) 1 * 2048 + 1 * l.val = l.val; omega
  rw [e, V_g]
  show shapeCast S1x2048 (argG m c) _ (ix2 0 l) = _
  pointwise

/-! ## The result arrays -/

theorem flushed8_at (t : Fin cfg0.N) (r : Fin 512) (j : Fin 2048) :
    ((dats m 0 c).flushed 8 t : Vec Ideal S512x2048 .f32) (ix2 r j) = at2 (argOg m c) (argX m c) (argP m c) (argWo m c) (argG m c) (argWp m c) (argWg m c) ⟨512 * t.val + r.val, row_lt t r⟩ j := by
  rw [Value.flushed8]
  show out0_8 (iblk m c 0 t) (iblk m c 1 t) (iblk m c 2 t) (iblk m c 3 t) (iblk m c 4 t) (iblk m c 5 t) (iblk m c 6 t) (iblk m c 7 t) (ix2 r j) = _
  refine (out8_at _ _ _ _ _ _ _ _ r j).trans ?_
  unfold at2
  simp only [rd0, rd1, rd2, rd3, rd4, rd5, rd6]

theorem arr8 : (dats m 0 c).arrAt 8 cfg0.N = res (argOg m c) (argX m c) (argP m c) (argWo m c) (argG m c) (argWp m c) (argWg m c) := by
  refine (dats m 0 c).arrAt_eq_of_cover 8 (res (argOg m c) (argX m c) (argP m c) (argWo m c) (argG m c) (argWp m c) (argWg m c)) (fun t _ => ?_) fun i => ?_
  · obtain ⟨⟨e0, e1⟩, -⟩ := at_out t
    funext y
    obtain ⟨r, j, rfl⟩ : ∃ (r : Fin 512) (j : Fin 2048), (y : S512x2048.Idx) = ix2 r j := ⟨y 0, y 1, eq_ix2 y⟩
    refine (flushed8_at m c t r j).trans ?_
    rw [View.read_apply]
    show at2 (argOg m c) (argX m c) (argP m c) (argWo m c) (argG m c) (argWp m c) (argWg m c) _ _ = res (argOg m c) (argX m c) (argP m c) (argWo m c) (argG m c) (argWp m c) (argWg m c) _
    have e : (((cfg0.win 8).blk t).view.emb (ix2 r j : S512x2048.Idx) : S8192x2048.Idx) = ix2 ⟨512 * t.val + r.val, row_lt t r⟩ j := by
      funext a
      apply Fin.ext
      match a with
      | ⟨0, _⟩ => show cc0_transform_8 (grid0.coords t) 0 * 512 + 1 * r.val = 512 * t.val + r.val; omega
      | ⟨1, _⟩ => show cc0_transform_8 (grid0.coords t) 1 * 2048 + 1 * j.val = j.val; omega
    exact (congrArg (res (argOg m c) (argX m c) (argP m c) (argWo m c) (argG m c) (argWp m c) (argWg m c)) e).symm
  · have h0 : (i 0 : ℕ) < 8192 := (i 0).isLt
    have h1 : (i 1 : ℕ) < 2048 := (i 1).isLt
    let t : Fin cfg0.N := ⟨(i 0 : ℕ) / 512, by rw [show cfg0.N = 16 from N_0]; omega⟩
    have ht : t.val = (i 0 : ℕ) / 512 := rfl
    obtain ⟨⟨e0, e1⟩, -⟩ := at_out t
    refine ⟨t, flush0_8 t, ?_⟩
    show i ∈ ((View.whole main_v5).slice (win0_8.rect t)).set
    rw [View.set_slice_whole, Rect.mem_set_unit]
    intro a
    match a with
    | ⟨0, _⟩ =>
      show cc0_transform_8 (grid0.coords t) 0 * 512 ≤ (i 0 : ℕ) ∧ (i 0 : ℕ) < cc0_transform_8 (grid0.coords t) 0 * 512 + 512
      omega
    | ⟨1, _⟩ =>
      show cc0_transform_8 (grid0.coords t) 1 * 2048 ≤ (i 1 : ℕ) ∧ (i 1 : ℕ) < cc0_transform_8 (grid0.coords t) 1 * 2048 + 2048
      omega

/-- The run, read. -/
theorem run (ρ : Dev nD → PrngReg) : θ_run defs (onTc (τ := τ) (main (F := Ideal))) ⟨m, fun _ => 0, ρ⟩ fun r => ∀ c : Dev nD,
      r.2.mem ((c : Thread nD τ).loc main_v5) = res (argOg m c) (argX m c) (argP m c) (argWo m c) (argG m c) (argWp m c) (argWg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (arr8 m c), (h c).2⟩) (Value.run_blocks m ρ)

end Cert.ObIdeal.Body

end
-- ==== Proof.ObRef.lean ====
/- The last output projection's reference computes the result arrays. -/
module

public import proofs.«01_k».proof.Proof.OutSpec
public import proofs.«01_k».proof.Proof.Gen.ObRefIdeal.Read

@[expose] public section

set_option maxRecDepth 16384

noncomputable section

namespace Cert.ObRefIdeal.Sum

open Idealize.ShloMosaic Idealize.ShloMosaic.TcCoe Idealize.SL.Sem
open Cert.ObRefIdeal Cert.ObRefIdeal.Gen Cert.ObRefIdeal.Read
open Cert.OutSpec (Og X P W Wp G rs sg dot x1 x2 xn at2 atn res resn)

variable (og : Og) (x : X) (p : P) (wo : W) (g : G) (wp : Wp) (wg : W)

theorem y_at (r : Fin 8192) (j : Fin 2048) : val_main_v1 (F := Ideal) og wo (ix2 r j) = dot (fun l => og (ix2 r l)) (fun k l => wo (ix2 k l)) j := by
  unfold dot
  pointwise [val_main_v1, val_main_v0]

theorem x1_at (r : Fin 8192) (j : Fin 2048) : val_main_v15 (F := Ideal) og x wo g (ix2 r j)
    = x1 (fun l => og (ix2 r l)) (fun l => x (ix2 r l)) (fun k l => wo (ix2 k l)) (fun l => g (ix1 l)) j := by
  unfold x1 rs
  pointwise [val_main_v15, val_main_v14, val_main_v13, val_main_v12, val_main_v11, val_main_v10, val_main_v9, val_main_v8, val_main_v7, val_main_v6, val_main_v5, val_main_v4, val_main_v3, val_main_v2, val_main_cst, val_main_cst_0, val_main_cst_1]
  simp only [y_at]

theorem x2_at (r : Fin 8192) (j : Fin 2048) : val_main_v25 (F := Ideal) og x p wo g wp wg (ix2 r j) = at2 og x p wo g wp wg r j := by
  unfold at2 x2 sg
  pointwise [val_main_v25, val_main_v24, val_main_v23, val_main_v22, val_main_v21, val_main_v20, val_main_v19, val_main_v18, val_main_v17, val_main_v16, val_main_cst_2, val_main_cst_3]
  simp only [x1_at]
  unfold dot
  rfl

theorem result_eq : val_main_v25 (F := Ideal) og x p wo g wp wg = res og x p wo g wp wg := by
  funext i
  idx_vars i
  exact x2_at og x p wo g wp wg _ _

end Cert.ObRefIdeal.Sum

end
-- ==== Proof.ObClaims.lean ====
/- The last output projection's claims. -/
module

public import proofs.«01_k».proof.Defs
public import proofs.«01_k».proof.Proof.ObArr
public import proofs.«01_k».proof.Proof.ObRef
public import proofs.«01_k».proof.Proof.Gen.Ob.Frame
public import proofs.«01_k».proof.Proof.Gen.ObIdeal.Frame
public import proofs.«01_k».proof.Proof.Gen.ObRefIdeal.Run
public import Idealize.ShloMosaic.Adequacy
public import Idealize.ShloMosaic.Init

@[expose] public section

noncomputable section

namespace Cert.ObClaims

open Idealize.ShloMosaic Idealize.ShloMosaic.TcCoe Idealize.SL.Sem

theorem frame_p : Cert.quiescent_Ob := fun m ρ _ => Cert.Ob.Gen.frame m ρ
theorem frame_pi : Cert.quiescent_ObIdeal := fun m ρ _ => Cert.ObIdeal.Gen.frame m ρ

theorem frame_ri : Cert.quiescent_ObRefIdeal := fun m ρ _ =>
  (θ_run Cert.ObRefIdeal.defs _ _).mono (fun r h => ⟨fun c => (h c).2, sem_eq_zero_of_no_sems (by decide) r.2⟩)
    (Cert.ObRefIdeal.Value.run (F := Ideal) m ρ)

theorem preserves : Cert.preserves_Ob_ObIdeal := trivial

/-- Both programs end with the result arrays of the arguments they share. -/
theorem algebraic : Cert.algebraic_ObIdeal_ObRefIdeal := by
  intro m g m' g' _ ha
  refine ⟨fun c => Cert.OutSpec.res (Cert.ObIdeal.Body.argOg m c) (Cert.ObIdeal.Body.argX m c) (Cert.ObIdeal.Body.argP m c) (Cert.ObIdeal.Body.argWo m c) (Cert.ObIdeal.Body.argG m c) (Cert.ObIdeal.Body.argWp m c) (Cert.ObIdeal.Body.argWg m c), Cert.ObIdeal.Body.run m g, ?_⟩
  refine (θ_run Cert.ObRefIdeal.defs _ _).mono (fun r h c => ⟨(h c).1.trans ?_, (h c).2⟩) (Cert.ObRefIdeal.Value.run (F := Ideal) m' g')
  rw [Cert.ObRefIdeal.Read.val_main_v25_eq, (ha c).1, (ha c).2.1, (ha c).2.2.1, (ha c).2.2.2.1, (ha c).2.2.2.2.1, (ha c).2.2.2.2.2.1, (ha c).2.2.2.2.2.2]
  exact Cert.ObRefIdeal.Sum.result_eq _ _ _ _ _ _ _

end Cert.ObClaims

end
-- ==== Proof.MlBody.lean ====
/- The latent attention kernel's body, read as values: what one grid point leaves in its output block is a pure function of
   the point's four input blocks. Each trip of the loop folds one earlier block of keys into the accumulator, the running
   maximum and the running sum; the two blocks on the diagonal follow under their mask. -/
module

public import proofs.«01_k».proof.Proof.Gen.MlIdeal.Value

@[expose] public section

set_option maxRecDepth 16384

noncomputable section

namespace Cert.MlIdeal.Body

open Cert.MlIdeal Cert.MlIdeal.Gen Idealize.ShloMosaic Idealize.ShloMosaic.TcCoe Idealize.SL.Sem

variable {F : FTy → Type} [FloatOps F] [Named F]

/-- The contents of the accumulator, the running maximum and the running sum. -/
abbrev St (F : FTy → Type) : Type := Vec F S512x128 .f32 × Vec F S512x1 .f32 × Vec F S512x1 .f32

/-- One block of 256 keys of the whole head. -/
def kld (X : Vec F S1x1x4096x192 .bf16) (off : Fin 4 → ℕ) (h : ∀ a, off a + S1x1x256x192.size a ≤ S1x1x4096x192.size a) :
    Vec F S1x1x256x192 .bf16 := View.ld X (Rect.unit (s := S1x1x4096x192) off S1x1x256x192.size h)

/-- One block of 256 values of the whole head. -/
def vld (X : Vec F S1x4096x128 .bf16) (off : Fin 3 → ℕ) (h : ∀ a, off a + S1x256x128.size a ≤ S1x4096x128.size a) :
    Vec F S1x256x128 .bf16 := View.ld X (Rect.unit (s := S1x4096x128) off S1x256x128.size h)

/-- The chunk of each query row of the block. -/
def rowChunk : IVec S512x256 32 := k0_pay24 (iota .tc S512x256 32 [0] iota_S512x256_d0_w32) 64#32 k0_pay22 k0_pay23

/-- The mask of the key block that holds the first half of the diagonal. -/
def mask0 : IVec S512x256 1 := k0_pay26 (iota .tc S512x256 32 [0] iota_S512x256_d0_w32) 64#32 k0_pay22 k0_pay23

/-- Before any key block. -/
def st0 : St F := (k0_pay17, k0_pay18, k0_pay19)

/-- One trip of the loop. -/
def trp (i : grid0.Coords) (x0 : Vec F S1x1x512x192 .bf16) (x1 : Vec F S1x1x4096x192 .bf16) (x2 : Vec F S1x4096x128 .bf16)
    (k : Fin (k0_t1_loop i).trips) (s : St F) : St F :=
  let K := kld x1 (k0_off1 i k) (k0_off1_inb i k)
  let V := vld x2 (k0_off2 i k) (k0_off2_inb i k)
  (k0_pay9 (k0_pay16 x0) K V s.2.1 s.1, k0_pay20 (k0_pay5 (k0_pay16 x0) K s.2.1), k0_pay8 (k0_pay16 x0) K s.2.1 s.2.2)

/-- The first `k` trips, one after another. -/
def fold (i : grid0.Coords) (x0 : Vec F S1x1x512x192 .bf16) (x1 : Vec F S1x1x4096x192 .bf16) (x2 : Vec F S1x4096x128 .bf16) (s : St F) : ℕ → St F
  | 0 => s
  | k + 1 => if h : k < (k0_t1_loop i).trips then trp i x0 x1 x2 ⟨k, h⟩ (fold i x0 x1 x2 s k) else fold i x0 x1 x2 s k

/-- After the key block that holds the first half of the diagonal. -/
def dia0 (i : grid0.Coords) (x0 : Vec F S1x1x512x192 .bf16) (x1 : Vec F S1x1x4096x192 .bf16) (x2 : Vec F S1x4096x128 .bf16) (s : St F) : St F :=
  let K := kld x1 (k0_off5 i 0#32) (k0_off5_inb i 0)
  let V := vld x2 (k0_off6 i 0#32) (k0_off6_inb i 0)
  (k0_pay32 (k0_pay16 x0) mask0 K V s.2.1 s.1, k0_pay33 (k0_pay28 (k0_pay16 x0) mask0 K s.2.1), k0_pay31 (k0_pay16 x0) mask0 K s.2.1 s.2.2)

/-- After the key block that holds the second half of the diagonal. -/
def dia1 (i : grid0.Coords) (x0 : Vec F S1x1x512x192 .bf16) (x1 : Vec F S1x1x4096x192 .bf16) (x2 : Vec F S1x4096x128 .bf16) (s : St F) : St F :=
  let K := kld x1 (k0_off5 i 1#32) (k0_off5_inb i 1)
  let V := vld x2 (k0_off6 i 1#32) (k0_off6_inb i 1)
  (k0_pay1 (k0_pay34 V) (k0_pay37 (k0_pay16 x0) rowChunk k0_pay25 K s.2.1) (k0_pay38 (k0_pay16 x0) rowChunk k0_pay25 K s.2.1) s.1,
    k0_pay2 (k0_pay36 (k0_pay16 x0) rowChunk k0_pay25 K s.2.1), k0_pay39 (k0_pay16 x0) rowChunk k0_pay25 K s.2.1 s.2.2)

/-- What the loop's trips and the two diagonal blocks leave. -/
def fin (i : grid0.Coords) (x0 : Vec F S1x1x512x192 .bf16) (x1 : Vec F S1x1x4096x192 .bf16) (x2 : Vec F S1x4096x128 .bf16) : St F :=
  dia1 i x0 x1 x2 (dia0 i x0 x1 x2 (fold i x0 x1 x2 st0 (k0_t1_loop i).trips))

/-- What the point writes to its output block. -/
def outv (i : grid0.Coords) (x0 : Vec F S1x1x512x192 .bf16) (x1 : Vec F S1x1x4096x192 .bf16) (x2 : Vec F S1x4096x128 .bf16)
    (x3 : Vec F S1x512x128 .bf16) : Vec F S1x512x128 .bf16 := k0_pay3 (fin i x0 x1 x2).1 (fin i x0 x1 x2).2.2 x3

/-- The remainder loop runs no trip. -/
theorem trips2 (i : grid0.Coords) : Scf.trips (k0_t2_loop i).lb (k0_t2_loop i).ub (k0_t2_loop i).st = 0 := by
  have h : ∀ j : Fin 8, Scf.trips (Scalar.addi 0#32 (Scalar.muli (Scalar.divsi (Scalar.subi (Scalar.muli (BitVec.ofNat 32 j.val) 2#32) 0#32) 1#32) 1#32))
      (Scalar.addi 0#32 (Scalar.subi (Scalar.muli (BitVec.ofNat 32 j.val) 2#32) 0#32)) 1#32 = 0 := by decide +kernel
  exact h (i 2)

/-- The loop runs twice as many trips as the query block's number. -/
theorem trips1 (i : grid0.Coords) : (k0_t1_loop i).trips = 2 * (i 2).val := by
  have h : ∀ j : Fin 8, Scf.trips 0#32 (Scalar.addi 0#32 (Scalar.muli (Scalar.divsi (Scalar.subi (Scalar.muli (BitVec.ofNat 32 j.val) 2#32) 0#32) 1#32) 1#32)) 1#32
      = 2 * j.val := by decide +kernel
  exact h (i 2)

theorem triple_eq {s : St F} {a : Vec F S512x128 .f32} {b d : Vec F S512x1 .f32} (ha : a = s.1) (hb : b = s.2.1) (hd : d = s.2.2) : (a, b, d) = s := by
  subst ha hb hd; rfl

theorem z2 : (![0, 0] : Fin 2 → ℕ) = fun _ => 0 := by funext a; fin_cases a <;> rfl
theorem z3 : (![0, 0, 0] : Fin 3 → ℕ) = fun _ => 0 := by funext a; fin_cases a <;> rfl
theorem z4 : (![0, 0, 0, 0] : Fin 4 → ℕ) = fun _ => 0 := by funext a; fin_cases a <;> rfl

section
variable (𝒱 : Variants) (c : Dev nD) (bd : Option 𝒱.V) (i : grid0.Coords) (arg3 : Memref sig .tc .vmem S1x1x512x192 .bf16) (harg3 : arg3.IsWhole) (arg4 : Memref sig .tc .vmem S1x1x4096x192 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x128 .f32) (harg8 : arg8.IsWhole) (arg9 : Memref sig .tc .vmem S512x1 .f32) (harg9 : arg9.IsWhole) (arg10 : Memref sig .tc .vmem S512x1 .f32) (harg10 : arg10.IsWhole) (x0 : Vec F S1x1x512x192 .bf16) (x1 : Vec F S1x1x4096x192 .bf16) (x2 : Vec F S1x4096x128 .bf16)

/-- One trip stores the whole accumulator, the whole maximum and the whole sum, computed from what it finds in them. -/
theorem tripL_eq (k : Fin (k0_t1_loop i).trips) (acc : BitVec 32) (f8 : BufTy.Contents (Elt F) arg8.view.ty) (f9 : BufTy.Contents (Elt F) arg9.view.ty) (f10 : BufTy.Contents (Elt F) arg10.view.ty) :
    tripL_k0_t1 (F := F) 𝒱 c bd i arg3 harg3 arg4 harg4 arg5 harg5 arg6 harg6 arg7 harg7 arg8 harg8 arg9 harg9 arg10 harg10 x0 (harg4.unread x1) (harg5.unread x2) k acc f8 f9 f10
      = ([⟨Rect.unit (s := S512x128) ![0, 0] S512x128.size inb_S512x128_S512x128_0_0, (trp i x0 x1 x2 k (arg8.view.read (Elt F) f8, arg9.view.read (Elt F) f9, arg10.view.read (Elt F) f10)).1⟩],
        [⟨Rect.unit (s := S512x1) ![0, 0] S512x1.size inb_S512x1_S512x1_0_0, (trp i x0 x1 x2 k (arg8.view.read (Elt F) f8, arg9.view.read (Elt F) f9, arg10.view.read (Elt F) f10)).2.1⟩],
        [⟨Rect.unit (s := S512x1) ![0, 0] S512x1.size inb_S512x1_S512x1_0_0, (trp i x0 x1 x2 k (arg8.view.read (Elt F) f8, arg9.view.read (Elt F) f9, arg10.view.read (Elt F) f10)).2.2⟩]) := by
  have a4 : View.readAt (Elt F) arg4.view (Rect.unit (s := S1x1x4096x192) (k0_off1 i k) S1x1x256x192.size (k0_off1_inb i k)).toLoadRect (harg4.unread x1) = kld x1 (k0_off1 i k) (k0_off1_inb i k) := by
    rw [View.readAt_eq_ld, harg4.read_unread]; rfl
  have a5 : View.readAt (Elt F) arg5.view (Rect.unit (s := S1x4096x128) (k0_off2 i k) S1x256x128.size (k0_off2_inb i k)).toLoadRect (harg5.unread x2) = vld x2 (k0_off2 i k) (k0_off2_inb i k) := by
    rw [View.readAt_eq_ld, harg5.read_unread]; rfl
  have a8 : View.readAt (Elt F) arg8.view (Rect.unit (s := S512x128) ![0, 0] S512x128.size inb_S512x128_S512x128_0_0).toLoadRect f8 = arg8.view.read (Elt F) f8 := View.ld_unit_zero z2 _ _
  have a9 : View.readAt (Elt F) arg9.view (Rect.unit (s := S512x1) ![0, 0] S512x1.size inb_S512x1_S512x1_0_0).toLoadRect f9 = arg9.view.read (Elt F) f9 := View.ld_unit_zero z2 _ _
  have a10 : View.readAt (Elt F) arg10.view (Rect.unit (s := S512x1) ![0, 0] S512x1.size inb_S512x1_S512x1_0_0).toLoadRect f10 = arg10.view.read (Elt F) f10 := View.ld_unit_zero z2 _ _
  unfold trp
  dsimp only
  rw [← a4, ← a5, ← a8, ← a9, ← a10]
  unfold tripL_k0_t1 trip_k0_t1
  rfl

theorem read_cons8 (f : BufTy.Contents (Elt F) arg8.view.ty) (w : Vec F S512x128 .f32) (L : List (View.Piece (Elt F) S512x128 .f32)) :
    arg8.view.read (Elt F) (arg8.view.writes (Elt F) f (⟨Rect.unit (s := S512x128) ![0, 0] S512x128.size inb_S512x128_S512x128_0_0, w⟩ :: L)) = w := by
  rw [View.read_writes_eq_canon _ _ _ (fun y => ⟨_, List.mem_cons_self, View.mem_set_unit_zero z2 inb_S512x128_S512x128_0_0 y⟩)]
  exact View.canon_cons_unit_zero z2 _ _ _

theorem rc8 (w : Vec F S512x128 .f32) (L : List (View.Piece (Elt F) S512x128 .f32)) :
    arg8.view.readCov (⟨Rect.unit (s := S512x128) ![0, 0] S512x128.size inb_S512x128_S512x128_0_0, w⟩ :: L) (Rect.unit (s := S512x128) ![0, 0] S512x128.size inb_S512x128_S512x128_0_0).toLoadRect = w := by
  rw [View.readCov_eq_canon_ld _ _ _ (fun y => ⟨_, List.mem_cons_self, View.mem_set_unit_zero z2 inb_S512x128_S512x128_0_0 y⟩), View.ld_unit_zero z2]
  exact View.canon_cons_unit_zero z2 _ _ _

theorem rcApp8 (L L' : List (View.Piece (Elt F) S512x128 .f32)) :
    arg8.view.readCov (L ++ L') (Rect.unit (s := S512x128) ![0, 0] S512x128.size inb_S512x128_S512x128_0_0).toLoadRect
      = arg8.view.read (Elt F) (arg8.view.writes (Elt F) (arg8.view.writes (Elt F) arg8.view.junk L') L) := by
  rw [← View.writes_append]
  exact View.ld_unit_zero z2 _ _

theorem read_cons9 (f : BufTy.Contents (Elt F) arg9.view.ty) (w : Vec F S512x1 .f32) (L : List (View.Piece (Elt F) S512x1 .f32)) :
    arg9.view.read (Elt F) (arg9.view.writes (Elt F) f (⟨Rect.unit (s := S512x1) ![0, 0] S512x1.size inb_S512x1_S512x1_0_0, w⟩ :: L)) = w := by
  rw [View.read_writes_eq_canon _ _ _ (fun y => ⟨_, List.mem_cons_self, View.mem_set_unit_zero z2 inb_S512x1_S512x1_0_0 y⟩)]
  exact View.canon_cons_unit_zero z2 _ _ _

theorem rc9 (w : Vec F S512x1 .f32) (L : List (View.Piece (Elt F) S512x1 .f32)) :
    arg9.view.readCov (⟨Rect.unit (s := S512x1) ![0, 0] S512x1.size inb_S512x1_S512x1_0_0, w⟩ :: L) (Rect.unit (s := S512x1) ![0, 0] S512x1.size inb_S512x1_S512x1_0_0).toLoadRect = w := by
  rw [View.readCov_eq_canon_ld _ _ _ (fun y => ⟨_, List.mem_cons_self, View.mem_set_unit_zero z2 inb_S512x1_S512x1_0_0 y⟩), View.ld_unit_zero z2]
  exact View.canon_cons_unit_zero z2 _ _ _

theorem rcApp9 (L L' : List (View.Piece (Elt F) S512x1 .f32)) :
    arg9.view.readCov (L ++ L') (Rect.unit (s := S512x1) ![0, 0] S512x1.size inb_S512x1_S512x1_0_0).toLoadRect
      = arg9.view.read (Elt F) (arg9.view.writes (Elt F) (arg9.view.writes (Elt F) arg9.view.junk L') L) := by
  rw [← View.writes_append]
  exact View.ld_unit_zero z2 _ _

theorem read_cons10 (f : BufTy.Contents (Elt F) arg10.view.ty) (w : Vec F S512x1 .f32) (L : List (View.Piece (Elt F) S512x1 .f32)) :
    arg10.view.read (Elt F) (arg10.view.writes (Elt F) f (⟨Rect.unit (s := S512x1) ![0, 0] S512x1.size inb_S512x1_S512x1_0_0, w⟩ :: L)) = w := by
  rw [View.read_writes_eq_canon _ _ _ (fun y => ⟨_, List.mem_cons_self, View.mem_set_unit_zero z2 inb_S512x1_S512x1_0_0 y⟩)]
  exact View.canon_cons_unit_zero z2 _ _ _

theorem rc10 (w : Vec F S512x1 .f32) (L : List (View.Piece (Elt F) S512x1 .f32)) :
    arg10.view.readCov (⟨Rect.unit (s := S512x1) ![0, 0] S512x1.size inb_S512x1_S512x1_0_0, w⟩ :: L) (Rect.unit (s := S512x1) ![0, 0] S512x1.size inb_S512x1_S512x1_0_0).toLoadRect = w := by
  rw [View.readCov_eq_canon_ld _ _ _ (fun y => ⟨_, List.mem_cons_self, View.mem_set_unit_zero z2 inb_S512x1_S512x1_0_0 y⟩), View.ld_unit_zero z2]
  exact View.canon_cons_unit_zero z2 _ _ _

theorem rcApp10 (L L' : List (View.Piece (Elt F) S512x1 .f32)) :
    arg10.view.readCov (L ++ L') (Rect.unit (s := S512x1) ![0, 0] S512x1.size inb_S512x1_S512x1_0_0).toLoadRect
      = arg10.view.read (Elt F) (arg10.view.writes (Elt F) (arg10.view.writes (Elt F) arg10.view.junk L') L) := by
  rw [← View.writes_append]
  exact View.ld_unit_zero z2 _ _

/-- What the accumulator, the maximum and the sum hold before trip `k`. -/
theorem st_eq (G8 : BufTy.Contents (Elt F) arg8.view.ty) (G9 : BufTy.Contents (Elt F) arg9.view.ty) (G10 : BufTy.Contents (Elt F) arg10.view.ty) (init : BitVec 32) (s : St F)
    (h8 : arg8.view.read (Elt F) G8 = s.1) (h9 : arg9.view.read (Elt F) G9 = s.2.1) (h10 : arg10.view.read (Elt F) G10 = s.2.2) : ∀ k : ℕ, k ≤ (k0_t1_loop i).trips →
      arg8.view.read (Elt F) (arg8.view.writes (Elt F) G8 (st_k0_t1 (F := F) 𝒱 c bd i arg3 harg3 arg4 harg4 arg5 harg5 arg6 harg6 arg7 harg7 arg8 harg8 arg9 harg9 arg10 harg10 x0 (harg4.unread x1) (harg5.unread x2) G8 G9 G10 init k).2.1) = (fold i x0 x1 x2 s k).1
      ∧ arg9.view.read (Elt F) (arg9.view.writes (Elt F) G9 (st_k0_t1 (F := F) 𝒱 c bd i arg3 harg3 arg4 harg4 arg5 harg5 arg6 harg6 arg7 harg7 arg8 harg8 arg9 harg9 arg10 harg10 x0 (harg4.unread x1) (harg5.unread x2) G8 G9 G10 init k).2.2.1) = (fold i x0 x1 x2 s k).2.1
      ∧ arg10.view.read (Elt F) (arg10.view.writes (Elt F) G10 (st_k0_t1 (F := F) 𝒱 c bd i arg3 harg3 arg4 harg4 arg5 harg5 arg6 harg6 arg7 harg7 arg8 harg8 arg9 harg9 arg10 harg10 x0 (harg4.unread x1) (harg5.unread x2) G8 G9 G10 init k).2.2.2) = (fold i x0 x1 x2 s k).2.2
  | 0, _ => ⟨h8, h9, h10⟩
  | k + 1, hk => by
    have ih := st_eq G8 G9 G10 init s h8 h9 h10 k (by omega)
    have e := st_k0_t1_succ (F := F) 𝒱 c bd i arg3 harg3 arg4 harg4 arg5 harg5 arg6 harg6 arg7 harg7 arg8 harg8 arg9 harg9 arg10 harg10 x0 (harg4.unread x1) (harg5.unread x2) G8 G9 G10 init ⟨k, hk⟩
    rw [tripL_eq] at e
    have e1 := congrArg (fun p => p.2.1) e
    have e2 := congrArg (fun p => p.2.2.1) e
    have e3 := congrArg (fun p => p.2.2.2) e
    dsimp only at e1 e2 e3
    have ef : fold i x0 x1 x2 s (k + 1) = trp i x0 x1 x2 ⟨k, hk⟩ (fold i x0 x1 x2 s k) := dif_pos hk
    rw [e1, e2, e3, ef]
    have hs := triple_eq ih.1 ih.2.1 ih.2.2
    exact ⟨(read_cons8 arg8 _ _ _).trans (congrArg (fun z => (trp i x0 x1 x2 ⟨k, hk⟩ z).1) hs),
      (read_cons9 arg9 _ _ _).trans (congrArg (fun z => (trp i x0 x1 x2 ⟨k, hk⟩ z).2.1) hs),
      (read_cons10 arg10 _ _ _).trans (congrArg (fun z => (trp i x0 x1 x2 ⟨k, hk⟩ z).2.2) hs)⟩

end

end Cert.MlIdeal.Body

end
-- ==== Proof.MlOut.lean ====
/- What one grid point leaves in its output block: the pure value of its four input blocks. -/
module

public import proofs.«01_k».proof.Proof.MlBody

@[expose] public section

set_option maxRecDepth 16384

noncomputable section

namespace Cert.MlIdeal.Body

open Cert.MlIdeal Cert.MlIdeal.Gen Idealize.ShloMosaic Idealize.ShloMosaic.TcCoe Idealize.SL.Sem

variable {F : FTy → Type} [FloatOps F] [Named F]

section
variable (𝒱 : Variants) (c : Dev nD) (bd : Option 𝒱.V) (i : grid0.Coords) (arg3 : Memref sig .tc .vmem S1x1x512x192 .bf16) (harg3 : arg3.IsWhole) (arg4 : Memref sig .tc .vmem S1x1x4096x192 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x128 .f32) (harg8 : arg8.IsWhole) (arg9 : Memref sig .tc .vmem S512x1 .f32) (harg9 : arg9.IsWhole) (arg10 : Memref sig .tc .vmem S512x1 .f32) (harg10 : arg10.IsWhole) (v0 : Vec F S1x1x512x192 .bf16) (w init : BitVec 32) (X4 : BufTy.Contents (Elt F) arg4.view.ty) (X5 : BufTy.Contents (Elt F) arg5.view.ty) (G8 : BufTy.Contents (Elt F) arg8.view.ty) (G9 : BufTy.Contents (Elt F) arg9.view.ty) (G10 : BufTy.Contents (Elt F) arg10.view.ty)
theorem st2a : (st_k0_t2 (F := F) 𝒱 c bd i arg3 harg3 arg4 harg4 arg5 harg5 arg6 harg6 arg7 harg7 arg8 harg8 arg9 harg9 arg10 harg10 v0 w X4 X5 G8 G9 G10 init 0).2.1 = [] := rfl
theorem st2b : (st_k0_t2 (F := F) 𝒱 c bd i arg3 harg3 arg4 harg4 arg5 harg5 arg6 harg6 arg7 harg7 arg8 harg8 arg9 harg9 arg10 harg10 v0 w X4 X5 G8 G9 G10 init 0).2.2.1 = [] := rfl
theorem st2c : (st_k0_t2 (F := F) 𝒱 c bd i arg3 harg3 arg4 harg4 arg5 harg5 arg6 harg6 arg7 harg7 arg8 harg8 arg9 harg9 arg10 harg10 v0 w X4 X5 G8 G9 G10 init 0).2.2.2 = [] := rfl
end

set_option maxHeartbeats 2000000 in
/-- The run's pieces for the output block are that value. -/
theorem out_eq (c : Dev nD) (i : grid0.Coords) (arg3 : Memref sig .tc .vmem S1x1x512x192 .bf16) (harg3 : arg3.IsWhole) (arg4 : Memref sig .tc .vmem S1x1x4096x192 .bf16) (harg4 : arg4.IsWhole) (arg5 : Memref sig .tc .vmem S1x4096x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S512x128 .f32) (harg8 : arg8.IsWhole) (arg9 : Memref sig .tc .vmem S512x1 .f32) (harg9 : arg9.IsWhole) (arg10 : Memref sig .tc .vmem S512x1 .f32) (harg10 : arg10.IsWhole)
    (x0 : Vec F S1x1x512x192 .bf16) (x1 : Vec F S1x1x4096x192 .bf16) (x2 : Vec F S1x4096x128 .bf16) (x3 : Vec F S1x512x128 .bf16) :
    out0_A_4 (F := F) c i arg3 harg3 arg4 harg4 arg5 harg5 arg6 harg6 arg7 harg7 arg8 harg8 arg9 harg9 arg10 harg10 x0 x1 x2 x3 = outv i x0 x1 x2 x3 := by
  have a3 : (View.readAt (Elt F) arg3.view (Rect.unit (s := S1x1x512x192) ![0, 0, 0, 0] S1x1x512x192.size inb_S1x1x512x192_S1x1x512x192_0_0_0_0).toLoadRect (harg3.unread x0)) = x0 := by rw [View.readAt_eq_ld, harg3.read_unread]; exact View.ld_unit_zero z4 _ _
  have a6 : (View.readAt (Elt F) arg6.view (Rect.unit (s := S1x512x128) ![0, 0, 0] S1x512x128.size inb_S1x512x128_S1x512x128_0_0_0).toLoadRect (harg6.unread x3)) = x3 := by rw [View.readAt_eq_ld, harg6.read_unread]; exact View.ld_unit_zero z3 _ _
  have k1 : (View.readAt (Elt F) arg4.view (Rect.unit (s := S1x1x4096x192) (k0_off5 i 1#32) S1x1x256x192.size (k0_off5_inb i 1)).toLoadRect (harg4.unread x1)) = kld x1 (k0_off5 i 1#32) (k0_off5_inb i 1) := by rw [View.readAt_eq_ld, harg4.read_unread]; rfl
  have v1' : (View.readAt (Elt F) arg5.view (Rect.unit (s := S1x4096x128) (k0_off6 i 1#32) S1x256x128.size (k0_off6_inb i 1)).toLoadRect (harg5.unread x2)) = vld x2 (k0_off6 i 1#32) (k0_off6_inb i 1) := by rw [View.readAt_eq_ld, harg5.read_unread]; rfl
  have k0 : (View.readAt (Elt F) arg4.view (Rect.unit (s := S1x1x4096x192) (k0_off5 i 0#32) S1x1x256x192.size (k0_off5_inb i 0)).toLoadRect (harg4.unread x1)) = kld x1 (k0_off5 i 0#32) (k0_off5_inb i 0) := by rw [View.readAt_eq_ld, harg4.read_unread]; rfl
  have v0' : (View.readAt (Elt F) arg5.view (Rect.unit (s := S1x4096x128) (k0_off6 i 0#32) S1x256x128.size (k0_off6_inb i 0)).toLoadRect (harg5.unread x2)) = vld x2 (k0_off6 i 0#32) (k0_off6_inb i 0) := by rw [View.readAt_eq_ld, harg5.read_unread]; rfl
  have e := st_eq (F := F) Variants.none c none i arg3 harg3 arg4 harg4 arg5 harg5 arg6 harg6 arg7 harg7 arg8 harg8 arg9 harg9 arg10 harg10 x0 x1 x2
    (arg8.view.writes (Elt F) arg8.view.junk [⟨Rect.unit (s := S512x128) ![0, 0] S512x128.size inb_S512x128_S512x128_0_0, k0_pay17⟩]) (arg9.view.writes (Elt F) arg9.view.junk [⟨Rect.unit (s := S512x1) ![0, 0] S512x1.size inb_S512x1_S512x1_0_0, k0_pay18⟩]) (arg10.view.writes (Elt F) arg10.view.junk [⟨Rect.unit (s := S512x1) ![0, 0] S512x1.size inb_S512x1_S512x1_0_0, k0_pay19⟩])
    0#32 st0 (read_cons8 arg8 _ _ _) (read_cons9 arg9 _ _ _) (read_cons10 arg10 _ _ _) (Scf.trips (k0_t1_loop i).lb (k0_t1_loop i).ub (k0_t1_loop i).st) le_rfl
  rw [← rcApp8, ← rcApp9, ← rcApp10] at e
  unfold out0_A_4 kernelRun0_A
  dsimp only
  rw [View.read_writes_eq_canon _ _ _ (fun y => ⟨_, List.mem_cons_self, View.mem_set_unit_zero z3 inb_S1x512x128_S1x512x128_0_0_0 y⟩)]
  refine (View.canon_unit_zero z3 _ _).trans ?_
  sl_unfold_words
  rw [a3, trips2 i, a6]
  rw [st2a, st2b, st2c]
  repeat rw [List.nil_append]
  rw [e.1, e.2.1, e.2.2]
  repeat rw [rc8]
  repeat rw [rc9]
  repeat rw [rc10]
  unfold outv fin dia1 dia0 mask0 rowChunk
  rw [← k1, ← v1', ← k0, ← v0']
  rfl

end Cert.MlIdeal.Body

end
-- ==== Proof.MlMath.lean ====
/- The arithmetic of one row of the latent attention, on real scores: the running sums against any running maximum, one
   block of 256 keys as one step, and the final quotient as the softmax over the visible keys. A key is visible to a row when
   its chunk of 64 positions is not later than the row's. -/
module

public import Idealize.ShloMosaic.PureOps.Ideal

@[expose] public section

noncomputable section

namespace Cert.MlMath

open Idealize.ShloMosaic

/-- A key's weight before the division, against a maximum. -/
def pw (T : ℕ) (z : ℕ → ℝ) (μ : ℝ) (j : ℕ) : ℝ := if j / 64 ≤ T / 64 then Real.exp (z j - μ) else 0

/-- A key's score under the mask. -/
def el (T : ℕ) (z : ℕ → ℝ) (j : ℕ) : EReal := if j / 64 ≤ T / 64 then (z j : EReal) else ⊥

/-- The sum of the weights of a whole row. -/
def tot (T : ℕ) (z : ℕ → ℝ) : ℝ := ∑ j ∈ Finset.range 4096, pw T z 0 j

/-- A key's weight in the softmax of its row. -/
def wt (T : ℕ) (z : ℕ → ℝ) (j : ℕ) : ℝ := pw T z 0 j / tot T z

/-- A sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative distributes over a sum of extended reals. -/
theorem coe_mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.2 hc) (EReal.coe_ne_top c), ih]

theorem pw_nonneg (T : ℕ) (z : ℕ → ℝ) (μ : ℝ) (j : ℕ) : 0 ≤ pw T z μ j := by
  unfold pw; split
  · exact (Real.exp_pos _).le
  · exact le_rfl

theorem pw_zero_pos (T : ℕ) (z : ℕ → ℝ) (μ : ℝ) : 0 < pw T z μ 0 := by
  unfold pw; rw [if_pos (by simp)]; exact Real.exp_pos _

theorem pw_shift (T : ℕ) (z : ℕ → ℝ) (μ M : ℝ) (j : ℕ) : Real.exp (μ - M) * pw T z μ j = pw T z M j := by
  unfold pw; split
  · rw [← Real.exp_add]; congr 1; ring
  · exact mul_zero _

theorem sum_pos (T : ℕ) (z : ℕ → ℝ) (μ : ℝ) (L : ℕ) (hL : 0 < L) : 0 < ∑ j ∈ Finset.range L, pw T z μ j :=
  Finset.sum_pos' (fun j _ => pw_nonneg T z μ j) ⟨0, Finset.mem_range.2 hL, pw_zero_pos T z μ⟩

/-- The exponential of a masked score against a real maximum. -/
theorem exp_el (T : ℕ) (z : ℕ → ℝ) (M : ℝ) (j : ℕ) : Ideal.exp (el T z j - (M : EReal)) = (pw T z M j : EReal) := by
  unfold el pw; split
  · rw [← EReal.coe_sub, Ideal.exp_coe]
  · rw [EReal.bot_sub, EReal.coe_zero]; rfl

theorem el_zero (T : ℕ) (z : ℕ → ℝ) : el T z 0 = (z 0 : EReal) := if_pos (by simp)

theorem el_ne_top (T : ℕ) (z : ℕ → ℝ) (j : ℕ) : el T z j ≠ ⊤ := by
  unfold el; split
  · exact EReal.coe_ne_top _
  · exact bot_ne_top

/-- What the accumulator, the maximum and the sum of one row hold after the first `L` keys. -/
def RowInv (T : ℕ) (z : ℕ → ℝ) (v : ℕ → Fin 128 → EReal) (L : ℕ) (a : Fin 128 → EReal) (m l : EReal) : Prop :=
  m ≠ ⊤ ∧ (L = 0 ∨ m ≠ ⊥) ∧ l = ∑ j ∈ Finset.range L, (pw T z m.toReal j : EReal)
    ∧ ∀ d, a d = ∑ j ∈ Finset.range L, (pw T z m.toReal j : EReal) * v j d

theorem inv_zero (T : ℕ) (z : ℕ → ℝ) (v : ℕ → Fin 128 → EReal) : RowInv T z v 0 (fun _ => 0) ⊥ 0 :=
  ⟨bot_ne_top, Or.inl rfl, by simp, fun d => by simp⟩

/-- Old sums are carried to the new maximum by one factor. -/
theorem rescale (T : ℕ) (z : ℕ → ℝ) (w : ℕ → EReal) (L : ℕ) (m : EReal) (M : ℝ) (ht : m ≠ ⊤) (hb : L = 0 ∨ m ≠ ⊥) :
    Ideal.exp (m - (M : EReal)) * ∑ j ∈ Finset.range L, (pw T z m.toReal j : EReal) * w j = ∑ j ∈ Finset.range L, (pw T z M j : EReal) * w j := by
  rcases hb with rfl | hb
  · simp
  · lift m to ℝ using ⟨ht, hb⟩
    rw [EReal.toReal_coe, ← EReal.coe_sub, Ideal.exp_coe, coe_mul_sum _ _ (Real.exp_pos _).le]
    exact Finset.sum_congr rfl fun j _ => by rw [← mul_assoc, ← EReal.coe_mul, pw_shift]

/-- The sum over a block, appended to the sum before it. -/
theorem sum_block (f : ℕ → EReal) (L : ℕ) : (∑ j ∈ Finset.range L, f j) + ∑ c : Fin 256, f (L + c.val) = ∑ j ∈ Finset.range (L + 256), f j := by
  rw [Fin.sum_univ_eq_sum_range (fun c => f (L + c)) 256, ← Finset.sum_range_add]

/-- One block of 256 keys is one step. -/
theorem inv_step (T : ℕ) (z : ℕ → ℝ) (v : ℕ → Fin 128 → EReal) (L : ℕ) (a : Fin 128 → EReal) (m l : EReal) (h : RowInv T z v L a m l)
    (B : EReal) (hB : B ≠ ⊤) (hx : ∀ c : Fin 256, el T z (L + c.val) ≤ B) :
    RowInv T z v (L + 256) (fun d => Ideal.exp (m - max m B) * a d + ∑ c : Fin 256, Ideal.exp (el T z (L + c.val) - max m B) * v (L + c.val) d)
      (max m B) (Ideal.exp (m - max m B) * l + ∑ c : Fin 256, Ideal.exp (el T z (L + c.val) - max m B)) := by
  obtain ⟨ht, hb, hl, ha⟩ := h
  have hMt : max m B ≠ ⊤ := by
    rcases max_choice m B with e | e <;> rw [e] <;> assumption
  have hMb : max m B ≠ ⊥ := by
    rcases hb with rfl | hb
    · have h0 := hx ⟨0, by norm_num⟩
      rw [show (0 : ℕ) + (⟨0, by norm_num⟩ : Fin 256).val = 0 from rfl, el_zero] at h0
      exact fun e => absurd (le_trans h0 (le_max_right m B)) (by rw [e]; exact not_le.2 (EReal.bot_lt_coe _))
    · exact fun e => hb (le_bot_iff.1 (e ▸ le_max_left m B))
  generalize hM : max m B = M' at hMt hMb
  lift M' to ℝ using ⟨hMt, hMb⟩
  refine ⟨hMt, Or.inr hMb, ?_, fun d => ?_⟩
  · have e := rescale T z (fun _ => 1) L m M' ht hb
    simp only [mul_one] at e
    rw [hl, e, EReal.toReal_coe, ← sum_block]
    exact congrArg _ (Finset.sum_congr rfl fun c _ => exp_el T z M' _)
  · dsimp only
    rw [ha d, rescale T z (fun j => v j d) L m M' ht hb, EReal.toReal_coe, ← sum_block]
    exact congrArg _ (Finset.sum_congr rfl fun c _ => by rw [exp_el])

/-- Weights against any maximum, divided by their sum, are the softmax's. -/
theorem wt_eq (T : ℕ) (z : ℕ → ℝ) (μ : ℝ) (j : ℕ) : pw T z μ j * (1 / ∑ k ∈ Finset.range 4096, pw T z μ k) = wt T z j := by
  have e : ∀ k, pw T z μ k = Real.exp (0 - μ) * pw T z 0 k := fun k => (pw_shift T z 0 μ k).symm
  unfold wt tot
  simp only [e]
  rw [← Finset.mul_sum, mul_one_div]
  exact mul_div_mul_left _ _ (Real.exp_pos _).ne'

/-- Later keys weigh nothing. -/
theorem pw_late (T : ℕ) (z : ℕ → ℝ) (μ : ℝ) (L j : ℕ) (hL : T / 64 < L / 64) (hj : L ≤ j) : pw T z μ j = 0 :=
  if_neg (not_le.2 (lt_of_lt_of_le hL (Nat.div_le_div_right hj)))

/-- The quotient after every visible key is the softmax's weighted sum. -/
theorem inv_final (T : ℕ) (z : ℕ → ℝ) (v : ℕ → Fin 128 → EReal) (L : ℕ) (a : Fin 128 → EReal) (m l : EReal) (h : RowInv T z v L a m l)
    (h0 : 0 < L) (h4 : L ≤ 4096) (hL : T / 64 < L / 64) (d : Fin 128) :
    Ideal.div (a d) l = ∑ j ∈ Finset.range 4096, (wt T z j : EReal) * v j d := by
  obtain ⟨ht, hb, hl, ha⟩ := h
  lift m to ℝ using ⟨ht, hb.resolve_left h0.ne'⟩
  rw [EReal.toReal_coe] at hl ha
  have hsub : Finset.range L ⊆ Finset.range 4096 := fun x hx => Finset.mem_range.2 (lt_of_lt_of_le (Finset.mem_range.1 hx) h4)
  have hz : ∀ j ∈ Finset.range 4096, j ∉ Finset.range L → pw T z m j = 0 := fun j _ hj => pw_late T z m L j hL (not_lt.1 fun h => hj (Finset.mem_range.2 h))
  have hQ : ∑ j ∈ Finset.range L, pw T z m j = ∑ j ∈ Finset.range 4096, pw T z m j := Finset.sum_subset hsub hz
  have hA : a d = ∑ j ∈ Finset.range 4096, (pw T z m j : EReal) * v j d :=
    (ha d).trans (Finset.sum_subset hsub fun j hj hj' => by rw [hz j hj hj', EReal.coe_zero, zero_mul])
  rw [← coe_sum, hQ] at hl
  have hpos := sum_pos T z m 4096 (by norm_num)
  rw [hl, Ideal.div_coe hpos.ne', hA, mul_comm, coe_mul_sum _ _ (one_div_nonneg.2 hpos.le)]
  exact Finset.sum_congr rfl fun j _ => by rw [← mul_assoc, ← EReal.coe_mul, mul_comm (1 / _), wt_eq]

/-- The softmax of a masked row, spelled over all of its keys against any bound of them. -/
theorem ref_weight (T : ℕ) (z : ℕ → ℝ) (B : EReal) (hB : B ≠ ⊤) (hx : ∀ c : Fin 4096, el T z c.val ≤ B) (j : ℕ) :
    Ideal.div (Ideal.exp (el T z j - B)) (∑ c : Fin 4096, Ideal.exp (el T z c.val - B)) = (wt T z j : EReal) := by
  have hb : B ≠ ⊥ := by
    have h0 := hx ⟨0, by norm_num⟩
    rw [show (⟨0, by norm_num⟩ : Fin 4096).val = 0 from rfl, el_zero] at h0
    exact fun e => absurd h0 (by rw [e]; exact not_le.2 (EReal.bot_lt_coe _))
  lift B to ℝ using ⟨hB, hb⟩
  have hpos := sum_pos T z B 4096 (by norm_num)
  have e : (∑ c : Fin 4096, Ideal.exp (el T z c.val - (B : EReal))) = ((∑ k ∈ Finset.range 4096, pw T z B k : ℝ) : EReal) := by
    rw [coe_sum, ← Fin.sum_univ_eq_sum_range (fun k => (pw T z B k : EReal)) 4096]
    exact Finset.sum_congr rfl fun c _ => exp_el T z B _
  rw [e, exp_el, Ideal.div_coe hpos.ne', ← EReal.coe_mul, wt_eq]

/-- The greatest of a family, folded from −∞, bounds it and is not +∞ unless one of them is. -/
theorem fold_max {n : ℕ} (f : Fin n → EReal) (hf : ∀ c, f c ≠ ⊤) :
    (Finset.univ : Finset (Fin n)).fold max ⊥ f ≠ ⊤ ∧ ∀ c, f c ≤ (Finset.univ : Finset (Fin n)).fold max ⊥ f :=
  ⟨lt_top_iff_ne_top.1 ((Finset.fold_max_lt _).2 ⟨bot_lt_top, fun c _ => lt_top_iff_ne_top.2 (hf c)⟩),
    fun c => (Finset.le_fold_max _).2 (Or.inr ⟨c, Finset.mem_univ c, le_rfl⟩)⟩

end Cert.MlMath

end
-- ==== Proof.MlSteps.lean ====
/- One key block of the latent attention as one step of the running softmax, for the three kinds of block, and all the blocks
   together: the grid point's output is the softmax-weighted sum over the visible keys, times the gate. -/
module

public import Idealize.ShloMosaic.Lib.ValueIdx
public import Idealize.ShloMosaic.Lib.MatmulPlain
public import Idealize.ShloMosaic.PureOps.Ideal.Laws
public import Idealize.ShloMosaic.Lib.IdealHost
public import Idealize.ShloMosaic.Lib.Pipeline.Value
public import Idealize.ShloMosaic.Lib.Pipeline.ValueKit.Tiles
public import Idealize.ShloMosaic.Lib.WordCmp
public import proofs.«01_k».proof.Proof.MlBody
public import proofs.«01_k».proof.Proof.MlMath

@[expose] public section

set_option maxRecDepth 16384

noncomputable section

namespace Cert.MlIdeal.Body

open Cert.MlIdeal Cert.MlIdeal.Gen Idealize.ShloMosaic Idealize.ShloMosaic.TcCoe Idealize.SL.Sem Idealize.ShloMosaic.ValueIdx
open Cert.MlMath

/-! ## Where the blocks begin -/

theorem off1_at (i : grid0.Coords) (k : Fin (k0_t1_loop i).trips) : k0_off1 i k = ![0, 0, 256 * k.val, 0] := by
  have h : ∀ k : Fin 14, (Scalar.muli (Scf.iv 0#32 1#32 k.val) 256#32).toNat = 256 * k.val := by decide +kernel
  have hk : k.val < 2 * (i 2).val := lt_of_lt_of_eq k.isLt (trips1 i)
  have h8 : (i 2).val < 8 := (i 2).isLt
  funext a; fin_cases a
  · rfl
  · rfl
  · exact h ⟨k.val, by omega⟩
  · rfl

theorem off2_at (i : grid0.Coords) (k : Fin (k0_t1_loop i).trips) : k0_off2 i k = ![0, 256 * k.val, 0] := by
  have h : ∀ k : Fin 14, (Scalar.muli (Scf.iv 0#32 1#32 k.val) 256#32).toNat = 256 * k.val := by decide +kernel
  have hk : k.val < 2 * (i 2).val := lt_of_lt_of_eq k.isLt (trips1 i)
  have h8 : (i 2).val < 8 := (i 2).isLt
  funext a; fin_cases a
  · rfl
  · exact h ⟨k.val, by omega⟩
  · rfl

theorem wo0 : ∀ j : Fin 8, (Scalar.muli (Scalar.addi (Scalar.muli (BitVec.ofNat 32 j.val) 2#32) 0#32) 256#32).toNat = 512 * j.val := by decide +kernel
theorem wo1 : ∀ j : Fin 8, (Scalar.muli (Scalar.addi (Scalar.muli (BitVec.ofNat 32 j.val) 2#32) 1#32) 256#32).toNat = 512 * j.val + 256 := by decide +kernel

theorem off5_0 (i : grid0.Coords) : k0_off5 i 0#32 = ![0, 0, 512 * (i 2).val, 0] := by
  funext a; fin_cases a
  · rfl
  · rfl
  · exact wo0 (i 2)
  · rfl

theorem off5_1 (i : grid0.Coords) : k0_off5 i 1#32 = ![0, 0, 512 * (i 2).val + 256, 0] := by
  funext a; fin_cases a
  · rfl
  · rfl
  · exact wo1 (i 2)
  · rfl

theorem off6_0 (i : grid0.Coords) : k0_off6 i 0#32 = ![0, 512 * (i 2).val, 0] := by
  funext a; fin_cases a
  · rfl
  · exact wo0 (i 2)
  · rfl

theorem off6_1 (i : grid0.Coords) : k0_off6 i 1#32 = ![0, 512 * (i 2).val + 256, 0] := by
  funext a; fin_cases a
  · rfl
  · exact wo1 (i 2)
  · rfl

/-! ## The masks -/

theorem sel_ofBool {α : Type} (p : Prop) [Decidable p] (a b : α) : Scalar.select (BitVec.ofBool (decide p)) a b = if p then a else b := by
  by_cases h : p <;> simp [Scalar.select, h]

/-- The chunk of a position, as the kernel computes it on words. -/
def chunkW (x : BitVec 32) : BitVec 32 :=
  Scalar.select (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem chunkW_val : ∀ r : Fin 512, chunkW (BitVec.ofNat 32 r.val) = BitVec.ofNat 32 (r.val / 64) := by decide +kernel

theorem rowChunk_apply (r : Fin 512) (c : Fin 256) : rowChunk (ix2 r c) = BitVec.ofNat 32 (r.val / 64) := by
  refine Eq.trans (show rowChunk (ix2 r c) = chunkW (iota .tc S512x256 32 [0] iota_S512x256_d0_w32 (ix2 r c)) from rfl) ?_
  rw [iota_single_apply]
  exact chunkW_val r

theorem colChunk_apply (r : Fin 512) (c : Fin 256) : k0_pay25 (ix2 r c) = BitVec.ofNat 32 (c.val / 64) := by
  refine Eq.trans (show k0_pay25 (ix2 r c) = chunkW (iota .tc S512x256 32 [1] iota_S512x256_d1_w32 (ix2 r c)) from rfl) ?_
  rw [iota_single_apply]
  exact chunkW_val ⟨c.val, by omega⟩

theorem mask0_apply (r : Fin 512) (c : Fin 256) : mask0 (ix2 r c) = BitVec.ofBool (decide (c.val / 64 ≤ r.val / 64)) := by
  show IntOp.cmpi .sle (k0_pay25 (ix2 r c) + BitVec.ofNat 32 0) (rowChunk (ix2 r c)) = _
  rw [rowChunk_apply, colChunk_apply, ← BitVec.ofNat_add]
  exact WordCmp.cmpi_sle_ofNat (by have := c.isLt; omega) (by have := r.isLt; omega)

theorem mask1_apply (r : Fin 512) (c : Fin 256) :
    cmpi .sle (addi k0_pay25 (broadcast S512x256 4#32)) rowChunk (ix2 r c) = BitVec.ofBool (decide (c.val / 64 + 4 ≤ r.val / 64)) := by
  show IntOp.cmpi .sle (k0_pay25 (ix2 r c) + BitVec.ofNat 32 4) (rowChunk (ix2 r c)) = _
  rw [rowChunk_apply, colChunk_apply, ← BitVec.ofNat_add]
  exact WordCmp.cmpi_sle_ofNat (by have := c.isLt; omega) (by have := r.isLt; omega)

theorem mask_bot : (Named.named κ "mask" 0xF149F2CA#32 : Ideal .f32) = (⊥ : EReal) := rfl

theorem low_bot : (FloatOps.ofBits .f32 0xFF800000#32 : Ideal .f32) = (⊥ : EReal) := by
  show Ideal.ofBits .f32 0xFF800000#32 = ⊥
  simp [Ideal.ofBits, Ideal.ieee]

/-! ## Reads at an element -/

theorem q_apply (x0 : Vec Ideal S1x1x512x192 .bf16) (r : Fin 512) (k : Fin 192) : k0_pay16 x0 (ix2 r k) = x0 (ix4 0 0 r k) := by
  unfold k0_pay16
  refine shapeCast_apply x0 _ (ix2 r k) (ix4 0 0 r k) ?_
  rw [Shape.rowMajor_val_four, Shape.rowMajor_val_two]
  show ((0 * 1 + 0) * 512 + r.val) * 192 + k.val = r.val * 192 + k.val
  omega

/-- The scores of a block of keys. -/
theorem score_apply (q : FVec Ideal S512x192 .bf16) (K : Vec Ideal S1x1x256x192 .bf16) (r : Fin 512) (c : Fin 256) :
    matmul dot_S512x192_S256x192_S512x256_1_1_0_0_n_n none q (shapeCast S256x192 K shapeCasts_S1x1x256x192_S256x192 : FVec Ideal S256x192 .bf16)
      (constant S512x256 .f32 0x00000000#32) (ix2 r c) = ∑ k : Fin 192, q (ix2 r k) * K (ix4 0 0 c k) := by
  refine (Ideal.matmul_transposedRhs_apply (M := 512) (K := 192) (N := 256) none q _ _ r c).trans ?_
  rw [show constant (F := Ideal) S512x256 .f32 0x00000000#32 (ix2 r c) = 0 from Ideal.ofBits_zero_f32, zero_add]
  refine Finset.sum_congr rfl fun k _ => congrArg (q (ix2 r k) * ·) ?_
  refine shapeCast_apply K _ (ix2 c k) (ix4 0 0 c k) ?_
  rw [Shape.rowMajor_val_four, Shape.rowMajor_val_two]
  show ((0 * 1 + 0) * 256 + c.val) * 192 + k.val = c.val * 192 + k.val
  omega

theorem cons2 {n0 n1 : ℕ} (a : Fin n0) (b : Fin n1) :
    (Fin.cons (⟨0, Nat.one_pos⟩ : Fin 1) (ix2 a b) : (⟨3, Matrix.vecCons 1 ![n0, n1]⟩ : Shape).Idx) = ix3 (0 : Fin 1) a b := by
  funext a; fin_cases a <;> rfl

/-- The weighted values of a block of keys. -/
theorem pv_apply (w : FVec Ideal S512x256 .bf16) (V : Vec Ideal S1x256x128 .bf16) (r : Fin 512) (d : Fin 128) :
    matmul dot_S512x256_S256x128_S512x128_1_0_0_1_n_n none w (shapeCast S256x128 V shapeCasts_S1x256x128_S256x128 : FVec Ideal S256x128 .bf16)
      (constant S512x128 .f32 0x00000000#32) (ix2 r d) = ∑ c : Fin 256, w (ix2 r c) * V (ix3 0 c d) := by
  refine (Ideal.matmul_plain_apply (M := 512) (K := 256) (N := 128) none w _ _ r d).trans ?_
  rw [show constant (F := Ideal) S512x128 .f32 0x00000000#32 (ix2 r d) = 0 from Ideal.ofBits_zero_f32, zero_add]
  refine Finset.sum_congr rfl fun k _ => congrArg (w (ix2 r k) * ·) ?_
  exact (shapeCast_dropUnit_apply (n := 2) ![256, 128] V _ (ix2 k d)).trans (congrArg V (cons2 k d))

/-- A column read across a block of scores, and across the accumulator. -/
theorem col_apply (x : Vec Ideal S512x1 .f32) (r : Fin 512) (c : Fin 256) :
    broadcastTo S512x256 x broadcasts_S512x1_S512x256 (ix2 r c) = x (ix2 r 0) :=
  broadcastTo_apply _ _ _ _ (by intro a; fin_cases a <;> rfl)

theorem col_apply' (x : Vec Ideal S512x1 .f32) (r : Fin 512) (c : Fin 128) :
    broadcastTo S512x128 x broadcasts_S512x1_S512x128 (ix2 r c) = x (ix2 r 0) :=
  broadcastTo_apply _ _ _ _ (by intro a; fin_cases a <;> rfl)

/-- A vector of one number per row, as a column. -/
theorem stand_apply (x : FVec Ideal S512 .f32) (r : Fin 512) : shapeCast S512x1 x shapeCasts_S512_S512x1 (ix2 r 0) = x (ix1 r) := by
  refine shapeCast_apply x _ (ix2 r 0) (ix1 r) ?_
  rw [Shape.rowMajor_val_one, Shape.rowMajor_val_two]
  show r.val = r.val * 1 + 0
  omega

theorem lift_at (r : Fin 512) (c : Fin 256) : reduces_S512x256_S512.lift (ix1 r) c = ix2 r c := by
  funext a; fin_cases a <;> rfl

theorem rowMax_apply (S : FVec Ideal S512x256 .f32) (r : Fin 512) :
    multiReduction .maximumf [1] S512 S 0xFF800000#32 reduces_S512x256_S512 (.inl rfl) rfl (ix1 r)
      = (Finset.univ : Finset (Fin 256)).fold max (⊥ : EReal) (fun c => S (ix2 r c)) := by
  refine (Ideal.multiReduction_maximumf_single S 0xFF800000#32 reduces_S512x256_S512 (.inl rfl) rfl (ix1 r)).trans ?_
  rw [low_bot]
  exact congrArg (Finset.fold max (⊥ : EReal) · Finset.univ) (funext fun c => congrArg S (lift_at r c))

theorem rowSum_apply (S : FVec Ideal S512x256 .f32) (r : Fin 512) :
    multiReduction .add [1] S512 S 0x00000000#32 reduces_S512x256_S512 (.inl rfl) rfl (ix1 r) = ∑ c : Fin 256, S (ix2 r c) := by
  refine (Ideal.multiReduction_add_single S 0x00000000#32 reduces_S512x256_S512 (.inl rfl) rfl (ix1 r)).trans ?_
  exact Finset.sum_congr rfl fun c _ => congrArg S (lift_at r c)

/-- A block of the head's keys, read at an element. -/
theorem kld_apply (X : Vec Ideal S1x1x4096x192 .bf16) (off : Fin 4 → ℕ) (h) (o : ℕ) (ho : off = ![0, 0, o, 0]) (c : Fin 256) (k : Fin 192)
    (hc : o + c.val < 4096) : kld X off h (ix4 0 0 c k) = X (ix4 0 0 ⟨o + c.val, hc⟩ k) := by
  subst ho
  exact View.ld_unit_apply_of X _ _ h (ix4 0 0 c k) _ (by intro a; fin_cases a <;> simp)

/-- A block of the head's values, read at an element. -/
theorem vld_apply (X : Vec Ideal S1x4096x128 .bf16) (off : Fin 3 → ℕ) (h) (o : ℕ) (ho : off = ![0, o, 0]) (c : Fin 256) (d : Fin 128)
    (hc : o + c.val < 4096) : vld X off h (ix3 0 c d) = X (ix3 0 ⟨o + c.val, hc⟩ d) := by
  subst ho
  exact View.ld_unit_apply_of X _ _ h (ix3 0 c d) _ (by intro a; fin_cases a <;> simp)

/-! ## One block, whatever its scores -/

/-- The running maximum after a block, the old sums' factor, and the block's weights. -/
def mx (S : FVec Ideal S512x256 .f32) (m : Vec Ideal S512x1 .f32) : FVec Ideal S512x1 .f32 :=
  maximumf m (shapeCast S512x1 (multiReduction .maximumf [1] S512 S 0xFF800000#32 reduces_S512x256_S512 (.inl rfl) rfl) shapeCasts_S512_S512x1)
def al (S : FVec Ideal S512x256 .f32) (m : Vec Ideal S512x1 .f32) : FVec Ideal S512x1 .f32 := exp (subf m (mx S m))
def pr (S : FVec Ideal S512x256 .f32) (m : Vec Ideal S512x1 .f32) : FVec Ideal S512x256 .f32 :=
  exp (subf S (broadcastTo S512x256 (mx S m) broadcasts_S512x1_S512x256))

/-- One block's step of the accumulator, the maximum and the sum. -/
def upd (S : FVec Ideal S512x256 .f32) (V : Vec Ideal S1x256x128 .bf16) (s : St Ideal) : St Ideal :=
  (shapeCast S512x128 (addf (mulf (broadcastTo S512x128 (al S s.2.1) broadcasts_S512x1_S512x128) s.1)
      (matmul dot_S512x256_S256x128_S512x128_1_0_0_1_n_n none (truncf .bf16 (pr S s.2.1) bitsLt_bf16_f32)
        (shapeCast S256x128 V shapeCasts_S1x256x128_S256x128 : FVec Ideal S256x128 .bf16) (constant S512x128 .f32 0x00000000#32)))
      shapeCasts_S512x128_S512x128,
    shapeCast S512x1 (mx S s.2.1) shapeCasts_S512x1_S512x1,
    shapeCast S512x1 (addf (mulf (al S s.2.1) s.2.2)
      (shapeCast S512x1 (multiReduction .add [1] S512 (pr S s.2.1) 0x00000000#32 reduces_S512x256_S512 (.inl rfl) rfl) shapeCasts_S512_S512x1))
      shapeCasts_S512x1_S512x1)

/-- Every row is where it should be after the first `L` keys. -/
def Inv (n : ℕ) (z : Fin 512 → ℕ → ℝ) (v : ℕ → Fin 128 → EReal) (L : ℕ) (s : St Ideal) : Prop :=
  ∀ r : Fin 512, RowInv (512 * n + r.val) (z r) v L (fun d => s.1 (ix2 r d)) (s.2.1 (ix2 r 0)) (s.2.2 (ix2 r 0))

/-- The step keeps every row where it should be. -/
theorem upd_step (n : ℕ) (z : Fin 512 → ℕ → ℝ) (v : ℕ → Fin 128 → EReal) (o : ℕ) (S : FVec Ideal S512x256 .f32) (V : Vec Ideal S1x256x128 .bf16)
    (s : St Ideal) (hS : ∀ (r : Fin 512) (c : Fin 256), S (ix2 r c) = el (512 * n + r.val) (z r) (o + c.val))
    (hV : ∀ (c : Fin 256) (d : Fin 128), V (ix3 0 c d) = v (o + c.val) d) (hs : Inv n z v o s) : Inv n z v (o + 256) (upd S V s) := by
  intro r
  obtain ⟨hB, hx⟩ := fold_max (fun c : Fin 256 => S (ix2 r c)) (fun c => by rw [hS]; exact el_ne_top _ _ _)
  have hm : mx S s.2.1 (ix2 r 0) = max (s.2.1 (ix2 r 0)) ((Finset.univ : Finset (Fin 256)).fold max (⊥ : EReal) (fun c => S (ix2 r c))) := by
    show max (s.2.1 (ix2 r 0)) (shapeCast S512x1 _ shapeCasts_S512_S512x1 (ix2 r 0)) = _
    rw [stand_apply, rowMax_apply]
  generalize (Finset.univ : Finset (Fin 256)).fold max (⊥ : EReal) (fun c => S (ix2 r c)) = B at hB hx hm
  have step := inv_step (512 * n + r.val) (z r) v o _ _ _ (hs r) B hB (fun c => by rw [← hS]; exact hx c)
  have ha : al S s.2.1 (ix2 r 0) = Ideal.exp (s.2.1 (ix2 r 0) - max (s.2.1 (ix2 r 0)) B) := by
    rw [← hm]; rfl
  have hp : ∀ c : Fin 256, pr S s.2.1 (ix2 r c) = Ideal.exp (el (512 * n + r.val) (z r) (o + c.val) - max (s.2.1 (ix2 r 0)) B) := fun c => by
    show Ideal.exp (S (ix2 r c) - broadcastTo S512x256 (mx S s.2.1) broadcasts_S512x1_S512x256 (ix2 r c)) = _
    rw [col_apply, hm, hS]
  have e1 : (fun d => (upd S V s).1 (ix2 r d)) = fun d => Ideal.exp (s.2.1 (ix2 r 0) - max (s.2.1 (ix2 r 0)) B) * s.1 (ix2 r d)
      + ∑ c : Fin 256, Ideal.exp (el (512 * n + r.val) (z r) (o + c.val) - max (s.2.1 (ix2 r 0)) B) * v (o + c.val) d := by
    funext d
    unfold upd
    dsimp only
    rw [shapeCast_self]
    show broadcastTo S512x128 (al S s.2.1) broadcasts_S512x1_S512x128 (ix2 r d) * s.1 (ix2 r d)
      + matmul (F := Ideal) (φ₁ := .bf16) (φ₂ := .bf16) dot_S512x256_S256x128_S512x128_1_0_0_1_n_n none _ _ _ (ix2 r d) = _
    rw [col_apply', ha, pv_apply]
    refine congrArg (_ + ·) (Finset.sum_congr rfl fun c _ => ?_)
    rw [hV, ← hp]; rfl
  have e2 : (upd S V s).2.1 (ix2 r 0) = max (s.2.1 (ix2 r 0)) B := by
    unfold upd
    dsimp only
    rw [shapeCast_self, hm]
  have e3 : (upd S V s).2.2 (ix2 r 0) = Ideal.exp (s.2.1 (ix2 r 0) - max (s.2.1 (ix2 r 0)) B) * s.2.2 (ix2 r 0)
      + ∑ c : Fin 256, Ideal.exp (el (512 * n + r.val) (z r) (o + c.val) - max (s.2.1 (ix2 r 0)) B) := by
    unfold upd
    dsimp only
    rw [shapeCast_self]
    show al S s.2.1 (ix2 r 0) * s.2.2 (ix2 r 0) + shapeCast S512x1 _ shapeCasts_S512_S512x1 (ix2 r 0) = _
    rw [ha, stand_apply, rowSum_apply]
    exact congrArg (_ + ·) (Finset.sum_congr rfl fun c _ => hp c)
  rw [e1, e2, e3]
  exact step

/-- The scores of a block whose keys are all visible, and of the two blocks on the diagonal. -/
def sAll (q : FVec Ideal S512x192 .bf16) (K : Vec Ideal S1x1x256x192 .bf16) : FVec Ideal S512x256 .f32 :=
  matmul dot_S512x192_S256x192_S512x256_1_1_0_0_n_n none q (shapeCast S256x192 K shapeCasts_S1x1x256x192_S256x192 : FVec Ideal S256x192 .bf16)
    (constant S512x256 .f32 0x00000000#32)

theorem trp_upd (i : grid0.Coords) (x0 : Vec Ideal S1x1x512x192 .bf16) (x1 : Vec Ideal S1x1x4096x192 .bf16) (x2 : Vec Ideal S1x4096x128 .bf16)
    (k : Fin (k0_t1_loop i).trips) (s : St Ideal) : trp i x0 x1 x2 k s
      = upd (sAll (k0_pay16 x0) (kld x1 (k0_off1 i k) (k0_off1_inb i k))) (vld x2 (k0_off2 i k) (k0_off2_inb i k)) s := rfl

theorem dia0_upd (i : grid0.Coords) (x0 : Vec Ideal S1x1x512x192 .bf16) (x1 : Vec Ideal S1x1x4096x192 .bf16) (x2 : Vec Ideal S1x4096x128 .bf16)
    (s : St Ideal) : dia0 i x0 x1 x2 s
      = upd (k0_pay27 (k0_pay16 x0) mask0 (kld x1 (k0_off5 i 0#32) (k0_off5_inb i 0))) (vld x2 (k0_off6 i 0#32) (k0_off6_inb i 0)) s := rfl

theorem dia1_upd (i : grid0.Coords) (x0 : Vec Ideal S1x1x512x192 .bf16) (x1 : Vec Ideal S1x1x4096x192 .bf16) (x2 : Vec Ideal S1x4096x128 .bf16)
    (s : St Ideal) : dia1 i x0 x1 x2 s
      = upd (k0_pay35 (k0_pay16 x0) rowChunk k0_pay25 (kld x1 (k0_off5 i 1#32) (k0_off5_inb i 1))) (vld x2 (k0_off6 i 1#32) (k0_off6_inb i 1)) s := rfl

/-- The values of the whole head, by the key's number. -/
def vOf (x2 : Vec Ideal S1x4096x128 .bf16) (j : ℕ) (d : Fin 128) : EReal := if h : j < 4096 then x2 (ix3 0 ⟨j, h⟩ d) else 0

section
variable (i : grid0.Coords) (x0 : Vec Ideal S1x1x512x192 .bf16) (x1 : Vec Ideal S1x1x4096x192 .bf16) (x2 : Vec Ideal S1x4096x128 .bf16)
  (z : Fin 512 → ℕ → ℝ) (hz : ∀ (r : Fin 512) (j : ℕ) (h : j < 4096), (∑ k : Fin 192, x0 (ix4 0 0 r k) * x1 (ix4 0 0 ⟨j, h⟩ k)) = (z r j : EReal))

theorem v_apply {off : Fin 3 → ℕ} (h) {o : ℕ} (ho : off = ![0, o, 0]) (hle : o + 256 ≤ 4096) (c : Fin 256) (d : Fin 128) :
    vld x2 off h (ix3 0 c d) = vOf x2 (o + c.val) d := by
  have hc : o + c.val < 4096 := by have := c.isLt; omega
  rw [vld_apply x2 off h o ho c d hc, vOf, dif_pos hc]

include hz

theorem z_apply {off : Fin 4 → ℕ} (h) {o : ℕ} (ho : off = ![0, 0, o, 0]) (hle : o + 256 ≤ 4096) (r : Fin 512) (c : Fin 256) :
    sAll (k0_pay16 x0) (kld x1 off h) (ix2 r c) = (z r (o + c.val) : EReal) := by
  refine (score_apply (k0_pay16 x0) (kld x1 off h) r c).trans ?_
  have hc : o + c.val < 4096 := by have := c.isLt; omega
  rw [← hz r (o + c.val) hc]
  exact Finset.sum_congr rfl fun k _ => by rw [q_apply, kld_apply x1 off h o ho c k hc]

theorem trp_step (k : Fin (k0_t1_loop i).trips) (s : St Ideal) (hs : Inv (i 2).val z (vOf x2) (256 * k.val) s) :
    Inv (i 2).val z (vOf x2) (256 * k.val + 256) (trp i x0 x1 x2 k s) := by
  have hk : k.val < 2 * (i 2).val := lt_of_lt_of_eq k.isLt (trips1 i)
  have h8 : (i 2).val < 8 := (i 2).isLt
  rw [trp_upd]
  refine upd_step _ z _ _ _ _ s (fun r c => ?_) (fun c d => v_apply x2 _ (off2_at i k) (by omega) c d) hs
  rw [z_apply x0 x1 z hz _ (off1_at i k) (by omega), el, if_pos (by have := c.isLt; omega)]

theorem dia0_step (s : St Ideal) (hs : Inv (i 2).val z (vOf x2) (512 * (i 2).val) s) :
    Inv (i 2).val z (vOf x2) (512 * (i 2).val + 256) (dia0 i x0 x1 x2 s) := by
  have h8 : (i 2).val < 8 := (i 2).isLt
  rw [dia0_upd]
  refine upd_step _ z _ _ _ _ s (fun r c => ?_) (fun c d => v_apply x2 _ (off6_0 i) (by omega) c d) hs
  refine Eq.trans (show k0_pay27 (k0_pay16 x0) mask0 (kld x1 (k0_off5 i 0#32) (k0_off5_inb i 0)) (ix2 r c)
    = Scalar.select (mask0 (ix2 r c)) (sAll (k0_pay16 x0) (kld x1 (k0_off5 i 0#32) (k0_off5_inb i 0)) (ix2 r c)) (Named.named κ "mask" 0xF149F2CA#32 : Ideal .f32) from rfl) ?_
  rw [mask0_apply, sel_ofBool, mask_bot, z_apply x0 x1 z hz _ (off5_0 i) (by omega), el]
  exact if_congr (by have := c.isLt; have := r.isLt; constructor <;> intro <;> omega) rfl rfl

theorem dia1_step (s : St Ideal) (hs : Inv (i 2).val z (vOf x2) (512 * (i 2).val + 256) s) :
    Inv (i 2).val z (vOf x2) (512 * (i 2).val + 256 + 256) (dia1 i x0 x1 x2 s) := by
  have h8 : (i 2).val < 8 := (i 2).isLt
  rw [dia1_upd]
  refine upd_step _ z _ _ _ _ s (fun r c => ?_) (fun c d => v_apply x2 _ (off6_1 i) (by omega) c d) hs
  refine Eq.trans (show k0_pay35 (k0_pay16 x0) rowChunk k0_pay25 (kld x1 (k0_off5 i 1#32) (k0_off5_inb i 1)) (ix2 r c)
    = Scalar.select (cmpi .sle (addi k0_pay25 (broadcast S512x256 4#32)) rowChunk (ix2 r c))
      (sAll (k0_pay16 x0) (kld x1 (k0_off5 i 1#32) (k0_off5_inb i 1)) (ix2 r c)) (Named.named κ "mask" 0xF149F2CA#32 : Ideal .f32) from rfl) ?_
  rw [mask1_apply, sel_ofBool, mask_bot, z_apply x0 x1 z hz _ (off5_1 i) (by omega), el]
  exact if_congr (by have := c.isLt; have := r.isLt; constructor <;> intro <;> omega) rfl rfl

omit hz in
theorem st0_inv : Inv (i 2).val z (vOf x2) 0 (st0 : St Ideal) := by
  intro r
  have e1 : (fun d : Fin 128 => (st0 : St Ideal).1 (ix2 r d)) = fun _ => (0 : EReal) := by
    funext d
    show k0_pay17 (F := Ideal) (ix2 r d) = _
    unfold k0_pay17
    rw [shapeCast_self]
    exact Ideal.ofBits_zero_f32
  have e2 : (st0 : St Ideal).2.1 (ix2 r 0) = (⊥ : EReal) := by
    show k0_pay18 (F := Ideal) (ix2 r 0) = _
    unfold k0_pay18
    rw [shapeCast_self]
    exact mask_bot
  have e3 : (st0 : St Ideal).2.2 (ix2 r 0) = (0 : EReal) := by
    show k0_pay19 (F := Ideal) (ix2 r 0) = _
    unfold k0_pay19
    rw [shapeCast_self]
    exact Ideal.ofBits_zero_f32
  rw [e1, e2, e3]
  exact inv_zero _ _ _

/-- All the trips of the loop. -/
theorem fold_inv : ∀ k, k ≤ (k0_t1_loop i).trips → Inv (i 2).val z (vOf x2) (256 * k) (fold i x0 x1 x2 st0 k)
  | 0, _ => st0_inv i x2 z
  | k + 1, hk => by
    have ih := fold_inv k (by omega)
    unfold fold
    rw [dif_pos (by omega : k < (k0_t1_loop i).trips)]
    exact trp_step i x0 x1 x2 z hz ⟨k, by omega⟩ _ ih

/-- **What a grid point leaves in its output block.** -/
theorem outv_apply (x3 : Vec Ideal S1x512x128 .bf16) (r : Fin 512) (d : Fin 128) :
    outv i x0 x1 x2 x3 (ix3 0 r d)
      = (∑ j ∈ Finset.range 4096, (wt (512 * (i 2).val + r.val) (z r) j : EReal) * vOf x2 j d) * x3 (ix3 0 r d) := by
  have h8 : (i 2).val < 8 := (i 2).isLt
  have hf := fold_inv i x0 x1 x2 z hz _ le_rfl
  rw [show 256 * (k0_t1_loop i).trips = 512 * (i 2).val by rw [trips1]; omega] at hf
  have h := dia1_step i x0 x1 x2 z hz _ (dia0_step i x0 x1 x2 z hz _ hf) r
  have q := inv_final _ _ _ _ _ _ _ h (by omega) (by omega) (by have := r.isLt; omega) d
  unfold outv k0_pay3
  refine (shapeCast_addUnit_apply (n := 2) ![512, 128] _ _ (ix3 0 r d)).trans ?_
  have e2 : (fun a : Fin 2 => (ix3 (0 : Fin 1) r d : S1x512x128.Idx) a.succ) = ix2 r d := by funext a; fin_cases a <;> rfl
  refine (congrArg _ e2).trans ?_
  show Ideal.div ((fin i x0 x1 x2).1 (ix2 r d)) (broadcastTo S512x128 (fin i x0 x1 x2).2.2 broadcasts_S512x1_S512x128 (ix2 r d))
    * shapeCast S512x128 x3 shapeCasts_S1x512x128_S512x128 (ix2 r d) = _
  rw [col_apply']
  refine congrArg₂ (fun x y : EReal => x * y) q ?_
  exact (shapeCast_dropUnit_apply (n := 2) ![512, 128] x3 _ (ix2 r d)).trans (congrArg x3 (cons2 r d))

end

end Cert.MlIdeal.Body
-- ==== Proof.MlSpec.lean ====
/- The latent attention's result as one function of its arguments, the queries, the keys, the values and the gates: what both
   programs are read to. -/
module

public import Idealize.ShloMosaic.Lib.ValueIdx
public import proofs.«01_k».proof.Proof.MlMath

@[expose] public section

set_option maxRecDepth 16384

noncomputable section

namespace Cert.MlIdeal.Body

open Idealize.ShloMosaic Idealize.ShloMosaic.ValueIdx
open Cert.MlMath

/-- The shape of the queries and the keys, and of the values and the gates. -/
abbrev Arr4 : Type := (⟨4, ![2, 16, 4096, 192]⟩ : Shape).Idx → EReal
abbrev Arr3 : Type := (⟨3, ![2, 4096, 2048]⟩ : Shape).Idx → EReal

/-- The score of query `t` against key `j` of head `h`. -/
def sc (Q K : Arr4) (b : Fin 2) (h : Fin 16) (t j : Fin 4096) : EReal := ∑ k : Fin 192, Q (ix4 b h t k) * K (ix4 b h j k)

/-- The same score as a real, by the key's number. -/
def scN (Q K : Arr4) (b : Fin 2) (h : Fin 16) (t : Fin 4096) (j : ℕ) : ℝ := if hj : j < 4096 then (sc Q K b h t ⟨j, hj⟩).toReal else 0

/-- The value of key `j`, by the key's number. -/
def vN (V : Arr3) (b : Fin 2) (h : Fin 16) (j : ℕ) (d : Fin 128) : EReal :=
  if hj : j < 4096 then V (ix3 b ⟨j, hj⟩ ⟨128 * h.val + d.val, by omega⟩) else 0

/-- The result at query `t` of head `h`. -/
def resAt (Q K : Arr4) (V G : Arr3) (b : Fin 2) (t : Fin 4096) (h : Fin 16) (d : Fin 128) : EReal :=
  (∑ j ∈ Finset.range 4096, (wt t.val (scN Q K b h t) j : EReal) * vN V b h j d) * G (ix3 b t ⟨128 * h.val + d.val, by omega⟩)

/-- The head of a result column, and the column within the head. -/
def hd (e : Fin 2048) : Fin 16 := ⟨e.val / 128, by omega⟩
def dm (e : Fin 2048) : Fin 128 := ⟨e.val % 128, by omega⟩

/-- The result array. -/
def res (Q K : Arr4) (V G : Arr3) : Arr3 := fun i => resAt Q K V G (i 0) (i 1) (hd (i 2)) (dm (i 2))

/-- Every number of the array is finite. -/
def Fin4 (A : Arr4) : Prop := ∀ (b : Fin 2) (h : Fin 16) (t : Fin 4096) (k : Fin 192), ∃ x : ℝ, A (ix4 b h t k) = (x : EReal)

/-- Then every score is real. -/
theorem sc_real {Q K : Arr4} (hQ : Fin4 Q) (hK : Fin4 K) (b : Fin 2) (h : Fin 16) (t j : Fin 4096) :
    sc Q K b h t j = (scN Q K b h t j.val : EReal) := by
  have : ∃ x : ℝ, sc Q K b h t j = (x : EReal) := by
    choose f hf using hQ
    choose g hg using hK
    refine ⟨∑ k : Fin 192, f b h t k * g b h j k, ?_⟩
    rw [coe_sum]
    exact Finset.sum_congr rfl fun k _ => by rw [EReal.coe_mul, ← hf, ← hg]
  obtain ⟨x, hx⟩ := this
  rw [scN, dif_pos j.isLt]
  show sc Q K b h t j = ((sc Q K b h t j).toReal : EReal)
  rw [hx, EReal.toReal_coe]

end Cert.MlIdeal.Body
-- ==== Proof.MlArr.lean ====
/- The latent attention kernel's result array: every grid point writes its block of the result, and the blocks cover the
   array. -/
module

public import Idealize.ShloMosaic.Lib.StableHlo.Run
public import proofs.«01_k».proof.Proof.MlOut
public import proofs.«01_k».proof.Proof.MlSteps
public import proofs.«01_k».proof.Proof.MlSpec
public import proofs.«01_k».proof.Proof.Gen.MlIdeal.Value

@[expose] public section

set_option maxRecDepth 16384

noncomputable section

namespace Cert.MlIdeal.Body

open Cert.MlIdeal Cert.MlIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The queries, the keys, the values and the gates. -/
def argQ : Arr4 := m ((c : Thread nD τ).loc main_arg0)
def argK : Arr4 := m ((c : Thread nD τ).loc main_arg1)
def argV : Arr3 := m ((c : Thread nD τ).loc main_arg2)
def argG : Arr3 := m ((c : Thread nD τ).loc main_arg3)

/-- A point's batch, head and query block. -/
def pb (t : Fin cfg0.N) : Fin 2 := (grid0.coords t) 0
def ph (t : Fin cfg0.N) : Fin 16 := (grid0.coords t) 1
def pq (t : Fin cfg0.N) : Fin 8 := (grid0.coords t) 2

theorem w2 : ∀ b : Fin 2, (BitVec.ofNat 32 b.val).toNat = b.val := by decide +kernel
theorem w8 : ∀ b : Fin 8, (BitVec.ofNat 32 b.val).toNat = b.val := by decide +kernel
theorem w16 : ∀ b : Fin 16, (BitVec.ofNat 32 b.val).toNat = b.val := by decide +kernel

theorem rd0 (t : Fin cfg0.N) (r : Fin 512) (k : Fin 192) :
    (iblk m c 0 t : Vec Ideal S1x1x512x192 .bf16) (ix4 0 0 r k) = argQ m c (ix4 (pb t) (ph t) ⟨512 * (pq t).val + r.val, by omega⟩ k) := by
  unfold iblk
  rw [View.read_apply]
  show V m c main_arg0 _ = m ((c : Thread nD τ).loc main_arg0) _
  rw [V_main_arg0]
  congr 1
  funext a
  apply Fin.ext
  match a with
  | ⟨0, _⟩ => show (BitVec.ofNat 32 (pb t).val).toNat * 1 + 1 * 0 = (pb t).val; rw [w2]; omega
  | ⟨1, _⟩ => show (BitVec.ofNat 32 (ph t).val).toNat * 1 + 1 * 0 = (ph t).val; rw [w16]; omega
  | ⟨2, _⟩ => show (BitVec.ofNat 32 (pq t).val).toNat * 512 + 1 * r.val = 512 * (pq t).val + r.val; rw [w8]; omega
  | ⟨3, _⟩ => show (0#32).toNat * 192 + 1 * k.val = k.val; simp

theorem rd1 (t : Fin cfg0.N) (r : Fin 4096) (k : Fin 192) :
    (iblk m c 1 t : Vec Ideal S1x1x4096x192 .bf16) (ix4 0 0 r k) = argK m c (ix4 (pb t) (ph t) r k) := by
  unfold iblk
  rw [View.read_apply]
  show V m c main_arg1 _ = m ((c : Thread nD τ).loc main_arg1) _
  rw [V_main_arg1]
  congr 1
  funext a
  apply Fin.ext
  match a with
  | ⟨0, _⟩ => show (BitVec.ofNat 32 (pb t).val).toNat * 1 + 1 * 0 = (pb t).val; rw [w2]; omega
  | ⟨1, _⟩ => show (BitVec.ofNat 32 (ph t).val).toNat * 1 + 1 * 0 = (ph t).val; rw [w16]; omega
  | ⟨2, _⟩ => show (0#32).toNat * 4096 + 1 * r.val = r.val; simp
  | ⟨3, _⟩ => show (0#32).toNat * 192 + 1 * k.val = k.val; simp

theorem rd2 (t : Fin cfg0.N) (r : Fin 4096) (d : Fin 128) :
    (iblk m c 2 t : Vec Ideal S1x4096x128 .bf16) (ix3 0 r d) = argV m c (ix3 (pb t) r ⟨128 * (ph t).val + d.val, by omega⟩) := by
  unfold iblk
  rw [View.read_apply]
  show V m c main_arg2 _ = m ((c : Thread nD τ).loc main_arg2) _
  rw [V_main_arg2]
  congr 1
  funext a
  apply Fin.ext
  match a with
  | ⟨0, _⟩ => show (BitVec.ofNat 32 (pb t).val).toNat * 1 + 1 * 0 = (pb t).val; rw [w2]; omega
  | ⟨1, _⟩ => show (0#32).toNat * 4096 + 1 * r.val = r.val; simp
  | ⟨2, _⟩ => show (BitVec.ofNat 32 (ph t).val).toNat * 128 + 1 * d.val = 128 * (ph t).val + d.val; rw [w16]; omega

theorem rd3 (t : Fin cfg0.N) (r : Fin 512) (d : Fin 128) :
    (iblk m c 3 t : Vec Ideal S1x512x128 .bf16) (ix3 0 r d) = argG m c (ix3 (pb t) ⟨512 * (pq t).val + r.val, by omega⟩ ⟨128 * (ph t).val + d.val, by omega⟩) := by
  unfold iblk
  rw [View.read_apply]
  show V m c main_arg3 _ = m ((c : Thread nD τ).loc main_arg3) _
  rw [V_main_arg3]
  congr 1
  funext a
  apply Fin.ext
  match a with
  | ⟨0, _⟩ => show (BitVec.ofNat 32 (pb t).val).toNat * 1 + 1 * 0 = (pb t).val; rw [w2]; omega
  | ⟨1, _⟩ => show (BitVec.ofNat 32 (pq t).val).toNat * 512 + 1 * r.val = 512 * (pq t).val + r.val; rw [w8]; omega
  | ⟨2, _⟩ => show (BitVec.ofNat 32 (ph t).val).toNat * 128 + 1 * d.val = 128 * (ph t).val + d.val; rw [w16]; omega

/-- **What a point writes back is its block of the result.** -/
theorem flushed_res (hQ : Fin4 (argQ m c)) (hK : Fin4 (argK m c)) (t : Fin cfg0.N) (r : Fin 512) (d : Fin 128) :
    ((dats m 0 c).flushed 4 t : Vec Ideal S1x512x128 .bf16) (ix3 0 r d)
      = resAt (argQ m c) (argK m c) (argV m c) (argG m c) (pb t) ⟨512 * (pq t).val + r.val, by omega⟩ (ph t) d := by
  rw [Value.flushed4_A]
  show out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (ix3 0 r d) = _
  rw [out_eq]
  rw [outv_apply (grid0.coords t) (iblk m c 0 t) (iblk m c 1 t) (iblk m c 2 t)
    (fun r j => scN (argQ m c) (argK m c) (pb t) (ph t) ⟨512 * (pq t).val + r.val, by omega⟩ j)
    (fun r j hj => by
      rw [← sc_real hQ hK (pb t) (ph t) ⟨512 * (pq t).val + r.val, by omega⟩ ⟨j, hj⟩]
      exact Finset.sum_congr rfl fun k _ => by rw [rd0, rd1])
    (iblk m c 3 t) r d]
  unfold resAt
  rw [rd3]
  refine congrArg₂ (· * ·) (Finset.sum_congr rfl fun j hj => ?_) rfl
  refine congrArg₂ (· * ·) rfl ?_
  unfold vOf vN
  rw [dif_pos (Finset.mem_range.1 hj), dif_pos (Finset.mem_range.1 hj), rd2]

theorem coords_at : ∀ t : Fin 256, ((grid0.coords t 0).val = t.val / 128 ∧ (grid0.coords t 1).val = t.val / 8 % 16) ∧ (grid0.coords t 2).val = t.val % 8 := by
  decide +kernel

/-- **The kernel's result array is the result.** -/
theorem arr_res (hQ : Fin4 (argQ m c)) (hK : Fin4 (argK m c)) :
    (dats m 0 c).arrAt 4 cfg0.N = res (argQ m c) (argK m c) (argV m c) (argG m c) := by
  refine (dats m 0 c).arrAt_eq_of_cover 4 (res (argQ m c) (argK m c) (argV m c) (argG m c)) (fun t _ => ?_) fun i => ?_
  · funext y
    obtain ⟨y0, r, d, rfl⟩ : ∃ (y0 : Fin 1) (r : Fin 512) (d : Fin 128), (y : S1x512x128.Idx) = ix3 y0 r d := ⟨y 0, y 1, y 2, eq_ix3 y⟩
    obtain rfl : y0 = 0 := Subsingleton.elim _ _
    refine (flushed_res m c hQ hK t r d).trans ?_
    rw [View.read_apply]
    show resAt (argQ m c) (argK m c) (argV m c) (argG m c) _ _ _ _ = res (argQ m c) (argK m c) (argV m c) (argG m c) _
    have e0 : (((cfg0.win 4).blk t).view.emb (ix3 (0 : Fin 1) r d : S1x512x128.Idx) : S2x4096x2048.Idx)
        = ix3 (pb t) ⟨512 * (pq t).val + r.val, by omega⟩ ⟨128 * (ph t).val + d.val, by omega⟩ := by
      funext a
      apply Fin.ext
      match a with
      | ⟨0, _⟩ => show (BitVec.ofNat 32 (pb t).val).toNat * 1 + 1 * 0 = (pb t).val; rw [w2]; omega
      | ⟨1, _⟩ => show (BitVec.ofNat 32 (pq t).val).toNat * 512 + 1 * r.val = 512 * (pq t).val + r.val; rw [w8]; omega
      | ⟨2, _⟩ => show (BitVec.ofNat 32 (ph t).val).toNat * 128 + 1 * d.val = 128 * (ph t).val + d.val; rw [w16]; omega
    refine Eq.trans ?_ (congrArg (res (argQ m c) (argK m c) (argV m c) (argG m c)) e0).symm
    show resAt (argQ m c) (argK m c) (argV m c) (argG m c) (pb t) ⟨512 * (pq t).val + r.val, by omega⟩ (ph t) d
      = resAt (argQ m c) (argK m c) (argV m c) (argG m c) (pb t) ⟨512 * (pq t).val + r.val, by omega⟩
        (hd ⟨128 * (ph t).val + d.val, by omega⟩) (dm ⟨128 * (ph t).val + d.val, by omega⟩)
    have eh : hd ⟨128 * (ph t).val + d.val, by omega⟩ = ph t := Fin.ext (by show (128 * (ph t).val + d.val) / 128 = _; omega)
    have ed : dm ⟨128 * (ph t).val + d.val, by omega⟩ = d := Fin.ext (by show (128 * (ph t).val + d.val) % 128 = _; omega)
    rw [eh, ed]
  · have h0 : (i 0 : ℕ) < 2 := (i 0).isLt
    have h1 : (i 1 : ℕ) < 4096 := (i 1).isLt
    have h2 : (i 2 : ℕ) < 2048 := (i 2).isLt
    let t : Fin cfg0.N := ⟨128 * (i 0 : ℕ) + 8 * ((i 2 : ℕ) / 128) + (i 1 : ℕ) / 512, by rw [show cfg0.N = 256 from N_0]; omega⟩
    have ht : t.val = 128 * (i 0 : ℕ) + 8 * ((i 2 : ℕ) / 128) + (i 1 : ℕ) / 512 := rfl
    obtain ⟨⟨c0, c1⟩, c2⟩ := coords_at ⟨t.val, by omega⟩
    refine ⟨t, flush0_4 t, ?_⟩
    show i ∈ ((View.whole main_v0).slice (win0_4.rect t)).set
    rw [View.set_slice_whole, Rect.mem_set_unit]
    intro a
    match a with
    | ⟨0, _⟩ =>
      show (BitVec.ofNat 32 (pb t).val).toNat * 1 ≤ (i 0 : ℕ) ∧ (i 0 : ℕ) < (BitVec.ofNat 32 (pb t).val).toNat * 1 + 1
      rw [w2]
      have : (pb t).val = t.val / 128 := c0
      omega
    | ⟨1, _⟩ =>
      show (BitVec.ofNat 32 (pq t).val).toNat * 512 ≤ (i 1 : ℕ) ∧ (i 1 : ℕ) < (BitVec.ofNat 32 (pq t).val).toNat * 512 + 512
      rw [w8]
      have : (pq t).val = t.val % 8 := c2
      omega
    | ⟨2, _⟩ =>
      show (BitVec.ofNat 32 (ph t).val).toNat * 128 ≤ (i 2 : ℕ) ∧ (i 2 : ℕ) < (BitVec.ofNat 32 (ph t).val).toNat * 128 + 128
      rw [w16]
      have : (ph t).val = t.val / 8 % 16 := c1
      omega

/-- The run, read. -/
theorem run (ρ : Dev nD → PrngReg) (hQ : ∀ c, Fin4 (argQ m c)) (hK : ∀ c, Fin4 (argK m c)) :
    θ_run defs (onTc (τ := τ) (main (F := Ideal))) ⟨m, fun _ => 0, ρ⟩ fun r => ∀ c : Dev nD,
      r.2.mem ((c : Thread nD τ).loc main_v0) = res (argQ m c) (argK m c) (argV m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (arr_res m c (hQ c) (hK c)), (h c).2⟩) (Value.run_blocks m ρ)

end Cert.MlIdeal.Body
-- ==== Proof.MlRef.lean ====
/- The latent attention's reference computes the result array: its stages at their elements. -/
module

public import Idealize.ShloMosaic.Lib.ValueIdx
public import Idealize.ShloMosaic.Lib.WordCmp
public import Idealize.ShloMosaic.PureOps.Reduce
public import Idealize.ShloMosaic.PureOps.Ideal.Laws
public import Idealize.ShloMosaic.Lib.IdealHost
public import proofs.«01_k».proof.Proof.MlSpec
public import proofs.«01_k».proof.Proof.Gen.MlRefIdeal.Read

@[expose] public section

set_option maxRecDepth 16384

noncomputable section

namespace Cert.MlRefIdeal.Sum

open Idealize.ShloMosaic Idealize.ShloMosaic.TcCoe Idealize.SL.Sem Idealize.ShloMosaic.ValueIdx
open Cert.MlRefIdeal Cert.MlRefIdeal.Gen Cert.MlRefIdeal.Read
open Cert.MlIdeal.Body (Arr4 Arr3 sc scN vN resAt res hd dm Fin4 sc_real)
open Cert.MlMath

theorem sel_ofBool {α : Type} (p : Prop) [Decidable p] (a b : α) : Scalar.select (BitVec.ofBool (decide p)) a b = if p then a else b := by
  by_cases h : p <;> simp [Scalar.select, h]

theorem low_bot : (FloatOps.ofBits .f32 0xFF800000#32 : Ideal .f32) = (⊥ : EReal) := by
  show Ideal.ofBits .f32 0xFF800000#32 = ⊥
  simp [Ideal.ofBits, Ideal.ieee]

/-- The chunk of a position, as the reference computes it on words. -/
def chunkH (x : BitVec 32) : BitVec 32 :=
  Scalar.select (IntOp.andi
      (IntOp.cmpi .ne (signi (s := S_) (fun _ => x) (Shape.Idx.first h_S_)) (signi (s := S_) (fun _ => 64#32) (Shape.Idx.first h_S_)))
      (IntOp.cmpi .ne (IntOp.remsi .host x 64#32) 0#32))
    (IntOp.subi (IntOp.divsi .host x 64#32) 1#32) (IntOp.divsi .host x 64#32)

theorem chunkH_val : ∀ t : Fin 4096, chunkH (BitVec.ofNat 32 t.val) = BitVec.ofNat 32 (t.val / 64) := by decide +kernel

theorem chunk_at (t : Fin 4096) : val_main_v4 (F := Ideal) (ix1 t) = BitVec.ofNat 32 (t.val / 64) := by
  rw [← chunkH_val t]
  rw [val_main_v4_apply, val_main_call0_v11_apply, val_main_call0_v13_apply, val_main_call0_v6_apply, val_main_call0_v10_apply,
    val_main_call0_v8_apply, val_main_call0_v2_apply, val_main_call0_v12_apply, val_main_call0_v9_apply, val_main_call0_v7_apply,
    val_main_call0_v5_apply, val_main_call0_v1_apply, val_main_call0_v0_apply, val_main_call0_c_apply, val_main_call0_c_0_apply, val_main_c_apply,
    val_main_v3_apply]
  rfl

theorem mask_at (t j : Fin 4096) : val_main_v9 (F := Ideal) (ix2 t j) = BitVec.ofBool (decide (j.val / 64 ≤ t.val / 64)) := by
  rw [val_main_v9_apply, val_main_v7_apply, val_main_v5_apply, val_main_v8_apply, val_main_v6_apply]
  rw [show idx_main_v5 (idx_main_v7 (ix2 t j)) = ix1 j from funext fun a => Fin.ext (match a with | ⟨0, _⟩ => rfl),
    show idx_main_v6 (idx_main_v8 (ix2 t j)) = ix1 t from funext fun a => Fin.ext (match a with | ⟨0, _⟩ => rfl), chunk_at, chunk_at]
  exact WordCmp.cmpi_sle_ofNat (by omega) (by omega)

variable (Q K : Arr4) (V G : Arr3)

theorem score_at (b : Fin 2) (h : Fin 16) (t j : Fin 4096) : val_main_v2 (F := Ideal) Q K (ix4 b h t j) = sc Q K b h t j := by
  rw [val_main_v2_apply]
  unfold sc
  refine Finset.sum_congr rfl fun k _ => ?_
  rw [val_main_v0_apply, val_main_v1_apply]
  refine congrArg₂ (fun x y : EReal => x * y) (congrArg Q ?_) (congrArg K ?_)
  · funext a
    apply Fin.ext
    match a with
    | ⟨0, _⟩ => rfl
    | ⟨1, _⟩ => rfl
    | ⟨2, _⟩ => rfl
    | ⟨3, _⟩ => rfl
  · funext a
    apply Fin.ext
    match a with
    | ⟨0, _⟩ => rfl
    | ⟨1, _⟩ => rfl
    | ⟨2, _⟩ => rfl
    | ⟨3, _⟩ => rfl

theorem value_at (b : Fin 2) (h : Fin 16) (j : Fin 4096) (d : Fin 128) : val_main_v23 (F := Ideal) V (ix4 b j h d) = vN V b h j.val d := by
  rw [val_main_v23_apply, val_main_v22_apply]
  unfold vN
  rw [dif_pos j.isLt]
  refine congrArg V ?_
  funext a
  apply Fin.ext
  match a with
  | ⟨0, _⟩ => show (((b.val * 4096 + j.val) * 16 + h.val) * 128 + d.val) / 8388608 = b.val; omega
  | ⟨1, _⟩ => show (((b.val * 4096 + j.val) * 16 + h.val) * 128 + d.val) / 2048 % 4096 = j.val; omega
  | ⟨2, _⟩ => show (((b.val * 4096 + j.val) * 16 + h.val) * 128 + d.val) % 2048 = 128 * h.val + d.val; omega

variable {Q K} (hQ : Fin4 Q) (hK : Fin4 K)
include hQ hK

theorem masked_at (b : Fin 2) (h : Fin 16) (t j : Fin 4096) :
    val_main_v10 (F := Ideal) Q K (ix4 b h t j) = el t.val (scN Q K b h t) j.val := by
  rw [val_main_v10_apply, val_main_call1_v1_apply, val_main_call1_v2_apply, val_main_call1_v0_apply, val_main_cst_apply, low_bot]
  rw [show idx_main_call1_v1 (ix4 b h t j) = ix2 t j from funext fun a => Fin.ext (match a with | ⟨0, _⟩ => rfl | ⟨1, _⟩ => rfl)]
  rw [mask_at, sel_ofBool, score_at, sc_real hQ hK]
  rfl

/-- The largest of a row's scores. -/
def top (t : Fin 4096) (z : ℕ → ℝ) : EReal := (Finset.univ : Finset (Fin 4096)).fold max (⊥ : EReal) (fun c => el t.val z c.val)

theorem max_at (b : Fin 2) (h : Fin 16) (t : Fin 4096) : val_main_v13 (F := Ideal) Q K (ix3 b h t) = top t (scN Q K b h t) := by
  rw [val_main_v13_apply, val_main_v12_apply, val_main_cst_1_apply, low_bot]
  have e : val_main_v11 (F := Ideal) Q K (ix3 b h t) = top t (scN Q K b h t) := by
    unfold val_main_v11
    have e2 : ∀ c : Fin 4096, val_main_v10 (F := Ideal) Q K (ix4 b h t c) = el t.val (scN Q K b h t) c.val := masked_at hQ hK b h t
    generalize val_main_v10 (F := Ideal) Q K = y at e2
    refine (Host.reduce_eq_fold_single (max : EReal → EReal → EReal) y _ reducesTo_S2x16x4096x4096_S2x16x4096_d3 (by decide) h_S_ (ix3 b h t)).trans ?_
    rw [val_main_cst_0_apply, low_bot]
    unfold top
    refine congrArg (Finset.fold max (⊥ : EReal) · Finset.univ) (funext fun c => (congrArg y ?_).trans (e2 c))
    funext a
    apply Fin.ext
    match a with
    | ⟨0, _⟩ => rfl
    | ⟨1, _⟩ => rfl
    | ⟨2, _⟩ => rfl
    | ⟨3, _⟩ => rfl
  rw [e]
  exact max_eq_right bot_le

theorem exp_at (b : Fin 2) (h : Fin 16) (t j : Fin 4096) :
    val_main_v17 (F := Ideal) Q K (ix4 b h t j) = Ideal.exp (el t.val (scN Q K b h t) j.val - top t (scN Q K b h t)) := by
  rw [val_main_v17_apply, val_main_v16_apply, masked_at hQ hK, val_main_v15_apply, val_main_v14_apply]
  rw [show idx_main_v14 (idx_main_v15 (ix4 b h t j)) = ix3 b h t from funext fun a => Fin.ext (match a with | ⟨0, _⟩ => rfl | ⟨1, _⟩ => rfl | ⟨2, _⟩ => rfl)]
  rw [max_at hQ hK]
  rfl

theorem weight_at (b : Fin 2) (h : Fin 16) (t j : Fin 4096) :
    val_main_v21 (F := Ideal) Q K (ix4 b h t j) = (wt t.val (scN Q K b h t) j.val : EReal) := by
  obtain ⟨hB, hx⟩ := fold_max (fun c : Fin 4096 => el t.val (scN Q K b h t) c.val) (fun c => el_ne_top _ _ _)
  rw [← ref_weight t.val (scN Q K b h t) (top t (scN Q K b h t)) hB hx j.val]
  rw [val_main_v21_apply, exp_at hQ hK, val_main_v20_apply, val_main_v19_apply]
  rw [show idx_main_v19 (idx_main_v20 (ix4 b h t j)) = ix3 b h t from funext fun a => Fin.ext (match a with | ⟨0, _⟩ => rfl | ⟨1, _⟩ => rfl | ⟨2, _⟩ => rfl)]
  rw [val_main_v18_apply, val_main_cst_2_apply]
  rw [show FloatOps.ofBits (F := Ideal) .f32 0x00000000#32 = (0 : EReal) from Ideal.ofBits_zero_f32, zero_add]
  refine congrArg (Ideal.div _) (Finset.sum_congr rfl fun c _ => ?_)
  rw [← exp_at hQ hK]
  refine congrArg _ ?_
  funext a
  apply Fin.ext
  match a with
  | ⟨0, _⟩ => rfl
  | ⟨1, _⟩ => rfl
  | ⟨2, _⟩ => rfl
  | ⟨3, _⟩ => rfl

theorem result_eq : val_main_v29 (F := Ideal) Q K V G = res Q K V G := by
  funext i
  obtain ⟨b, t, e, rfl⟩ : ∃ (b : Fin 2) (t : Fin 4096) (e : Fin 2048), i = ix3 b t e := ⟨i 0, i 1, i 2, eq_ix3 i⟩
  rw [val_main_v29_apply, val_main_v28_apply, val_main_v27_apply, val_main_v26_apply, val_main_v25_apply, val_main_v24_apply]
  show (∑ k : Fin 4096, _ : EReal) * _ = resAt Q K V G b t (hd e) (dm e)
  unfold resAt
  refine congrArg₂ (fun x y : EReal => x * y) ?_ (congrArg G ?_)
  · rw [← Fin.sum_univ_eq_sum_range (fun j => (wt t.val (scN Q K b (hd e) t) j : EReal) * vN V b (hd e) j (dm e)) 4096]
    refine Finset.sum_congr rfl fun k _ => ?_
    rw [← weight_at hQ hK, ← value_at, mul_comm]
    refine congrArg₂ (fun x y : EReal => x * y) (congrArg _ ?_) (congrArg _ ?_)
    · funext a
      apply Fin.ext
      match a with
      | ⟨0, _⟩ => show ((b.val * 4096 + t.val) * 2048 + e.val) / 8388608 = b.val; omega
      | ⟨1, _⟩ => show ((b.val * 4096 + t.val) * 2048 + e.val) / 128 % 16 = e.val / 128; omega
      | ⟨2, _⟩ => show ((b.val * 4096 + t.val) * 2048 + e.val) / 2048 % 4096 = t.val; omega
      | ⟨3, _⟩ => rfl
    · funext a
      apply Fin.ext
      match a with
      | ⟨0, _⟩ => show ((b.val * 4096 + t.val) * 2048 + e.val) / 8388608 = b.val; omega
      | ⟨1, _⟩ => rfl
      | ⟨2, _⟩ => show ((b.val * 4096 + t.val) * 2048 + e.val) / 128 % 16 = e.val / 128; omega
      | ⟨3, _⟩ => show ((b.val * 4096 + t.val) * 2048 + e.val) % 128 = e.val % 128; omega
  · funext a
    apply Fin.ext
    match a with
    | ⟨0, _⟩ => rfl
    | ⟨1, _⟩ => rfl
    | ⟨2, _⟩ => show e.val = 128 * (e.val / 128) + e.val % 128; omega

end Cert.MlRefIdeal.Sum
-- ==== Proof.MlClaims.lean ====
/- The latent attention's claims. -/
module

public import proofs.«01_k».proof.Defs
public import proofs.«01_k».proof.Proof.MlArr
public import proofs.«01_k».proof.Proof.MlRef
public import proofs.«01_k».proof.Proof.Gen.Pre_finite_scores
public import proofs.«01_k».proof.Proof.Gen.Ml.Frame
public import proofs.«01_k».proof.Proof.Gen.MlIdeal.Frame
public import proofs.«01_k».proof.Proof.Gen.MlRefIdeal.Run
public import Idealize.ShloMosaic.Adequacy
public import Idealize.ShloMosaic.Init

@[expose] public section

noncomputable section

namespace Cert.MlClaims

open Idealize.ShloMosaic Idealize.ShloMosaic.TcCoe Idealize.SL.Sem Idealize.ShloMosaic.ValueIdx
open Cert.MlIdeal.Body (Arr4 Arr3 Fin4 argQ argK argV argG res)

/-- The bound the precondition compares with is the positive infinity. -/
theorem bound_top : Ideal.ofBits .bf16 0x7F80#16 = (⊤ : EReal) := by simp [Ideal.ofBits, Ideal.ieee]

/-- A number of absolute value below the positive infinity is real. -/
theorem real_of_abs_lt {x : EReal} (h : Ideal.cmp .olt (max x (-x)) ⊤ = 1#1) : ∃ r : ℝ, x = (r : EReal) := by
  have hlt : max x (-x) < ⊤ := by
    by_contra hn
    rw [show Ideal.cmp .olt (max x (-x)) ⊤ = 0#1 by simp [Ideal.cmp, hn]] at h
    exact absurd h (by decide)
  rw [max_lt_iff] at hlt
  refine ⟨x.toReal, (EReal.coe_toReal hlt.1.ne ?_).symm⟩
  rintro rfl
  simp at hlt

theorem both : ∀ a b : BitVec 1, IntOp.andi a b = 1#1 → a = 1#1 ∧ b = 1#1 := by decide

/-- The precondition, read. -/
theorem fin_qk (Q K : Arr4) (V G : Arr3) (h : Cert.Pre_finite_scores.fn (F := Ideal) Q K V G = fun _ => 1#1) : Fin4 Q ∧ Fin4 K := by
  have hi : ∀ i, Ideal.cmp .olt (max (Q i) (-(Q i))) ⊤ = 1#1 ∧ Ideal.cmp .olt (max (K i) (-(K i))) ⊤ = 1#1 := fun i => by
    have hj := congrFun h i
    unfold Cert.Pre_finite_scores.fn at hj
    have hk : IntOp.andi (Ideal.cmp .olt (max (Q i) (-(Q i))) (Ideal.ofBits .bf16 0x7F80#16))
        (Ideal.cmp .olt (max (K i) (-(K i))) (Ideal.ofBits .bf16 0x7F80#16)) = 1#1 := hj
    rw [bound_top] at hk
    exact both _ _ hk
  exact ⟨fun b h t k => real_of_abs_lt (hi (ix4 b h t k)).1, fun b h t k => real_of_abs_lt (hi (ix4 b h t k)).2⟩

theorem frame_p : Cert.quiescent_Ml := fun m ρ _ => Cert.Ml.Gen.frame m ρ
theorem frame_pi : Cert.quiescent_MlIdeal := fun m ρ _ => Cert.MlIdeal.Gen.frame m ρ
theorem frame_pi_pre : Cert.quiescent_MlIdeal_pre_finite_scores := fun m ρ _ => Cert.MlIdeal.Gen.frame m ρ

theorem frame_ri : Cert.quiescent_MlRefIdeal := fun m ρ _ =>
  (θ_run Cert.MlRefIdeal.defs _ _).mono (fun r h => ⟨fun c => (h c).2, sem_eq_zero_of_no_sems (by decide) r.2⟩)
    (Cert.MlRefIdeal.Value.run (F := Ideal) m ρ)

theorem frame_ri_pre : Cert.quiescent_MlRefIdeal_pre_finite_scores := fun m ρ _ => frame_ri m ρ trivial

/-- Reading the mask's constant as the negative infinity is the rule's own statement. -/
theorem preserves : Cert.preserves_Ml_MlIdeal := IdealRules.named_const.statement Cert.MlIdeal.κ "mask" .f32 0xF149F2CA#32 ⊥ rfl

/-- Both programs end with the result array of the arguments they share. -/
theorem algebraic : Cert.algebraic_MlIdeal_MlRefIdeal_pre_finite_scores := by
  intro m g m' g' hp ha
  have hf : ∀ c, Fin4 (argQ m c) ∧ Fin4 (argK m c) := fun c => fin_qk _ _ _ _ (hp c)
  refine ⟨fun c => res (argQ m c) (argK m c) (argV m c) (argG m c), Cert.MlIdeal.Body.run m g (fun c => (hf c).1) (fun c => (hf c).2), ?_⟩
  refine (θ_run Cert.MlRefIdeal.defs _ _).mono (fun r h c => ⟨(h c).1.trans ?_, (h c).2⟩) (Cert.MlRefIdeal.Value.run (F := Ideal) m' g')
  rw [Cert.MlRefIdeal.Read.val_main_v29_eq, (ha c).1, (ha c).2.1, (ha c).2.2.1, (ha c).2.2.2]
  exact Cert.MlRefIdeal.Sum.result_eq (argV m c) (argG m c) (hf c).1 (hf c).2

end Cert.MlClaims
-- ==== Proof.QsBody.lean ====
/- The query side kernel's body: what a point leaves in its two output blocks, as one function of the blocks it read. -/
module

public import Idealize.ShloMosaic.Lib.Pointwise
public import Idealize.ShloMosaic.Lib.StableHlo.Run
public import proofs.«01_k».proof.Proof.Gen.QsIdeal.Value

@[expose] public section

set_option maxRecDepth 16384

noncomputable section

namespace Cert.QsIdeal.Body

open Cert.QsIdeal Cert.QsIdeal.Gen Idealize.ShloMosaic Idealize.ShloMosaic.TcCoe Idealize.SL.Sem

theorem z2 : (![0, 0] : Fin 2 → ℕ) = fun _ => 0 := by funext a; fin_cases a <;> rfl
theorem z3 : (![0, 0, 0] : Fin 3 → ℕ) = fun _ => 0 := by funext a; fin_cases a <;> rfl

/-- An entry of the heads' block: of each head 128 columns of one array, then 64 of another. -/
def headAt (v : FVec Ideal S512x2048 .bf16) (w : FVec Ideal S512x1024 .bf16) (n : Fin 16) (r : Fin 512) (j : Fin 192) : Ideal .bf16 :=
  if h : (j : ℕ) < 128 then v (ix2 r ⟨128 * (n : ℕ) + (j : ℕ), by omega⟩)
  else w (ix2 r ⟨64 * (n : ℕ) + ((j : ℕ) - 128), by omega⟩)

/-- The heads' block. -/
def heads (v : FVec Ideal S512x2048 .bf16) (w : FVec Ideal S512x1024 .bf16) : FVec Ideal S1x16x512x192 .bf16 := fun y => headAt v w (y 1) (y 2) (y 3)

theorem nope_piece (v : FVec Ideal S512x2048 .bf16) (w : FVec Ideal S512x1024 .bf16) (n : ℕ) {o : ℕ} (ho : o = 128 * n)
    (hs : S512x2048.Slices ![0, o] S512x128) (hc : S512x128.ShapeCasts S1x1x512x128)
    (inb : ∀ a, (![0, n, 0, 0] : Fin 4 → ℕ) a + S1x1x512x128.size a ≤ S1x16x512x192.size a) (x : S1x1x512x128.Idx) :
    shapeCast S1x1x512x128 (extractStridedSlice S512x128 ![0, o] v hs) hc x = heads v w ((Rect.unit (s := S1x16x512x192) ![0, n, 0, 0] S1x1x512x128.size inb).emb x) := by
  obtain ⟨p, q, r, j, rfl⟩ : ∃ (p : Fin 1) (q : Fin 1) (r : Fin 512) (j : Fin 128), x = ix4 p q r j := ⟨x 0, x 1, x 2, x 3, eq_ix4 x⟩
  subst ho
  have hj : j.val < 128 := j.isLt
  have e3 : (((Rect.unit (s := S1x16x512x192) ![0, n, 0, 0] S1x1x512x128.size inb).emb (ix4 p q r j) : S1x16x512x192.Idx) 3 : ℕ) < 128 := by
    show 0 + 1 * j.val < 128; omega
  unfold heads headAt
  rw [dif_pos e3]
  pointwise
  congr 1
  funext a
  apply Fin.ext
  match a with
  | ⟨0, _⟩ => show r.val = 0 + 1 * r.val; omega
  | ⟨1, _⟩ => show 128 * n + j.val = 128 * (n + 1 * q.val) + (0 + 1 * j.val); omega

theorem rope_piece (v : FVec Ideal S512x2048 .bf16) (w : FVec Ideal S512x1024 .bf16) (n : ℕ) {o : ℕ} (ho : o = 64 * n)
    (hs : S512x1024.Slices ![0, o] S512x64) (hc : S512x64.ShapeCasts S1x1x512x64)
    (inb : ∀ a, (![0, n, 0, 128] : Fin 4 → ℕ) a + S1x1x512x64.size a ≤ S1x16x512x192.size a) (x : S1x1x512x64.Idx) :
    shapeCast S1x1x512x64 (extractStridedSlice S512x64 ![0, o] w hs) hc x = heads v w ((Rect.unit (s := S1x16x512x192) ![0, n, 0, 128] S1x1x512x64.size inb).emb x) := by
  obtain ⟨p, q, r, j, rfl⟩ : ∃ (p : Fin 1) (q : Fin 1) (r : Fin 512) (j : Fin 64), x = ix4 p q r j := ⟨x 0, x 1, x 2, x 3, eq_ix4 x⟩
  subst ho
  have e3 : ¬(((Rect.unit (s := S1x16x512x192) ![0, n, 0, 128] S1x1x512x64.size inb).emb (ix4 p q r j) : S1x16x512x192.Idx) 3 : ℕ) < 128 := by
    show ¬ 128 + 1 * j.val < 128; omega
  unfold heads headAt
  rw [dif_neg e3]
  pointwise
  congr 1
  funext a
  apply Fin.ext
  match a with
  | ⟨0, _⟩ => show r.val = 0 + 1 * r.val; omega
  | ⟨1, _⟩ => show 64 * n + j.val = 64 * (n + 1 * q.val) + (128 + 1 * j.val - 128); omega

variable (c : Dev nD) (i : grid0.Coords) (arg2 : Memref sig .tc .vmem S1x512x2048 .bf16) (harg2 : arg2.IsWhole) (arg3 : Memref sig .tc .vmem S2048x2560 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S1x16x512x192 .bf16) (harg10 : arg10.IsWhole) (arg11 : Memref sig .tc .vmem S1x512x2048 .bf16) (harg11 : arg11.IsWhole)
  (x0 : Vec Ideal S1x512x2048 .bf16) (x1 : Vec Ideal S2048x2560 .bf16) (x2 : Vec Ideal S1x512 .f32) (x3 : Vec Ideal S512x2048 .bf16) (x4 : Vec Ideal S512x1024 .bf16) (x5 : Vec Ideal S512x1024 .bf16) (x6 : Vec Ideal S512x128 .f32) (x7 : Vec Ideal S512x128 .f32)

theorem ld2 : View.readAt (Elt Ideal) arg2.view (Rect.unit (s := S1x512x2048) ![0, 0, 0] S1x512x2048.size inb_S1x512x2048_S1x512x2048_0_0_0).toLoadRect (harg2.unread x0) = x0 := by
  rw [View.readAt_eq_ld, harg2.read_unread]; exact View.ld_unit_zero z3 _ _
theorem ld3 : View.readAt (Elt Ideal) arg3.view (Rect.unit (s := S2048x2560) ![0, 0] S2048x2560.size inb_S2048x2560_S2048x2560_0_0).toLoadRect (harg3.unread x1) = x1 := by
  rw [View.readAt_eq_ld, harg3.read_unread]; exact View.ld_unit_zero z2 _ _
theorem ld4 : View.readAt (Elt Ideal) arg4.view (Rect.unit (s := S1x512) ![0, 0] S1x512.size inb_S1x512_S1x512_0_0).toLoadRect (harg4.unread x2) = x2 := by
  rw [View.readAt_eq_ld, harg4.read_unread]; exact View.ld_unit_zero z2 _ _
theorem ld5 : View.readAt (Elt Ideal) arg5.view (Rect.unit (s := S512x2048) ![0, 0] S512x2048.size inb_S512x2048_S512x2048_0_0).toLoadRect (harg5.unread x3) = x3 := by
  rw [View.readAt_eq_ld, harg5.read_unread]; exact View.ld_unit_zero z2 _ _
theorem ld6 : View.readAt (Elt Ideal) arg6.view (Rect.unit (s := S512x1024) ![0, 0] S512x1024.size inb_S512x1024_S512x1024_0_0).toLoadRect (harg6.unread x4) = x4 := by
  rw [View.readAt_eq_ld, harg6.read_unread]; exact View.ld_unit_zero z2 _ _
theorem ld7 : View.readAt (Elt Ideal) arg7.view (Rect.unit (s := S512x1024) ![0, 0] S512x1024.size inb_S512x1024_S512x1024_0_0).toLoadRect (harg7.unread x5) = x5 := by
  rw [View.readAt_eq_ld, harg7.read_unread]; exact View.ld_unit_zero z2 _ _
theorem ld8 : View.readAt (Elt Ideal) arg8.view (Rect.unit (s := S512x128) ![0, 0] S512x128.size inb_S512x128_S512x128_0_0).toLoadRect (harg8.unread x6) = x6 := by
  rw [View.readAt_eq_ld, harg8.read_unread]; exact View.ld_unit_zero z2 _ _
theorem ld9 : View.readAt (Elt Ideal) arg9.view (Rect.unit (s := S512x128) ![0, 0] S512x128.size inb_S512x128_S512x128_0_0).toLoadRect (harg9.unread x7) = x7 := by
  rw [View.readAt_eq_ld, harg9.read_unread]; exact View.ld_unit_zero z2 _ _

theorem heads_eq : out0_A_8 c i arg2 harg2 arg3 harg3 arg4 harg4 arg5 harg5 arg6 harg6 arg7 harg7 arg8 harg8 arg9 harg9 arg10 harg10 arg11 harg11 x0 x1 x2 x3 x4 x5 x6 x7 = heads (k0_pay8 (k0_pay7 x0 x1 x2 x3)) (k0_pay9 (k0_pay6 x0 x1 x2) x6 x7 x4 x5) := by
  unfold out0_A_8
  rw [View.read_writes_junk_eq_canon]
  funext y
  refine View.canon_apply_of_pieces _ _ ?_ y (cover0_A_8 c i arg2 harg2 arg3 harg3 arg4 harg4 arg5 harg5 arg6 harg6 arg7 harg7 arg8 harg8 arg9 harg9 arg10 harg10 arg11 harg11 x0 x1 x2 x3 x4 x5 x6 x7 y)
  unfold kernelRun0_A
  dsimp only
  sl_unfold_words
  rw [ld2, ld3, ld4, ld5, ld6, ld7, ld8, ld9]
  refine List.forall_mem_cons.2 ⟨fun x => ?_, ?_⟩
  · exact rope_piece (k0_pay8 (k0_pay7 x0 x1 x2 x3)) (k0_pay9 (k0_pay6 x0 x1 x2) x6 x7 x4 x5) 15 (o := 960) rfl slices_S512x1024_o0_960_S512x64 shapeCasts_S512x64_S1x1x512x64 inb_S1x16x512x192_S1x1x512x64_0_15_0_128 x
  refine List.forall_mem_cons.2 ⟨fun x => ?_, ?_⟩
  · exact nope_piece (k0_pay8 (k0_pay7 x0 x1 x2 x3)) (k0_pay9 (k0_pay6 x0 x1 x2) x6 x7 x4 x5) 15 (o := 1920) rfl slices_S512x2048_o0_1920_S512x128 shapeCasts_S512x128_S1x1x512x128 inb_S1x16x512x192_S1x1x512x128_0_15_0_0 x
  refine List.forall_mem_cons.2 ⟨fun x => ?_, ?_⟩
  · exact rope_piece (k0_pay8 (k0_pay7 x0 x1 x2 x3)) (k0_pay9 (k0_pay6 x0 x1 x2) x6 x7 x4 x5) 14 (o := 896) rfl slices_S512x1024_o0_896_S512x64 shapeCasts_S512x64_S1x1x512x64 inb_S1x16x512x192_S1x1x512x64_0_14_0_128 x
  refine List.forall_mem_cons.2 ⟨fun x => ?_, ?_⟩
  · exact nope_piece (k0_pay8 (k0_pay7 x0 x1 x2 x3)) (k0_pay9 (k0_pay6 x0 x1 x2) x6 x7 x4 x5) 14 (o := 1792) rfl slices_S512x2048_o0_1792_S512x128 shapeCasts_S512x128_S1x1x512x128 inb_S1x16x512x192_S1x1x512x128_0_14_0_0 x
  refine List.forall_mem_cons.2 ⟨fun x => ?_, ?_⟩
  · exact rope_piece (k0_pay8 (k0_pay7 x0 x1 x2 x3)) (k0_pay9 (k0_pay6 x0 x1 x2) x6 x7 x4 x5) 13 (o := 832) rfl slices_S512x1024_o0_832_S512x64 shapeCasts_S512x64_S1x1x512x64 inb_S1x16x512x192_S1x1x512x64_0_13_0_128 x
  refine List.forall_mem_cons.2 ⟨fun x => ?_, ?_⟩
  · exact nope_piece (k0_pay8 (k0_pay7 x0 x1 x2 x3)) (k0_pay9 (k0_pay6 x0 x1 x2) x6 x7 x4 x5) 13 (o := 1664) rfl slices_S512x2048_o0_1664_S512x128 shapeCasts_S512x128_S1x1x512x128 inb_S1x16x512x192_S1x1x512x128_0_13_0_0 x
  refine List.forall_mem_cons.2 ⟨fun x => ?_, ?_⟩
  · exact rope_piece (k0_pay8 (k0_pay7 x0 x1 x2 x3)) (k0_pay9 (k0_pay6 x0 x1 x2) x6 x7 x4 x5) 12 (o := 768) rfl slices_S512x1024_o0_768_S512x64 shapeCasts_S512x64_S1x1x512x64 inb_S1x16x512x192_S1x1x512x64_0_12_0_128 x
  refine List.forall_mem_cons.2 ⟨fun x => ?_, ?_⟩
  · exact nope_piece (k0_pay8 (k0_pay7 x0 x1 x2 x3)) (k0_pay9 (k0_pay6 x0 x1 x2) x6 x7 x4 x5) 12 (o := 1536) rfl slices_S512x2048_o0_1536_S512x128 shapeCasts_S512x128_S1x1x512x128 inb_S1x16x512x192_S1x1x512x128_0_12_0_0 x
  refine List.forall_mem_cons.2 ⟨fun x => ?_, ?_⟩
  · exact rope_piece (k0_pay8 (k0_pay7 x0 x1 x2 x3)) (k0_pay9 (k0_pay6 x0 x1 x2) x6 x7 x4 x5) 11 (o := 704) rfl slices_S512x1024_o0_704_S512x64 shapeCasts_S512x64_S1x1x512x64 inb_S1x16x512x192_S1x1x512x64_0_11_0_128 x
  refine List.forall_mem_cons.2 ⟨fun x => ?_, ?_⟩
  · exact nope_piece (k0_pay8 (k0_pay7 x0 x1 x2 x3)) (k0_pay9 (k0_pay6 x0 x1 x2) x6 x7 x4 x5) 11 (o := 1408) rfl slices_S512x2048_o0_1408_S512x128 shapeCasts_S512x128_S1x1x512x128 inb_S1x16x512x192_S1x1x512x128_0_11_0_0 x
  refine List.forall_mem_cons.2 ⟨fun x => ?_, ?_⟩
  · exact rope_piece (k0_pay8 (k0_pay7 x0 x1 x2 x3)) (k0_pay9 (k0_pay6 x0 x1 x2) x6 x7 x4 x5) 10 (o := 640) rfl slices_S512x1024_o0_640_S512x64 shapeCasts_S512x64_S1x1x512x64 inb_S1x16x512x192_S1x1x512x64_0_10_0_128 x
  refine List.forall_mem_cons.2 ⟨fun x => ?_, ?_⟩
  · exact nope_piece (k0_pay8 (k0_pay7 x0 x1 x2 x3)) (k0_pay9 (k0_pay6 x0 x1 x2) x6 x7 x4 x5) 10 (o := 1280) rfl slices_S512x2048_o0_1280_S512x128 shapeCasts_S512x128_S1x1x512x128 inb_S1x16x512x192_S1x1x512x128_0_10_0_0 x
  refine List.forall_mem_cons.2 ⟨fun x => ?_, ?_⟩
  · exact rope_piece (k0_pay8 (k0_pay7 x0 x1 x2 x3)) (k0_pay9 (k0_pay6 x0 x1 x2) x6 x7 x4 x5) 9 (o := 576) rfl slices_S512x1024_o0_576_S512x64 shapeCasts_S512x64_S1x1x512x64 inb_S1x16x512x192_S1x1x512x64_0_9_0_128 x
  refine List.forall_mem_cons.2 ⟨fun x => ?_, ?_⟩
  · exact nope_piece (k0_pay8 (k0_pay7 x0 x1 x2 x3)) (k0_pay9 (k0_pay6 x0 x1 x2) x6 x7 x4 x5) 9 (o := 1152) rfl slices_S512x2048_o0_1152_S512x128 shapeCasts_S512x128_S1x1x512x128 inb_S1x16x512x192_S1x1x512x128_0_9_0_0 x
  refine List.forall_mem_cons.2 ⟨fun x => ?_, ?_⟩
  · exact rope_piece (k0_pay8 (k0_pay7 x0 x1 x2 x3)) (k0_pay9 (k0_pay6 x0 x1 x2) x6 x7 x4 x5) 8 (o := 512) rfl slices_S512x1024_o0_512_S512x64 shapeCasts_S512x64_S1x1x512x64 inb_S1x16x512x192_S1x1x512x64_0_8_0_128 x
  refine List.forall_mem_cons.2 ⟨fun x => ?_, ?_⟩
  · exact nope_piece (k0_pay8 (k0_pay7 x0 x1 x2 x3)) (k0_pay9 (k0_pay6 x0 x1 x2) x6 x7 x4 x5) 8 (o := 1024) rfl slices_S512x2048_o0_1024_S512x128 shapeCasts_S512x128_S1x1x512x128 inb_S1x16x512x192_S1x1x512x128_0_8_0_0 x
  refine List.forall_mem_cons.2 ⟨fun x => ?_, ?_⟩
  · exact rope_piece (k0_pay8 (k0_pay7 x0 x1 x2 x3)) (k0_pay9 (k0_pay6 x0 x1 x2) x6 x7 x4 x5) 7 (o := 448) rfl slices_S512x1024_o0_448_S512x64 shapeCasts_S512x64_S1x1x512x64 inb_S1x16x512x192_S1x1x512x64_0_7_0_128 x
  refine List.forall_mem_cons.2 ⟨fun x => ?_, ?_⟩
  · exact nope_piece (k0_pay8 (k0_pay7 x0 x1 x2 x3)) (k0_pay9 (k0_pay6 x0 x1 x2) x6 x7 x4 x5) 7 (o := 896) rfl slices_S512x2048_o0_896_S512x128 shapeCasts_S512x128_S1x1x512x128 inb_S1x16x512x192_S1x1x512x128_0_7_0_0 x
  refine List.forall_mem_cons.2 ⟨fun x => ?_, ?_⟩
  · exact rope_piece (k0_pay8 (k0_pay7 x0 x1 x2 x3)) (k0_pay9 (k0_pay6 x0 x1 x2) x6 x7 x4 x5) 6 (o := 384) rfl slices_S512x1024_o0_384_S512x64 shapeCasts_S512x64_S1x1x512x64 inb_S1x16x512x192_S1x1x512x64_0_6_0_128 x
  refine List.forall_mem_cons.2 ⟨fun x => ?_, ?_⟩
  · exact nope_piece (k0_pay8 (k0_pay7 x0 x1 x2 x3)) (k0_pay9 (k0_pay6 x0 x1 x2) x6 x7 x4 x5) 6 (o := 768) rfl slices_S512x2048_o0_768_S512x128 shapeCasts_S512x128_S1x1x512x128 inb_S1x16x512x192_S1x1x512x128_0_6_0_0 x
  refine List.forall_mem_cons.2 ⟨fun x => ?_, ?_⟩
  · exact rope_piece (k0_pay8 (k0_pay7 x0 x1 x2 x3)) (k0_pay9 (k0_pay6 x0 x1 x2) x6 x7 x4 x5) 5 (o := 320) rfl slices_S512x1024_o0_320_S512x64 shapeCasts_S512x64_S1x1x512x64 inb_S1x16x512x192_S1x1x512x64_0_5_0_128 x
  refine List.forall_mem_cons.2 ⟨fun x => ?_, ?_⟩
  · exact nope_piece (k0_pay8 (k0_pay7 x0 x1 x2 x3)) (k0_pay9 (k0_pay6 x0 x1 x2) x6 x7 x4 x5) 5 (o := 640) rfl slices_S512x2048_o0_640_S512x128 shapeCasts_S512x128_S1x1x512x128 inb_S1x16x512x192_S1x1x512x128_0_5_0_0 x
  refine List.forall_mem_cons.2 ⟨fun x => ?_, ?_⟩
  · exact rope_piece (k0_pay8 (k0_pay7 x0 x1 x2 x3)) (k0_pay9 (k0_pay6 x0 x1 x2) x6 x7 x4 x5) 4 (o := 256) rfl slices_S512x1024_o0_256_S512x64 shapeCasts_S512x64_S1x1x512x64 inb_S1x16x512x192_S1x1x512x64_0_4_0_128 x
  refine List.forall_mem_cons.2 ⟨fun x => ?_, ?_⟩
  · exact nope_piece (k0_pay8 (k0_pay7 x0 x1 x2 x3)) (k0_pay9 (k0_pay6 x0 x1 x2) x6 x7 x4 x5) 4 (o := 512) rfl slices_S512x2048_o0_512_S512x128 shapeCasts_S512x128_S1x1x512x128 inb_S1x16x512x192_S1x1x512x128_0_4_0_0 x
  refine List.forall_mem_cons.2 ⟨fun x => ?_, ?_⟩
  · exact rope_piece (k0_pay8 (k0_pay7 x0 x1 x2 x3)) (k0_pay9 (k0_pay6 x0 x1 x2) x6 x7 x4 x5) 3 (o := 192) rfl slices_S512x1024_o0_192_S512x64 shapeCasts_S512x64_S1x1x512x64 inb_S1x16x512x192_S1x1x512x64_0_3_0_128 x
  refine List.forall_mem_cons.2 ⟨fun x => ?_, ?_⟩
  · exact nope_piece (k0_pay8 (k0_pay7 x0 x1 x2 x3)) (k0_pay9 (k0_pay6 x0 x1 x2) x6 x7 x4 x5) 3 (o := 384) rfl slices_S512x2048_o0_384_S512x128 shapeCasts_S512x128_S1x1x512x128 inb_S1x16x512x192_S1x1x512x128_0_3_0_0 x
  refine List.forall_mem_cons.2 ⟨fun x => ?_, ?_⟩
  · exact rope_piece (k0_pay8 (k0_pay7 x0 x1 x2 x3)) (k0_pay9 (k0_pay6 x0 x1 x2) x6 x7 x4 x5) 2 (o := 128) rfl slices_S512x1024_o0_128_S512x64 shapeCasts_S512x64_S1x1x512x64 inb_S1x16x512x192_S1x1x512x64_0_2_0_128 x
  refine List.forall_mem_cons.2 ⟨fun x => ?_, ?_⟩
  · exact nope_piece (k0_pay8 (k0_pay7 x0 x1 x2 x3)) (k0_pay9 (k0_pay6 x0 x1 x2) x6 x7 x4 x5) 2 (o := 256) rfl slices_S512x2048_o0_256_S512x128 shapeCasts_S512x128_S1x1x512x128 inb_S1x16x512x192_S1x1x512x128_0_2_0_0 x
  refine List.forall_mem_cons.2 ⟨fun x => ?_, ?_⟩
  · exact rope_piece (k0_pay8 (k0_pay7 x0 x1 x2 x3)) (k0_pay9 (k0_pay6 x0 x1 x2) x6 x7 x4 x5) 1 (o := 64) rfl slices_S512x1024_o0_64_S512x64 shapeCasts_S512x64_S1x1x512x64 inb_S1x16x512x192_S1x1x512x64_0_1_0_128 x
  refine List.forall_mem_cons.2 ⟨fun x => ?_, ?_⟩
  · exact nope_piece (k0_pay8 (k0_pay7 x0 x1 x2 x3)) (k0_pay9 (k0_pay6 x0 x1 x2) x6 x7 x4 x5) 1 (o := 128) rfl slices_S512x2048_o0_128_S512x128 shapeCasts_S512x128_S1x1x512x128 inb_S1x16x512x192_S1x1x512x128_0_1_0_0 x
  refine List.forall_mem_cons.2 ⟨fun x => ?_, ?_⟩
  · exact rope_piece (k0_pay8 (k0_pay7 x0 x1 x2 x3)) (k0_pay9 (k0_pay6 x0 x1 x2) x6 x7 x4 x5) 0 (o := 0) rfl slices_S512x1024_o0_0_S512x64 shapeCasts_S512x64_S1x1x512x64 inb_S1x16x512x192_S1x1x512x64_0_0_0_128 x
  refine List.forall_mem_cons.2 ⟨fun x => ?_, ?_⟩
  · exact nope_piece (k0_pay8 (k0_pay7 x0 x1 x2 x3)) (k0_pay9 (k0_pay6 x0 x1 x2) x6 x7 x4 x5) 0 (o := 0) rfl slices_S512x2048_o0_0_S512x128 shapeCasts_S512x128_S1x1x512x128 inb_S1x16x512x192_S1x1x512x128_0_0_0_0 x
  exact fun _ h => absurd h List.not_mem_nil

theorem row_eq : out0_A_9 c i arg2 harg2 arg3 harg3 arg4 harg4 arg5 harg5 arg6 harg6 arg7 harg7 arg8 harg8 arg9 harg9 arg10 harg10 arg11 harg11 x0 x1 x2 x3 x4 x5 x6 x7 = k0_pay5 x0 x1 := by
  unfold out0_A_9 kernelRun0_A
  dsimp only
  rw [View.read_writes_eq_canon _ _ _ (fun y => ⟨_, List.mem_singleton_self _, View.mem_set_unit_zero z3 inb_S1x512x2048_S1x512x2048_0_0_0 y⟩)]
  refine (View.canon_unit_zero z3 _ _).trans ?_
  sl_unfold_words
  rw [ld2, ld3]

end Cert.QsIdeal.Body

end
-- ==== Proof.QsSpec.lean ====
/- The query side's two result arrays, as functions of its four arguments: the row's latent, brought to unit mean square and scaled, times
   the weights of a head, the last 64 columns of each head turned by the row's angle; and the gate. -/
module

public import Idealize.ShloMosaic.Lib.Pointwise
public import proofs.«01_k».proof.Proof.Gen.QsRefIdeal.Read

@[expose] public section

noncomputable section

namespace Cert.QsSpec

open Idealize.ShloMosaic

abbrev H : Type := FVec Ideal ⟨3, ![2, 4096, 2048]⟩ .bf16
abbrev W : Type := FVec Ideal ⟨2, ![2048, 2560]⟩ .f32
abbrev G : Type := FVec Ideal ⟨1, ![512]⟩ .f32
abbrev Q : Type := FVec Ideal ⟨2, ![512, 3072]⟩ .f32

/-- The scale of the scores. -/
def sc : EReal := Ideal.ofBits .f32 0x3D93CD3A#32

/-- A latent brought to unit mean square, times the gain. -/
def lat (d g : Fin 512 → EReal) (k : Fin 512) : EReal :=
  d k * Ideal.rsqrt (Ideal.div (∑ l : Fin 512, d l * d l) (Ideal.ofBits .f32 0x44000000#32) + Ideal.ofBits .f32 0x358637BD#32) * g k

/-- A number times its logistic. -/
def gate (a : EReal) : EReal := a * Ideal.div 1 (1 + Ideal.exp (-a))

/-- The cosine of the angle of a position and a pair of columns. -/
def cs (s : Fin 4096) (c : Fin 32) : EReal := Cert.QsRefIdeal.Read.val_main_v17 (F := Ideal) (ix2 s c)

/-- The sine of the angle of a position and a pair of columns. -/
def sn (s : Fin 4096) (c : Fin 32) : EReal := Cert.QsRefIdeal.Read.val_main_v18 (F := Ideal) (ix2 s c)

variable (h : H) (w : W) (g : G) (q : Q)

/-- The row times the first weights. -/
def dn (b : Fin 2) (s : Fin 4096) (j : Fin 2560) : EReal := ∑ k : Fin 2048, h (ix3 b s k) * w (ix2 k j)

/-- The row's latent. -/
def L (b : Fin 2) (s : Fin 4096) (k : Fin 512) : EReal := lat (fun l => dn h w b s ⟨l.val, by omega⟩) (fun l => g (ix1 l)) k

/-- The latent times the second weights. -/
def U (b : Fin 2) (s : Fin 4096) (j : Fin 3072) : EReal := ∑ k : Fin 512, L h w g b s k * q (ix2 k j)

/-- An entry of the queries. -/
def qAt (b : Fin 2) (n : Fin 16) (s : Fin 4096) (c : Fin 192) : EReal :=
  if h1 : c.val < 128 then U h w g q b s ⟨192 * n.val + c.val, by omega⟩ * sc
  else if h2 : c.val < 160 then
    (U h w g q b s ⟨192 * n.val + c.val, by omega⟩ * cs s ⟨c.val - 128, by omega⟩ - U h w g q b s ⟨192 * n.val + c.val + 32, by omega⟩ * sn s ⟨c.val - 128, by omega⟩) * sc
  else (U h w g q b s ⟨192 * n.val + c.val - 32, by omega⟩ * sn s ⟨c.val - 160, by omega⟩ + U h w g q b s ⟨192 * n.val + c.val, by omega⟩ * cs s ⟨c.val - 160, by omega⟩) * sc

/-- An entry of the gate. -/
def gAt (b : Fin 2) (s : Fin 4096) (j : Fin 2048) : EReal := gate (dn h w b s ⟨512 + j.val, by omega⟩)

/-- The queries. -/
def qRes : FVec Ideal ⟨4, ![2, 16, 4096, 192]⟩ .bf16 := fun i => qAt h w g q (i 0) (i 1) (i 2) (i 3)

/-- The gate. -/
def gRes : FVec Ideal ⟨3, ![2, 4096, 2048]⟩ .bf16 := fun i => gAt h w (i 0) (i 1) (i 2)

end Cert.QsSpec

end
-- ==== Proof.QsMath.lean ====
/- Arithmetic of the extended reals that the query and the key side need: a latent is real when the gain is, and a sign moves out of a sum
   of real products. -/
module

public import Mathlib.Data.EReal.Operations
public import Idealize.ShloMosaic.Lib.IdealHost
public import Idealize.ShloMosaic.PureOps.Ideal.Laws
public import proofs.«01_k».proof.Proof.QsSpec

@[expose] public section

noncomputable section

namespace Cert.QsSpec

open Idealize.ShloMosaic

theorem width_val : Ideal.ofBits .f32 0x44000000#32 = ((512 : ℝ) : EReal) := by
  simp [Ideal.ofBits, Ideal.ieee, -EReal.coe_mul]; norm_num

theorem eps_val : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

theorem sum_real {n : ℕ} (f : Fin n → ℝ) : (∑ i, (f i : EReal)) = ((∑ i, f i : ℝ) : EReal) := by
  classical
  refine Finset.induction_on (Finset.univ : Finset (Fin n)) (by simp) fun a s ha ih => ?_
  rw [Finset.sum_insert ha, Finset.sum_insert ha, ih, EReal.coe_add]

theorem sq_nonneg' (x : EReal) : 0 ≤ x * x := by
  induction x using EReal.rec with
  | bot => simp
  | top => simp
  | coe r => rw [← EReal.coe_mul]; exact_mod_cast mul_self_nonneg r

theorem sq_top {x : EReal} (h : ¬ ∃ r : ℝ, x = (r : EReal)) : x * x = ⊤ := by
  induction x using EReal.rec with
  | bot => simp
  | top => simp
  | coe r => exact absurd ⟨r, rfl⟩ h

/-- A latent is real when the gain is: a row with an infinite entry is scaled by zero. -/
theorem lat_real (d g : Fin 512 → EReal) (hg : ∀ k, ∃ r : ℝ, g k = (r : EReal)) (k : Fin 512) : ∃ r : ℝ, lat d g k = (r : EReal) := by
  obtain ⟨e, he, hE⟩ := eps_val
  obtain ⟨u, hu⟩ := hg k
  unfold lat
  rw [width_val, hE, hu, Ideal.div_coe (by norm_num)]
  by_cases hd : ∀ l, ∃ r : ℝ, d l = (r : EReal)
  · choose f hf using hd
    have hs : (∑ l : Fin 512, d l * d l) = ((∑ l : Fin 512, f l * f l : ℝ) : EReal) := by
      rw [← sum_real]
      exact Finset.sum_congr rfl fun l _ => by rw [hf l, EReal.coe_mul]
    have h0 : 0 ≤ ∑ l : Fin 512, f l * f l := Finset.sum_nonneg fun l _ => mul_self_nonneg (f l)
    have hp : 0 < (∑ l : Fin 512, f l * f l) * (1 / 512) + e := by positivity
    rw [hs, hf k, ← EReal.coe_mul, ← EReal.coe_add, Ideal.rsqrt_coe, if_neg (not_lt.2 hp.le), if_neg hp.ne', ← EReal.coe_mul, ← EReal.coe_mul]
    exact ⟨_, rfl⟩
  · obtain ⟨l, hl⟩ := not_forall.1 hd
    have hs : (∑ l : Fin 512, d l * d l) = ⊤ := by
      refine top_le_iff.1 ?_
      rw [← sq_top hl]
      exact Finset.single_le_sum (f := fun l => d l * d l) (fun i _ => sq_nonneg' (d i)) (Finset.mem_univ l)
    rw [hs, EReal.top_mul_coe_of_pos (by norm_num), EReal.top_add_coe, Ideal.rsqrt_top, mul_zero, zero_mul]
    exact ⟨0, rfl⟩

/-- A sign moves out of a sum of real products. -/
theorem sum_neg {n : ℕ} (a w : Fin n → EReal) (ha : ∀ k, ∃ r : ℝ, a k = (r : EReal)) (hw : ∀ k, ∃ r : ℝ, w k = (r : EReal)) :
    (∑ k, a k * -(w k)) = -∑ k, a k * w k := by
  choose f hf using ha
  choose v hv using hw
  have e1 : (∑ k, a k * -(w k)) = ((∑ k, f k * -(v k) : ℝ) : EReal) := by
    rw [← sum_real]
    exact Finset.sum_congr rfl fun k _ => by rw [hf k, hv k, EReal.coe_mul, EReal.coe_neg]
  have e2 : (∑ k, a k * w k) = ((∑ k, f k * v k : ℝ) : EReal) := by
    rw [← sum_real]
    exact Finset.sum_congr rfl fun k _ => by rw [hf k, hv k, EReal.coe_mul]
  rw [e1, e2, ← EReal.coe_neg]
  congr 1
  rw [← Finset.sum_neg_distrib]
  exact Finset.sum_congr rfl fun k _ => by ring

end Cert.QsSpec

end
-- ==== Proof.QsOut.lean ====
/- The query side kernel's body at an element of its two blocks. -/
module

public import proofs.«01_k».proof.Proof.QsBody
public import proofs.«01_k».proof.Proof.QsMath

@[expose] public section

set_option maxRecDepth 16384

noncomputable section

namespace Cert.QsIdeal.Body

open Cert.QsIdeal Cert.QsIdeal.Gen Idealize.ShloMosaic Idealize.ShloMosaic.TcCoe Idealize.SL.Sem
open Cert.QsSpec (lat gate sc cs sn dn L U qAt gAt lat_real sum_neg)

theorem dn_at (x0 : Vec Ideal S1x512x2048 .bf16) (x1 : Vec Ideal S2048x2560 .bf16) (r : Fin 512) (j : Fin 2560) :
    k0_pay4 x0 x1 (ix2 r j) = ∑ k : Fin 2048, x0 (ix3 0 r k) * x1 (ix2 k j) := by
  pointwise [k0_pay4]

theorem gate_at (x0 : Vec Ideal S1x512x2048 .bf16) (x1 : Vec Ideal S2048x2560 .bf16) (z : Fin 1) (r : Fin 512) (j : Fin 2048) :
    k0_pay5 x0 x1 (ix3 z r j) = gate (k0_pay4 x0 x1 (ix2 r ⟨512 + j.val, by omega⟩)) := by
  unfold gate
  rw [dn_at]
  pointwise [k0_pay5]
  simp only [dn_at, sub_eq_add_neg, zero_add]

theorem lat_at (x0 : Vec Ideal S1x512x2048 .bf16) (x1 : Vec Ideal S2048x2560 .bf16) (x2 : Vec Ideal S1x512 .f32) (r : Fin 512) (k : Fin 512) :
    k0_pay6 x0 x1 x2 (ix2 r k) = lat (fun l => k0_pay4 x0 x1 (ix2 r ⟨l.val, by omega⟩)) (fun l => x2 (ix2 0 l)) k := by
  unfold lat
  simp only [dn_at]
  pointwise [k0_pay6]
  simp only [dn_at]

theorem nope_at (x0 : Vec Ideal S1x512x2048 .bf16) (x1 : Vec Ideal S2048x2560 .bf16) (x2 : Vec Ideal S1x512 .f32) (x3 : Vec Ideal S512x2048 .bf16) (r : Fin 512) (j : Fin 2048) :
    k0_pay8 (k0_pay7 x0 x1 x2 x3) (ix2 r j) = (∑ k : Fin 512, k0_pay6 x0 x1 x2 (ix2 r k) * x3 (ix2 k j)) * sc := by
  unfold sc
  pointwise [k0_pay8, k0_pay7]

theorem cat8 (v : FVec Ideal S512x128 .f32) (hc : Shape.Concatenates [S512x128, S512x128, S512x128, S512x128, S512x128, S512x128, S512x128, S512x128] S512x1024 1) (r : Fin 512) (e : Fin 1024) :
    concatenate S512x1024 1 [⟨S512x128, v⟩, ⟨S512x128, v⟩, ⟨S512x128, v⟩, ⟨S512x128, v⟩, ⟨S512x128, v⟩, ⟨S512x128, v⟩, ⟨S512x128, v⟩, ⟨S512x128, v⟩] hc (ix2 r e)
      = v (ix2 r ⟨e.val % 128, by omega⟩) := by
  pointwise
  split_ifs
  all_goals
    congr 1
    funext a
    apply Fin.ext
    match a with
    | ⟨0, _⟩ => rfl
    | ⟨1, _⟩ => simp only [ix2]; try omega

theorem rope_at (v : FVec Ideal S512x512 .bf16) (a b : Vec Ideal S512x128 .f32) (p t : Vec Ideal S512x1024 .bf16) (r : Fin 512) (e : Fin 1024) :
    k0_pay9 v a b p t (ix2 r e) = ((∑ k : Fin 512, v (ix2 r k) * p (ix2 k e)) * a (ix2 r ⟨e.val % 128, by omega⟩)
      + (∑ k : Fin 512, v (ix2 r k) * t (ix2 k e)) * b (ix2 r ⟨e.val % 128, by omega⟩)) * sc := by
  unfold sc
  rw [← cat8 a concatenates_S512x128_S512x128_S512x128_S512x128_S512x128_S512x128_S512x128_S512x128_S512x1024_d1 r e, ← cat8 b concatenates_S512x128_S512x128_S512x128_S512x128_S512x128_S512x128_S512x128_S512x128_S512x1024_d1 r e]
  pointwise [k0_pay9]

section
variable (h : Cert.QsSpec.H) (w : Cert.QsSpec.W) (g : Cert.QsSpec.G) (q : Cert.QsSpec.Q)
  (v : FVec Ideal S512x2048 .bf16) (x0 : Vec Ideal S1x512x2048 .bf16) (x1 : Vec Ideal S2048x2560 .bf16) (x2 : Vec Ideal S1x512 .f32) (x3 : Vec Ideal S512x2048 .bf16)
  (x4 x5 : Vec Ideal S512x1024 .bf16) (x6 x7 : Vec Ideal S512x128 .f32) (b : Fin 2) (s : Fin 4096) (r : Fin 512)

/-- The two turned halves, in the reference's order. -/
theorem turn_lo (x y c d : EReal) : x * c + -y * d = x * c - y * d := by rw [EReal.neg_mul, sub_eq_add_neg]

/-- A point's heads are the queries of its rows. -/
theorem heads_at (hg : ∀ k : Fin 512, ∃ a : ℝ, g (ix1 k) = (a : EReal))
    (hq : ∀ (k : Fin 512) (n : Fin 16) (c : Fin 32), ∃ a : ℝ, q (ix2 k ⟨192 * n.val + (160 + c.val), by omega⟩) = (a : EReal))
    (hL : ∀ k, k0_pay6 x0 x1 x2 (ix2 r k) = L h w g b s k)
    (h3 : ∀ (k : Fin 512) (j : Fin 2048), x3 (ix2 k j) = q (ix2 k ⟨192 * (j.val / 128) + j.val % 128, by omega⟩))
    (h4 : ∀ (k : Fin 512) (e : Fin 1024), x4 (ix2 k e) = q (ix2 k ⟨192 * (e.val / 64) + (128 + e.val % 64), by omega⟩))
    (h5 : ∀ (k : Fin 512) (e : Fin 1024), x5 (ix2 k e) = if he : e.val % 64 < 32 then -(q (ix2 k ⟨192 * (e.val / 64) + (160 + e.val % 64), by omega⟩))
      else q (ix2 k ⟨192 * (e.val / 64) + (96 + e.val % 64), by omega⟩))
    (h6 : ∀ e : Fin 128, x6 (ix2 r e) = cs s ⟨e.val % 32, by omega⟩) (h7 : ∀ e : Fin 128, x7 (ix2 r e) = sn s ⟨e.val % 32, by omega⟩)
    (n : Fin 16) (c : Fin 192) :
    headAt (k0_pay8 (k0_pay7 x0 x1 x2 x3)) (k0_pay9 (k0_pay6 x0 x1 x2) x6 x7 x4 x5) n r c = qAt h w g q b n s c := by
  unfold headAt qAt
  by_cases c1 : c.val < 128
  · have e1 : 192 * ((128 * n.val + c.val) / 128) + (128 * n.val + c.val) % 128 = 192 * n.val + c.val := by omega
    rw [dif_pos c1, dif_pos c1, nope_at]
    simp only [hL, h3, e1]
    rfl
  · have e1 : 192 * ((64 * n.val + (c.val - 128)) / 64) + (128 + (64 * n.val + (c.val - 128)) % 64) = 192 * n.val + c.val := by omega
    rw [dif_neg c1, dif_neg c1, rope_at]
    simp only [hL, h4, h5, h6, h7, e1]
    by_cases c2 : c.val < 160
    · have l1 : (64 * n.val + (c.val - 128)) % 64 < 32 := by omega
      have e2 : 192 * ((64 * n.val + (c.val - 128)) / 64) + (160 + (64 * n.val + (c.val - 128)) % 64) = 192 * n.val + c.val + 32 := by omega
      have e3 : (64 * n.val + (c.val - 128)) % 128 % 32 = c.val - 128 := by omega
      simp only [dif_pos l1, dif_pos c2, e2, e3]
      have hs := sum_neg (fun k : Fin 512 => L h w g b s k) (fun k : Fin 512 => q (ix2 k ⟨192 * n.val + c.val + 32, by omega⟩)) (fun k => lat_real _ _ hg k) (fun k => by
        obtain ⟨a, ha⟩ := hq k n ⟨c.val - 128, by omega⟩
        refine ⟨a, Eq.trans ?_ ha⟩
        have e4 : 192 * n.val + (160 + (c.val - 128)) = 192 * n.val + c.val + 32 := by omega
        simp only [e4])
      rw [hs, turn_lo]
      rfl
    · have l1 : ¬ (64 * n.val + (c.val - 128)) % 64 < 32 := by omega
      have e2 : 192 * ((64 * n.val + (c.val - 128)) / 64) + (96 + (64 * n.val + (c.val - 128)) % 64) = 192 * n.val + c.val - 32 := by omega
      have e3 : (64 * n.val + (c.val - 128)) % 128 % 32 = c.val - 160 := by omega
      simp only [dif_neg l1, dif_neg c2, e2, e3]
      rw [add_comm]
      rfl

end

end Cert.QsIdeal.Body

end
-- ==== Proof.QsHost.lean ====
/- The query side kernel's arrays, as the program prepares them: the tables repeated, the weights cut into their heads' columns. -/
module

public import Idealize.ShloMosaic.Lib.StableHlo.Run
public import proofs.«01_k».proof.Proof.QsSpec
public import proofs.«01_k».proof.Proof.Gen.QsIdeal.Value

@[expose] public section

set_option maxRecDepth 16384

noncomputable section

namespace Cert.QsIdeal.Body

open Cert.QsIdeal Cert.QsIdeal.Gen Idealize.ShloMosaic Idealize.ShloMosaic.TcCoe Idealize.SL.Sem
open Cert.QsSpec (H W G Q cs sn)

variable (m : (ℓ : Loc nD τ sig) → Buf (Elt Ideal) ℓ) (c : Dev nD)

def argH : H := m ((c : Thread nD τ).loc main_arg0)
def argW : W := m ((c : Thread nD τ).loc main_arg1)
def argG : G := m ((c : Thread nD τ).loc main_arg2)
def argQ : Q := m ((c : Thread nD τ).loc main_arg3)

theorem V_w : V m c main_v39 = (truncf (F := Ideal) .bf16 (argW m c) Facts₀.bitsLt_bf16_f32 : (⟨S2048x2560, .bf16⟩ : BufTy).Contents (Elt Ideal)) := by
  unfold_abbrev_sides
  after_results
  rfl

theorem V_g : V m c main_v40 = (shapeCast S1x512 (argG m c) Facts₀.shapeCasts_S512_S1x512 : (⟨S1x512, .f32⟩ : BufTy).Contents (Elt Ideal)) := by
  unfold_abbrev_sides
  after_results
  rfl

theorem narrow {s : Shape} (v : FVec Ideal s .f32) (hb : FTy.bits .bf16 < FTy.bits .f32) (i : s.Idx) : truncf (F := Ideal) .bf16 v hb i = v i := rfl

/-- The weights' heads. -/
def qh : FVec Ideal S512x16x192 .f32 := shapeCast S512x16x192 (argQ m c) Facts₀.shapeCasts_S512x3072_S512x16x192

theorem qh_at (k : Fin 512) (n : Fin 16) (j : Fin 192) : qh m c (ix3 k n j) = argQ m c (ix2 k ⟨192 * n.val + j.val, by omega⟩) := by
  unfold qh
  refine shapeCast_apply (argQ m c) _ (ix3 k n j) (ix2 k ⟨192 * n.val + j.val, by omega⟩) ?_
  rewrite [Shape.rowMajor_val_two, Shape.rowMajor_val_three]
  show k.val * 3072 + (192 * n.val + j.val) = (k.val * 16 + n.val) * 192 + j.val
  omega

theorem V_n : V m c main_v28 = (truncf (F := Ideal) .bf16 (shapeCast S512x2048 (extractStridedSlice S512x16x128 ![0, 0, 0] (qh m c) Facts₀.slices_S512x16x192_S512x16x128_0_0_0) Facts₀.shapeCasts_S512x16x128_S512x2048) Facts₀.bitsLt_bf16_f32
    : (⟨S512x2048, .bf16⟩ : BufTy).Contents (Elt Ideal)) := by
  unfold_abbrev_sides
  after_results
  rfl

theorem n_at (k : Fin 512) (j : Fin 2048) : V m c main_v28 (ix2 k j) = argQ m c (ix2 k ⟨192 * (j.val / 128) + j.val % 128, by omega⟩) := by
  rw [V_n, ← qh_at m c k ⟨j.val / 128, by omega⟩ ⟨j.val % 128, by omega⟩]
  refine (narrow _ _ _).trans ?_
  generalize qh m c = y
  refine (shapeCast_apply (extractStridedSlice S512x16x128 ![0, 0, 0] y Facts₀.slices_S512x16x192_S512x16x128_0_0_0) Facts₀.shapeCasts_S512x16x128_S512x2048 (ix2 k j) (ix3 k ⟨j.val / 128, by omega⟩ ⟨j.val % 128, by omega⟩) ?_).trans ?_
  · rewrite [Shape.rowMajor_val_two, Shape.rowMajor_val_three]
    show (k.val * 16 + j.val / 128) * 128 + j.val % 128 = k.val * 2048 + j.val
    omega
  · refine extractStridedSlice_apply ![0, 0, 0] y Facts₀.slices_S512x16x192_S512x16x128_0_0_0 (ix3 k ⟨j.val / 128, by omega⟩ ⟨j.val % 128, by omega⟩) (ix3 k ⟨j.val / 128, by omega⟩ ⟨j.val % 128, by omega⟩) (fun a => ?_)
    match a with
    | ⟨0, _⟩ => show k.val = 0 + k.val; omega
    | ⟨1, _⟩ => show j.val / 128 = 0 + j.val / 128; omega
    | ⟨2, _⟩ => show j.val % 128 = 0 + j.val % 128; omega

/-- The weights' turned columns. -/
def qr : FVec Ideal S512x16x64 .f32 := extractStridedSlice S512x16x64 ![0, 0, 128] (qh m c) Facts₀.slices_S512x16x192_S512x16x64_0_0_128

theorem qr_at (k : Fin 512) (n : Fin 16) (j : Fin 64) : qr m c (ix3 k n j) = argQ m c (ix2 k ⟨192 * n.val + (128 + j.val), by omega⟩) := by
  rw [← qh_at m c k n ⟨128 + j.val, by omega⟩]
  unfold qr
  generalize qh m c = y
  refine extractStridedSlice_apply ![0, 0, 128] y Facts₀.slices_S512x16x192_S512x16x64_0_0_128 (ix3 k n j) (ix3 k n ⟨128 + j.val, by omega⟩) (fun a => ?_)
  match a with
  | ⟨0, _⟩ => show k.val = 0 + k.val; omega
  | ⟨1, _⟩ => show n.val = 0 + n.val; omega
  | ⟨2, _⟩ => show 128 + j.val = 128 + j.val; omega

theorem flat_at (v : FVec Ideal S512x16x64 .f32) (hc : S512x16x64.ShapeCasts S512x1024) (k : Fin 512) (e : Fin 1024) :
    shapeCast S512x1024 v hc (ix2 k e) = v (ix3 k ⟨e.val / 64, by omega⟩ ⟨e.val % 64, by omega⟩) := by
  refine shapeCast_apply v hc (ix2 k e) _ ?_
  rewrite [Shape.rowMajor_val_two, Shape.rowMajor_val_three]
  show (k.val * 16 + e.val / 64) * 64 + e.val % 64 = k.val * 1024 + e.val
  omega

theorem V_r : V m c main_v31 = (truncf (F := Ideal) .bf16 (shapeCast S512x1024 (qr m c) Facts₀.shapeCasts_S512x16x64_S512x1024) Facts₀.bitsLt_bf16_f32
    : (⟨S512x1024, .bf16⟩ : BufTy).Contents (Elt Ideal)) := by
  unfold_abbrev_sides
  after_results
  rfl

theorem r_at (k : Fin 512) (e : Fin 1024) : V m c main_v31 (ix2 k e) = argQ m c (ix2 k ⟨192 * (e.val / 64) + (128 + e.val % 64), by omega⟩) := by
  rw [V_r, ← qr_at m c k ⟨e.val / 64, by omega⟩ ⟨e.val % 64, by omega⟩]
  exact flat_at (qr m c) _ k e

theorem V_o : V m c main_v38 = (truncf (F := Ideal) .bf16 (shapeCast S512x1024 (concatenate S512x16x64 2 [⟨S512x16x32, Host.negf (extractStridedSlice S512x16x32 ![0, 0, 32] (qr m c) Facts₀.slices_S512x16x64_S512x16x32_0_0_32)⟩,
      ⟨S512x16x32, extractStridedSlice S512x16x32 ![0, 0, 0] (qr m c) Facts₀.slices_S512x16x64_S512x16x32_0_0_0⟩] Facts₀.concatenates_S512x16x32_S512x16x32_S512x16x64_d2) Facts₀.shapeCasts_S512x16x64_S512x1024) Facts₀.bitsLt_bf16_f32
    : (⟨S512x1024, .bf16⟩ : BufTy).Contents (Elt Ideal)) := by
  unfold_abbrev_sides
  after_results
  rfl

theorem o_at (k : Fin 512) (e : Fin 1024) : V m c main_v38 (ix2 k e) = if he : e.val % 64 < 32 then -(argQ m c (ix2 k ⟨192 * (e.val / 64) + (160 + e.val % 64), by omega⟩))
      else argQ m c (ix2 k ⟨192 * (e.val / 64) + (96 + e.val % 64), by omega⟩) := by
  rw [V_o]
  refine (narrow _ _ _).trans ((flat_at _ _ k e).trans ?_)
  pointwise
  by_cases he : e.val % 64 < 32
  · have e1 : 128 + (32 + e.val % 64) = 160 + e.val % 64 := by omega
    simp only [he, dif_pos, if_pos, qr_at]
    simp only [e1, add_comm, add_left_comm]
  · have e1 : 128 + (e.val % 64 - 32) = 96 + e.val % 64 := by omega
    simp only [he, dif_neg, if_neg, not_false_eq_true, qr_at, e1]

theorem rep_at (v : FVec Ideal S4096x32 .f32) (h1 : S4096x32.ShapeCasts S1x4096x1x32) (h2 : S1x4096x1x32.BroadcastsInDim S1x4096x4x32 (![0, 1, 2, 3] : Fin 4 → Fin S1x4096x4x32.rank))
    (h3 : S1x4096x4x32.ShapeCasts S4096x128) (s : Fin 4096) (e : Fin 128) :
    shapeCast S4096x128 (broadcastInDim S1x4096x4x32 ![0, 1, 2, 3] h2 (shapeCast S1x4096x1x32 v h1)) h3 (ix2 s e) = v (ix2 s ⟨e.val % 32, by omega⟩) := by
  refine (shapeCast_apply _ h3 (ix2 s e) (ix4 0 s ⟨e.val / 32, by omega⟩ ⟨e.val % 32, by omega⟩) ?_).trans ?_
  · rewrite [Shape.rowMajor_val_two, Shape.rowMajor_val_four]
    show ((0 * 4096 + s.val) * 4 + e.val / 32) * 32 + e.val % 32 = s.val * 128 + e.val
    omega
  · pointwise

theorem V_cos : V m c main_v21 = (shapeCast S4096x128 (broadcastInDim S1x4096x4x32 ![0, 1, 2, 3] Facts₀.bcast_S1x4096x1x32_S1x4096x4x32_0_1_2_3 (shapeCast S1x4096x1x32 (Cert.QsRefIdeal.Read.val_main_v17 (F := Ideal)) Facts₀.shapeCasts_S4096x32_S1x4096x1x32)) Facts₀.shapeCasts_S1x4096x4x32_S4096x128
    : (⟨S4096x128, .f32⟩ : BufTy).Contents (Elt Ideal)) := by
  unfold_abbrev_sides
  after_results
  rfl

theorem V_sin : V m c main_v24 = (shapeCast S4096x128 (broadcastInDim S1x4096x4x32 ![0, 1, 2, 3] Facts₀.bcast_S1x4096x1x32_S1x4096x4x32_0_1_2_3 (shapeCast S1x4096x1x32 (Cert.QsRefIdeal.Read.val_main_v18 (F := Ideal)) Facts₀.shapeCasts_S4096x32_S1x4096x1x32)) Facts₀.shapeCasts_S1x4096x4x32_S4096x128
    : (⟨S4096x128, .f32⟩ : BufTy).Contents (Elt Ideal)) := by
  unfold_abbrev_sides
  after_results
  rfl

theorem cos_at (s : Fin 4096) (e : Fin 128) : V m c main_v21 (ix2 s e) = cs s ⟨e.val % 32, by omega⟩ := by
  rw [V_cos]
  exact rep_at _ _ _ _ s e

theorem sin_at (s : Fin 4096) (e : Fin 128) : V m c main_v24 (ix2 s e) = sn s ⟨e.val % 32, by omega⟩ := by
  rw [V_sin]
  exact rep_at _ _ _ _ s e

end Cert.QsIdeal.Body

end
-- ==== Proof.QsArr.lean ====
/- The query side kernel's result arrays: every grid point writes its rows, and the row blocks cover the arrays. -/
module

public import proofs.«01_k».proof.Proof.QsOut
public import proofs.«01_k».proof.Proof.QsHost

@[expose] public section

set_option maxRecDepth 16384

noncomputable section

namespace Cert.QsIdeal.Body

open Cert.QsIdeal Cert.QsIdeal.Gen Idealize.ShloMosaic Idealize.ShloMosaic.TcCoe Idealize.SL.Sem
open Idealize.ShloMosaic.Pipeline (Dat)
open Cert.QsSpec (lat gate sc cs sn dn L U qAt gAt qRes gRes)

variable (m : (ℓ : Loc nD τ sig) → Buf (Elt Ideal) ℓ) (c : Dev nD)

theorem lt16 (t : Fin cfg0.N) : t.val < 16 := lt_of_lt_of_eq t.isLt (show cfg0.N = 16 from N_0)

/-- The batch of a point. -/
def pb (t : Fin cfg0.N) : Fin 2 := ⟨t.val / 8, by have := lt16 t; omega⟩

/-- The position of a point's row. -/
def ps (t : Fin cfg0.N) (r : Fin 512) : Fin 4096 := ⟨512 * (t.val % 8) + r.val, by omega⟩

theorem at_row : ∀ t : Fin cfg0.N, (cc0_transform_0 (grid0.coords t) 0 = t.val / 8 ∧ cc0_transform_0 (grid0.coords t) 1 = t.val % 8 ∧ cc0_transform_0 (grid0.coords t) 2 = 0) ∧ (cc0_transform_6 (grid0.coords t) 0 = t.val % 8 ∧ cc0_transform_6 (grid0.coords t) 1 = 0) ∧ (cc0_transform_7 (grid0.coords t) 0 = t.val % 8 ∧ cc0_transform_7 (grid0.coords t) 1 = 0) :=
  (by decide +kernel : ∀ t : Fin grid0.N, (cc0_transform_0 (grid0.coords t) 0 = t.val / 8 ∧ cc0_transform_0 (grid0.coords t) 1 = t.val % 8 ∧ cc0_transform_0 (grid0.coords t) 2 = 0) ∧ (cc0_transform_6 (grid0.coords t) 0 = t.val % 8 ∧ cc0_transform_6 (grid0.coords t) 1 = 0) ∧ (cc0_transform_7 (grid0.coords t) 0 = t.val % 8 ∧ cc0_transform_7 (grid0.coords t) 1 = 0))

theorem at_zero : ∀ t : Fin cfg0.N, (cc0_transform_1 (grid0.coords t) 0 = 0 ∧ cc0_transform_1 (grid0.coords t) 1 = 0) ∧ (cc0_transform_2 (grid0.coords t) 0 = 0 ∧ cc0_transform_2 (grid0.coords t) 1 = 0) ∧ (cc0_transform_3 (grid0.coords t) 0 = 0 ∧ cc0_transform_3 (grid0.coords t) 1 = 0) ∧ (cc0_transform_4 (grid0.coords t) 0 = 0 ∧ cc0_transform_4 (grid0.coords t) 1 = 0) ∧ (cc0_transform_5 (grid0.coords t) 0 = 0 ∧ cc0_transform_5 (grid0.coords t) 1 = 0) :=
  (by decide +kernel : ∀ t : Fin grid0.N, (cc0_transform_1 (grid0.coords t) 0 = 0 ∧ cc0_transform_1 (grid0.coords t) 1 = 0) ∧ (cc0_transform_2 (grid0.coords t) 0 = 0 ∧ cc0_transform_2 (grid0.coords t) 1 = 0) ∧ (cc0_transform_3 (grid0.coords t) 0 = 0 ∧ cc0_transform_3 (grid0.coords t) 1 = 0) ∧ (cc0_transform_4 (grid0.coords t) 0 = 0 ∧ cc0_transform_4 (grid0.coords t) 1 = 0) ∧ (cc0_transform_5 (grid0.coords t) 0 = 0 ∧ cc0_transform_5 (grid0.coords t) 1 = 0))

theorem at_out : ∀ t : Fin cfg0.N, (cc0_transform_8 (grid0.coords t) 0 = t.val / 8 ∧ cc0_transform_8 (grid0.coords t) 1 = 0 ∧ cc0_transform_8 (grid0.coords t) 2 = t.val % 8 ∧ cc0_transform_8 (grid0.coords t) 3 = 0) ∧ (cc0_transform_9 (grid0.coords t) 0 = t.val / 8 ∧ cc0_transform_9 (grid0.coords t) 1 = t.val % 8 ∧ cc0_transform_9 (grid0.coords t) 2 = 0) :=
  (by decide +kernel : ∀ t : Fin grid0.N, (cc0_transform_8 (grid0.coords t) 0 = t.val / 8 ∧ cc0_transform_8 (grid0.coords t) 1 = 0 ∧ cc0_transform_8 (grid0.coords t) 2 = t.val % 8 ∧ cc0_transform_8 (grid0.coords t) 3 = 0) ∧ (cc0_transform_9 (grid0.coords t) 0 = t.val / 8 ∧ cc0_transform_9 (grid0.coords t) 1 = t.val % 8 ∧ cc0_transform_9 (grid0.coords t) 2 = 0))

theorem rd0 (t : Fin cfg0.N) (r : Fin 512) (k : Fin 2048) :
    (iblk m c 0 t : Vec Ideal S1x512x2048 .bf16) (ix3 0 r k) = argH m c (ix3 (pb t) (ps t r) k) := by
  unfold iblk
  rw [View.read_apply]
  show V m c main_arg0 _ = m ((c : Thread nD τ).loc main_arg0) _
  rw [V_main_arg0]
  congr 1
  funext a
  apply Fin.ext
  obtain ⟨⟨e0, e1, e2⟩, -, -⟩ := at_row t
  match a with
  | ⟨0, _⟩ => show cc0_transform_0 (grid0.coords t) 0 * 1 + 1 * 0 = t.val / 8; omega
  | ⟨1, _⟩ => show cc0_transform_0 (grid0.coords t) 1 * 512 + 1 * r.val = 512 * (t.val % 8) + r.val; omega
  | ⟨2, _⟩ => show cc0_transform_0 (grid0.coords t) 2 * 2048 + 1 * k.val = k.val; omega

theorem rd1 (t : Fin cfg0.N) (k : Fin 2048) (j : Fin 2560) :
    (iblk m c 1 t : Vec Ideal S2048x2560 .bf16) (ix2 k j) = V m c main_v39 (ix2 k j) := by
  unfold iblk
  rw [View.read_apply]
  show V m c main_v39 _ = V m c main_v39 _
  congr 1
  funext a
  apply Fin.ext
  obtain ⟨⟨e0, e1⟩, -, -, -, -⟩ := at_zero t
  match a with
  | ⟨0, _⟩ => show cc0_transform_1 (grid0.coords t) 0 * 2048 + 1 * k.val = k.val; omega
  | ⟨1, _⟩ => show cc0_transform_1 (grid0.coords t) 1 * 2560 + 1 * j.val = j.val; omega

theorem rd2 (t : Fin cfg0.N) (k : Fin 512) :
    (iblk m c 2 t : Vec Ideal S1x512 .f32) (ix2 0 k) = V m c main_v40 (ix2 0 k) := by
  unfold iblk
  rw [View.read_apply]
  show V m c main_v40 _ = V m c main_v40 _
  congr 1
  funext a
  apply Fin.ext
  obtain ⟨-, ⟨e0, e1⟩, -, -, -⟩ := at_zero t
  match a with
  | ⟨0, _⟩ => show cc0_transform_2 (grid0.coords t) 0 * 1 + 1 * 0 = 0; omega
  | ⟨1, _⟩ => show cc0_transform_2 (grid0.coords t) 1 * 512 + 1 * k.val = k.val; omega

theorem rd3 (t : Fin cfg0.N) (k : Fin 512) (j : Fin 2048) :
    (iblk m c 3 t : Vec Ideal S512x2048 .bf16) (ix2 k j) = V m c main_v28 (ix2 k j) := by
  unfold iblk
  rw [View.read_apply]
  show V m c main_v28 _ = V m c main_v28 _
  congr 1
  funext a
  apply Fin.ext
  obtain ⟨-, -, ⟨e0, e1⟩, -, -⟩ := at_zero t
  match a with
  | ⟨0, _⟩ => show cc0_transform_3 (grid0.coords t) 0 * 512 + 1 * k.val = k.val; omega
  | ⟨1, _⟩ => show cc0_transform_3 (grid0.coords t) 1 * 2048 + 1 * j.val = j.val; omega

theorem rd4 (t : Fin cfg0.N) (k : Fin 512) (j : Fin 1024) :
    (iblk m c 4 t : Vec Ideal S512x1024 .bf16) (ix2 k j) = V m c main_v31 (ix2 k j) := by
  unfold iblk
  rw [View.read_apply]
  show V m c main_v31 _ = V m c main_v31 _
  congr 1
  funext a
  apply Fin.ext
  obtain ⟨-, -, -, ⟨e0, e1⟩, -⟩ := at_zero t
  match a with
  | ⟨0, _⟩ => show cc0_transform_4 (grid0.coords t) 0 * 512 + 1 * k.val = k.val; omega
  | ⟨1, _⟩ => show cc0_transform_4 (grid0.coords t) 1 * 1024 + 1 * j.val = j.val; omega

theorem rd5 (t : Fin cfg0.N) (k : Fin 512) (j : Fin 1024) :
    (iblk m c 5 t : Vec Ideal S512x1024 .bf16) (ix2 k j) = V m c main_v38 (ix2 k j) := by
  unfold iblk
  rw [View.read_apply]
  show V m c main_v38 _ = V m c main_v38 _
  congr 1
  funext a
  apply Fin.ext
  obtain ⟨-, -, -, -, ⟨e0, e1⟩⟩ := at_zero t
  match a with
  | ⟨0, _⟩ => show cc0_transform_5 (grid0.coords t) 0 * 512 + 1 * k.val = k.val; omega
  | ⟨1, _⟩ => show cc0_transform_5 (grid0.coords t) 1 * 1024 + 1 * j.val = j.val; omega

theorem rd6 (t : Fin cfg0.N) (r : Fin 512) (e : Fin 128) :
    (iblk m c 6 t : Vec Ideal S512x128 .f32) (ix2 r e) = V m c main_v21 (ix2 (ps t r) e) := by
  unfold iblk
  rw [View.read_apply]
  show V m c main_v21 _ = V m c main_v21 _
  congr 1
  funext a
  apply Fin.ext
  obtain ⟨-, ⟨e0, e1⟩, -⟩ := at_row t
  match a with
  | ⟨0, _⟩ => show cc0_transform_6 (grid0.coords t) 0 * 512 + 1 * r.val = 512 * (t.val % 8) + r.val; omega
  | ⟨1, _⟩ => show cc0_transform_6 (grid0.coords t) 1 * 128 + 1 * e.val = e.val; omega

theorem rd7 (t : Fin cfg0.N) (r : Fin 512) (e : Fin 128) :
    (iblk m c 7 t : Vec Ideal S512x128 .f32) (ix2 r e) = V m c main_v24 (ix2 (ps t r) e) := by
  unfold iblk
  rw [View.read_apply]
  show V m c main_v24 _ = V m c main_v24 _
  congr 1
  funext a
  apply Fin.ext
  obtain ⟨-, -, ⟨e0, e1⟩⟩ := at_row t
  match a with
  | ⟨0, _⟩ => show cc0_transform_7 (grid0.coords t) 0 * 512 + 1 * r.val = 512 * (t.val % 8) + r.val; omega
  | ⟨1, _⟩ => show cc0_transform_7 (grid0.coords t) 1 * 128 + 1 * e.val = e.val; omega

theorem w_at (k : Fin 2048) (j : Fin 2560) : V m c main_v39 (ix2 k j) = argW m c (ix2 k j) := by
  rw [V_w]
  rfl

theorem g_at (k : Fin 512) : V m c main_v40 (ix2 0 k) = argG m c (ix1 k) := by
  rw [V_g]
  show shapeCast S1x512 (argG m c) _ (ix2 0 k) = _
  pointwise

theorem down_at (t : Fin cfg0.N) (r : Fin 512) (j : Fin 2560) :
    k0_pay4 (iblk m c 0 t) (iblk m c 1 t) (ix2 r j) = dn (argH m c) (argW m c) (pb t) (ps t r) j := by
  refine (dn_at _ _ r j).trans ?_
  unfold dn
  exact Finset.sum_congr rfl fun k _ => by rw [rd0, rd1, w_at]

theorem latent_at (t : Fin cfg0.N) (r : Fin 512) (k : Fin 512) :
    k0_pay6 (iblk m c 0 t) (iblk m c 1 t) (iblk m c 2 t) (ix2 r k) = L (argH m c) (argW m c) (argG m c) (pb t) (ps t r) k := by
  refine (lat_at _ _ _ r k).trans ?_
  unfold L
  exact congrArg₂ (fun d g => lat d g k) (funext fun l => down_at m c t r _) (funext fun l => (rd2 m c t l).trans (g_at m c l))

/-- The gain is real. -/
def FinG : Prop := ∀ k : Fin 512, ∃ a : ℝ, argG m c (ix1 k) = (a : EReal)

/-- The weights' columns whose sign the kernel turns are real. -/
def FinQ : Prop := ∀ (k : Fin 512) (n : Fin 16) (j : Fin 32), ∃ a : ℝ, argQ m c (ix2 k ⟨192 * n.val + (160 + j.val), by omega⟩) = (a : EReal)

theorem flushed8_at (hg : FinG m c) (hq : FinQ m c) (t : Fin cfg0.N) (n : Fin 16) (r : Fin 512) (j : Fin 192) :
    ((dats m 0 c).flushed 8 t : Vec Ideal S1x16x512x192 .bf16) (ix4 0 n r j) = qAt (argH m c) (argW m c) (argG m c) (argQ m c) (pb t) n (ps t r) j := by
  rw [Value.flushed8_A]
  show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (ix4 0 n r j) = _
  rw [heads_eq]
  refine heads_at (argH m c) (argW m c) (argG m c) (argQ m c) (iblk m c 0 t) (iblk m c 1 t) (iblk m c 2 t) (iblk m c 3 t) (iblk m c 4 t) (iblk m c 5 t) (iblk m c 6 t) (iblk m c 7 t)
    (pb t) (ps t r) r hg hq (latent_at m c t r) (fun k l => ?_) (fun k e => ?_) (fun k e => ?_) (fun e => ?_) (fun e => ?_) n j
  · exact (rd3 m c t k l).trans (n_at m c k l)
  · exact (rd4 m c t k e).trans (r_at m c k e)
  · exact (rd5 m c t k e).trans (o_at m c k e)
  · exact (rd6 m c t r e).trans (cos_at m c _ e)
  · exact (rd7 m c t r e).trans (sin_at m c _ e)

theorem flushed9_at (t : Fin cfg0.N) (r : Fin 512) (j : Fin 2048) :
    ((dats m 0 c).flushed 9 t : Vec Ideal S1x512x2048 .bf16) (ix3 0 r j) = gAt (argH m c) (argW m c) (pb t) (ps t r) j := by
  rw [Value.flushed9_A]
  show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (ix3 0 r j) = _
  rw [row_eq]
  refine (gate_at _ _ 0 r j).trans ?_
  unfold gAt
  rw [down_at]

theorem arr8 (hg : FinG m c) (hq : FinQ m c) : (dats m 0 c).arrAt 8 cfg0.N = qRes (argH m c) (argW m c) (argG m c) (argQ m c) := by
  refine (dats m 0 c).arrAt_eq_of_cover 8 (qRes (argH m c) (argW m c) (argG m c) (argQ m c)) (fun t _ => ?_) fun i => ?_
  · obtain ⟨⟨e0, e1, e2, e3⟩, -⟩ := at_out t
    funext y
    obtain ⟨z, n, r, j, rfl⟩ : ∃ (z : Fin 1) (n : Fin 16) (r : Fin 512) (j : Fin 192), (y : S1x16x512x192.Idx) = ix4 z n r j := ⟨y 0, y 1, y 2, y 3, eq_ix4 y⟩
    obtain rfl : z = 0 := Subsingleton.elim _ _
    refine (flushed8_at m c hg hq t n r j).trans ?_
    rw [View.read_apply]
    show qAt (argH m c) (argW m c) (argG m c) (argQ m c) _ _ _ _ = qRes (argH m c) (argW m c) (argG m c) (argQ m c) _
    have e : (((cfg0.win 8).blk t).view.emb (ix4 (0 : Fin 1) n r j : S1x16x512x192.Idx) : S2x16x4096x192.Idx) = ix4 (pb t) n (ps t r) j := by
      funext a
      apply Fin.ext
      match a with
      | ⟨0, _⟩ => show cc0_transform_8 (grid0.coords t) 0 * 1 + 1 * 0 = t.val / 8; omega
      | ⟨1, _⟩ => show cc0_transform_8 (grid0.coords t) 1 * 16 + 1 * n.val = n.val; omega
      | ⟨2, _⟩ => show cc0_transform_8 (grid0.coords t) 2 * 512 + 1 * r.val = 512 * (t.val % 8) + r.val; omega
      | ⟨3, _⟩ => show cc0_transform_8 (grid0.coords t) 3 * 192 + 1 * j.val = j.val; omega
    exact (congrArg (qRes (argH m c) (argW m c) (argG m c) (argQ m c)) e).symm
  · have h0 : (i 0 : ℕ) < 2 := (i 0).isLt
    have h1 : (i 1 : ℕ) < 16 := (i 1).isLt
    have h2 : (i 2 : ℕ) < 4096 := (i 2).isLt
    have h3 : (i 3 : ℕ) < 192 := (i 3).isLt
    let t : Fin cfg0.N := ⟨8 * (i 0 : ℕ) + (i 2 : ℕ) / 512, by rw [show cfg0.N = 16 from N_0]; omega⟩
    have ht : t.val = 8 * (i 0 : ℕ) + (i 2 : ℕ) / 512 := rfl
    obtain ⟨⟨e0, e1, e2, e3⟩, -⟩ := at_out t
    refine ⟨t, flush0_8 t, ?_⟩
    show i ∈ ((View.whole main_v41_0).slice (win0_8.rect t)).set
    rw [View.set_slice_whole, Rect.mem_set_unit]
    intro a
    match a with
    | ⟨0, _⟩ =>
      show cc0_transform_8 (grid0.coords t) 0 * 1 ≤ (i 0 : ℕ) ∧ (i 0 : ℕ) < cc0_transform_8 (grid0.coords t) 0 * 1 + 1
      omega
    | ⟨1, _⟩ =>
      show cc0_transform_8 (grid0.coords t) 1 * 16 ≤ (i 1 : ℕ) ∧ (i 1 : ℕ) < cc0_transform_8 (grid0.coords t) 1 * 16 + 16
      omega
    | ⟨2, _⟩ =>
      show cc0_transform_8 (grid0.coords t) 2 * 512 ≤ (i 2 : ℕ) ∧ (i 2 : ℕ) < cc0_transform_8 (grid0.coords t) 2 * 512 + 512
      omega
    | ⟨3, _⟩ =>
      show cc0_transform_8 (grid0.coords t) 3 * 192 ≤ (i 3 : ℕ) ∧ (i 3 : ℕ) < cc0_transform_8 (grid0.coords t) 3 * 192 + 192
      omega

theorem arr9 : (dats m 0 c).arrAt 9 cfg0.N = gRes (argH m c) (argW m c) := by
  refine (dats m 0 c).arrAt_eq_of_cover 9 (gRes (argH m c) (argW m c)) (fun t _ => ?_) fun i => ?_
  · obtain ⟨-, ⟨e0, e1, e2⟩⟩ := at_out t
    funext y
    obtain ⟨z, r, j, rfl⟩ : ∃ (z : Fin 1) (r : Fin 512) (j : Fin 2048), (y : S1x512x2048.Idx) = ix3 z r j := ⟨y 0, y 1, y 2, eq_ix3 y⟩
    obtain rfl : z = 0 := Subsingleton.elim _ _
    refine (flushed9_at m c t r j).trans ?_
    rw [View.read_apply]
    show gAt (argH m c) (argW m c) _ _ _ = gRes (argH m c) (argW m c) _
    have e : (((cfg0.win 9).blk t).view.emb (ix3 (0 : Fin 1) r j : S1x512x2048.Idx) : S2x4096x2048.Idx) = ix3 (pb t) (ps t r) j := by
      funext a
      apply Fin.ext
      match a with
      | ⟨0, _⟩ => show cc0_transform_9 (grid0.coords t) 0 * 1 + 1 * 0 = t.val / 8; omega
      | ⟨1, _⟩ => show cc0_transform_9 (grid0.coords t) 1 * 512 + 1 * r.val = 512 * (t.val % 8) + r.val; omega
      | ⟨2, _⟩ => show cc0_transform_9 (grid0.coords t) 2 * 2048 + 1 * j.val = j.val; omega
    exact (congrArg (gRes (argH m c) (argW m c)) e).symm
  · have h0 : (i 0 : ℕ) < 2 := (i 0).isLt
    have h1 : (i 1 : ℕ) < 4096 := (i 1).isLt
    have h2 : (i 2 : ℕ) < 2048 := (i 2).isLt
    let t : Fin cfg0.N := ⟨8 * (i 0 : ℕ) + (i 1 : ℕ) / 512, by rw [show cfg0.N = 16 from N_0]; omega⟩
    have ht : t.val = 8 * (i 0 : ℕ) + (i 1 : ℕ) / 512 := rfl
    obtain ⟨-, ⟨e0, e1, e2⟩⟩ := at_out t
    refine ⟨t, flush0_9 t, ?_⟩
    show i ∈ ((View.whole main_v41_1).slice (win0_9.rect t)).set
    rw [View.set_slice_whole, Rect.mem_set_unit]
    intro a
    match a with
    | ⟨0, _⟩ =>
      show cc0_transform_9 (grid0.coords t) 0 * 1 ≤ (i 0 : ℕ) ∧ (i 0 : ℕ) < cc0_transform_9 (grid0.coords t) 0 * 1 + 1
      omega
    | ⟨1, _⟩ =>
      show cc0_transform_9 (grid0.coords t) 1 * 512 ≤ (i 1 : ℕ) ∧ (i 1 : ℕ) < cc0_transform_9 (grid0.coords t) 1 * 512 + 512
      omega
    | ⟨2, _⟩ =>
      show cc0_transform_9 (grid0.coords t) 2 * 2048 ≤ (i 2 : ℕ) ∧ (i 2 : ℕ) < cc0_transform_9 (grid0.coords t) 2 * 2048 + 2048
      omega

/-- The run, read. -/
theorem run (ρ : Dev nD → PrngReg) (hg : ∀ c, FinG m c) (hq : ∀ c, FinQ m c) : θ_run defs (onTc (τ := τ) (main (F := Ideal))) ⟨m, fun _ => 0, ρ⟩ fun r => ∀ c : Dev nD,
      r.2.mem ((c : Thread nD τ).loc main_v41_0) = qRes (argH m c) (argW m c) (argG m c) (argQ m c)
      ∧ r.2.mem ((c : Thread nD τ).loc main_v41_1) = gRes (argH m c) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (arr8 m c (hg c) (hq c)), (h c).2.1.trans (arr9 m c), (h c).2.2⟩) (Value.run_blocks m ρ)

end Cert.QsIdeal.Body

end
-- ==== Proof.QsRef.lean ====
/- The query side's reference computes the result arrays. -/
module

public import proofs.«01_k».proof.Proof.QsSpec

@[expose] public section

set_option maxRecDepth 16384

noncomputable section

namespace Cert.QsRefIdeal.Sum

open Idealize.ShloMosaic Idealize.ShloMosaic.TcCoe Idealize.SL.Sem
open Cert.QsRefIdeal Cert.QsRefIdeal.Gen Cert.QsRefIdeal.Read
open Cert.QsSpec

variable (h : H) (w : W) (g : G) (q : Q)

theorem dn_at (b : Fin 2) (s : Fin 4096) (j : Fin 2560) : val_main_v20 (F := Ideal) h w (ix3 b s j) = dn h w b s j := by
  unfold dn
  pointwise [val_main_v20, val_main_v19]

theorem lo_at (b : Fin 2) (s : Fin 4096) (k : Fin 512) : val_main_v21 (F := Ideal) h w (ix3 b s k) = dn h w b s ⟨k.val, by omega⟩ := by
  rw [val_main_v21_apply, ← dn_at]
  congr 1
  funext a
  apply Fin.ext
  match a with
  | ⟨0, _⟩ => rfl
  | ⟨1, _⟩ => rfl
  | ⟨2, _⟩ => rfl

theorem hi_at (b : Fin 2) (s : Fin 4096) (k : Fin 2048) : val_main_v22 (F := Ideal) h w (ix3 b s k) = dn h w b s ⟨512 + k.val, by omega⟩ := by
  rw [val_main_v22_apply, ← dn_at]
  congr 1
  funext a
  apply Fin.ext
  match a with
  | ⟨0, _⟩ => rfl
  | ⟨1, _⟩ => rfl
  | ⟨2, _⟩ => first | rfl | (show k.val + 512 = 512 + k.val; omega)

theorem lat_at (b : Fin 2) (s : Fin 4096) (k : Fin 512) : val_main_v35 (F := Ideal) h w g (ix3 b s k) = L h w g b s k := by
  unfold L lat
  pointwise [val_main_v35, val_main_v34, val_main_v33, val_main_v32, val_main_v31, val_main_v30, val_main_v29, val_main_v28, val_main_v27, val_main_v26, val_main_v25, val_main_v24, val_main_v23, val_main_cst_4, val_main_cst_5, val_main_cst_6]
  simp only [lo_at]

theorem up_at (b : Fin 2) (s : Fin 4096) (j : Fin 3072) : val_main_v36 (F := Ideal) h w g q (ix3 b s j) = U h w g q b s j := by
  unfold U
  pointwise [val_main_v36]
  simp only [lat_at]

theorem hd_at (b : Fin 2) (s : Fin 4096) (n : Fin 16) (c : Fin 192) :
    val_main_v37 (F := Ideal) h w g q (ix4 b s n c) = U h w g q b s ⟨192 * n.val + c.val, by omega⟩ := by
  rw [val_main_v37_apply, ← up_at]
  congr 1
  funext a
  apply Fin.ext
  match a with
  | ⟨0, _⟩ => show (((b.val * 4096 + s.val) * 16 + n.val) * 192 + c.val) / 12582912 = b.val; omega
  | ⟨1, _⟩ => show (((b.val * 4096 + s.val) * 16 + n.val) * 192 + c.val) / 3072 % 4096 = s.val; omega
  | ⟨2, _⟩ => show (((b.val * 4096 + s.val) * 16 + n.val) * 192 + c.val) % 3072 = 192 * n.val + c.val; omega

theorem nope_at (b : Fin 2) (s : Fin 4096) (n : Fin 16) (c : Fin 128) :
    val_main_v38 (F := Ideal) h w g q (ix4 b s n c) = U h w g q b s ⟨192 * n.val + c.val, by omega⟩ := by
  rw [val_main_v38_apply, ← hd_at h w g q b s n ⟨c.val, by omega⟩]
  congr 1
  funext a
  apply Fin.ext
  match a with
  | ⟨0, _⟩ => rfl
  | ⟨1, _⟩ => rfl
  | ⟨2, _⟩ => rfl
  | ⟨3, _⟩ => rfl

theorem x1_at (b : Fin 2) (s : Fin 4096) (n : Fin 16) (c : Fin 32) :
    val_main_v42 (F := Ideal) h w g q (ix4 b s n c) = U h w g q b s ⟨192 * n.val + (128 + c.val), by omega⟩ := by
  rw [val_main_v42_apply, val_main_v39_apply, ← hd_at h w g q b s n ⟨128 + c.val, by omega⟩]
  congr 1
  funext a
  apply Fin.ext
  match a with
  | ⟨0, _⟩ => rfl
  | ⟨1, _⟩ => rfl
  | ⟨2, _⟩ => rfl
  | ⟨3, _⟩ => first | rfl | (show c.val + 128 = 128 + c.val; omega)

theorem x2_at (b : Fin 2) (s : Fin 4096) (n : Fin 16) (c : Fin 32) :
    val_main_v43 (F := Ideal) h w g q (ix4 b s n c) = U h w g q b s ⟨192 * n.val + (160 + c.val), by omega⟩ := by
  rw [val_main_v43_apply, val_main_v39_apply, ← hd_at h w g q b s n ⟨160 + c.val, by omega⟩]
  congr 1
  funext a
  apply Fin.ext
  match a with
  | ⟨0, _⟩ => rfl
  | ⟨1, _⟩ => rfl
  | ⟨2, _⟩ => rfl
  | ⟨3, _⟩ => first | (show 128 + (32 + c.val) = 160 + c.val; omega) | (show c.val + 32 + 128 = 160 + c.val; omega)

theorem t1_at (b : Fin 2) (s : Fin 4096) (n : Fin 16) (c : Fin 32) : val_main_v50 (F := Ideal) h w g q (ix4 b s n c)
    = U h w g q b s ⟨192 * n.val + (128 + c.val), by omega⟩ * cs s c - U h w g q b s ⟨192 * n.val + (160 + c.val), by omega⟩ * sn s c := by
  rw [← x1_at, ← x2_at]
  unfold cs sn
  pointwise [val_main_v50, val_main_v49, val_main_v48, val_main_v47, val_main_v46, val_main_v45, val_main_v44, val_main_v41, val_main_v40]

theorem t2_at (b : Fin 2) (s : Fin 4096) (n : Fin 16) (c : Fin 32) : val_main_v57 (F := Ideal) h w g q (ix4 b s n c)
    = U h w g q b s ⟨192 * n.val + (128 + c.val), by omega⟩ * sn s c + U h w g q b s ⟨192 * n.val + (160 + c.val), by omega⟩ * cs s c := by
  rw [← x1_at, ← x2_at]
  unfold cs sn
  pointwise [val_main_v57, val_main_v56, val_main_v55, val_main_v54, val_main_v53, val_main_v52, val_main_v51, val_main_v41, val_main_v40]

theorem q_eq : val_main_v63 (F := Ideal) h w g q = qRes h w g q := by
  funext i
  idx_vars i
  show _ = qAt h w g q i0 i1 i2 i3
  unfold qAt sc
  pointwise [val_main_v63, val_main_v62, val_main_v61, val_main_v60, val_main_v59, val_main_v58, val_main_cst_7]
  simp only [nope_at, t1_at, t2_at]
  by_cases h1 : i3.val < 128
  · simp only [h1, dif_pos, if_pos]
  · by_cases h2 : i3.val < 160
    · have h3 : i3.val - 128 < 32 := by omega
      have e1 : 192 * i1.val + (128 + (i3.val - 128)) = 192 * i1.val + i3.val := by omega
      have e2 : 192 * i1.val + (160 + (i3.val - 128)) = 192 * i1.val + i3.val + 32 := by omega
      simp only [h1, h2, h3, dif_pos, dif_neg, if_pos, if_neg, e1, e2, not_false_eq_true]
    · have h3 : ¬ i3.val - 128 < 32 := by omega
      have e0 : i3.val - 128 - 32 = i3.val - 160 := by omega
      have e1 : 192 * i1.val + (128 + (i3.val - 160)) = 192 * i1.val + i3.val - 32 := by omega
      have e2 : 192 * i1.val + (160 + (i3.val - 160)) = 192 * i1.val + i3.val := by omega
      simp only [h1, h2, h3, dif_pos, dif_neg, if_pos, if_neg, e0, e1, e2, not_false_eq_true]

theorem g_eq : val_main_v65 (F := Ideal) h w = gRes h w := by
  funext i
  idx_vars i
  show _ = gAt h w i0 i1 i2
  unfold gAt gate
  pointwise [val_main_v65, val_main_v64, val_main_call0_v5, val_main_call0_v4, val_main_call0_v3, val_main_call0_v2, val_main_call0_v1, val_main_call0_v0, val_main_call0_cst, val_main_call0_cst_0]
  simp only [hi_at]

end Cert.QsRefIdeal.Sum

end
-- ==== Proof.QsClaims.lean ====
/- The query side's claims. -/
module

public import proofs.«01_k».proof.Defs
public import proofs.«01_k».proof.Proof.QsArr
public import proofs.«01_k».proof.Proof.QsRef
public import proofs.«01_k».proof.Proof.Gen.Pre_finite_turned
public import proofs.«01_k».proof.Proof.Gen.Qs.Frame
public import proofs.«01_k».proof.Proof.Gen.QsIdeal.Frame
public import proofs.«01_k».proof.Proof.Gen.QsRefIdeal.Run
public import Idealize.ShloMosaic.Adequacy
public import Idealize.ShloMosaic.Init

@[expose] public section

set_option maxRecDepth 16384

noncomputable section

namespace Cert.QsClaims

open Idealize.ShloMosaic Idealize.ShloMosaic.TcCoe Idealize.SL.Sem
open Cert.QsIdeal.Body (argH argW argG argQ FinG FinQ)
open Cert.QsSpec (H W G Q qRes gRes)

/-- The bound the precondition compares with is the positive infinity. -/
theorem bound_top : Ideal.ofBits .f32 0x7F800000#32 = (⊤ : EReal) := by simp [Ideal.ofBits, Ideal.ieee]

/-- A number of absolute value below the positive infinity is real. -/
theorem real_of_lt {x : EReal} (h : Ideal.cmp .olt (max x (-x)) ⊤ = 1#1) : ∃ r : ℝ, x = (r : EReal) := by
  have hlt : max x (-x) < ⊤ := by
    by_contra hn
    rw [show Ideal.cmp .olt (max x (-x)) ⊤ = 0#1 by simp [Ideal.cmp, hn]] at h
    exact absurd h (by decide)
  rw [max_lt_iff] at hlt
  refine ⟨x.toReal, (EReal.coe_toReal hlt.1.ne ?_).symm⟩
  rintro rfl
  simp at hlt

theorem both : ∀ a b : BitVec 1, IntOp.andi a b = 1#1 → a = 1#1 ∧ b = 1#1 := by decide

/-- The precondition, read. -/
theorem fin_gq (h : H) (w : W) (g : G) (q : Q) (hp : Cert.Pre_finite_turned.fn (F := Ideal) h w g q = fun _ => 1#1) :
    (∀ k : Fin 512, ∃ a : ℝ, g (ix1 k) = (a : EReal)) ∧ ∀ (k : Fin 512) (n : Fin 16) (j : Fin 32), ∃ a : ℝ, q (ix2 k ⟨192 * n.val + (160 + j.val), by omega⟩) = (a : EReal) := by
  have hi : ∀ (k : Fin 512) (n : Fin 16) (j : Fin 32), (∃ a : ℝ, g (ix1 k) = (a : EReal)) ∧ ∃ a : ℝ, q (ix2 k ⟨192 * n.val + (160 + j.val), by omega⟩) = (a : EReal) := fun k n j => by
    have hj := congrFun hp (ix3 k n j)
    unfold Cert.Pre_finite_turned.fn at hj
    have e : extractStridedSlice Cert.Pre_finite_turned.S512x16x32 ![0, 0, 160] (shapeCast Cert.Pre_finite_turned.S512x16x192 q Cert.Pre_finite_turned.Gen.shapeCasts_S512x3072_S512x16x192)
        Cert.Pre_finite_turned.Gen.slices_S512x16x192_S512x16x32_0_0_160 (ix3 k n j) = q (ix2 k ⟨192 * n.val + (160 + j.val), by omega⟩) := by
      refine (extractStridedSlice_apply ![0, 0, 160] (shapeCast Cert.Pre_finite_turned.S512x16x192 q Cert.Pre_finite_turned.Gen.shapeCasts_S512x3072_S512x16x192)
        Cert.Pre_finite_turned.Gen.slices_S512x16x192_S512x16x32_0_0_160 (ix3 k n j) (ix3 k n ⟨160 + j.val, by omega⟩) (fun a => ?_)).trans ?_
      · match a with
        | ⟨0, _⟩ => show k.val = 0 + k.val; omega
        | ⟨1, _⟩ => show n.val = 0 + n.val; omega
        | ⟨2, _⟩ => show 160 + j.val = 160 + j.val; omega
      · refine shapeCast_apply q Cert.Pre_finite_turned.Gen.shapeCasts_S512x3072_S512x16x192 (ix3 k n ⟨160 + j.val, by omega⟩) (ix2 k ⟨192 * n.val + (160 + j.val), by omega⟩) ?_
        rewrite [Shape.rowMajor_val_two, Shape.rowMajor_val_three]
        show k.val * 3072 + (192 * n.val + (160 + j.val)) = (k.val * 16 + n.val) * 192 + (160 + j.val)
        omega
    have hk : IntOp.andi (Ideal.cmp .olt (max (g (ix1 k)) (-(g (ix1 k)))) (Ideal.ofBits .f32 0x7F800000#32))
        (Ideal.cmp .olt (max (extractStridedSlice Cert.Pre_finite_turned.S512x16x32 ![0, 0, 160] (shapeCast Cert.Pre_finite_turned.S512x16x192 q Cert.Pre_finite_turned.Gen.shapeCasts_S512x3072_S512x16x192)
          Cert.Pre_finite_turned.Gen.slices_S512x16x192_S512x16x32_0_0_160 (ix3 k n j)) (-(extractStridedSlice Cert.Pre_finite_turned.S512x16x32 ![0, 0, 160] (shapeCast Cert.Pre_finite_turned.S512x16x192 q Cert.Pre_finite_turned.Gen.shapeCasts_S512x3072_S512x16x192)
          Cert.Pre_finite_turned.Gen.slices_S512x16x192_S512x16x32_0_0_160 (ix3 k n j)))) (Ideal.ofBits .f32 0x7F800000#32)) = 1#1 := by
      refine Eq.trans (congrArg₂ IntOp.andi ?_ ?_) hj
      · pointwise
        rfl
      · rfl
    rw [bound_top, e] at hk
    exact ⟨real_of_lt (both _ _ hk).1, real_of_lt (both _ _ hk).2⟩
  exact ⟨fun k => (hi k 0 0).1, fun k n j => (hi k n j).2⟩

theorem frame_p : Cert.quiescent_Qs := fun m ρ _ => Cert.Qs.Gen.frame m ρ
theorem frame_pi : Cert.quiescent_QsIdeal := fun m ρ _ => Cert.QsIdeal.Gen.frame m ρ
theorem frame_pi_pre : Cert.quiescent_QsIdeal_pre_finite_turned := fun m ρ _ => Cert.QsIdeal.Gen.frame m ρ

theorem frame_ri : Cert.quiescent_QsRefIdeal := fun m ρ _ =>
  (θ_run Cert.QsRefIdeal.defs _ _).mono (fun r h => ⟨fun c => (h c).2.2, sem_eq_zero_of_no_sems (by decide) r.2⟩)
    (Cert.QsRefIdeal.Value.run (F := Ideal) m ρ)

theorem frame_ri_pre : Cert.quiescent_QsRefIdeal_pre_finite_turned := fun m ρ _ => frame_ri m ρ trivial

theorem preserves : Cert.preserves_Qs_QsIdeal := trivial

/-- Both programs end with the result arrays of the arguments they share. -/
theorem algebraic : Cert.algebraic_QsIdeal_QsRefIdeal_pre_finite_turned := by
  intro m g m' g' hp ha
  have hf : ∀ c, FinG m c ∧ FinQ m c := fun c => fin_gq _ _ _ _ (hp c)
  refine ⟨fun c => qRes (argH m c) (argW m c) (argG m c) (argQ m c), fun c => gRes (argH m c) (argW m c), Cert.QsIdeal.Body.run m g (fun c => (hf c).1) (fun c => (hf c).2), ?_⟩
  refine (θ_run Cert.QsRefIdeal.defs _ _).mono (fun r h c => ⟨(h c).1.trans ?_, (h c).2.1.trans ?_, (h c).2.2⟩) (Cert.QsRefIdeal.Value.run (F := Ideal) m' g')
  · rw [Cert.QsRefIdeal.Read.val_main_v63_eq, (ha c).1, (ha c).2.1, (ha c).2.2.1, (ha c).2.2.2]
    exact Cert.QsRefIdeal.Sum.q_eq _ _ _ _
  · rw [Cert.QsRefIdeal.Read.val_main_v65_eq, (ha c).1, (ha c).2.1]
    exact Cert.QsRefIdeal.Sum.g_eq _ _

end Cert.QsClaims

end
-- ==== Proof.KvBody.lean ====
/- The key and value side kernel's body: what a point leaves in its two output blocks, as one function of the blocks it read. -/
module

public import Idealize.ShloMosaic.Lib.Pointwise
public import Idealize.ShloMosaic.Lib.StableHlo.Run
public import proofs.«01_k».proof.Proof.Gen.KvIdeal.Value

@[expose] public section

set_option maxRecDepth 16384

noncomputable section

namespace Cert.KvIdeal.Body

open Cert.KvIdeal Cert.KvIdeal.Gen Idealize.ShloMosaic Idealize.ShloMosaic.TcCoe Idealize.SL.Sem

theorem z2 : (![0, 0] : Fin 2 → ℕ) = fun _ => 0 := by funext a; fin_cases a <;> rfl
theorem z3 : (![0, 0, 0] : Fin 3 → ℕ) = fun _ => 0 := by funext a; fin_cases a <;> rfl

/-- An entry of the heads' block: of each head 128 columns of one array, then 64 of another. -/
def headAt (v : FVec Ideal S512x2048 .bf16) (w : FVec Ideal S512x64 .bf16) (n : Fin 16) (r : Fin 512) (j : Fin 192) : Ideal .bf16 :=
  if h : (j : ℕ) < 128 then v (ix2 r ⟨128 * (n : ℕ) + (j : ℕ), by omega⟩)
  else w (ix2 r ⟨(j : ℕ) - 128, by omega⟩)

/-- The heads' block. -/
def heads (v : FVec Ideal S512x2048 .bf16) (w : FVec Ideal S512x64 .bf16) : FVec Ideal S1x16x512x192 .bf16 := fun y => headAt v w (y 1) (y 2) (y 3)

theorem nope_piece (v : FVec Ideal S512x2048 .bf16) (w : FVec Ideal S512x64 .bf16) (n : ℕ) {o : ℕ} (ho : o = 128 * n)
    (hs : S512x2048.Slices ![0, o] S512x128) (hc : S512x128.ShapeCasts S1x1x512x128)
    (inb : ∀ a, (![0, n, 0, 0] : Fin 4 → ℕ) a + S1x1x512x128.size a ≤ S1x16x512x192.size a) (x : S1x1x512x128.Idx) :
    shapeCast S1x1x512x128 (extractStridedSlice S512x128 ![0, o] v hs) hc x = heads v w ((Rect.unit (s := S1x16x512x192) ![0, n, 0, 0] S1x1x512x128.size inb).emb x) := by
  obtain ⟨p, q, r, j, rfl⟩ : ∃ (p : Fin 1) (q : Fin 1) (r : Fin 512) (j : Fin 128), x = ix4 p q r j := ⟨x 0, x 1, x 2, x 3, eq_ix4 x⟩
  subst ho
  have hj : j.val < 128 := j.isLt
  have e3 : (((Rect.unit (s := S1x16x512x192) ![0, n, 0, 0] S1x1x512x128.size inb).emb (ix4 p q r j) : S1x16x512x192.Idx) 3 : ℕ) < 128 := by
    show 0 + 1 * j.val < 128; omega
  unfold heads headAt
  rw [dif_pos e3]
  pointwise
  congr 1
  funext a
  apply Fin.ext
  match a with
  | ⟨0, _⟩ => show r.val = 0 + 1 * r.val; omega
  | ⟨1, _⟩ => show 128 * n + j.val = 128 * (n + 1 * q.val) + (0 + 1 * j.val); omega

theorem rope_piece (v : FVec Ideal S512x2048 .bf16) (w : FVec Ideal S512x64 .bf16) (n : ℕ) (hc : S512x64.ShapeCasts S1x1x512x64)
    (inb : ∀ a, (![0, n, 0, 128] : Fin 4 → ℕ) a + S1x1x512x64.size a ≤ S1x16x512x192.size a) (x : S1x1x512x64.Idx) :
    shapeCast S1x1x512x64 w hc x = heads v w ((Rect.unit (s := S1x16x512x192) ![0, n, 0, 128] S1x1x512x64.size inb).emb x) := by
  obtain ⟨p, q, r, j, rfl⟩ : ∃ (p : Fin 1) (q : Fin 1) (r : Fin 512) (j : Fin 64), x = ix4 p q r j := ⟨x 0, x 1, x 2, x 3, eq_ix4 x⟩
  have e3 : ¬(((Rect.unit (s := S1x16x512x192) ![0, n, 0, 128] S1x1x512x64.size inb).emb (ix4 p q r j) : S1x16x512x192.Idx) 3 : ℕ) < 128 := by
    show ¬ 128 + 1 * j.val < 128; omega
  unfold heads headAt
  rw [dif_neg e3]
  pointwise
  congr 1
  funext a
  apply Fin.ext
  match a with
  | ⟨0, _⟩ => show r.val = 0 + 1 * r.val; omega
  | ⟨1, _⟩ => show j.val = 128 + 1 * j.val - 128; omega

variable (c : Dev nD) (i : grid0.Coords) (arg2 : Memref sig .tc .vmem S1x512x2048 .bf16) (harg2 : arg2.IsWhole) (arg3 : Memref sig .tc .vmem S2048x768 .bf16) (harg3 : arg3.IsWhole) (arg4 : Memref sig .tc .vmem S1x512 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S1x16x512x192 .bf16) (harg9 : arg9.IsWhole) (arg10 : Memref sig .tc .vmem S1x512x2048 .bf16) (harg10 : arg10.IsWhole)
  (x0 : Vec Ideal S1x512x2048 .bf16) (x1 : Vec Ideal S2048x768 .bf16) (x2 : Vec Ideal S1x512 .f32) (x3 : Vec Ideal S512x2048 .bf16) (x4 : Vec Ideal S512x2048 .bf16) (x5 : Vec Ideal S512x128 .f32) (x6 : Vec Ideal S512x128 .f32)

theorem ld2 : View.readAt (Elt Ideal) arg2.view (Rect.unit (s := S1x512x2048) ![0, 0, 0] S1x512x2048.size inb_S1x512x2048_S1x512x2048_0_0_0).toLoadRect (harg2.unread x0) = x0 := by
  rw [View.readAt_eq_ld, harg2.read_unread]; exact View.ld_unit_zero z3 _ _
theorem ld3 : View.readAt (Elt Ideal) arg3.view (Rect.unit (s := S2048x768) ![0, 0] S2048x768.size inb_S2048x768_S2048x768_0_0).toLoadRect (harg3.unread x1) = x1 := by
  rw [View.readAt_eq_ld, harg3.read_unread]; exact View.ld_unit_zero z2 _ _
theorem ld4 : View.readAt (Elt Ideal) arg4.view (Rect.unit (s := S1x512) ![0, 0] S1x512.size inb_S1x512_S1x512_0_0).toLoadRect (harg4.unread x2) = x2 := by
  rw [View.readAt_eq_ld, harg4.read_unread]; exact View.ld_unit_zero z2 _ _
theorem ld5 : View.readAt (Elt Ideal) arg5.view (Rect.unit (s := S512x2048) ![0, 0] S512x2048.size inb_S512x2048_S512x2048_0_0).toLoadRect (harg5.unread x3) = x3 := by
  rw [View.readAt_eq_ld, harg5.read_unread]; exact View.ld_unit_zero z2 _ _
theorem ld6 : View.readAt (Elt Ideal) arg6.view (Rect.unit (s := S512x2048) ![0, 0] S512x2048.size inb_S512x2048_S512x2048_0_0).toLoadRect (harg6.unread x4) = x4 := by
  rw [View.readAt_eq_ld, harg6.read_unread]; exact View.ld_unit_zero z2 _ _
theorem ld7 : View.readAt (Elt Ideal) arg7.view (Rect.unit (s := S512x128) ![0, 0] S512x128.size inb_S512x128_S512x128_0_0).toLoadRect (harg7.unread x5) = x5 := by
  rw [View.readAt_eq_ld, harg7.read_unread]; exact View.ld_unit_zero z2 _ _
theorem ld8 : View.readAt (Elt Ideal) arg8.view (Rect.unit (s := S512x128) ![0, 0] S512x128.size inb_S512x128_S512x128_0_0).toLoadRect (harg8.unread x6) = x6 := by
  rw [View.readAt_eq_ld, harg8.read_unread]; exact View.ld_unit_zero z2 _ _

theorem heads_eq : out0_A_7 c i arg2 harg2 arg3 harg3 arg4 harg4 arg5 harg5 arg6 harg6 arg7 harg7 arg8 harg8 arg9 harg9 arg10 harg10 x0 x1 x2 x3 x4 x5 x6 = heads (k0_pay10 x0 x1 x2 x3) (k0_pay12 (k0_pay7 x0 x1) (k0_pay8 x0 x1) x5 x6) := by
  unfold out0_A_7
  rw [View.read_writes_junk_eq_canon]
  funext y
  refine View.canon_apply_of_pieces _ _ ?_ y (cover0_A_7 c i arg2 harg2 arg3 harg3 arg4 harg4 arg5 harg5 arg6 harg6 arg7 harg7 arg8 harg8 arg9 harg9 arg10 harg10 x0 x1 x2 x3 x4 x5 x6 y)
  unfold kernelRun0_A
  dsimp only
  sl_unfold_words
  rw [ld2, ld3, ld4, ld5, ld7, ld8]
  refine List.forall_mem_cons.2 ⟨fun x => ?_, ?_⟩
  · exact rope_piece (k0_pay10 x0 x1 x2 x3) (k0_pay12 (k0_pay7 x0 x1) (k0_pay8 x0 x1) x5 x6) 15 shapeCasts_S512x64_S1x1x512x64 inb_S1x16x512x192_S1x1x512x64_0_15_0_128 x
  refine List.forall_mem_cons.2 ⟨fun x => ?_, ?_⟩
  · exact nope_piece (k0_pay10 x0 x1 x2 x3) (k0_pay12 (k0_pay7 x0 x1) (k0_pay8 x0 x1) x5 x6) 15 (o := 1920) rfl slices_S512x2048_o0_1920_S512x128 shapeCasts_S512x128_S1x1x512x128 inb_S1x16x512x192_S1x1x512x128_0_15_0_0 x
  refine List.forall_mem_cons.2 ⟨fun x => ?_, ?_⟩
  · exact rope_piece (k0_pay10 x0 x1 x2 x3) (k0_pay12 (k0_pay7 x0 x1) (k0_pay8 x0 x1) x5 x6) 14 shapeCasts_S512x64_S1x1x512x64 inb_S1x16x512x192_S1x1x512x64_0_14_0_128 x
  refine List.forall_mem_cons.2 ⟨fun x => ?_, ?_⟩
  · exact nope_piece (k0_pay10 x0 x1 x2 x3) (k0_pay12 (k0_pay7 x0 x1) (k0_pay8 x0 x1) x5 x6) 14 (o := 1792) rfl slices_S512x2048_o0_1792_S512x128 shapeCasts_S512x128_S1x1x512x128 inb_S1x16x512x192_S1x1x512x128_0_14_0_0 x
  refine List.forall_mem_cons.2 ⟨fun x => ?_, ?_⟩
  · exact rope_piece (k0_pay10 x0 x1 x2 x3) (k0_pay12 (k0_pay7 x0 x1) (k0_pay8 x0 x1) x5 x6) 13 shapeCasts_S512x64_S1x1x512x64 inb_S1x16x512x192_S1x1x512x64_0_13_0_128 x
  refine List.forall_mem_cons.2 ⟨fun x => ?_, ?_⟩
  · exact nope_piece (k0_pay10 x0 x1 x2 x3) (k0_pay12 (k0_pay7 x0 x1) (k0_pay8 x0 x1) x5 x6) 13 (o := 1664) rfl slices_S512x2048_o0_1664_S512x128 shapeCasts_S512x128_S1x1x512x128 inb_S1x16x512x192_S1x1x512x128_0_13_0_0 x
  refine List.forall_mem_cons.2 ⟨fun x => ?_, ?_⟩
  · exact rope_piece (k0_pay10 x0 x1 x2 x3) (k0_pay12 (k0_pay7 x0 x1) (k0_pay8 x0 x1) x5 x6) 12 shapeCasts_S512x64_S1x1x512x64 inb_S1x16x512x192_S1x1x512x64_0_12_0_128 x
  refine List.forall_mem_cons.2 ⟨fun x => ?_, ?_⟩
  · exact nope_piece (k0_pay10 x0 x1 x2 x3) (k0_pay12 (k0_pay7 x0 x1) (k0_pay8 x0 x1) x5 x6) 12 (o := 1536) rfl slices_S512x2048_o0_1536_S512x128 shapeCasts_S512x128_S1x1x512x128 inb_S1x16x512x192_S1x1x512x128_0_12_0_0 x
  refine List.forall_mem_cons.2 ⟨fun x => ?_, ?_⟩
  · exact rope_piece (k0_pay10 x0 x1 x2 x3) (k0_pay12 (k0_pay7 x0 x1) (k0_pay8 x0 x1) x5 x6) 11 shapeCasts_S512x64_S1x1x512x64 inb_S1x16x512x192_S1x1x512x64_0_11_0_128 x
  refine List.forall_mem_cons.2 ⟨fun x => ?_, ?_⟩
  · exact nope_piece (k0_pay10 x0 x1 x2 x3) (k0_pay12 (k0_pay7 x0 x1) (k0_pay8 x0 x1) x5 x6) 11 (o := 1408) rfl slices_S512x2048_o0_1408_S512x128 shapeCasts_S512x128_S1x1x512x128 inb_S1x16x512x192_S1x1x512x128_0_11_0_0 x
  refine List.forall_mem_cons.2 ⟨fun x => ?_, ?_⟩
  · exact rope_piece (k0_pay10 x0 x1 x2 x3) (k0_pay12 (k0_pay7 x0 x1) (k0_pay8 x0 x1) x5 x6) 10 shapeCasts_S512x64_S1x1x512x64 inb_S1x16x512x192_S1x1x512x64_0_10_0_128 x
  refine List.forall_mem_cons.2 ⟨fun x => ?_, ?_⟩
  · exact nope_piece (k0_pay10 x0 x1 x2 x3) (k0_pay12 (k0_pay7 x0 x1) (k0_pay8 x0 x1) x5 x6) 10 (o := 1280) rfl slices_S512x2048_o0_1280_S512x128 shapeCasts_S512x128_S1x1x512x128 inb_S1x16x512x192_S1x1x512x128_0_10_0_0 x
  refine List.forall_mem_cons.2 ⟨fun x => ?_, ?_⟩
  · exact rope_piece (k0_pay10 x0 x1 x2 x3) (k0_pay12 (k0_pay7 x0 x1) (k0_pay8 x0 x1) x5 x6) 9 shapeCasts_S512x64_S1x1x512x64 inb_S1x16x512x192_S1x1x512x64_0_9_0_128 x
  refine List.forall_mem_cons.2 ⟨fun x => ?_, ?_⟩
  · exact nope_piece (k0_pay10 x0 x1 x2 x3) (k0_pay12 (k0_pay7 x0 x1) (k0_pay8 x0 x1) x5 x6) 9 (o := 1152) rfl slices_S512x2048_o0_1152_S512x128 shapeCasts_S512x128_S1x1x512x128 inb_S1x16x512x192_S1x1x512x128_0_9_0_0 x
  refine List.forall_mem_cons.2 ⟨fun x => ?_, ?_⟩
  · exact rope_piece (k0_pay10 x0 x1 x2 x3) (k0_pay12 (k0_pay7 x0 x1) (k0_pay8 x0 x1) x5 x6) 8 shapeCasts_S512x64_S1x1x512x64 inb_S1x16x512x192_S1x1x512x64_0_8_0_128 x
  refine List.forall_mem_cons.2 ⟨fun x => ?_, ?_⟩
  · exact nope_piece (k0_pay10 x0 x1 x2 x3) (k0_pay12 (k0_pay7 x0 x1) (k0_pay8 x0 x1) x5 x6) 8 (o := 1024) rfl slices_S512x2048_o0_1024_S512x128 shapeCasts_S512x128_S1x1x512x128 inb_S1x16x512x192_S1x1x512x128_0_8_0_0 x
  refine List.forall_mem_cons.2 ⟨fun x => ?_, ?_⟩
  · exact rope_piece (k0_pay10 x0 x1 x2 x3) (k0_pay12 (k0_pay7 x0 x1) (k0_pay8 x0 x1) x5 x6) 7 shapeCasts_S512x64_S1x1x512x64 inb_S1x16x512x192_S1x1x512x64_0_7_0_128 x
  refine List.forall_mem_cons.2 ⟨fun x => ?_, ?_⟩
  · exact nope_piece (k0_pay10 x0 x1 x2 x3) (k0_pay12 (k0_pay7 x0 x1) (k0_pay8 x0 x1) x5 x6) 7 (o := 896) rfl slices_S512x2048_o0_896_S512x128 shapeCasts_S512x128_S1x1x512x128 inb_S1x16x512x192_S1x1x512x128_0_7_0_0 x
  refine List.forall_mem_cons.2 ⟨fun x => ?_, ?_⟩
  · exact rope_piece (k0_pay10 x0 x1 x2 x3) (k0_pay12 (k0_pay7 x0 x1) (k0_pay8 x0 x1) x5 x6) 6 shapeCasts_S512x64_S1x1x512x64 inb_S1x16x512x192_S1x1x512x64_0_6_0_128 x
  refine List.forall_mem_cons.2 ⟨fun x => ?_, ?_⟩
  · exact nope_piece (k0_pay10 x0 x1 x2 x3) (k0_pay12 (k0_pay7 x0 x1) (k0_pay8 x0 x1) x5 x6) 6 (o := 768) rfl slices_S512x2048_o0_768_S512x128 shapeCasts_S512x128_S1x1x512x128 inb_S1x16x512x192_S1x1x512x128_0_6_0_0 x
  refine List.forall_mem_cons.2 ⟨fun x => ?_, ?_⟩
  · exact rope_piece (k0_pay10 x0 x1 x2 x3) (k0_pay12 (k0_pay7 x0 x1) (k0_pay8 x0 x1) x5 x6) 5 shapeCasts_S512x64_S1x1x512x64 inb_S1x16x512x192_S1x1x512x64_0_5_0_128 x
  refine List.forall_mem_cons.2 ⟨fun x => ?_, ?_⟩
  · exact nope_piece (k0_pay10 x0 x1 x2 x3) (k0_pay12 (k0_pay7 x0 x1) (k0_pay8 x0 x1) x5 x6) 5 (o := 640) rfl slices_S512x2048_o0_640_S512x128 shapeCasts_S512x128_S1x1x512x128 inb_S1x16x512x192_S1x1x512x128_0_5_0_0 x
  refine List.forall_mem_cons.2 ⟨fun x => ?_, ?_⟩
  · exact rope_piece (k0_pay10 x0 x1 x2 x3) (k0_pay12 (k0_pay7 x0 x1) (k0_pay8 x0 x1) x5 x6) 4 shapeCasts_S512x64_S1x1x512x64 inb_S1x16x512x192_S1x1x512x64_0_4_0_128 x
  refine List.forall_mem_cons.2 ⟨fun x => ?_, ?_⟩
  · exact nope_piece (k0_pay10 x0 x1 x2 x3) (k0_pay12 (k0_pay7 x0 x1) (k0_pay8 x0 x1) x5 x6) 4 (o := 512) rfl slices_S512x2048_o0_512_S512x128 shapeCasts_S512x128_S1x1x512x128 inb_S1x16x512x192_S1x1x512x128_0_4_0_0 x
  refine List.forall_mem_cons.2 ⟨fun x => ?_, ?_⟩
  · exact rope_piece (k0_pay10 x0 x1 x2 x3) (k0_pay12 (k0_pay7 x0 x1) (k0_pay8 x0 x1) x5 x6) 3 shapeCasts_S512x64_S1x1x512x64 inb_S1x16x512x192_S1x1x512x64_0_3_0_128 x
  refine List.forall_mem_cons.2 ⟨fun x => ?_, ?_⟩
  · exact nope_piece (k0_pay10 x0 x1 x2 x3) (k0_pay12 (k0_pay7 x0 x1) (k0_pay8 x0 x1) x5 x6) 3 (o := 384) rfl slices_S512x2048_o0_384_S512x128 shapeCasts_S512x128_S1x1x512x128 inb_S1x16x512x192_S1x1x512x128_0_3_0_0 x
  refine List.forall_mem_cons.2 ⟨fun x => ?_, ?_⟩
  · exact rope_piece (k0_pay10 x0 x1 x2 x3) (k0_pay12 (k0_pay7 x0 x1) (k0_pay8 x0 x1) x5 x6) 2 shapeCasts_S512x64_S1x1x512x64 inb_S1x16x512x192_S1x1x512x64_0_2_0_128 x
  refine List.forall_mem_cons.2 ⟨fun x => ?_, ?_⟩
  · exact nope_piece (k0_pay10 x0 x1 x2 x3) (k0_pay12 (k0_pay7 x0 x1) (k0_pay8 x0 x1) x5 x6) 2 (o := 256) rfl slices_S512x2048_o0_256_S512x128 shapeCasts_S512x128_S1x1x512x128 inb_S1x16x512x192_S1x1x512x128_0_2_0_0 x
  refine List.forall_mem_cons.2 ⟨fun x => ?_, ?_⟩
  · exact rope_piece (k0_pay10 x0 x1 x2 x3) (k0_pay12 (k0_pay7 x0 x1) (k0_pay8 x0 x1) x5 x6) 1 shapeCasts_S512x64_S1x1x512x64 inb_S1x16x512x192_S1x1x512x64_0_1_0_128 x
  refine List.forall_mem_cons.2 ⟨fun x => ?_, ?_⟩
  · exact nope_piece (k0_pay10 x0 x1 x2 x3) (k0_pay12 (k0_pay7 x0 x1) (k0_pay8 x0 x1) x5 x6) 1 (o := 128) rfl slices_S512x2048_o0_128_S512x128 shapeCasts_S512x128_S1x1x512x128 inb_S1x16x512x192_S1x1x512x128_0_1_0_0 x
  refine List.forall_mem_cons.2 ⟨fun x => ?_, ?_⟩
  · exact rope_piece (k0_pay10 x0 x1 x2 x3) (k0_pay12 (k0_pay7 x0 x1) (k0_pay8 x0 x1) x5 x6) 0 shapeCasts_S512x64_S1x1x512x64 inb_S1x16x512x192_S1x1x512x64_0_0_0_128 x
  refine List.forall_mem_cons.2 ⟨fun x => ?_, ?_⟩
  · exact nope_piece (k0_pay10 x0 x1 x2 x3) (k0_pay12 (k0_pay7 x0 x1) (k0_pay8 x0 x1) x5 x6) 0 (o := 0) rfl slices_S512x2048_o0_0_S512x128 shapeCasts_S512x128_S1x1x512x128 inb_S1x16x512x192_S1x1x512x128_0_0_0_0 x
  exact fun _ h => absurd h List.not_mem_nil

theorem row_eq : out0_A_8 c i arg2 harg2 arg3 harg3 arg4 harg4 arg5 harg5 arg6 harg6 arg7 harg7 arg8 harg8 arg9 harg9 arg10 harg10 x0 x1 x2 x3 x4 x5 x6 = k0_pay11 x0 x1 x2 x4 := by
  unfold out0_A_8 kernelRun0_A
  dsimp only
  rw [View.read_writes_eq_canon _ _ _ (fun y => ⟨_, List.mem_singleton_self _, View.mem_set_unit_zero z3 inb_S1x512x2048_S1x512x2048_0_0_0 y⟩)]
  refine (View.canon_unit_zero z3 _ _).trans ?_
  sl_unfold_words
  rw [ld2, ld3, ld4, ld6]

end Cert.KvIdeal.Body

end
-- ==== Proof.KvSpec.lean ====
/- The key and value side's two result arrays, as functions of its five arguments: the row's latent, brought to unit mean square and
   scaled, times the weights of the keys' heads and of the values; and the row's last 64 columns turned by its angle, shared by the heads. -/
module

public import Idealize.ShloMosaic.Lib.Pointwise
public import proofs.«01_k».proof.Proof.QsMath
public import proofs.«01_k».proof.Proof.Gen.KvRefIdeal.Read

@[expose] public section

noncomputable section

namespace Cert.KvSpec

open Idealize.ShloMosaic
open Cert.QsSpec (lat)

abbrev H : Type := FVec Ideal ⟨3, ![2, 4096, 2048]⟩ .bf16
abbrev W : Type := FVec Ideal ⟨2, ![2048, 576]⟩ .f32
abbrev G : Type := FVec Ideal ⟨1, ![512]⟩ .f32
abbrev U : Type := FVec Ideal ⟨2, ![512, 2048]⟩ .f32

/-- The cosine of the angle of a position and a pair of columns. -/
def cs (s : Fin 4096) (c : Fin 32) : EReal := Cert.KvRefIdeal.Read.val_main_v17 (F := Ideal) (ix2 s c)

/-- The sine of the angle of a position and a pair of columns. -/
def sn (s : Fin 4096) (c : Fin 32) : EReal := Cert.KvRefIdeal.Read.val_main_v18 (F := Ideal) (ix2 s c)

variable (h : H) (w : W) (g : G) (u : U)

/-- The row times the first weights. -/
def dn (b : Fin 2) (s : Fin 4096) (j : Fin 576) : EReal := ∑ k : Fin 2048, h (ix3 b s k) * w (ix2 k j)

/-- The row's latent. -/
def L (b : Fin 2) (s : Fin 4096) (k : Fin 512) : EReal := lat (fun l => dn h w b s ⟨l.val, by omega⟩) (fun l => g (ix1 l)) k

/-- The latent times the second weights. -/
def up (b : Fin 2) (s : Fin 4096) (j : Fin 2048) : EReal := ∑ k : Fin 512, L h w g b s k * u (ix2 k j)

/-- An entry of the keys. -/
def kAt (b : Fin 2) (n : Fin 16) (s : Fin 4096) (c : Fin 192) : EReal :=
  if h1 : c.val < 128 then up h w g u b s ⟨128 * n.val + c.val, by omega⟩
  else if h2 : c.val < 160 then dn h w b s ⟨384 + c.val, by omega⟩ * cs s ⟨c.val - 128, by omega⟩ - dn h w b s ⟨416 + c.val, by omega⟩ * sn s ⟨c.val - 128, by omega⟩
  else dn h w b s ⟨352 + c.val, by omega⟩ * sn s ⟨c.val - 160, by omega⟩ + dn h w b s ⟨384 + c.val, by omega⟩ * cs s ⟨c.val - 160, by omega⟩

/-- The keys. -/
def kRes : FVec Ideal ⟨4, ![2, 16, 4096, 192]⟩ .bf16 := fun i => kAt h w g u (i 0) (i 1) (i 2) (i 3)

/-- The values. -/
def vRes : FVec Ideal ⟨3, ![2, 4096, 2048]⟩ .bf16 := fun i => up h w g u (i 0) (i 1) (i 2)

end Cert.KvSpec

end
-- ==== Proof.KvOut.lean ====
/- The key and value side kernel's body at an element of its two blocks. -/
module

public import proofs.«01_k».proof.Proof.KvBody
public import proofs.«01_k».proof.Proof.KvSpec

@[expose] public section

set_option maxRecDepth 16384

noncomputable section

namespace Cert.KvIdeal.Body

open Cert.KvIdeal Cert.KvIdeal.Gen Idealize.ShloMosaic Idealize.ShloMosaic.TcCoe Idealize.SL.Sem
open Cert.QsSpec (lat sum_neg)
open Cert.KvSpec (cs sn dn L up kAt)

theorem dn_at (x0 : Vec Ideal S1x512x2048 .bf16) (x1 : Vec Ideal S2048x768 .bf16) (r : Fin 512) (j : Fin 768) :
    k0_pay6 x0 x1 (ix2 r j) = ∑ k : Fin 2048, x0 (ix3 0 r k) * x1 (ix2 k j) := by
  pointwise [k0_pay6]

theorem pair_at (x0 : Vec Ideal S1x512x2048 .bf16) (x1 : Vec Ideal S2048x768 .bf16) (r : Fin 512) (e : Fin 64) :
    k0_pay7 x0 x1 (ix2 r e) = ∑ k : Fin 2048, x0 (ix3 0 r k) * x1 (ix2 k ⟨512 + e.val, by omega⟩) := by
  pointwise [k0_pay7]
  simp only [dn_at]

theorem turn_at (x0 : Vec Ideal S1x512x2048 .bf16) (x1 : Vec Ideal S2048x768 .bf16) (r : Fin 512) (e : Fin 64) :
    k0_pay8 x0 x1 (ix2 r e) = ∑ k : Fin 2048, x0 (ix3 0 r k) * x1 (ix2 k ⟨640 + e.val, by omega⟩) := by
  pointwise [k0_pay8]
  simp only [dn_at]

theorem lat_at (x0 : Vec Ideal S1x512x2048 .bf16) (x1 : Vec Ideal S2048x768 .bf16) (x2 : Vec Ideal S1x512 .f32) (r : Fin 512) (k : Fin 512) :
    k0_pay9 x0 x1 x2 (ix2 r k) = lat (fun l => k0_pay6 x0 x1 (ix2 r ⟨l.val, by omega⟩)) (fun l => x2 (ix2 0 l)) k := by
  unfold lat
  simp only [dn_at]
  pointwise [k0_pay9]
  simp only [dn_at]

theorem nope_at (x0 : Vec Ideal S1x512x2048 .bf16) (x1 : Vec Ideal S2048x768 .bf16) (x2 : Vec Ideal S1x512 .f32) (x3 : Vec Ideal S512x2048 .bf16) (r : Fin 512) (j : Fin 2048) :
    k0_pay10 x0 x1 x2 x3 (ix2 r j) = ∑ k : Fin 512, k0_pay9 x0 x1 x2 (ix2 r k) * x3 (ix2 k j) := by
  pointwise [k0_pay10]

theorem value_at (x0 : Vec Ideal S1x512x2048 .bf16) (x1 : Vec Ideal S2048x768 .bf16) (x2 : Vec Ideal S1x512 .f32) (x4 : Vec Ideal S512x2048 .bf16) (z : Fin 1) (r : Fin 512) (j : Fin 2048) :
    k0_pay11 x0 x1 x2 x4 (ix3 z r j) = ∑ k : Fin 512, k0_pay9 x0 x1 x2 (ix2 r k) * x4 (ix2 k j) := by
  pointwise [k0_pay11]

theorem rope_at (v w : FVec Ideal S512x64 .f32) (a b : Vec Ideal S512x128 .f32) (r : Fin 512) (e : Fin 64) :
    k0_pay12 v w a b (ix2 r e) = v (ix2 r e) * a (ix2 r ⟨e.val, by omega⟩) + w (ix2 r e) * b (ix2 r ⟨e.val, by omega⟩) := by
  pointwise [k0_pay12]

section
variable (h : Cert.KvSpec.H) (w : Cert.KvSpec.W) (g : Cert.KvSpec.G) (u : Cert.KvSpec.U)
  (x0 : Vec Ideal S1x512x2048 .bf16) (x1 : Vec Ideal S2048x768 .bf16) (x2 : Vec Ideal S1x512 .f32) (x3 : Vec Ideal S512x2048 .bf16)
  (x5 x6 : Vec Ideal S512x128 .f32) (b : Fin 2) (s : Fin 4096) (r : Fin 512)

/-- The two turned halves, in the reference's order. -/
theorem turn_lo (x y c d : EReal) : x * c + -y * d = x * c - y * d := by rw [EReal.neg_mul, sub_eq_add_neg]

/-- A point's heads are the keys of its rows. -/
theorem heads_at (hh : ∀ k : Fin 2048, ∃ a : ℝ, h (ix3 b s k) = (a : EReal))
    (hw : ∀ (k : Fin 2048) (c : Fin 32), ∃ a : ℝ, w (ix2 k ⟨544 + c.val, by omega⟩) = (a : EReal))
    (hL : ∀ k, k0_pay9 x0 x1 x2 (ix2 r k) = L h w g b s k)
    (h0 : ∀ k : Fin 2048, x0 (ix3 0 r k) = h (ix3 b s k))
    (h1 : ∀ (k : Fin 2048) (e : Fin 64), x1 (ix2 k ⟨512 + e.val, by omega⟩) = w (ix2 k ⟨512 + e.val, by omega⟩))
    (h2 : ∀ (k : Fin 2048) (e : Fin 64), x1 (ix2 k ⟨640 + e.val, by omega⟩) = if he : e.val < 32 then -(w (ix2 k ⟨544 + e.val, by omega⟩)) else w (ix2 k ⟨480 + e.val, by omega⟩))
    (h3 : ∀ (k : Fin 512) (j : Fin 2048), x3 (ix2 k j) = u (ix2 k j))
    (h5 : ∀ e : Fin 128, x5 (ix2 r e) = cs s ⟨e.val % 32, by omega⟩) (h6 : ∀ e : Fin 128, x6 (ix2 r e) = sn s ⟨e.val % 32, by omega⟩)
    (n : Fin 16) (c : Fin 192) :
    headAt (k0_pay10 x0 x1 x2 x3) (k0_pay12 (k0_pay7 x0 x1) (k0_pay8 x0 x1) x5 x6) n r c = kAt h w g u b n s c := by
  unfold headAt kAt
  by_cases c1 : c.val < 128
  · rw [dif_pos c1, dif_pos c1, nope_at]
    simp only [hL, h3]
    rfl
  · have e1 : 512 + (c.val - 128) = 384 + c.val := by omega
    have p1 : k0_pay7 x0 x1 (ix2 r ⟨c.val - 128, by omega⟩) = dn h w b s ⟨384 + c.val, by omega⟩ := by
      refine (pair_at x0 x1 r ⟨c.val - 128, by omega⟩).trans (Finset.sum_congr rfl fun k _ => ?_)
      rw [h0, h1 k ⟨c.val - 128, by omega⟩]
      simp only [e1]
    rw [dif_neg c1, dif_neg c1, rope_at, p1, h5, h6]
    by_cases c2 : c.val < 160
    · have l1 : c.val - 128 < 32 := by omega
      have e2 : 544 + (c.val - 128) = 416 + c.val := by omega
      have e3 : (c.val - 128) % 32 = c.val - 128 := by omega
      have p2 : k0_pay8 x0 x1 (ix2 r ⟨c.val - 128, by omega⟩) = -dn h w b s ⟨416 + c.val, by omega⟩ := by
        refine (turn_at x0 x1 r ⟨c.val - 128, by omega⟩).trans (Eq.trans (Finset.sum_congr rfl fun k _ => ?_)
          (sum_neg (fun k : Fin 2048 => h (ix3 b s k)) (fun k : Fin 2048 => w (ix2 k ⟨416 + c.val, by omega⟩)) hh (fun k => ?_)))
        · rw [h0, h2 k ⟨c.val - 128, by omega⟩, dif_pos l1]
          simp only [e2]
        · obtain ⟨a, ha⟩ := hw k ⟨c.val - 128, by omega⟩
          refine ⟨a, Eq.trans ?_ ha⟩
          simp only [e2]
      rw [p2, dif_pos c2, turn_lo]
      simp only [e3]
    · have l1 : ¬ c.val - 128 < 32 := by omega
      have e2 : 480 + (c.val - 128) = 352 + c.val := by omega
      have e3 : (c.val - 128) % 32 = c.val - 160 := by omega
      have p2 : k0_pay8 x0 x1 (ix2 r ⟨c.val - 128, by omega⟩) = dn h w b s ⟨352 + c.val, by omega⟩ := by
        refine (turn_at x0 x1 r ⟨c.val - 128, by omega⟩).trans (Finset.sum_congr rfl fun k _ => ?_)
        rw [h0, h2 k ⟨c.val - 128, by omega⟩, dif_neg l1]
        simp only [e2]
      rw [p2, dif_neg c2, add_comm]
      simp only [e3]

end

end Cert.KvIdeal.Body

end
-- ==== Proof.KvHost.lean ====
/- The key and value side kernel's arrays, as the program prepares them: the tables repeated, the weights' columns set side by side. -/
module

public import Idealize.ShloMosaic.Lib.StableHlo.Run
public import proofs.«01_k».proof.Proof.KvSpec
public import proofs.«01_k».proof.Proof.Gen.KvIdeal.Value

@[expose] public section

set_option maxRecDepth 16384

noncomputable section

namespace Cert.KvIdeal.Body

open Cert.KvIdeal Cert.KvIdeal.Gen Idealize.ShloMosaic Idealize.ShloMosaic.TcCoe Idealize.SL.Sem
open Cert.KvSpec (H W G U cs sn)

variable (m : (ℓ : Loc nD τ sig) → Buf (Elt Ideal) ℓ) (c : Dev nD)

def argH : H := m ((c : Thread nD τ).loc main_arg0)
def argW : W := m ((c : Thread nD τ).loc main_arg1)
def argG : G := m ((c : Thread nD τ).loc main_arg2)
def argK : U := m ((c : Thread nD τ).loc main_arg3)
def argV : U := m ((c : Thread nD τ).loc main_arg4)

theorem V_k : V m c main_v36 = (truncf (F := Ideal) .bf16 (argK m c) Facts₀.bitsLt_bf16_f32 : (⟨S512x2048, .bf16⟩ : BufTy).Contents (Elt Ideal)) := by
  unfold_abbrev_sides
  after_results
  rfl

theorem V_v : V m c main_v37 = (truncf (F := Ideal) .bf16 (argV m c) Facts₀.bitsLt_bf16_f32 : (⟨S512x2048, .bf16⟩ : BufTy).Contents (Elt Ideal)) := by
  unfold_abbrev_sides
  after_results
  rfl

theorem V_g : V m c main_v38 = (shapeCast S1x512 (argG m c) Facts₀.shapeCasts_S512_S1x512 : (⟨S1x512, .f32⟩ : BufTy).Contents (Elt Ideal)) := by
  unfold_abbrev_sides
  after_results
  rfl

theorem narrow {s : Shape} (v : FVec Ideal s .f32) (hb : FTy.bits .bf16 < FTy.bits .f32) (i : s.Idx) : truncf (F := Ideal) .bf16 v hb i = v i := rfl

/-- The weights' columns that are turned. -/
def wr : FVec Ideal S2048x64 .f32 := extractStridedSlice S2048x64 ![0, 512] (argW m c) Facts₀.slices_S2048x576_S2048x64_0_512

theorem wr_at (k : Fin 2048) (e : Fin 64) : wr m c (ix2 k e) = argW m c (ix2 k ⟨512 + e.val, by omega⟩) := by
  unfold wr
  generalize argW m c = y
  refine extractStridedSlice_apply ![0, 512] y Facts₀.slices_S2048x576_S2048x64_0_512 (ix2 k e) (ix2 k ⟨512 + e.val, by omega⟩) (fun a => ?_)
  match a with
  | ⟨0, _⟩ => show k.val = 0 + k.val; omega
  | ⟨1, _⟩ => rfl

/-- The weights' columns with the halves exchanged and one of them negated. -/
def wo : FVec Ideal S2048x64 .f32 := concatenate S2048x64 1 [⟨S2048x32, Host.negf (extractStridedSlice S2048x32 ![0, 32] (wr m c) Facts₀.slices_S2048x64_S2048x32_0_32)⟩,
  ⟨S2048x32, extractStridedSlice S2048x32 ![0, 0] (wr m c) Facts₀.slices_S2048x64_S2048x32_0_0⟩] Facts₀.concatenates_S2048x32_S2048x32_S2048x64_d1

theorem wo_at (k : Fin 2048) (e : Fin 64) : wo m c (ix2 k e) = if he : e.val < 32 then -(argW m c (ix2 k ⟨544 + e.val, by omega⟩))
      else argW m c (ix2 k ⟨480 + e.val, by omega⟩) := by
  unfold wo
  pointwise
  by_cases he : e.val < 32
  · have e1 : 512 + (32 + e.val) = 544 + e.val := by omega
    simp only [he, dif_pos, if_pos, wr_at]
    simp only [e1, add_comm, add_left_comm]
  · have e1 : 512 + (e.val - 32) = 480 + e.val := by omega
    simp only [he, dif_neg, if_neg, not_false_eq_true, wr_at, e1]

/-- An array with 64 columns more. -/
def wide (v : FVec Ideal S2048x64 .f32) : FVec Ideal S2048x128 .f32 :=
  pad S2048x128 ![0, 0] ![0, 64] ![0, 0] v (sitofp (F := Ideal) .f32 (constantI S_ 32 0#32)) Facts₀.pads_S2048x64_S2048x128_000_0640 h_S_

theorem wide_at (v : FVec Ideal S2048x64 .f32) (k : Fin 2048) (e : Fin 64) : wide v (ix2 k ⟨e.val, by omega⟩) = v (ix2 k e) := by
  unfold wide
  pointwise

/-- The columns set side by side. -/
def side (a : FVec Ideal S2048x512 .f32) (b d : FVec Ideal S2048x128 .f32) : FVec Ideal S2048x768 .f32 :=
  concatenate S2048x768 1 [⟨S2048x512, a⟩, ⟨S2048x128, b⟩, ⟨S2048x128, d⟩] Facts₀.concatenates_S2048x512_S2048x128_S2048x128_S2048x768_d1

theorem side_a (a : FVec Ideal S2048x512 .f32) (b d : FVec Ideal S2048x128 .f32) (k : Fin 2048) (e : Fin 512) : side a b d (ix2 k ⟨e.val, by omega⟩) = a (ix2 k e) := by
  unfold side
  pointwise

theorem side_b (a : FVec Ideal S2048x512 .f32) (b d : FVec Ideal S2048x128 .f32) (k : Fin 2048) (e : Fin 64) : side a b d (ix2 k ⟨512 + e.val, by omega⟩) = b (ix2 k ⟨e.val, by omega⟩) := by
  unfold side
  pointwise
  have h1 : ¬ 512 + e.val < 512 := by omega
  have h2 : 512 + e.val - 512 = e.val := by omega
  have h3 : e.val < 128 := by omega
  simp only [h1, h2, h3, dif_pos, if_pos, dif_neg, if_neg, not_false_eq_true]

theorem side_d (a : FVec Ideal S2048x512 .f32) (b d : FVec Ideal S2048x128 .f32) (k : Fin 2048) (e : Fin 64) : side a b d (ix2 k ⟨640 + e.val, by omega⟩) = d (ix2 k ⟨e.val, by omega⟩) := by
  unfold side
  pointwise
  have h1 : ¬ 640 + e.val < 512 := by omega
  have h2 : 640 + e.val - 512 = 128 + e.val := by omega
  have h3 : ¬ 128 + e.val < 128 := by omega
  have h4 : 128 + e.val - 128 = e.val := by omega
  simp only [h1, h2, h3, h4, dif_pos, if_pos, dif_neg, if_neg, not_false_eq_true]

theorem V_w : V m c main_v35 = (truncf (F := Ideal) .bf16 (side (extractStridedSlice S2048x512 ![0, 0] (argW m c) Facts₀.slices_S2048x576_S2048x512_0_0) (wide (wr m c)) (wide (wo m c))) Facts₀.bitsLt_bf16_f32
    : (⟨S2048x768, .bf16⟩ : BufTy).Contents (Elt Ideal)) := by
  unfold_abbrev_sides
  after_results
  rfl

theorem w_a (k : Fin 2048) (e : Fin 512) : V m c main_v35 (ix2 k ⟨e.val, by omega⟩) = argW m c (ix2 k ⟨e.val, by omega⟩) := by
  rw [V_w]
  refine (narrow _ _ _).trans ((side_a _ _ _ k e).trans ?_)
  generalize argW m c = y
  refine extractStridedSlice_apply ![0, 0] y Facts₀.slices_S2048x576_S2048x512_0_0 (ix2 k e) (ix2 k ⟨e.val, by omega⟩) (fun a => ?_)
  match a with
  | ⟨0, _⟩ => show k.val = 0 + k.val; omega
  | ⟨1, _⟩ => show e.val = 0 + e.val; omega

theorem w_b (k : Fin 2048) (e : Fin 64) : V m c main_v35 (ix2 k ⟨512 + e.val, by omega⟩) = argW m c (ix2 k ⟨512 + e.val, by omega⟩) := by
  rw [V_w]
  exact (narrow _ _ _).trans ((side_b _ _ _ k e).trans ((wide_at _ k e).trans (wr_at m c k e)))

theorem w_d (k : Fin 2048) (e : Fin 64) : V m c main_v35 (ix2 k ⟨640 + e.val, by omega⟩) = if he : e.val < 32 then -(argW m c (ix2 k ⟨544 + e.val, by omega⟩))
      else argW m c (ix2 k ⟨480 + e.val, by omega⟩) := by
  rw [V_w]
  exact (narrow _ _ _).trans ((side_d _ _ _ k e).trans ((wide_at _ k e).trans (wo_at m c k e)))

theorem rep_at (v : FVec Ideal S4096x32 .f32) (h1 : S4096x32.ShapeCasts S1x4096x1x32) (h2 : S1x4096x1x32.BroadcastsInDim S1x4096x4x32 (![0, 1, 2, 3] : Fin 4 → Fin S1x4096x4x32.rank))
    (h3 : S1x4096x4x32.ShapeCasts S4096x128) (s : Fin 4096) (e : Fin 128) :
    shapeCast S4096x128 (broadcastInDim S1x4096x4x32 ![0, 1, 2, 3] h2 (shapeCast S1x4096x1x32 v h1)) h3 (ix2 s e) = v (ix2 s ⟨e.val % 32, by omega⟩) := by
  refine (shapeCast_apply _ h3 (ix2 s e) (ix4 0 s ⟨e.val / 32, by omega⟩ ⟨e.val % 32, by omega⟩) ?_).trans ?_
  · rewrite [Shape.rowMajor_val_two, Shape.rowMajor_val_four]
    show ((0 * 4096 + s.val) * 4 + e.val / 32) * 32 + e.val % 32 = s.val * 128 + e.val
    omega
  · pointwise

theorem V_cos : V m c main_v21 = (shapeCast S4096x128 (broadcastInDim S1x4096x4x32 ![0, 1, 2, 3] Facts₀.bcast_S1x4096x1x32_S1x4096x4x32_0_1_2_3 (shapeCast S1x4096x1x32 (Cert.KvRefIdeal.Read.val_main_v17 (F := Ideal)) Facts₀.shapeCasts_S4096x32_S1x4096x1x32)) Facts₀.shapeCasts_S1x4096x4x32_S4096x128
    : (⟨S4096x128, .f32⟩ : BufTy).Contents (Elt Ideal)) := by
  unfold_abbrev_sides
  after_results
  rfl

theorem V_sin : V m c main_v24 = (shapeCast S4096x128 (broadcastInDim S1x4096x4x32 ![0, 1, 2, 3] Facts₀.bcast_S1x4096x1x32_S1x4096x4x32_0_1_2_3 (shapeCast S1x4096x1x32 (Cert.KvRefIdeal.Read.val_main_v18 (F := Ideal)) Facts₀.shapeCasts_S4096x32_S1x4096x1x32)) Facts₀.shapeCasts_S1x4096x4x32_S4096x128
    : (⟨S4096x128, .f32⟩ : BufTy).Contents (Elt Ideal)) := by
  unfold_abbrev_sides
  after_results
  rfl

theorem cos_at (s : Fin 4096) (e : Fin 128) : V m c main_v21 (ix2 s e) = cs s ⟨e.val % 32, by omega⟩ := by
  rw [V_cos]
  exact rep_at _ _ _ _ s e

theorem sin_at (s : Fin 4096) (e : Fin 128) : V m c main_v24 (ix2 s e) = sn s ⟨e.val % 32, by omega⟩ := by
  rw [V_sin]
  exact rep_at _ _ _ _ s e

end Cert.KvIdeal.Body

end
-- ==== Proof.KvArr.lean ====
/- The key and value side kernel's result arrays: every grid point writes its rows, and the row blocks cover the arrays. -/
module

public import proofs.«01_k».proof.Proof.KvOut
public import proofs.«01_k».proof.Proof.KvHost

@[expose] public section

set_option maxRecDepth 16384

noncomputable section

namespace Cert.KvIdeal.Body

open Cert.KvIdeal Cert.KvIdeal.Gen Idealize.ShloMosaic Idealize.ShloMosaic.TcCoe Idealize.SL.Sem
open Idealize.ShloMosaic.Pipeline (Dat)
open Cert.QsSpec (lat)
open Cert.KvSpec (cs sn dn L up kAt kRes vRes)

variable (m : (ℓ : Loc nD τ sig) → Buf (Elt Ideal) ℓ) (c : Dev nD)

theorem lt16 (t : Fin cfg0.N) : t.val < 16 := lt_of_lt_of_eq t.isLt (show cfg0.N = 16 from N_0)

/-- The batch of a point. -/
def pb (t : Fin cfg0.N) : Fin 2 := ⟨t.val / 8, by have := lt16 t; omega⟩

/-- The position of a point's row. -/
def ps (t : Fin cfg0.N) (r : Fin 512) : Fin 4096 := ⟨512 * (t.val % 8) + r.val, by omega⟩

theorem at_row : ∀ t : Fin cfg0.N, (cc0_transform_0 (grid0.coords t) 0 = t.val / 8 ∧ cc0_transform_0 (grid0.coords t) 1 = t.val % 8 ∧ cc0_transform_0 (grid0.coords t) 2 = 0) ∧ (cc0_transform_5 (grid0.coords t) 0 = t.val % 8 ∧ cc0_transform_5 (grid0.coords t) 1 = 0) ∧ (cc0_transform_6 (grid0.coords t) 0 = t.val % 8 ∧ cc0_transform_6 (grid0.coords t) 1 = 0) :=
  (by decide +kernel : ∀ t : Fin grid0.N, (cc0_transform_0 (grid0.coords t) 0 = t.val / 8 ∧ cc0_transform_0 (grid0.coords t) 1 = t.val % 8 ∧ cc0_transform_0 (grid0.coords t) 2 = 0) ∧ (cc0_transform_5 (grid0.coords t) 0 = t.val % 8 ∧ cc0_transform_5 (grid0.coords t) 1 = 0) ∧ (cc0_transform_6 (grid0.coords t) 0 = t.val % 8 ∧ cc0_transform_6 (grid0.coords t) 1 = 0))

theorem at_zero : ∀ t : Fin cfg0.N, (cc0_transform_1 (grid0.coords t) 0 = 0 ∧ cc0_transform_1 (grid0.coords t) 1 = 0) ∧ (cc0_transform_2 (grid0.coords t) 0 = 0 ∧ cc0_transform_2 (grid0.coords t) 1 = 0) ∧ (cc0_transform_3 (grid0.coords t) 0 = 0 ∧ cc0_transform_3 (grid0.coords t) 1 = 0) ∧ (cc0_transform_4 (grid0.coords t) 0 = 0 ∧ cc0_transform_4 (grid0.coords t) 1 = 0) :=
  (by decide +kernel : ∀ t : Fin grid0.N, (cc0_transform_1 (grid0.coords t) 0 = 0 ∧ cc0_transform_1 (grid0.coords t) 1 = 0) ∧ (cc0_transform_2 (grid0.coords t) 0 = 0 ∧ cc0_transform_2 (grid0.coords t) 1 = 0) ∧ (cc0_transform_3 (grid0.coords t) 0 = 0 ∧ cc0_transform_3 (grid0.coords t) 1 = 0) ∧ (cc0_transform_4 (grid0.coords t) 0 = 0 ∧ cc0_transform_4 (grid0.coords t) 1 = 0))

theorem at_out : ∀ t : Fin cfg0.N, (cc0_transform_7 (grid0.coords t) 0 = t.val / 8 ∧ cc0_transform_7 (grid0.coords t) 1 = 0 ∧ cc0_transform_7 (grid0.coords t) 2 = t.val % 8 ∧ cc0_transform_7 (grid0.coords t) 3 = 0) ∧ (cc0_transform_8 (grid0.coords t) 0 = t.val / 8 ∧ cc0_transform_8 (grid0.coords t) 1 = t.val % 8 ∧ cc0_transform_8 (grid0.coords t) 2 = 0) :=
  (by decide +kernel : ∀ t : Fin grid0.N, (cc0_transform_7 (grid0.coords t) 0 = t.val / 8 ∧ cc0_transform_7 (grid0.coords t) 1 = 0 ∧ cc0_transform_7 (grid0.coords t) 2 = t.val % 8 ∧ cc0_transform_7 (grid0.coords t) 3 = 0) ∧ (cc0_transform_8 (grid0.coords t) 0 = t.val / 8 ∧ cc0_transform_8 (grid0.coords t) 1 = t.val % 8 ∧ cc0_transform_8 (grid0.coords t) 2 = 0))

theorem rd0 (t : Fin cfg0.N) (r : Fin 512) (k : Fin 2048) :
    (iblk m c 0 t : Vec Ideal S1x512x2048 .bf16) (ix3 0 r k) = argH m c (ix3 (pb t) (ps t r) k) := by
  unfold iblk
  rw [View.read_apply]
  show V m c main_arg0 _ = m ((c : Thread nD τ).loc main_arg0) _
  rw [V_main_arg0]
  congr 1
  funext a
  apply Fin.ext
  obtain ⟨⟨e0, e1, e2⟩, -, -⟩ := at_row t
  match a with
  | ⟨0, _⟩ => show cc0_transform_0 (grid0.coords t) 0 * 1 + 1 * 0 = t.val / 8; omega
  | ⟨1, _⟩ => show cc0_transform_0 (grid0.coords t) 1 * 512 + 1 * r.val = 512 * (t.val % 8) + r.val; omega
  | ⟨2, _⟩ => show cc0_transform_0 (grid0.coords t) 2 * 2048 + 1 * k.val = k.val; omega

theorem rd1 (t : Fin cfg0.N) (k : Fin 2048) (j : Fin 768) :
    (iblk m c 1 t : Vec Ideal S2048x768 .bf16) (ix2 k j) = V m c main_v35 (ix2 k j) := by
  unfold iblk
  rw [View.read_apply]
  show V m c main_v35 _ = V m c main_v35 _
  congr 1
  funext a
  apply Fin.ext
  obtain ⟨⟨e0, e1⟩, -, -, -⟩ := at_zero t
  match a with
  | ⟨0, _⟩ => show cc0_transform_1 (grid0.coords t) 0 * 2048 + 1 * k.val = k.val; omega
  | ⟨1, _⟩ => show cc0_transform_1 (grid0.coords t) 1 * 768 + 1 * j.val = j.val; omega

theorem rd2 (t : Fin cfg0.N) (k : Fin 512) :
    (iblk m c 2 t : Vec Ideal S1x512 .f32) (ix2 0 k) = V m c main_v38 (ix2 0 k) := by
  unfold iblk
  rw [View.read_apply]
  show V m c main_v38 _ = V m c main_v38 _
  congr 1
  funext a
  apply Fin.ext
  obtain ⟨-, ⟨e0, e1⟩, -, -⟩ := at_zero t
  match a with
  | ⟨0, _⟩ => show cc0_transform_2 (grid0.coords t) 0 * 1 + 1 * 0 = 0; omega
  | ⟨1, _⟩ => show cc0_transform_2 (grid0.coords t) 1 * 512 + 1 * k.val = k.val; omega

theorem rd3 (t : Fin cfg0.N) (k : Fin 512) (j : Fin 2048) :
    (iblk m c 3 t : Vec Ideal S512x2048 .bf16) (ix2 k j) = V m c main_v36 (ix2 k j) := by
  unfold iblk
  rw [View.read_apply]
  show V m c main_v36 _ = V m c main_v36 _
  congr 1
  funext a
  apply Fin.ext
  obtain ⟨-, -, ⟨e0, e1⟩, -⟩ := at_zero t
  match a with
  | ⟨0, _⟩ => show cc0_transform_3 (grid0.coords t) 0 * 512 + 1 * k.val = k.val; omega
  | ⟨1, _⟩ => show cc0_transform_3 (grid0.coords t) 1 * 2048 + 1 * j.val = j.val; omega

theorem rd4 (t : Fin cfg0.N) (k : Fin 512) (j : Fin 2048) :
    (iblk m c 4 t : Vec Ideal S512x2048 .bf16) (ix2 k j) = V m c main_v37 (ix2 k j) := by
  unfold iblk
  rw [View.read_apply]
  show V m c main_v37 _ = V m c main_v37 _
  congr 1
  funext a
  apply Fin.ext
  obtain ⟨-, -, -, ⟨e0, e1⟩⟩ := at_zero t
  match a with
  | ⟨0, _⟩ => show cc0_transform_4 (grid0.coords t) 0 * 512 + 1 * k.val = k.val; omega
  | ⟨1, _⟩ => show cc0_transform_4 (grid0.coords t) 1 * 2048 + 1 * j.val = j.val; omega

theorem rd5 (t : Fin cfg0.N) (r : Fin 512) (e : Fin 128) :
    (iblk m c 5 t : Vec Ideal S512x128 .f32) (ix2 r e) = V m c main_v21 (ix2 (ps t r) e) := by
  unfold iblk
  rw [View.read_apply]
  show V m c main_v21 _ = V m c main_v21 _
  congr 1
  funext a
  apply Fin.ext
  obtain ⟨-, ⟨e0, e1⟩, -⟩ := at_row t
  match a with
  | ⟨0, _⟩ => show cc0_transform_5 (grid0.coords t) 0 * 512 + 1 * r.val = 512 * (t.val % 8) + r.val; omega
  | ⟨1, _⟩ => show cc0_transform_5 (grid0.coords t) 1 * 128 + 1 * e.val = e.val; omega

theorem rd6 (t : Fin cfg0.N) (r : Fin 512) (e : Fin 128) :
    (iblk m c 6 t : Vec Ideal S512x128 .f32) (ix2 r e) = V m c main_v24 (ix2 (ps t r) e) := by
  unfold iblk
  rw [View.read_apply]
  show V m c main_v24 _ = V m c main_v24 _
  congr 1
  funext a
  apply Fin.ext
  obtain ⟨-, -, ⟨e0, e1⟩⟩ := at_row t
  match a with
  | ⟨0, _⟩ => show cc0_transform_6 (grid0.coords t) 0 * 512 + 1 * r.val = 512 * (t.val % 8) + r.val; omega
  | ⟨1, _⟩ => show cc0_transform_6 (grid0.coords t) 1 * 128 + 1 * e.val = e.val; omega

theorem g_at (k : Fin 512) : V m c main_v38 (ix2 0 k) = argG m c (ix1 k) := by
  rw [V_g]
  show shapeCast S1x512 (argG m c) _ (ix2 0 k) = _
  pointwise

theorem k_at (k : Fin 512) (j : Fin 2048) : V m c main_v36 (ix2 k j) = argK m c (ix2 k j) := by
  rw [V_k]
  rfl

theorem v_at (k : Fin 512) (j : Fin 2048) : V m c main_v37 (ix2 k j) = argV m c (ix2 k j) := by
  rw [V_v]
  rfl

theorem down_at (t : Fin cfg0.N) (r : Fin 512) (l : Fin 512) :
    k0_pay6 (iblk m c 0 t) (iblk m c 1 t) (ix2 r ⟨l.val, by omega⟩) = dn (argH m c) (argW m c) (pb t) (ps t r) ⟨l.val, by omega⟩ := by
  refine (dn_at _ _ r ⟨l.val, by omega⟩).trans ?_
  unfold dn
  exact Finset.sum_congr rfl fun k _ => by rw [rd0, rd1, w_a m c k l]

theorem latent_at (t : Fin cfg0.N) (r : Fin 512) (k : Fin 512) :
    k0_pay9 (iblk m c 0 t) (iblk m c 1 t) (iblk m c 2 t) (ix2 r k) = L (argH m c) (argW m c) (argG m c) (pb t) (ps t r) k := by
  refine (lat_at _ _ _ r k).trans ?_
  unfold L
  exact congrArg₂ (fun d g => lat d g k) (funext fun l => down_at m c t r l) (funext fun l => (rd2 m c t l).trans (g_at m c l))

/-- The stream is real. -/
def FinH : Prop := ∀ (b : Fin 2) (s : Fin 4096) (k : Fin 2048), ∃ a : ℝ, argH m c (ix3 b s k) = (a : EReal)

/-- The weights' columns whose sign the kernel turns are real. -/
def FinW : Prop := ∀ (k : Fin 2048) (j : Fin 32), ∃ a : ℝ, argW m c (ix2 k ⟨544 + j.val, by omega⟩) = (a : EReal)

theorem flushed7_at (hh : FinH m c) (hw : FinW m c) (t : Fin cfg0.N) (n : Fin 16) (r : Fin 512) (j : Fin 192) :
    ((dats m 0 c).flushed 7 t : Vec Ideal S1x16x512x192 .bf16) (ix4 0 n r j) = kAt (argH m c) (argW m c) (argG m c) (argK m c) (pb t) n (ps t r) j := by
  rw [Value.flushed7_A]
  show out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (ix4 0 n r j) = _
  rw [heads_eq]
  refine heads_at (argH m c) (argW m c) (argG m c) (argK m c) (iblk m c 0 t) (iblk m c 1 t) (iblk m c 2 t) (iblk m c 3 t) (iblk m c 5 t) (iblk m c 6 t)
    (pb t) (ps t r) r (hh _ _) hw (latent_at m c t r) (rd0 m c t r) (fun k e => ?_) (fun k e => ?_) (fun k l => ?_) (fun e => ?_) (fun e => ?_) n j
  · exact (rd1 m c t k _).trans (w_b m c k e)
  · exact (rd1 m c t k _).trans (w_d m c k e)
  · exact (rd3 m c t k l).trans (k_at m c k l)
  · exact (rd5 m c t r e).trans (cos_at m c _ e)
  · exact (rd6 m c t r e).trans (sin_at m c _ e)

theorem flushed8_at (t : Fin cfg0.N) (r : Fin 512) (j : Fin 2048) :
    ((dats m 0 c).flushed 8 t : Vec Ideal S1x512x2048 .bf16) (ix3 0 r j) = up (argH m c) (argW m c) (argG m c) (argV m c) (pb t) (ps t r) j := by
  rw [Value.flushed8_A]
  show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (ix3 0 r j) = _
  rw [row_eq]
  refine (value_at _ _ _ _ 0 r j).trans ?_
  unfold up
  exact Finset.sum_congr rfl fun k _ => by rw [latent_at, rd4, v_at]

theorem arr7 (hh : FinH m c) (hw : FinW m c) : (dats m 0 c).arrAt 7 cfg0.N = kRes (argH m c) (argW m c) (argG m c) (argK m c) := by
  refine (dats m 0 c).arrAt_eq_of_cover 7 (kRes (argH m c) (argW m c) (argG m c) (argK m c)) (fun t _ => ?_) fun i => ?_
  · obtain ⟨⟨e0, e1, e2, e3⟩, -⟩ := at_out t
    funext y
    obtain ⟨z, n, r, j, rfl⟩ : ∃ (z : Fin 1) (n : Fin 16) (r : Fin 512) (j : Fin 192), (y : S1x16x512x192.Idx) = ix4 z n r j := ⟨y 0, y 1, y 2, y 3, eq_ix4 y⟩
    obtain rfl : z = 0 := Subsingleton.elim _ _
    refine (flushed7_at m c hh hw t n r j).trans ?_
    rw [View.read_apply]
    show kAt (argH m c) (argW m c) (argG m c) (argK m c) _ _ _ _ = kRes (argH m c) (argW m c) (argG m c) (argK m c) _
    have e : (((cfg0.win 7).blk t).view.emb (ix4 (0 : Fin 1) n r j : S1x16x512x192.Idx) : S2x16x4096x192.Idx) = ix4 (pb t) n (ps t r) j := by
      funext a
      apply Fin.ext
      match a with
      | ⟨0, _⟩ => show cc0_transform_7 (grid0.coords t) 0 * 1 + 1 * 0 = t.val / 8; omega
      | ⟨1, _⟩ => show cc0_transform_7 (grid0.coords t) 1 * 16 + 1 * n.val = n.val; omega
      | ⟨2, _⟩ => show cc0_transform_7 (grid0.coords t) 2 * 512 + 1 * r.val = 512 * (t.val % 8) + r.val; omega
      | ⟨3, _⟩ => show cc0_transform_7 (grid0.coords t) 3 * 192 + 1 * j.val = j.val; omega
    exact (congrArg (kRes (argH m c) (argW m c) (argG m c) (argK m c)) e).symm
  · have h0 : (i 0 : ℕ) < 2 := (i 0).isLt
    have h1 : (i 1 : ℕ) < 16 := (i 1).isLt
    have h2 : (i 2 : ℕ) < 4096 := (i 2).isLt
    have h3 : (i 3 : ℕ) < 192 := (i 3).isLt
    let t : Fin cfg0.N := ⟨8 * (i 0 : ℕ) + (i 2 : ℕ) / 512, by rw [show cfg0.N = 16 from N_0]; omega⟩
    have ht : t.val = 8 * (i 0 : ℕ) + (i 2 : ℕ) / 512 := rfl
    obtain ⟨⟨e0, e1, e2, e3⟩, -⟩ := at_out t
    refine ⟨t, flush0_7 t, ?_⟩
    show i ∈ ((View.whole main_v39_0).slice (win0_7.rect t)).set
    rw [View.set_slice_whole, Rect.mem_set_unit]
    intro a
    match a with
    | ⟨0, _⟩ =>
      show cc0_transform_7 (grid0.coords t) 0 * 1 ≤ (i 0 : ℕ) ∧ (i 0 : ℕ) < cc0_transform_7 (grid0.coords t) 0 * 1 + 1
      omega
    | ⟨1, _⟩ =>
      show cc0_transform_7 (grid0.coords t) 1 * 16 ≤ (i 1 : ℕ) ∧ (i 1 : ℕ) < cc0_transform_7 (grid0.coords t) 1 * 16 + 16
      omega
    | ⟨2, _⟩ =>
      show cc0_transform_7 (grid0.coords t) 2 * 512 ≤ (i 2 : ℕ) ∧ (i 2 : ℕ) < cc0_transform_7 (grid0.coords t) 2 * 512 + 512
      omega
    | ⟨3, _⟩ =>
      show cc0_transform_7 (grid0.coords t) 3 * 192 ≤ (i 3 : ℕ) ∧ (i 3 : ℕ) < cc0_transform_7 (grid0.coords t) 3 * 192 + 192
      omega

theorem arr8 : (dats m 0 c).arrAt 8 cfg0.N = vRes (argH m c) (argW m c) (argG m c) (argV m c) := by
  refine (dats m 0 c).arrAt_eq_of_cover 8 (vRes (argH m c) (argW m c) (argG m c) (argV m c)) (fun t _ => ?_) fun i => ?_
  · obtain ⟨-, ⟨e0, e1, e2⟩⟩ := at_out t
    funext y
    obtain ⟨z, r, j, rfl⟩ : ∃ (z : Fin 1) (r : Fin 512) (j : Fin 2048), (y : S1x512x2048.Idx) = ix3 z r j := ⟨y 0, y 1, y 2, eq_ix3 y⟩
    obtain rfl : z = 0 := Subsingleton.elim _ _
    refine (flushed8_at m c t r j).trans ?_
    rw [View.read_apply]
    show up (argH m c) (argW m c) (argG m c) (argV m c) _ _ _ = vRes (argH m c) (argW m c) (argG m c) (argV m c) _
    have e : (((cfg0.win 8).blk t).view.emb (ix3 (0 : Fin 1) r j : S1x512x2048.Idx) : S2x4096x2048.Idx) = ix3 (pb t) (ps t r) j := by
      funext a
      apply Fin.ext
      match a with
      | ⟨0, _⟩ => show cc0_transform_8 (grid0.coords t) 0 * 1 + 1 * 0 = t.val / 8; omega
      | ⟨1, _⟩ => show cc0_transform_8 (grid0.coords t) 1 * 512 + 1 * r.val = 512 * (t.val % 8) + r.val; omega
      | ⟨2, _⟩ => show cc0_transform_8 (grid0.coords t) 2 * 2048 + 1 * j.val = j.val; omega
    exact (congrArg (vRes (argH m c) (argW m c) (argG m c) (argV m c)) e).symm
  · have h0 : (i 0 : ℕ) < 2 := (i 0).isLt
    have h1 : (i 1 : ℕ) < 4096 := (i 1).isLt
    have h2 : (i 2 : ℕ) < 2048 := (i 2).isLt
    let t : Fin cfg0.N := ⟨8 * (i 0 : ℕ) + (i 1 : ℕ) / 512, by rw [show cfg0.N = 16 from N_0]; omega⟩
    have ht : t.val = 8 * (i 0 : ℕ) + (i 1 : ℕ) / 512 := rfl
    obtain ⟨-, ⟨e0, e1, e2⟩⟩ := at_out t
    refine ⟨t, flush0_8 t, ?_⟩
    show i ∈ ((View.whole main_v39_1).slice (win0_8.rect t)).set
    rw [View.set_slice_whole, Rect.mem_set_unit]
    intro a
    match a with
    | ⟨0, _⟩ =>
      show cc0_transform_8 (grid0.coords t) 0 * 1 ≤ (i 0 : ℕ) ∧ (i 0 : ℕ) < cc0_transform_8 (grid0.coords t) 0 * 1 + 1
      omega
    | ⟨1, _⟩ =>
      show cc0_transform_8 (grid0.coords t) 1 * 512 ≤ (i 1 : ℕ) ∧ (i 1 : ℕ) < cc0_transform_8 (grid0.coords t) 1 * 512 + 512
      omega
    | ⟨2, _⟩ =>
      show cc0_transform_8 (grid0.coords t) 2 * 2048 ≤ (i 2 : ℕ) ∧ (i 2 : ℕ) < cc0_transform_8 (grid0.coords t) 2 * 2048 + 2048
      omega

/-- The run, read. -/
theorem run (ρ : Dev nD → PrngReg) (hh : ∀ c, FinH m c) (hw : ∀ c, FinW m c) : θ_run defs (onTc (τ := τ) (main (F := Ideal))) ⟨m, fun _ => 0, ρ⟩ fun r => ∀ c : Dev nD,
      r.2.mem ((c : Thread nD τ).loc main_v39_0) = kRes (argH m c) (argW m c) (argG m c) (argK m c)
      ∧ r.2.mem ((c : Thread nD τ).loc main_v39_1) = vRes (argH m c) (argW m c) (argG m c) (argV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (arr7 m c (hh c) (hw c)), (h c).2.1.trans (arr8 m c), (h c).2.2⟩) (Value.run_blocks m ρ)

end Cert.KvIdeal.Body

end
-- ==== Proof.KvRef.lean ====
/- The key and value side's reference computes the result arrays. -/
module

public import proofs.«01_k».proof.Proof.KvSpec

@[expose] public section

set_option maxRecDepth 16384

noncomputable section

namespace Cert.KvRefIdeal.Sum

open Idealize.ShloMosaic Idealize.ShloMosaic.TcCoe Idealize.SL.Sem
open Cert.KvRefIdeal Cert.KvRefIdeal.Gen Cert.KvRefIdeal.Read
open Cert.KvSpec
open Cert.QsSpec (lat)

variable (h : H) (w : W) (g : G) (u : U)

theorem dn_at (b : Fin 2) (s : Fin 4096) (j : Fin 576) : val_main_v20 (F := Ideal) h w (ix3 b s j) = dn h w b s j := by
  unfold dn
  pointwise [val_main_v20, val_main_v19]

theorem lo_at (b : Fin 2) (s : Fin 4096) (k : Fin 512) : val_main_v21 (F := Ideal) h w (ix3 b s k) = dn h w b s ⟨k.val, by omega⟩ := by
  rw [val_main_v21_apply, ← dn_at]
  congr 1
  funext a
  apply Fin.ext
  match a with
  | ⟨0, _⟩ => rfl
  | ⟨1, _⟩ => rfl
  | ⟨2, _⟩ => rfl

theorem x1_at (b : Fin 2) (s : Fin 4096) (c : Fin 32) : val_main_v39 (F := Ideal) h w (ix3 b s c) = dn h w b s ⟨512 + c.val, by omega⟩ := by
  rw [val_main_v39_apply, val_main_v22_apply, ← dn_at]
  congr 1
  funext a
  apply Fin.ext
  match a with
  | ⟨0, _⟩ => rfl
  | ⟨1, _⟩ => rfl
  | ⟨2, _⟩ => first | rfl | (show c.val + 512 = 512 + c.val; omega)

theorem x2_at (b : Fin 2) (s : Fin 4096) (c : Fin 32) : val_main_v40 (F := Ideal) h w (ix3 b s c) = dn h w b s ⟨544 + c.val, by omega⟩ := by
  rw [val_main_v40_apply, val_main_v22_apply, ← dn_at]
  congr 1
  funext a
  apply Fin.ext
  match a with
  | ⟨0, _⟩ => rfl
  | ⟨1, _⟩ => rfl
  | ⟨2, _⟩ => first | (show 512 + (32 + c.val) = 544 + c.val; omega) | (show c.val + 32 + 512 = 544 + c.val; omega)

theorem lat_at (b : Fin 2) (s : Fin 4096) (k : Fin 512) : val_main_v35 (F := Ideal) h w g (ix3 b s k) = L h w g b s k := by
  unfold L lat
  pointwise [val_main_v35, val_main_v34, val_main_v33, val_main_v32, val_main_v31, val_main_v30, val_main_v29, val_main_v28, val_main_v27, val_main_v26, val_main_v25, val_main_v24, val_main_v23, val_main_cst_4, val_main_cst_5, val_main_cst_6]
  simp only [lo_at]

theorem key_at (b : Fin 2) (s : Fin 4096) (j : Fin 2048) : val_main_v36 (F := Ideal) h w g u (ix3 b s j) = up h w g u b s j := by
  unfold up
  pointwise [val_main_v36]
  simp only [lat_at]

theorem value_at (b : Fin 2) (s : Fin 4096) (j : Fin 2048) : val_main_v60 (F := Ideal) h w g u (ix3 b s j) = up h w g u b s j := by
  unfold up
  pointwise [val_main_v60]
  simp only [lat_at]

theorem nope_at (b : Fin 2) (n : Fin 16) (s : Fin 4096) (c : Fin 128) :
    val_main_v38 (F := Ideal) h w g u (ix4 b n s c) = up h w g u b s ⟨128 * n.val + c.val, by omega⟩ := by
  rw [val_main_v38_apply, val_main_v37_apply, ← key_at]
  congr 1
  funext a
  apply Fin.ext
  match a with
  | ⟨0, _⟩ => show (((b.val * 4096 + s.val) * 16 + n.val) * 128 + c.val) / 8388608 = b.val; omega
  | ⟨1, _⟩ => show (((b.val * 4096 + s.val) * 16 + n.val) * 128 + c.val) / 2048 % 4096 = s.val; omega
  | ⟨2, _⟩ => show (((b.val * 4096 + s.val) * 16 + n.val) * 128 + c.val) % 2048 = 128 * n.val + c.val; omega

theorem t1_at (b : Fin 2) (s : Fin 4096) (c : Fin 32) : val_main_v47 (F := Ideal) h w (ix3 b s c)
    = dn h w b s ⟨512 + c.val, by omega⟩ * cs s c - dn h w b s ⟨544 + c.val, by omega⟩ * sn s c := by
  rw [← x1_at, ← x2_at]
  unfold cs sn
  pointwise [val_main_v47, val_main_v46, val_main_v45, val_main_v44, val_main_v43, val_main_v42, val_main_v41]

theorem t2_at (b : Fin 2) (s : Fin 4096) (c : Fin 32) : val_main_v54 (F := Ideal) h w (ix3 b s c)
    = dn h w b s ⟨512 + c.val, by omega⟩ * sn s c + dn h w b s ⟨544 + c.val, by omega⟩ * cs s c := by
  rw [← x1_at, ← x2_at]
  unfold cs sn
  pointwise [val_main_v54, val_main_v53, val_main_v52, val_main_v51, val_main_v50, val_main_v49, val_main_v48]

theorem k_eq : val_main_v59 (F := Ideal) h w g u = kRes h w g u := by
  funext i
  idx_vars i
  show _ = kAt h w g u i0 i1 i2 i3
  unfold kAt
  pointwise [val_main_v59, val_main_v58, val_main_v57, val_main_v56, val_main_v55]
  simp only [nope_at, t1_at, t2_at]
  by_cases h1 : i3.val < 128
  · simp only [h1, dif_pos, if_pos]
  · by_cases h2 : i3.val < 160
    · have h3 : i3.val - 128 < 32 := by omega
      have e1 : 512 + (i3.val - 128) = 384 + i3.val := by omega
      have e2 : 544 + (i3.val - 128) = 416 + i3.val := by omega
      simp only [h1, h2, h3, dif_pos, dif_neg, if_pos, if_neg, e1, e2, not_false_eq_true]
    · have h3 : ¬ i3.val - 128 < 32 := by omega
      have e0 : i3.val - 128 - 32 = i3.val - 160 := by omega
      have e1 : 512 + (i3.val - 160) = 352 + i3.val := by omega
      have e2 : 544 + (i3.val - 160) = 384 + i3.val := by omega
      simp only [h1, h2, h3, dif_pos, dif_neg, if_pos, if_neg, e0, e1, e2, not_false_eq_true]

theorem v_eq : val_main_v61 (F := Ideal) h w g u = vRes h w g u := by
  funext i
  idx_vars i
  show _ = up h w g u i0 i1 i2
  pointwise [val_main_v61]
  exact value_at h w g u i0 i1 i2

end Cert.KvRefIdeal.Sum

end
-- ==== Proof.KvClaims.lean ====
/- The key and value side's claims. -/
module

public import proofs.«01_k».proof.Defs
public import proofs.«01_k».proof.Proof.KvArr
public import proofs.«01_k».proof.Proof.KvRef
public import proofs.«01_k».proof.Proof.Gen.Pre_finite_rotary
public import proofs.«01_k».proof.Proof.Gen.Kv.Frame
public import proofs.«01_k».proof.Proof.Gen.KvIdeal.Frame
public import proofs.«01_k».proof.Proof.Gen.KvRefIdeal.Run
public import Idealize.ShloMosaic.Adequacy
public import Idealize.ShloMosaic.Init

@[expose] public section

set_option maxRecDepth 16384

noncomputable section

namespace Cert.KvClaims

open Idealize.ShloMosaic Idealize.ShloMosaic.TcCoe Idealize.SL.Sem
open Cert.KvIdeal.Body (argH argW argG argK argV FinH FinW)
open Cert.KvSpec (H W G U kRes vRes)
open Cert.Pre_finite_rotary (S8192x2048 S32x2048 S2048x32 S8224x2048)

/-- The bounds the precondition compares with are the positive infinity. -/
theorem bound_top : Ideal.ofBits .f32 0x7F800000#32 = (⊤ : EReal) := by simp [Ideal.ofBits, Ideal.ieee]
theorem bound_top' : Ideal.ofBits .bf16 0x7F80#16 = (⊤ : EReal) := by simp [Ideal.ofBits, Ideal.ieee]

/-- A number of absolute value below the positive infinity is real. -/
theorem real_of_lt {x : EReal} (h : Ideal.cmp .olt (max x (-x)) ⊤ = 1#1) : ∃ r : ℝ, x = (r : EReal) := by
  have hlt : max x (-x) < ⊤ := by
    by_contra hn
    rw [show Ideal.cmp .olt (max x (-x)) ⊤ = 0#1 by simp [Ideal.cmp, hn]] at h
    exact absurd h (by decide)
  rw [max_lt_iff] at hlt
  refine ⟨x.toReal, (EReal.coe_toReal hlt.1.ne ?_).symm⟩
  rintro rfl
  simp at hlt

theorem above (a : IVec S8192x2048 1) (b : IVec S32x2048 1) (hc : Shape.Concatenates [S8192x2048, S32x2048] S8224x2048 0) (i : Fin 8192) (k : Fin 2048) :
    concatenate S8224x2048 0 [⟨S8192x2048, a⟩, ⟨S32x2048, b⟩] hc (ix2 ⟨i.val, by omega⟩ k) = a (ix2 i k) := by
  pointwise

theorem below (a : IVec S8192x2048 1) (b : IVec S32x2048 1) (hc : Shape.Concatenates [S8192x2048, S32x2048] S8224x2048 0) (j : Fin 32) (k : Fin 2048) :
    concatenate S8224x2048 0 [⟨S8192x2048, a⟩, ⟨S32x2048, b⟩] hc (ix2 ⟨8192 + j.val, by omega⟩ k) = b (ix2 j k) := by
  pointwise

/-- The precondition, read. -/
theorem fin_h (h : H) (w : W) (g : G) (u v : U) (hp : Cert.Pre_finite_rotary.fn (F := Ideal) h w g u v = fun _ => 1#1)
    (b : Fin 2) (s : Fin 4096) (k : Fin 2048) : ∃ a : ℝ, h (ix3 b s k) = (a : EReal) := by
  have hj := congrFun hp (ix2 ⟨(⟨4096 * b.val + s.val, by omega⟩ : Fin 8192).val, by omega⟩ k)
  unfold Cert.Pre_finite_rotary.fn at hj
  have hk := (above _ _ _ ⟨4096 * b.val + s.val, by omega⟩ k).symm.trans hj
  have e : shapeCast S8192x2048 h Cert.Pre_finite_rotary.Gen.shapeCasts_S2x4096x2048_S8192x2048 (ix2 ⟨4096 * b.val + s.val, by omega⟩ k) = h (ix3 b s k) := by
    refine shapeCast_apply h Cert.Pre_finite_rotary.Gen.shapeCasts_S2x4096x2048_S8192x2048 (ix2 ⟨4096 * b.val + s.val, by omega⟩ k) (ix3 b s k) ?_
    rewrite [Shape.rowMajor_val_two, Shape.rowMajor_val_three]
    show (b.val * 4096 + s.val) * 2048 + k.val = (4096 * b.val + s.val) * 2048 + k.val
    omega
  have hl : Ideal.cmp .olt (max (shapeCast S8192x2048 h Cert.Pre_finite_rotary.Gen.shapeCasts_S2x4096x2048_S8192x2048 (ix2 ⟨4096 * b.val + s.val, by omega⟩ k))
      (-(shapeCast S8192x2048 h Cert.Pre_finite_rotary.Gen.shapeCasts_S2x4096x2048_S8192x2048 (ix2 ⟨4096 * b.val + s.val, by omega⟩ k)))) (Ideal.ofBits .bf16 0x7F80#16) = 1#1 := hk
  rw [bound_top', e] at hl
  exact real_of_lt hl

theorem fin_w (h : H) (w : W) (g : G) (u v : U) (hp : Cert.Pre_finite_rotary.fn (F := Ideal) h w g u v = fun _ => 1#1)
    (k : Fin 2048) (j : Fin 32) : ∃ a : ℝ, w (ix2 k ⟨544 + j.val, by omega⟩) = (a : EReal) := by
  have hj := congrFun hp (ix2 ⟨8192 + j.val, by omega⟩ k)
  unfold Cert.Pre_finite_rotary.fn at hj
  have hk := (below _ _ _ j k).symm.trans hj
  have e : transpose S32x2048 [1, 0] (extractStridedSlice S2048x32 ![0, 544] w Cert.Pre_finite_rotary.Gen.slices_S2048x576_S2048x32_0_544) Cert.Pre_finite_rotary.Gen.transposes_S2048x32_S32x2048_1_0 (ix2 j k)
      = w (ix2 k ⟨544 + j.val, by omega⟩) := by
    pointwise
  have hl : Ideal.cmp .olt (max (transpose S32x2048 [1, 0] (extractStridedSlice S2048x32 ![0, 544] w Cert.Pre_finite_rotary.Gen.slices_S2048x576_S2048x32_0_544) Cert.Pre_finite_rotary.Gen.transposes_S2048x32_S32x2048_1_0 (ix2 j k))
      (-(transpose S32x2048 [1, 0] (extractStridedSlice S2048x32 ![0, 544] w Cert.Pre_finite_rotary.Gen.slices_S2048x576_S2048x32_0_544) Cert.Pre_finite_rotary.Gen.transposes_S2048x32_S32x2048_1_0 (ix2 j k)))) (Ideal.ofBits .f32 0x7F800000#32) = 1#1 := hk
  rw [bound_top, e] at hl
  exact real_of_lt hl

theorem frame_p : Cert.quiescent_Kv := fun m ρ _ => Cert.Kv.Gen.frame m ρ
theorem frame_pi : Cert.quiescent_KvIdeal := fun m ρ _ => Cert.KvIdeal.Gen.frame m ρ
theorem frame_pi_pre : Cert.quiescent_KvIdeal_pre_finite_rotary := fun m ρ _ => Cert.KvIdeal.Gen.frame m ρ

theorem frame_ri : Cert.quiescent_KvRefIdeal := fun m ρ _ =>
  (θ_run Cert.KvRefIdeal.defs _ _).mono (fun r h => ⟨fun c => (h c).2.2, sem_eq_zero_of_no_sems (by decide) r.2⟩)
    (Cert.KvRefIdeal.Value.run (F := Ideal) m ρ)

theorem frame_ri_pre : Cert.quiescent_KvRefIdeal_pre_finite_rotary := fun m ρ _ => frame_ri m ρ trivial

theorem preserves : Cert.preserves_Kv_KvIdeal := trivial

/-- Both programs end with the result arrays of the arguments they share. -/
theorem algebraic : Cert.algebraic_KvIdeal_KvRefIdeal_pre_finite_rotary := by
  intro m g m' g' hp ha
  refine ⟨fun c => kRes (argH m c) (argW m c) (argG m c) (argK m c), fun c => vRes (argH m c) (argW m c) (argG m c) (argV m c),
    Cert.KvIdeal.Body.run m g (fun c => fin_h _ _ _ _ _ (hp c)) (fun c => fin_w _ _ _ _ _ (hp c)), ?_⟩
  refine (θ_run Cert.KvRefIdeal.defs _ _).mono (fun r h c => ⟨(h c).1.trans ?_, (h c).2.1.trans ?_, (h c).2.2⟩) (Cert.KvRefIdeal.Value.run (F := Ideal) m' g')
  · rw [Cert.KvRefIdeal.Read.val_main_v59_eq, (ha c).1, (ha c).2.1, (ha c).2.2.1, (ha c).2.2.2.1]
    exact Cert.KvRefIdeal.Sum.k_eq _ _ _ _
  · rw [Cert.KvRefIdeal.Read.val_main_v61_eq, (ha c).1, (ha c).2.1, (ha c).2.2.1, (ha c).2.2.2.2]
    exact Cert.KvRefIdeal.Sum.v_eq _ _ _ _

end Cert.KvClaims

end
-- ==== Proof.lean ====
/- The claims of the certificate, assembled behind the witnesses of the programs' stated facts. -/
module

public import proofs.«01_k».proof.Defs
public import proofs.«01_k».proof.Proof.SbClaims
public import proofs.«01_k».proof.Proof.PaClaims
public import proofs.«01_k».proof.Proof.OaClaims
public import proofs.«01_k».proof.Proof.ObClaims
public import proofs.«01_k».proof.Proof.MlClaims
public import proofs.«01_k».proof.Proof.QsClaims
public import proofs.«01_k».proof.Proof.KvClaims
public import proofs.«01_k».proof.Proof.Gen.Sb
public import proofs.«01_k».proof.Proof.Gen.SbIdeal
public import proofs.«01_k».proof.Proof.Gen.SbRefIdeal
public import proofs.«01_k».proof.Proof.Gen.Pa
public import proofs.«01_k».proof.Proof.Gen.PaIdeal
public import proofs.«01_k».proof.Proof.Gen.PaRefIdeal
public import proofs.«01_k».proof.Proof.Gen.Oa
public import proofs.«01_k».proof.Proof.Gen.OaIdeal
public import proofs.«01_k».proof.Proof.Gen.OaRefIdeal
public import proofs.«01_k».proof.Proof.Gen.Ob
public import proofs.«01_k».proof.Proof.Gen.ObIdeal
public import proofs.«01_k».proof.Proof.Gen.ObRefIdeal
public import proofs.«01_k».proof.Proof.Gen.Ml
public import proofs.«01_k».proof.Proof.Gen.MlIdeal
public import proofs.«01_k».proof.Proof.Gen.MlRefIdeal
public import proofs.«01_k».proof.Proof.Gen.Qs
public import proofs.«01_k».proof.Proof.Gen.QsIdeal
public import proofs.«01_k».proof.Proof.Gen.QsRefIdeal
public import proofs.«01_k».proof.Proof.Gen.Kv
public import proofs.«01_k».proof.Proof.Gen.KvIdeal
public import proofs.«01_k».proof.Proof.Gen.KvRefIdeal
public import Idealize.ShloMosaic.Adequacy
public import Idealize.ShloMosaic.Init

@[expose] public section

noncomputable section

namespace Cert.Proof

open Idealize.ShloMosaic Idealize.SL.Sem

theorem claim : Cert.Claim := ⟨Cert.Sb.Gen.facts, Cert.SbIdeal.Gen.facts, Cert.SbRefIdeal.Gen.facts,
  Cert.Pa.Gen.facts, Cert.PaIdeal.Gen.facts, Cert.PaRefIdeal.Gen.facts,
  Cert.Oa.Gen.facts, Cert.OaIdeal.Gen.facts, Cert.OaRefIdeal.Gen.facts,
  Cert.Ob.Gen.facts, Cert.ObIdeal.Gen.facts, Cert.ObRefIdeal.Gen.facts,
  Cert.Ml.Gen.facts, Cert.MlIdeal.Gen.facts, Cert.MlRefIdeal.Gen.facts,
  Cert.Qs.Gen.facts, Cert.QsIdeal.Gen.facts, Cert.QsRefIdeal.Gen.facts,
  Cert.Kv.Gen.facts, Cert.KvIdeal.Gen.facts, Cert.KvRefIdeal.Gen.facts,
  Cert.Pre_finite_qk.Gen.facts, Cert.Pre_finite_scores.Gen.facts, Cert.Pre_finite_turned.Gen.facts, Cert.Pre_finite_rotary.Gen.facts,
  SbClaims.frame_p, SbClaims.frame_pi, SbClaims.frame_pi_pre, SbClaims.frame_ri, SbClaims.frame_ri_pre,
  PaClaims.frame_p, PaClaims.frame_pi, PaClaims.frame_ri,
  OaClaims.frame_p, OaClaims.frame_pi, OaClaims.frame_ri,
  ObClaims.frame_p, ObClaims.frame_pi, ObClaims.frame_ri,
  MlClaims.frame_p, MlClaims.frame_pi, MlClaims.frame_pi_pre, MlClaims.frame_ri, MlClaims.frame_ri_pre,
  QsClaims.frame_p, QsClaims.frame_pi, QsClaims.frame_pi_pre, QsClaims.frame_ri, QsClaims.frame_ri_pre,
  KvClaims.frame_p, KvClaims.frame_pi, KvClaims.frame_pi_pre, KvClaims.frame_ri, KvClaims.frame_ri_pre,
  SbClaims.preserves, SbClaims.algebraic, PaClaims.preserves, PaClaims.algebraic, OaClaims.preserves, OaClaims.algebraic, ObClaims.preserves, ObClaims.algebraic,
  MlClaims.preserves, MlClaims.algebraic,
  QsClaims.preserves, QsClaims.algebraic,
  KvClaims.preserves, KvClaims.algebraic⟩

end Cert.Proof

end
